-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_gates_below_inf [hPre_gates_below_inf : Cert.Pre_gates_below_inf.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_gates_below_inf.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_gates_below_inf [hPre_gates_below_inf : Cert.Pre_gates_below_inf.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_gates_below_inf.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Kernel11Ideal_pre_gates_below_inf [hKernel11Ideal : Cert.Kernel11Ideal.Facts] [hPre_gates_below_inf : Cert.Pre_gates_below_inf.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_gates_below_inf m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Reference11Ideal_pre_gates_below_inf [hReference11Ideal : Cert.Reference11Ideal.Facts] [hPre_gates_below_inf : Cert.Pre_gates_below_inf.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_gates_below_inf m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v31)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)) (v3 : (c : Dev Cert.Kernel5Ideal.nD) → Buf (Elt Ideal) ((c.tc : Thread Cert.Kernel5Ideal.nD Cert.Kernel5Ideal.τ).loc Cert.Kernel5Ideal.main_v24_3)) (v4 : (c : Dev Cert.Kernel5Ideal.nD) → Buf (Elt Ideal) ((c.tc : Thread Cert.Kernel5Ideal.nD Cert.Kernel5Ideal.τ).loc Cert.Kernel5Ideal.main_v24_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_v24_3) = v3 c
          ∧ r.2.mem ((c.tc : Thread Cert.Kernel5Ideal.nD Cert.Kernel5Ideal.τ).loc Cert.Kernel5Ideal.main_v24_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v69) = v1 c
          ∧ r.2.mem ((c.tc : Thread Cert.Reference5Ideal.nD Cert.Reference5Ideal.τ).loc Cert.Reference5Ideal.main_v101) = v2 c
          ∧ r.2.mem ((c.tc : Thread Cert.Reference5Ideal.nD Cert.Reference5Ideal.τ).loc Cert.Reference5Ideal.main_v133) = v3 c
          ∧ r.2.mem ((c.tc : Thread Cert.Reference5Ideal.nD Cert.Reference5Ideal.τ).loc Cert.Reference5Ideal.main_v135) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v29_0)) (v1 : (c : Dev Cert.Kernel6Ideal.nD) → Buf (Elt Ideal) ((c.tc : Thread Cert.Kernel6Ideal.nD Cert.Kernel6Ideal.τ).loc Cert.Kernel6Ideal.main_v29_1)) (v2 : (c : Dev Cert.Kernel6Ideal.nD) → Buf (Elt Ideal) ((c.tc : Thread Cert.Kernel6Ideal.nD Cert.Kernel6Ideal.τ).loc Cert.Kernel6Ideal.main_v29_2)) (v3 : (c : Dev Cert.Kernel6Ideal.nD) → Buf (Elt Ideal) ((c.tc : Thread Cert.Kernel6Ideal.nD Cert.Kernel6Ideal.τ).loc Cert.Kernel6Ideal.main_v29_3)) (v4 : (c : Dev Cert.Kernel6Ideal.nD) → Buf (Elt Ideal) ((c.tc : Thread Cert.Kernel6Ideal.nD Cert.Kernel6Ideal.τ).loc Cert.Kernel6Ideal.main_v29_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29_0) = v0 c
          ∧ r.2.mem ((c.tc : Thread Cert.Kernel6Ideal.nD Cert.Kernel6Ideal.τ).loc Cert.Kernel6Ideal.main_v29_1) = v1 c
          ∧ r.2.mem ((c.tc : Thread Cert.Kernel6Ideal.nD Cert.Kernel6Ideal.τ).loc Cert.Kernel6Ideal.main_v29_2) = v2 c
          ∧ r.2.mem ((c.tc : Thread Cert.Kernel6Ideal.nD Cert.Kernel6Ideal.τ).loc Cert.Kernel6Ideal.main_v29_3) = v3 c
          ∧ r.2.mem ((c.tc : Thread Cert.Kernel6Ideal.nD Cert.Kernel6Ideal.τ).loc Cert.Kernel6Ideal.main_v29_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_v74) = v1 c
          ∧ r.2.mem ((c.tc : Thread Cert.Reference6Ideal.nD Cert.Reference6Ideal.τ).loc Cert.Reference6Ideal.main_v106) = v2 c
          ∧ r.2.mem ((c.tc : Thread Cert.Reference6Ideal.nD Cert.Reference6Ideal.τ).loc Cert.Reference6Ideal.main_v138) = v3 c
          ∧ r.2.mem ((c.tc : Thread Cert.Reference6Ideal.nD Cert.Reference6Ideal.τ).loc Cert.Reference6Ideal.main_v140) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v31)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v31) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v33_0)) (v1 : (c : Dev Cert.Kernel10Ideal.nD) → Buf (Elt Ideal) ((c.tc : Thread Cert.Kernel10Ideal.nD Cert.Kernel10Ideal.τ).loc Cert.Kernel10Ideal.main_v33_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v33_0) = v0 c
          ∧ r.2.mem ((c.tc : Thread Cert.Kernel10Ideal.nD Cert.Kernel10Ideal.τ).loc Cert.Kernel10Ideal.main_v33_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v138) = v0 c
          ∧ r.2.mem ((c.tc : Thread Cert.Reference10Ideal.nD Cert.Reference10Ideal.τ).loc Cert.Reference10Ideal.main_v139) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal_pre_gates_below_inf [hKernel11Ideal : Cert.Kernel11Ideal.Facts] [hReference11Ideal : Cert.Reference11Ideal.Facts] [hPre_gates_below_inf : Cert.Pre_gates_below_inf.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_gates_below_inf m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_v12) = v1 c
          ∧ r.2.mem ((c.tc : Thread Cert.Reference11Ideal.nD Cert.Reference11Ideal.τ).loc Cert.Reference11Ideal.main_v13) = v2 c
          ∧ r.2.mem ((c.tc : Thread Cert.Reference11Ideal.nD Cert.Reference11Ideal.τ).loc Cert.Reference11Ideal.main_v8) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_gates_below_inf : Cert.Pre_gates_below_inf.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_gates_below_inf (hKernel11Ideal := hKernel11Ideal) (hPre_gates_below_inf := hPre_gates_below_inf)
    ∧ quiescent_Reference11Ideal (hReference11Ideal := hReference11Ideal)
    ∧ quiescent_Reference11Ideal_pre_gates_below_inf (hReference11Ideal := hReference11Ideal) (hPre_gates_below_inf := hPre_gates_below_inf)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_gates_below_inf (hKernel11Ideal := hKernel11Ideal) (hReference11Ideal := hReference11Ideal) (hPre_gates_below_inf := hPre_gates_below_inf)
-- ==== Pre_gates_below_inf.lean ====
abbrev S16384x128 : Shape := ⟨2, ![16384, 128]⟩
abbrev S1152x128 : Shape := ⟨2, ![1152, 128]⟩
abbrev S128x128 : Shape := ⟨2, ![128, 128]⟩
abbrev S16512x128 : Shape := ⟨2, ![16512, 128]⟩
abbrev S_ : Shape := ⟨0, ![]⟩

class Facts : Prop where
  slices_S1152x128_S128x128_0_0 : S1152x128.Slices ![0, 0] S128x128
  concatenates_S128x128_S16384x128_S16512x128_d0 : Shape.Concatenates [S128x128, S16384x128] S16512x128 0
  bcast_S_S16512x128 : S_.BroadcastsInDim S16512x128 (![] : Fin 0 → Fin S16512x128.rank)

variable [Facts]

def fn {F : FTy → Type} [FloatOps F] (main_arg0 : FVec F S16384x128 .f32) (main_arg1 : FVec F S1152x128 .f32) : IVec S16512x128 1 :=
  let main_v0 : FVec F S128x128 .f32 := (extractStridedSlice S128x128 ![0, 0] · slices_S1152x128_S128x128_0_0) main_arg1
  let main_v1 : FVec F S16512x128 .f32 := (fun a b => concatenate S16512x128 0 [⟨S128x128, a⟩, ⟨S16384x128, b⟩] concatenates_S128x128_S16384x128_S16512x128_d0) main_v0 main_arg0
  let main_cst : FVec F S_ .f32 := constant S_ .f32 0x7F800000#32
  let main_v2 : FVec F S16512x128 .f32 := broadcastInDim S16512x128 ![] bcast_S_S16512x128 main_cst
  let main_v3 : IVec S16512x128 1 := cmpf .olt main_v1 main_v2
  main_v3
-- ==== Kernel.lean ====
abbrev S1152x7680 : Shape := ⟨2, ![1152, 7680]⟩
abbrev S128x4x32x64 : Shape := ⟨4, ![128, 4, 32, 64]⟩
abbrev S16x128 : Shape := ⟨2, ![16, 128]⟩
abbrev S128 : Shape := ⟨1, ![128]⟩
abbrev S64 : Shape := ⟨1, ![64]⟩
abbrev S_ : Shape := ⟨0, ![]⟩
abbrev S128x128 : Shape := ⟨2, ![128, 128]⟩
abbrev S1 : Shape := ⟨1, ![1]⟩
abbrev S1x128 : Shape := ⟨2, ![1, 128]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S4x4 : Shape := ⟨2, ![4, 4]⟩
abbrev S128x4x32x1x64 : Shape := ⟨5, ![128, 4, 32, 1, 64]⟩
abbrev S1x4x1x4x1 : Shape := ⟨5, ![1, 4, 1, 4, 1]⟩
abbrev S128x4x32x4x64 : Shape := ⟨5, ![128, 4, 32, 4, 64]⟩
abbrev S128x128x256 : Shape := ⟨3, ![128, 128, 256]⟩
abbrev S1024x256 : Shape := ⟨2, ![1024, 256]⟩
abbrev S8x128 : Shape := ⟨2, ![8, 128]⟩
abbrev S8x256 : Shape := ⟨2, ![8, 256]⟩
abbrev S1x128x256 : Shape := ⟨3, ![1, 128, 256]⟩
abbrev S128x256 : Shape := ⟨2, ![128, 256]⟩
abbrev S8x8 : Shape := ⟨2, ![8, 8]⟩
abbrev S128x8 : Shape := ⟨2, ![128, 8]⟩
abbrev S8x1 : Shape := ⟨2, ![8, 1]⟩
abbrev S1x8 : Shape := ⟨2, ![1, 8]⟩
abbrev S128x1 : Shape := ⟨2, ![128, 1]⟩
abbrev S8 : Shape := ⟨1, ![8]⟩

abbrev nBuf : Space → Nat
  | .hbm => 31
  | .vmem => 19
  | .smem => 0
  | _ => 0

abbrev bufTy : (tb : Table) → Fin (tcTables nBuf tb) → BufTy
  | .hbm, ⟨0, _⟩ => ⟨S1152x7680, .f32⟩
  | .hbm, ⟨1, _⟩ => ⟨S128x4x32x64, .f32⟩
  | .hbm, ⟨2, _⟩ => ⟨S16x128, .f32⟩
  | .hbm, ⟨3, _⟩ => ⟨S128, .f32⟩
  | .hbm, ⟨4, _⟩ => ⟨S64, .f32⟩
  | .hbm, ⟨5, _⟩ => ⟨S_, .f32⟩
  | .hbm, ⟨6, _⟩ => ⟨S128x128, .f32⟩
  | .hbm, ⟨7, _⟩ => ⟨S_, .i32⟩
  | .hbm, ⟨8, _⟩ => ⟨S1, .i32⟩
  | .hbm, ⟨9, _⟩ => ⟨S128x128, .f32⟩
  | .hbm, ⟨10, _⟩ => ⟨S128x128, .bf16⟩
  | .hbm, ⟨11, _⟩ => ⟨S1x128, .f32⟩
  | .hbm, ⟨12, _⟩ => ⟨S1x64, .f32⟩
  | .hbm, ⟨13, _⟩ => ⟨S4x64, .f32⟩
  | .hbm, ⟨14, _⟩ => ⟨S256, .f32⟩
  | .hbm, ⟨15, _⟩ => ⟨S1x256, .f32⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4x4, .i32⟩
  | .hbm, ⟨20, _⟩ => ⟨S4x4, .i32⟩
  | .hbm, ⟨21, _⟩ => ⟨S4x4, .i1⟩
  | .hbm, ⟨22, _⟩ => ⟨S4x4, .f32⟩
  | .hbm, ⟨23, _⟩ => ⟨S128x4x32x1x64, .f32⟩
  | .hbm, ⟨24, _⟩ => ⟨S1x4x1x4x1, .f32⟩
  | .hbm, ⟨25, _⟩ => ⟨S128x4x32x4x64, .f32⟩
  | .hbm, ⟨26, _⟩ => ⟨S128x4x32x4x64, .f32⟩
  | .hbm, ⟨27, _⟩ => ⟨S128x4x32x4x64, .f32⟩
  | .hbm, ⟨28, _⟩ => ⟨S128x128x256, .f32⟩
  | .hbm, ⟨29, _⟩ => ⟨S1024x256, .f32⟩
  | .hbm, ⟨30, _⟩ => ⟨S128x128x256, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x128, .f32⟩
  | .local _ .vmem, ⟨9, _⟩ => ⟨S8x128, .f32⟩
  | .local _ .vmem, ⟨10, _⟩ => ⟨S1x128x256, .f32⟩
  | .local _ .vmem, ⟨11, _⟩ => ⟨S1x128x256, .f32⟩
  | .local _ .vmem, ⟨12, _⟩ => ⟨S128x128, .bf16⟩
  | .local _ .vmem, ⟨13, _⟩ => ⟨S1x128, .f32⟩
  | .local _ .vmem, ⟨14, _⟩ => ⟨S1x256, .f32⟩
  | .local _ .vmem, ⟨15, _⟩ => ⟨S8x256, .f32⟩
  | .local _ .vmem, ⟨16, _⟩ => ⟨S8x256, .f32⟩
  | .local _ .vmem, ⟨17, _⟩ => ⟨S1x128x256, .f32⟩
  | .local _ .vmem, ⟨18, _⟩ => ⟨S1x128x256, .f32⟩
  | _, _ => ⟨S1152x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c56_i32 : BitVec 32 := 56#32
  let c0_i32 : BitVec 32 := 0#32
  ![v0.toNat, c56_i32.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c57_i32 : BitVec 32 := 57#32
  let c0_i32 : BitVec 32 := 0#32
  ![v0.toNat, c57_i32.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c26_i32 : BitVec 32 := 26#32
  let c0_i32 : BitVec 32 := 0#32
  ![v0.toNat, c26_i32.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c27_i32 : BitVec 32 := 27#32
  let c0_i32 : BitVec 32 := 0#32
  ![v0.toNat, c27_i32.toNat]

def cc0_transform_4 (i : grid0.Coords) : Fin 2 → Nat :=
  let arg0 : BitVec 32 := BitVec.ofNat 32 (i 0).val
  let c16_i32 : BitVec 32 := 16#32
  let v0 : BitVec 32 := Scalar.addi c16_i32 arg0
  let c58_i32 : BitVec 32 := 58#32
  let c0_i32 : BitVec 32 := 0#32
  ![v0.toNat, c58_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1152x7680 : Shape := ⟨2, ![1152, 7680]⟩
abbrev S128x4x32x64 : Shape := ⟨4, ![128, 4, 32, 64]⟩
abbrev S16x128 : Shape := ⟨2, ![16, 128]⟩
abbrev S128 : Shape := ⟨1, ![128]⟩
abbrev S64 : Shape := ⟨1, ![64]⟩
abbrev S1024x7680 : Shape := ⟨2, ![1024, 7680]⟩
abbrev S1024x128 : Shape := ⟨2, ![1024, 128]⟩
abbrev S128x8x4x32 : Shape := ⟨4, ![128, 8, 4, 32]⟩
abbrev S_ : Shape := ⟨0, ![]⟩
abbrev S1024x256 : Shape := ⟨2, ![1024, 256]⟩
abbrev S128x8x4x64 : Shape := ⟨4, ![128, 8, 4, 64]⟩
abbrev S128x8x256 : Shape := ⟨3, ![128, 8, 256]⟩
abbrev S1024x16 : Shape := ⟨2, ![1024, 16]⟩
abbrev S128x8x16 : Shape := ⟨3, ![128, 8, 16]⟩
abbrev S128x8x128 : Shape := ⟨3, ![128, 8, 128]⟩
abbrev S1x1x128 : Shape := ⟨3, ![1, 1, 128]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x8x1x1 : Shape := ⟨5, ![1, 8, 8, 1, 1]⟩
abbrev S128x8x1x4x32 : Shape := ⟨5, ![128, 8, 1, 4, 32]⟩
abbrev S128x1x8x4x32 : Shape := ⟨5, ![128, 1, 8, 4, 32]⟩
abbrev S128x8x8x4x32 : Shape := ⟨5, ![128, 8, 8, 4, 32]⟩
abbrev S128x8x8x4 : Shape := ⟨4, ![128, 8, 8, 4]⟩
abbrev S128x4x8x8 : Shape := ⟨4, ![128, 4, 8, 8]⟩
abbrev S128x4x64x8 : Shape := ⟨4, ![128, 4, 64, 8]⟩
abbrev S128x1x4x32 : Shape := ⟨4, ![128, 1, 4, 32]⟩
abbrev S128x4x32 : Shape := ⟨3, ![128, 4, 32]⟩
abbrev S128x4x32x1 : Shape := ⟨4, ![128, 4, 32, 1]⟩
abbrev S128x8x4 : Shape := ⟨3, ![128, 8, 4]⟩
abbrev S128x8x4x1 : Shape := ⟨4, ![128, 8, 4, 1]⟩
abbrev S1x1x1x64 : Shape := ⟨4, ![1, 1, 1, 64]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S1x4x1x4x1 : Shape := ⟨5, ![1, 4, 1, 4, 1]⟩
abbrev S128x4x32x1x64 : Shape := ⟨5, ![128, 4, 32, 1, 64]⟩
abbrev S128x4x32x4x64 : Shape := ⟨5, ![128, 4, 32, 4, 64]⟩
abbrev S128x128x256 : Shape := ⟨3, ![128, 128, 256]⟩

abbrev nBuf : Space → Nat
  | .hbm => 136
  | .vmem => 0
  | .smem => 0
  | _ => 0

abbrev hbmTy0_0 (i : Nat) : BufTy := match i % 128 with
  | 0 => ⟨S1152x7680, .f32⟩
  | 1 => ⟨S128x4x32x64, .f32⟩
  | 2 => ⟨S16x128, .f32⟩
  | 3 => ⟨S128, .f32⟩
  | 4 => ⟨S64, .f32⟩
  | 5 => ⟨S1024x7680, .f32⟩
  | 6 => ⟨S1024x128, .f32⟩
  | 7 => ⟨S128x8x4x32, .f32⟩
  | 8 => ⟨S_, .f32⟩
  | 9 => ⟨S128x8x4x32, .f32⟩
  | 10 => ⟨S128x8x4x32, .f32⟩
  | 11 => ⟨S1024x128, .f32⟩
  | 12 => ⟨S128x8x4x32, .f32⟩
  | 13 => ⟨S1024x256, .f32⟩
  | 14 => ⟨S128x8x4x64, .f32⟩
  | 15 => ⟨S1024x256, .f32⟩
  | 16 => ⟨S128x8x256, .f32⟩
  | 17 => ⟨S1024x16, .f32⟩
  | 18 => ⟨S128x8x16, .f32⟩
  | 19 => ⟨S128x8x128, .f32⟩
  | 20 => ⟨S1x1x128, .f32⟩
  | 21 => ⟨S128x8x128, .f32⟩
  | 22 => ⟨S128x8x128, .f32⟩
  | 23 => ⟨S128x8x128, .f32⟩
  | 24 => ⟨S_, .f32⟩
  | 25 => ⟨S128x8x128, .f32⟩
  | 26 => ⟨S128x8x128, .f32⟩
  | 27 => ⟨S128x8x128, .f32⟩
  | 28 => ⟨S128x8x128, .f32⟩
  | 29 => ⟨S128x8x128, .i1⟩
  | 30 => ⟨S128x8x128, .f32⟩
  | 31 => ⟨S128x8x128, .f32⟩
  | 32 => ⟨S128x8x128, .f32⟩
  | 33 => ⟨S128x8x128, .f32⟩
  | 34 => ⟨S128x8x128, .f32⟩
  | 35 => ⟨S128x8x128, .f32⟩
  | 36 => ⟨S128x8x128, .f32⟩
  | 37 => ⟨S128x8x128, .f32⟩
  | 38 => ⟨S128x8x128, .f32⟩
  | 39 => ⟨S_, .f32⟩
  | 40 => ⟨S128x8x128, .f32⟩
  | 41 => ⟨S128x8x128, .f32⟩
  | 42 => ⟨S128x8x4x32, .f32⟩
  | 43 => ⟨S_, .f32⟩
  | 44 => ⟨S_, .f32⟩
  | 45 => ⟨S128x8x4x32, .f32⟩
  | 46 => ⟨S8, .i32⟩
  | 47 => ⟨S8x1, .i32⟩
  | 48 => ⟨S1x8, .i32⟩
  | 49 => ⟨S8x8, .i32⟩
  | 50 => ⟨S8x8, .i32⟩
  | 51 => ⟨S8x8, .i1⟩
  | 52 => ⟨S1x8x8x1x1, .i1⟩
  | 53 => ⟨S128x8x1x4x32, .f32⟩
  | 54 => ⟨S128x1x8x4x32, .f32⟩
  | 55 => ⟨S128x8x8x4x32, .f32⟩
  | 56 => ⟨S128x8x8x4x32, .f32⟩
  | 57 => ⟨S128x8x8x4x32, .f32⟩
  | 58 => ⟨S_, .f32⟩
  | 59 => ⟨S_, .f32⟩
  | 60 => ⟨S128x8x8x4x32, .i1⟩
  | 61 => ⟨S128x8x8x4x32, .f32⟩
  | 62 => ⟨S128x8x8x4x32, .f32⟩
  | 63 => ⟨S128x8x8x4x32, .f32⟩
  | 64 => ⟨S128x8x1x4x32, .f32⟩
  | 65 => ⟨S128x1x8x4x32, .f32⟩
  | 66 => ⟨S128x8x8x4x32, .f32⟩
  | 67 => ⟨S128x8x8x4x32, .f32⟩
  | 68 => ⟨S128x8x8x4x32, .f32⟩
  | 69 => ⟨S128x8x8x4x32, .f32⟩
  | 70 => ⟨S_, .f32⟩
  | 71 => ⟨S128x8x8x4, .f32⟩
  | 72 => ⟨S128x4x8x8, .f32⟩
  | 73 => ⟨S128x8x4x32, .f32⟩
  | 74 => ⟨S128x8x4x32, .f32⟩
  | 75 => ⟨S128x4x64x8, .f32⟩
  | 76 => ⟨S128x8x4x64, .f32⟩
  | 77 => ⟨S128x4x64x8, .f32⟩
  | 78 => ⟨S128x8x4x64, .f32⟩
  | 79 => ⟨S128x8x4x64, .f32⟩
  | 80 => ⟨S128x1x4x32, .f32⟩
  | 81 => ⟨S128x4x32, .f32⟩
  | 82 => ⟨S128x4x32, .f32⟩
  | 83 => ⟨S128x4x32x1, .f32⟩
  | 84 => ⟨S128x4x32x64, .f32⟩
  | 85 => ⟨S128x4x32x64, .f32⟩
  | 86 => ⟨S128x1x4x32, .f32⟩
  | 87 => ⟨S128x8x4x32, .f32⟩
  | 88 => ⟨S128x8x4x32, .f32⟩
  | 89 => ⟨S128x8x4x32, .f32⟩
  | 90 => ⟨S128x8x4x32, .f32⟩
  | 91 => ⟨S128x4x32x64, .f32⟩
  | 92 => ⟨S128x4x32x64, .f32⟩
  | 93 => ⟨S128x8x4x64, .f32⟩
  | 94 => ⟨S_, .f32⟩
  | 95 => ⟨S128x8x4, .f32⟩
  | 96 => ⟨S128x8x4x1, .f32⟩
  | 97 => ⟨S_, .f32⟩
  | 98 => ⟨S128x8x4x1, .f32⟩
  | 99 => ⟨S128x8x4x1, .f32⟩
  | 100 => ⟨S_, .f32⟩
  | 101 => ⟨S128x8x4x1, .f32⟩
  | 102 => ⟨S128x8x4x1, .f32⟩
  | 103 => ⟨S128x8x4x1, .f32⟩
  | 104 => ⟨S128x8x4x64, .f32⟩
  | 105 => ⟨S128x8x4x64, .f32⟩
  | 106 => ⟨S1x1x1x64, .f32⟩
  | 107 => ⟨S128x8x4x64, .f32⟩
  | 108 => ⟨S128x8x4x64, .f32⟩
  | 109 => ⟨S128x8x256, .f32⟩
  | 110 => ⟨S128x8x256, .f32⟩
  | 111 => ⟨S128x8x256, .f32⟩
  | 112 => ⟨S_, .f32⟩
  | 113 => ⟨S128x8x256, .f32⟩
  | 114 => ⟨S128x8x256, .f32⟩
  | 115 => ⟨S_, .f32⟩
  | 116 => ⟨S128x8x256, .f32⟩
  | 117 => ⟨S128x8x256, .f32⟩
  | 118 => ⟨S128x8x256, .f32⟩
  | 119 => ⟨S128x8x256, .f32⟩
  | 120 => ⟨S4, .i32⟩
  | 121 => ⟨S4x1, .i32⟩
  | 122 => ⟨S1x4, .i32⟩
  | 123 => ⟨S4x4, .i32⟩
  | 124 => ⟨S4x4, .i32⟩
  | 125 => ⟨S4x4, .i1⟩
  | 126 => ⟨S1x4x1x4x1, .i1⟩
  | 127 => ⟨S128x4x32x1x64, .f32⟩
  | _ => ⟨S1152x7680, .f32⟩

abbrev hbmTy0_1 (i : Nat) : BufTy := match i % 128 with
  | 0 => ⟨S_, .f32⟩
  | 1 => ⟨S_, .f32⟩
  | 2 => ⟨S128x4x32x4x64, .i1⟩
  | 3 => ⟨S128x4x32x4x64, .f32⟩
  | 4 => ⟨S128x4x32x4x64, .f32⟩
  | 5 => ⟨S128x4x32x4x64, .f32⟩
  | 6 => ⟨S1024x256, .f32⟩
  | 7 => ⟨S128x128x256, .f32⟩
  | _ => ⟨S1152x7680, .f32⟩

abbrev hbmTy (i : Nat) : BufTy := match i / 128 with
  | 0 => hbmTy0_0 i
  | 1 => hbmTy0_1 i
  | _ => ⟨S1152x7680, .f32⟩

abbrev bufTy : (tb : Table) → Fin (tcTables nBuf tb) → BufTy
  | .hbm, ⟨i, _⟩ => hbmTy i
  | _, _ => ⟨S1152x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v17 : Ref sig .tc := ⟨.hbm, 38, rfl⟩
abbrev main_cst_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call1_call0_cst : Ref sig .tc := ⟨.hbm, 43, rfl⟩
abbrev main_call1_call0_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_2 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_3 : Ref sig .tc := ⟨.hbm, 94, rfl⟩
abbrev main_v65 : Ref sig .tc := ⟨.hbm, 95, rfl⟩
abbrev main_v66 : Ref sig .tc := ⟨.hbm, 96, rfl⟩
abbrev main_cst_4 : Ref sig .tc := ⟨.hbm, 97, rfl⟩
abbrev main_v67 : Ref sig .tc := ⟨.hbm, 98, rfl⟩
abbrev main_v68 : Ref sig .tc := ⟨.hbm, 99, rfl⟩
abbrev main_cst_5 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call3_v0 : Ref sig .tc := ⟨.hbm, 110, rfl⟩
abbrev main_call3_v1 : Ref sig .tc := ⟨.hbm, 111, rfl⟩
abbrev main_call3_cst : Ref sig .tc := ⟨.hbm, 112, rfl⟩
abbrev main_call3_v2 : Ref sig .tc := ⟨.hbm, 113, rfl⟩
abbrev main_call3_v3 : Ref sig .tc := ⟨.hbm, 114, rfl⟩
abbrev main_call3_cst_0 : Ref sig .tc := ⟨.hbm, 115, rfl⟩
abbrev main_call3_v4 : Ref sig .tc := ⟨.hbm, 116, rfl⟩
abbrev main_call3_v5 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_6 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x7516 : Shape := ⟨2, ![1024, 7516]⟩
abbrev S7516 : Shape := ⟨1, ![7516]⟩
abbrev S1x7516 : Shape := ⟨2, ![1, 7516]⟩
abbrev S1025x7516 : Shape := ⟨2, ![1025, 7516]⟩
abbrev S1025x4096 : Shape := ⟨2, ![1025, 4096]⟩
abbrev S1025x512 : Shape := ⟨2, ![1025, 512]⟩
abbrev S1025x256 : Shape := ⟨2, ![1025, 256]⟩
abbrev S1025x128 : Shape := ⟨2, ![1025, 128]⟩
abbrev S1025x4 : Shape := ⟨2, ![1025, 4]⟩
abbrev S_ : Shape := ⟨0, ![]⟩
abbrev S1025x16 : Shape := ⟨2, ![1025, 16]⟩
abbrev S1025x96 : Shape := ⟨2, ![1025, 96]⟩
abbrev S1025x64 : Shape := ⟨2, ![1025, 64]⟩
abbrev S1025x7432 : Shape := ⟨2, ![1025, 7432]⟩
abbrev S1025x248 : Shape := ⟨2, ![1025, 248]⟩
abbrev S1025x7680 : Shape := ⟨2, ![1025, 7680]⟩
abbrev S1024x7680 : Shape := ⟨2, ![1024, 7680]⟩
abbrev S1x7680 : Shape := ⟨2, ![1, 7680]⟩
abbrev S1x1024 : Shape := ⟨2, ![1, 1024]⟩
abbrev S16384x7680 : Shape := ⟨2, ![16384, 7680]⟩
abbrev S512x1024 : Shape := ⟨2, ![512, 1024]⟩
abbrev S1024x1536 : Shape := ⟨2, ![1024, 1536]⟩
abbrev S1x1536 : Shape := ⟨2, ![1, 1536]⟩
abbrev S512x1536 : Shape := ⟨2, ![512, 1536]⟩
abbrev S512 : Shape := ⟨1, ![512]⟩
abbrev S512x1 : Shape := ⟨2, ![512, 1]⟩

abbrev nBuf : Space → Nat
  | .hbm => 39
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7516, .f32⟩
  | .hbm, ⟨3, _⟩ => ⟨S7516, .f32⟩
  | .hbm, ⟨4, _⟩ => ⟨S1x7516, .f32⟩
  | .hbm, ⟨5, _⟩ => ⟨S1025x7516, .f32⟩
  | .hbm, ⟨6, _⟩ => ⟨S1025x4096, .f32⟩
  | .hbm, ⟨7, _⟩ => ⟨S1025x512, .f32⟩
  | .hbm, ⟨8, _⟩ => ⟨S1025x256, .f32⟩
  | .hbm, ⟨9, _⟩ => ⟨S1025x256, .f32⟩
  | .hbm, ⟨10, _⟩ => ⟨S1025x256, .f32⟩
  | .hbm, ⟨11, _⟩ => ⟨S1025x256, .f32⟩
  | .hbm, ⟨12, _⟩ => ⟨S1025x256, .f32⟩
  | .hbm, ⟨13, _⟩ => ⟨S1025x256, .f32⟩
  | .hbm, ⟨14, _⟩ => ⟨S1025x256, .f32⟩
  | .hbm, ⟨15, _⟩ => ⟨S1025x256, .f32⟩
  | .hbm, ⟨16, _⟩ => ⟨S1025x256, .f32⟩
  | .hbm, ⟨17, _⟩ => ⟨S1025x256, .f32⟩
  | .hbm, ⟨18, _⟩ => ⟨S1025x128, .f32⟩
  | .hbm, ⟨19, _⟩ => ⟨S1025x128, .f32⟩
  | .hbm, ⟨20, _⟩ => ⟨S1025x4, .f32⟩
  | .hbm, ⟨21, _⟩ => ⟨S1025x4, .f32⟩
  | .hbm, ⟨22, _⟩ => ⟨S1025x4, .f32⟩
  | .hbm, ⟨23, _⟩ => ⟨S_, .f32⟩
  | .hbm, ⟨24, _⟩ => ⟨S1025x4, .f32⟩
  | .hbm, ⟨25, _⟩ => ⟨S1025x16, .f32⟩
  | .hbm, ⟨26, _⟩ => ⟨S_, .f32⟩
  | .hbm, ⟨27, _⟩ => ⟨S1025x96, .f32⟩
  | .hbm, ⟨28, _⟩ => ⟨S1025x64, .f32⟩
  | .hbm, ⟨29, _⟩ => ⟨S_, .f32⟩
  | .hbm, ⟨30, _⟩ => ⟨S1025x64, .f32⟩
  | .hbm, ⟨31, _⟩ => ⟨S1025x7432, .f32⟩
  | .hbm, ⟨32, _⟩ => ⟨S1025x248, .f32⟩
  | .hbm, ⟨33, _⟩ => ⟨S1025x7680, .f32⟩
  | .hbm, ⟨34, _⟩ => ⟨S1024x7680, .f32⟩
  | .hbm, ⟨35, _⟩ => ⟨S1024x7680, .bf16⟩
  | .hbm, ⟨36, _⟩ => ⟨S1x7680, .f32⟩
  | .hbm, ⟨37, _⟩ => ⟨S1x1024, .f32⟩
  | .hbm, ⟨38, _⟩ => ⟨S16384x7680, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1x1536, .f32⟩
  | .local _ .vmem, ⟨6, _⟩ => ⟨S1x1536, .f32⟩
  | .local _ .vmem, ⟨7, _⟩ => ⟨S512x1536, .f32⟩
  | .local _ .vmem, ⟨8, _⟩ => ⟨S512x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![5, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x1024 : Shape := ⟨2, ![16384, 1024]⟩
abbrev S1024 : Shape := ⟨1, ![1024]⟩
abbrev S1024x7516 : Shape := ⟨2, ![1024, 7516]⟩
abbrev S7516 : Shape := ⟨1, ![7516]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7516 : Shape := ⟨2, ![16384, 7516]⟩
abbrev S1x7516 : Shape := ⟨2, ![1, 7516]⟩
abbrev S16384x256 : Shape := ⟨2, ![16384, 256]⟩
abbrev S16384x4 : Shape := ⟨2, ![16384, 4]⟩
abbrev S16384x128 : Shape := ⟨2, ![16384, 128]⟩
abbrev S16384x16 : Shape := ⟨2, ![16384, 16]⟩
abbrev S16384x64 : Shape := ⟨2, ![16384, 64]⟩
abbrev S16384x512 : Shape := ⟨2, ![16384, 512]⟩
abbrev S16384x4096 : Shape := ⟨2, ![16384, 4096]⟩
abbrev S16384x96 : Shape := ⟨2, ![16384, 96]⟩
abbrev S16384x7432 : Shape := ⟨2, ![16384, 7432]⟩
abbrev S16384x248 : Shape := ⟨2, ![16384, 248]⟩
abbrev S16384x7680 : Shape := ⟨2, ![16384, 7680]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7516, .f32⟩
  | .hbm, ⟨3, _⟩ => ⟨S7516, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x7516, .f32⟩
  | .hbm, ⟨21, _⟩ => ⟨S1x7516, .f32⟩
  | .hbm, ⟨22, _⟩ => ⟨S16384x7516, .f32⟩
  | .hbm, ⟨23, _⟩ => ⟨S16384x7516, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S16384x4, .f32⟩
  | .hbm, ⟨28, _⟩ => ⟨S16384x128, .f32⟩
  | .hbm, ⟨29, _⟩ => ⟨S16384x128, .f32⟩
  | .hbm, ⟨30, _⟩ => ⟨S16384x256, .f32⟩
  | .hbm, ⟨31, _⟩ => ⟨S16384x16, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S16384x256, .f32⟩
  | .hbm, ⟨37, _⟩ => ⟨S16384x4, .f32⟩
  | .hbm, ⟨38, _⟩ => ⟨S16384x64, .f32⟩
  | .hbm, ⟨39, _⟩ => ⟨S16384x256, .f32⟩
  | .hbm, ⟨40, _⟩ => ⟨S16384x512, .f32⟩
  | .hbm, ⟨41, _⟩ => ⟨S16384x4, .f32⟩
  | .hbm, ⟨42, _⟩ => ⟨S16384x4096, .f32⟩
  | .hbm, ⟨43, _⟩ => ⟨S_, .f32⟩
  | .hbm, ⟨44, _⟩ => ⟨S16384x4, .f32⟩
  | .hbm, ⟨45, _⟩ => ⟨S_, .f32⟩
  | .hbm, ⟨46, _⟩ => ⟨S16384x96, .f32⟩
  | .hbm, ⟨47, _⟩ => ⟨S_, .f32⟩
  | .hbm, ⟨48, _⟩ => ⟨S16384x64, .f32⟩
  | .hbm, ⟨49, _⟩ => ⟨S16384x7432, .f32⟩
  | .hbm, ⟨50, _⟩ => ⟨S16384x248, .f32⟩
  | .hbm, ⟨51, _⟩ => ⟨S16384x7680, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S16384x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel4.lean ====
abbrev S16384x256 : Shape := ⟨2, ![16384, 256]⟩
abbrev S16384x7680 : Shape := ⟨2, ![16384, 7680]⟩
abbrev S16384x1024 : Shape := ⟨2, ![16384, 1024]⟩
abbrev S256x1024 : Shape := ⟨2, ![256, 1024]⟩
abbrev S1024x1024 : Shape := ⟨2, ![1024, 1024]⟩
abbrev S1x256x1024 : Shape := ⟨3, ![1, 256, 1024]⟩
abbrev S4x256x1024 : Shape := ⟨3, ![4, 256, 1024]⟩
abbrev S256x256 : Shape := ⟨2, ![256, 256]⟩
abbrev S256x4096 : Shape := ⟨2, ![256, 4096]⟩

abbrev nBuf : Space → Nat
  | .hbm => 19
  | .vmem => 16
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x7680, .f32⟩
  | .hbm, ⟨5, _⟩ => ⟨S16384x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S1024x1024, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S4x256x1024, .f32⟩
  | .hbm, ⟨16, _⟩ => ⟨S4x256x1024, .bf16⟩
  | .hbm, ⟨17, _⟩ => ⟨S1024x1024, .bf16⟩
  | .hbm, ⟨18, _⟩ => ⟨S16384x1024, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x4096, .f32⟩
  | .local _ .vmem, ⟨9, _⟩ => ⟨S256x4096, .f32⟩
  | .local _ .vmem, ⟨10, _⟩ => ⟨S256x1024, .f32⟩
  | .local _ .vmem, ⟨11, _⟩ => ⟨S256x1024, .f32⟩
  | .local _ .vmem, ⟨12, _⟩ => ⟨S4x256x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x256 : Shape := ⟨2, ![16384, 256]⟩
abbrev S16384x7680 : Shape := ⟨2, ![16384, 7680]⟩
abbrev S16384x1024 : Shape := ⟨2, ![16384, 1024]⟩
abbrev S256x1024 : Shape := ⟨2, ![256, 1024]⟩
abbrev S1024x1024 : Shape := ⟨2, ![1024, 1024]⟩
abbrev S16384x4096 : Shape := ⟨2, ![16384, 4096]⟩
abbrev S_ : Shape := ⟨0, ![]⟩
abbrev S16384x4x1024 : Shape := ⟨3, ![16384, 4, 1024]⟩
abbrev S16384x1x1024 : Shape := ⟨3, ![16384, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x7680, .f32⟩
  | .hbm, ⟨5, _⟩ => ⟨S16384x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S1024x1024, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x4x1024, .f32⟩
  | .hbm, ⟨21, _⟩ => ⟨S16384x1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel5.lean ====
abbrev S16384x7680 : Shape := ⟨2, ![16384, 7680]⟩
abbrev S2048 : Shape := ⟨1, ![2048]⟩
abbrev S_ : Shape := ⟨0, ![]⟩
abbrev S1x2048 : Shape := ⟨2, ![1, 2048]⟩
abbrev S8x2048 : Shape := ⟨2, ![8, 2048]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S16384x256 : Shape := ⟨2, ![16384, 256]⟩
abbrev S512x256 : Shape := ⟨2, ![512, 256]⟩
abbrev S512x128 : Shape := ⟨2, ![512, 128]⟩

abbrev nBuf : Space → Nat
  | .hbm => 33
  | .vmem => 24
  | .smem => 0
  | _ => 0

abbrev bufTy : (tb : Table) → Fin (tcTables nBuf tb) → BufTy
  | .hbm, ⟨0, _⟩ => ⟨S16384x7680, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i32⟩
  | .hbm, ⟨5, _⟩ => ⟨S1x2048, .i32⟩
  | .hbm, ⟨6, _⟩ => ⟨S8x2048, .i32⟩
  | .hbm, ⟨7, _⟩ => ⟨S16384, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S16384, .f32⟩
  | .hbm, ⟨17, _⟩ => ⟨S16384x1, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x128, .f32⟩
  | .hbm, ⟨25, _⟩ => ⟨S16384x32, .f32⟩
  | .hbm, ⟨26, _⟩ => ⟨S16384x32, .f32⟩
  | .hbm, ⟨27, _⟩ => ⟨S16384x128, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x128, .f32⟩
  | .hbm, ⟨32, _⟩ => ⟨S16384x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24_0 : Ref sig .tc := ⟨.hbm, 28, rfl⟩
abbrev main_v24_1 : Ref sig .tc := ⟨.hbm, 29, rfl⟩
abbrev main_v24_2 : Ref sig .tc := ⟨.hbm, 30, rfl⟩
abbrev main_v24_3 : Ref sig .tc := ⟨.hbm, 31, rfl⟩
abbrev main_v24_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_1 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 2 → Nat :=
  let arg0 : BitVec 32 := BitVec.ofNat 32 (i 0).val
  let c59_i32 : BitVec 32 := 59#32
  let c0_i32 : BitVec 32 := 0#32
  ![arg0.toNat, c59_i32.toNat]

def cc0_transform_4 (i : grid0.Coords) : Fin 2 → Nat :=
  let arg0 : BitVec 32 := BitVec.ofNat 32 (i 0).val
  let c58_i32 : BitVec 32 := 58#32
  let c0_i32 : BitVec 32 := 0#32
  ![arg0.toNat, c58_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16384x7680 : Shape := ⟨2, ![16384, 7680]⟩
abbrev S2048 : Shape := ⟨1, ![2048]⟩
abbrev S_ : Shape := ⟨0, ![]⟩
abbrev S1x2048 : Shape := ⟨2, ![1, 2048]⟩
abbrev S8x2048 : Shape := ⟨2, ![8, 2048]⟩
abbrev S16384 : Shape := ⟨1, ![16384]⟩
abbrev S16384x256 : Shape := ⟨2, ![16384, 256]⟩
abbrev S16384x4x64 : Shape := ⟨3, ![16384, 4, 64]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x4x32 : Shape := ⟨3, ![16384, 4, 32]⟩
abbrev S16384x128 : Shape := ⟨2, ![16384, 128]⟩
abbrev S16384x2x64 : Shape := ⟨3, ![16384, 2, 64]⟩
abbrev S16384x2x32 : Shape := ⟨3, ![16384, 2, 32]⟩

abbrev nBuf : Space → Nat
  | .hbm => 161
  | .vmem => 0
  | .smem => 0
  | _ => 0

abbrev hbmTy0_0 (i : Nat) : BufTy := match i % 128 with
  | 0 => ⟨S16384x7680, .f32⟩
  | 1 => ⟨S2048, .i32⟩
  | 2 => ⟨S_, .i32⟩
  | 3 => ⟨S2048, .i32⟩
  | 4 => ⟨S2048, .i32⟩
  | 5 => ⟨S1x2048, .i32⟩
  | 6 => ⟨S8x2048, .i32⟩
  | 7 => ⟨S16384, .i32⟩
  | 8 => ⟨S16384x256, .f32⟩
  | 9 => ⟨S16384x4x64, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S16384, .f32⟩
  | 19 => ⟨S16384x1, .f32⟩
  | 20 => ⟨S1x32, .f32⟩
  | 21 => ⟨S16384x32, .f32⟩
  | 22 => ⟨S16384x32, .f32⟩
  | 23 => ⟨S16384x32, .f32⟩
  | 24 => ⟨S16384x32, .f32⟩
  | 25 => ⟨S16384x1x32, .f32⟩
  | 26 => ⟨S16384x32, .f32⟩
  | 27 => ⟨S16384x1x32, .f32⟩
  | 28 => ⟨S16384x4x32, .f32⟩
  | 29 => ⟨S16384x4x32, .f32⟩
  | 30 => ⟨S16384x4x32, .f32⟩
  | 31 => ⟨S16384x4x32, .f32⟩
  | 32 => ⟨S16384x4x32, .f32⟩
  | 33 => ⟨S16384x4x32, .f32⟩
  | 34 => ⟨S16384x4x32, .f32⟩
  | 35 => ⟨S16384x4x32, .f32⟩
  | 36 => ⟨S16384x4x32, .f32⟩
  | 37 => ⟨S16384x4x32, .f32⟩
  | 38 => ⟨S16384x4x32, .f32⟩
  | 39 => ⟨S16384x4x32, .f32⟩
  | 40 => ⟨S16384x4x64, .f32⟩
  | 41 => ⟨S16384x256, .f32⟩
  | 42 => ⟨S16384x256, .f32⟩
  | 43 => ⟨S16384x4x64, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S16384, .f32⟩
  | 53 => ⟨S16384x1, .f32⟩
  | 54 => ⟨S1x32, .f32⟩
  | 55 => ⟨S16384x32, .f32⟩
  | 56 => ⟨S16384x32, .f32⟩
  | 57 => ⟨S16384x32, .f32⟩
  | 58 => ⟨S16384x32, .f32⟩
  | 59 => ⟨S16384x1x32, .f32⟩
  | 60 => ⟨S16384x32, .f32⟩
  | 61 => ⟨S16384x1x32, .f32⟩
  | 62 => ⟨S16384x4x32, .f32⟩
  | 63 => ⟨S16384x4x32, .f32⟩
  | 64 => ⟨S16384x4x32, .f32⟩
  | 65 => ⟨S16384x4x32, .f32⟩
  | 66 => ⟨S16384x4x32, .f32⟩
  | 67 => ⟨S16384x4x32, .f32⟩
  | 68 => ⟨S16384x4x32, .f32⟩
  | 69 => ⟨S16384x4x32, .f32⟩
  | 70 => ⟨S16384x4x32, .f32⟩
  | 71 => ⟨S16384x4x32, .f32⟩
  | 72 => ⟨S16384x4x32, .f32⟩
  | 73 => ⟨S16384x4x32, .f32⟩
  | 74 => ⟨S16384x4x64, .f32⟩
  | 75 => ⟨S16384x256, .f32⟩
  | 76 => ⟨S16384x256, .f32⟩
  | 77 => ⟨S16384x4x64, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S16384, .f32⟩
  | 87 => ⟨S16384x1, .f32⟩
  | 88 => ⟨S1x32, .f32⟩
  | 89 => ⟨S16384x32, .f32⟩
  | 90 => ⟨S16384x32, .f32⟩
  | 91 => ⟨S16384x32, .f32⟩
  | 92 => ⟨S16384x32, .f32⟩
  | 93 => ⟨S16384x1x32, .f32⟩
  | 94 => ⟨S16384x32, .f32⟩
  | 95 => ⟨S16384x1x32, .f32⟩
  | 96 => ⟨S16384x4x32, .f32⟩
  | 97 => ⟨S16384x4x32, .f32⟩
  | 98 => ⟨S16384x4x32, .f32⟩
  | 99 => ⟨S16384x4x32, .f32⟩
  | 100 => ⟨S16384x4x32, .f32⟩
  | 101 => ⟨S16384x4x32, .f32⟩
  | 102 => ⟨S16384x4x32, .f32⟩
  | 103 => ⟨S16384x4x32, .f32⟩
  | 104 => ⟨S16384x4x32, .f32⟩
  | 105 => ⟨S16384x4x32, .f32⟩
  | 106 => ⟨S16384x4x32, .f32⟩
  | 107 => ⟨S16384x4x32, .f32⟩
  | 108 => ⟨S16384x4x64, .f32⟩
  | 109 => ⟨S16384x256, .f32⟩
  | 110 => ⟨S16384x128, .f32⟩
  | 111 => ⟨S16384x2x64, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S16384, .f32⟩
  | 121 => ⟨S16384x1, .f32⟩
  | 122 => ⟨S1x32, .f32⟩
  | 123 => ⟨S16384x32, .f32⟩
  | 124 => ⟨S16384x32, .f32⟩
  | 125 => ⟨S16384x32, .f32⟩
  | 126 => ⟨S16384x32, .f32⟩
  | 127 => ⟨S16384x1x32, .f32⟩
  | _ => ⟨S16384x7680, .f32⟩

abbrev hbmTy0_1 (i : Nat) : BufTy := match i % 128 with
  | 0 => ⟨S16384x32, .f32⟩
  | 1 => ⟨S16384x1x32, .f32⟩
  | 2 => ⟨S16384x2x32, .f32⟩
  | 3 => ⟨S16384x2x32, .f32⟩
  | 4 => ⟨S16384x2x32, .f32⟩
  | 5 => ⟨S16384x2x32, .f32⟩
  | 6 => ⟨S16384x2x32, .f32⟩
  | 7 => ⟨S16384x2x32, .f32⟩
  | 8 => ⟨S16384x2x32, .f32⟩
  | 9 => ⟨S16384x2x32, .f32⟩
  | 10 => ⟨S16384x2x32, .f32⟩
  | 11 => ⟨S16384x2x32, .f32⟩
  | 12 => ⟨S16384x2x32, .f32⟩
  | 13 => ⟨S16384x2x32, .f32⟩
  | 14 => ⟨S16384x2x64, .f32⟩
  | 15 => ⟨S16384x128, .f32⟩
  | 16 => ⟨S16384x128, .f32⟩
  | 17 => ⟨S16384x128, .f32⟩
  | 18 => ⟨S_, .f32⟩
  | 19 => ⟨S16384x128, .f32⟩
  | 20 => ⟨S16384x128, .f32⟩
  | 21 => ⟨S16384x128, .f32⟩
  | 22 => ⟨S16384x128, .f32⟩
  | 23 => ⟨S16384x128, .i1⟩
  | 24 => ⟨S16384x128, .f32⟩
  | 25 => ⟨S16384x128, .f32⟩
  | 26 => ⟨S16384x128, .f32⟩
  | 27 => ⟨S16384x128, .f32⟩
  | 28 => ⟨S16384x128, .f32⟩
  | 29 => ⟨S16384x128, .f32⟩
  | 30 => ⟨S16384x128, .f32⟩
  | 31 => ⟨S16384x128, .f32⟩
  | 32 => ⟨S16384x128, .f32⟩
  | _ => ⟨S16384x7680, .f32⟩

abbrev hbmTy (i : Nat) : BufTy := match i / 128 with
  | 0 => hbmTy0_0 i
  | 1 => hbmTy0_1 i
  | _ => ⟨S16384x7680, .f32⟩

abbrev bufTy : (tb : Table) → Fin (tcTables nBuf tb) → BufTy
  | .hbm, ⟨i, _⟩ => hbmTy i
  | _, _ => ⟨S16384x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_cst_3 : Ref sig .tc := ⟨.hbm, 80, rfl⟩
abbrev main_v74 : Ref sig .tc := ⟨.hbm, 81, rfl⟩
abbrev main_v75 : Ref sig .tc := ⟨.hbm, 82, rfl⟩
abbrev main_cst_4 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_cst_5 : Ref sig .tc := ⟨.hbm, 114, rfl⟩
abbrev main_v106 : Ref sig .tc := ⟨.hbm, 115, rfl⟩
abbrev main_v107 : Ref sig .tc := ⟨.hbm, 116, rfl⟩
abbrev main_cst_6 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_call0_v0 : Ref sig .tc := ⟨.hbm, 145, rfl⟩
abbrev main_call0_call0_cst : Ref sig .tc := ⟨.hbm, 146, rfl⟩
abbrev main_call0_call0_v0 : Ref sig .tc := ⟨.hbm, 147, rfl⟩
abbrev main_call0_call0_v1 : Ref sig .tc := ⟨.hbm, 148, rfl⟩
abbrev main_call0_call0_v2 : Ref sig .tc := ⟨.hbm, 149, rfl⟩
abbrev main_call0_call0_v3 : Ref sig .tc := ⟨.hbm, 150, rfl⟩
abbrev main_call0_call0_v4 : Ref sig .tc := ⟨.hbm, 151, rfl⟩
abbrev main_call0_call0_v5 : Ref sig .tc := ⟨.hbm, 152, rfl⟩
abbrev main_call0_call0_v6 : Ref sig .tc := ⟨.hbm, 153, rfl⟩
abbrev main_call0_call0_v7 : Ref sig .tc := ⟨.hbm, 154, rfl⟩
abbrev main_call0_call0_v8 : Ref sig .tc := ⟨.hbm, 155, rfl⟩
abbrev main_call0_call0_v9 : Ref sig .tc := ⟨.hbm, 156, rfl⟩
abbrev main_call0_call0_v10 : Ref sig .tc := ⟨.hbm, 157, rfl⟩
abbrev main_call0_call0_v11 : Ref sig .tc := ⟨.hbm, 158, rfl⟩
abbrev main_call0_v1 : Ref sig .tc := ⟨.hbm, 159, rfl⟩
abbrev main_v135 : Ref sig .tc := ⟨.hbm, 160, rfl⟩

abbrev nD : Nat := 1
abbrev τ : Topo := Topo.v7x

variable {F : FTy → Type} [FloatOps F]
-- ==== Kernel6.lean ====
abbrev S1152x7680 : Shape := ⟨2, ![1152, 7680]⟩
abbrev S16 : Shape := ⟨1, ![16]⟩
abbrev S1x16 : Shape := ⟨2, ![1, 16]⟩
abbrev S8x16 : Shape := ⟨2, ![8, 16]⟩
abbrev S128 : Shape := ⟨1, ![128]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S1152 : Shape := ⟨1, ![1152]⟩
abbrev S32 : Shape := ⟨1, ![32]⟩
abbrev S1152x1 : Shape := ⟨2, ![1152, 1]⟩
abbrev S1x32 : Shape := ⟨2, ![1, 32]⟩
abbrev S1152x32 : Shape := ⟨2, ![1152, 32]⟩
abbrev S1152x128 : Shape := ⟨2, ![1152, 128]⟩
abbrev S1152x256 : Shape := ⟨2, ![1152, 256]⟩
abbrev S384x256 : Shape := ⟨2, ![384, 256]⟩
abbrev S384x128 : Shape := ⟨2, ![384, 128]⟩

abbrev nBuf : Space → Nat
  | .hbm => 38
  | .vmem => 24
  | .smem => 0
  | _ => 0

abbrev bufTy : (tb : Table) → Fin (tcTables nBuf tb) → BufTy
  | .hbm, ⟨0, _⟩ => ⟨S1152x7680, .f32⟩
  | .hbm, ⟨1, _⟩ => ⟨S16, .i32⟩
  | .hbm, ⟨2, _⟩ => ⟨S1x16, .i32⟩
  | .hbm, ⟨3, _⟩ => ⟨S8x16, .i32⟩
  | .hbm, ⟨4, _⟩ => ⟨S128, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S1x8, .i32⟩
  | .hbm, ⟨10, _⟩ => ⟨S128x8, .i32⟩
  | .hbm, ⟨11, _⟩ => ⟨S1024, .i32⟩
  | .hbm, ⟨12, _⟩ => ⟨S1152, .i32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S1152, .f32⟩
  | .hbm, ⟨22, _⟩ => ⟨S1152x1, .f32⟩
  | .hbm, ⟨23, _⟩ => ⟨S1x32, .f32⟩
  | .hbm, ⟨24, _⟩ => ⟨S1152x32, .f32⟩
  | .hbm, ⟨25, _⟩ => ⟨S1152x32, .f32⟩
  | .hbm, ⟨26, _⟩ => ⟨S1152x32, .f32⟩
  | .hbm, ⟨27, _⟩ => ⟨S1152x32, .f32⟩
  | .hbm, ⟨28, _⟩ => ⟨S1152x32, .f32⟩
  | .hbm, ⟨29, _⟩ => ⟨S1152x128, .f32⟩
  | .hbm, ⟨30, _⟩ => ⟨S1152x32, .f32⟩
  | .hbm, ⟨31, _⟩ => ⟨S1152x32, .f32⟩
  | .hbm, ⟨32, _⟩ => ⟨S1152x128, .f32⟩
  | .hbm, ⟨33, _⟩ => ⟨S1152x256, .f32⟩
  | .hbm, ⟨34, _⟩ => ⟨S1152x256, .f32⟩
  | .hbm, ⟨35, _⟩ => ⟨S1152x256, .f32⟩
  | .hbm, ⟨36, _⟩ => ⟨S1152x128, .f32⟩
  | .hbm, ⟨37, _⟩ => ⟨S1152x128, .f32⟩
  | .local _ .vmem, ⟨0, _⟩ => ⟨S384x256, .f32⟩
  | .local _ .vmem, ⟨1, _⟩ => ⟨S384x256, .f32⟩
  | .local _ .vmem, ⟨2, _⟩ => ⟨S384x256, .f32⟩
  | .local _ .vmem, ⟨3, _⟩ => ⟨S384x256, .f32⟩
  | .local _ .vmem, ⟨4, _⟩ => ⟨S384x256, .f32⟩
  | .local _ .vmem, ⟨5, _⟩ => ⟨S384x256, .f32⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x128, .f32⟩
  | .local _ .vmem, ⟨14, _⟩ => ⟨S384x256, .f32⟩
  | .local _ .vmem, ⟨15, _⟩ => ⟨S384x256, .f32⟩
  | .local _ .vmem, ⟨16, _⟩ => ⟨S384x256, .f32⟩
  | .local _ .vmem, ⟨17, _⟩ => ⟨S384x256, .f32⟩
  | .local _ .vmem, ⟨18, _⟩ => ⟨S384x256, .f32⟩
  | .local _ .vmem, ⟨19, _⟩ => ⟨S384x256, .f32⟩
  | .local _ .vmem, ⟨20, _⟩ => ⟨S384x128, .f32⟩
  | .local _ .vmem, ⟨21, _⟩ => ⟨S384x128, .f32⟩
  | .local _ .vmem, ⟨22, _⟩ => ⟨S384x128, .f32⟩
  | .local _ .vmem, ⟨23, _⟩ => ⟨S384x128, .f32⟩
  | _, _ => ⟨S1152x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29_0 : Ref sig .tc := ⟨.hbm, 33, rfl⟩
abbrev main_v29_1 : Ref sig .tc := ⟨.hbm, 34, rfl⟩
abbrev main_v29_2 : Ref sig .tc := ⟨.hbm, 35, rfl⟩
abbrev main_v29_3 : Ref sig .tc := ⟨.hbm, 36, rfl⟩
abbrev main_v29_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_1 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 2 → Nat :=
  let arg0 : BitVec 32 := BitVec.ofNat 32 (i 0).val
  let c59_i32 : BitVec 32 := 59#32
  let c0_i32 : BitVec 32 := 0#32
  ![arg0.toNat, c59_i32.toNat]

def cc0_transform_4 (i : grid0.Coords) : Fin 2 → Nat :=
  let arg0 : BitVec 32 := BitVec.ofNat 32 (i 0).val
  let c58_i32 : BitVec 32 := 58#32
  let c0_i32 : BitVec 32 := 0#32
  ![arg0.toNat, c58_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S1152x7680 : Shape := ⟨2, ![1152, 7680]⟩
abbrev S16 : Shape := ⟨1, ![16]⟩
abbrev S1x16 : Shape := ⟨2, ![1, 16]⟩
abbrev S8x16 : Shape := ⟨2, ![8, 16]⟩
abbrev S128 : Shape := ⟨1, ![128]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S1152 : Shape := ⟨1, ![1152]⟩
abbrev S1152x256 : Shape := ⟨2, ![1152, 256]⟩
abbrev S1152x4x64 : Shape := ⟨3, ![1152, 4, 64]⟩
abbrev S32 : Shape := ⟨1, ![32]⟩
abbrev S1152x1 : Shape := ⟨2, ![1152, 1]⟩
abbrev S1x32 : Shape := ⟨2, ![1, 32]⟩
abbrev S1152x32 : Shape := ⟨2, ![1152, 32]⟩
abbrev S1152x1x32 : Shape := ⟨3, ![1152, 1, 32]⟩
abbrev S1152x4x32 : Shape := ⟨3, ![1152, 4, 32]⟩
abbrev S1152x128 : Shape := ⟨2, ![1152, 128]⟩
abbrev S1152x2x64 : Shape := ⟨3, ![1152, 2, 64]⟩
abbrev S1152x2x32 : Shape := ⟨3, ![1152, 2, 32]⟩

abbrev nBuf : Space → Nat
  | .hbm => 166
  | .vmem => 0
  | .smem => 0
  | _ => 0

abbrev hbmTy0_0 (i : Nat) : BufTy := match i % 128 with
  | 0 => ⟨S1152x7680, .f32⟩
  | 1 => ⟨S16, .i32⟩
  | 2 => ⟨S1x16, .i32⟩
  | 3 => ⟨S8x16, .i32⟩
  | 4 => ⟨S128, .i32⟩
  | 5 => ⟨S8, .i32⟩
  | 6 => ⟨S_, .i32⟩
  | 7 => ⟨S8, .i32⟩
  | 8 => ⟨S8, .i32⟩
  | 9 => ⟨S1x8, .i32⟩
  | 10 => ⟨S128x8, .i32⟩
  | 11 => ⟨S1024, .i32⟩
  | 12 => ⟨S1152, .i32⟩
  | 13 => ⟨S1152x256, .f32⟩
  | 14 => ⟨S1152x4x64, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S1152, .f32⟩
  | 24 => ⟨S1152x1, .f32⟩
  | 25 => ⟨S1x32, .f32⟩
  | 26 => ⟨S1152x32, .f32⟩
  | 27 => ⟨S1152x32, .f32⟩
  | 28 => ⟨S1152x32, .f32⟩
  | 29 => ⟨S1152x32, .f32⟩
  | 30 => ⟨S1152x1x32, .f32⟩
  | 31 => ⟨S1152x32, .f32⟩
  | 32 => ⟨S1152x1x32, .f32⟩
  | 33 => ⟨S1152x4x32, .f32⟩
  | 34 => ⟨S1152x4x32, .f32⟩
  | 35 => ⟨S1152x4x32, .f32⟩
  | 36 => ⟨S1152x4x32, .f32⟩
  | 37 => ⟨S1152x4x32, .f32⟩
  | 38 => ⟨S1152x4x32, .f32⟩
  | 39 => ⟨S1152x4x32, .f32⟩
  | 40 => ⟨S1152x4x32, .f32⟩
  | 41 => ⟨S1152x4x32, .f32⟩
  | 42 => ⟨S1152x4x32, .f32⟩
  | 43 => ⟨S1152x4x32, .f32⟩
  | 44 => ⟨S1152x4x32, .f32⟩
  | 45 => ⟨S1152x4x64, .f32⟩
  | 46 => ⟨S1152x256, .f32⟩
  | 47 => ⟨S1152x256, .f32⟩
  | 48 => ⟨S1152x4x64, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S1152, .f32⟩
  | 58 => ⟨S1152x1, .f32⟩
  | 59 => ⟨S1x32, .f32⟩
  | 60 => ⟨S1152x32, .f32⟩
  | 61 => ⟨S1152x32, .f32⟩
  | 62 => ⟨S1152x32, .f32⟩
  | 63 => ⟨S1152x32, .f32⟩
  | 64 => ⟨S1152x1x32, .f32⟩
  | 65 => ⟨S1152x32, .f32⟩
  | 66 => ⟨S1152x1x32, .f32⟩
  | 67 => ⟨S1152x4x32, .f32⟩
  | 68 => ⟨S1152x4x32, .f32⟩
  | 69 => ⟨S1152x4x32, .f32⟩
  | 70 => ⟨S1152x4x32, .f32⟩
  | 71 => ⟨S1152x4x32, .f32⟩
  | 72 => ⟨S1152x4x32, .f32⟩
  | 73 => ⟨S1152x4x32, .f32⟩
  | 74 => ⟨S1152x4x32, .f32⟩
  | 75 => ⟨S1152x4x32, .f32⟩
  | 76 => ⟨S1152x4x32, .f32⟩
  | 77 => ⟨S1152x4x32, .f32⟩
  | 78 => ⟨S1152x4x32, .f32⟩
  | 79 => ⟨S1152x4x64, .f32⟩
  | 80 => ⟨S1152x256, .f32⟩
  | 81 => ⟨S1152x256, .f32⟩
  | 82 => ⟨S1152x4x64, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S1152, .f32⟩
  | 92 => ⟨S1152x1, .f32⟩
  | 93 => ⟨S1x32, .f32⟩
  | 94 => ⟨S1152x32, .f32⟩
  | 95 => ⟨S1152x32, .f32⟩
  | 96 => ⟨S1152x32, .f32⟩
  | 97 => ⟨S1152x32, .f32⟩
  | 98 => ⟨S1152x1x32, .f32⟩
  | 99 => ⟨S1152x32, .f32⟩
  | 100 => ⟨S1152x1x32, .f32⟩
  | 101 => ⟨S1152x4x32, .f32⟩
  | 102 => ⟨S1152x4x32, .f32⟩
  | 103 => ⟨S1152x4x32, .f32⟩
  | 104 => ⟨S1152x4x32, .f32⟩
  | 105 => ⟨S1152x4x32, .f32⟩
  | 106 => ⟨S1152x4x32, .f32⟩
  | 107 => ⟨S1152x4x32, .f32⟩
  | 108 => ⟨S1152x4x32, .f32⟩
  | 109 => ⟨S1152x4x32, .f32⟩
  | 110 => ⟨S1152x4x32, .f32⟩
  | 111 => ⟨S1152x4x32, .f32⟩
  | 112 => ⟨S1152x4x32, .f32⟩
  | 113 => ⟨S1152x4x64, .f32⟩
  | 114 => ⟨S1152x256, .f32⟩
  | 115 => ⟨S1152x128, .f32⟩
  | 116 => ⟨S1152x2x64, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S1152, .f32⟩
  | 126 => ⟨S1152x1, .f32⟩
  | 127 => ⟨S1x32, .f32⟩
  | _ => ⟨S1152x7680, .f32⟩

abbrev hbmTy0_1 (i : Nat) : BufTy := match i % 128 with
  | 0 => ⟨S1152x32, .f32⟩
  | 1 => ⟨S1152x32, .f32⟩
  | 2 => ⟨S1152x32, .f32⟩
  | 3 => ⟨S1152x32, .f32⟩
  | 4 => ⟨S1152x1x32, .f32⟩
  | 5 => ⟨S1152x32, .f32⟩
  | 6 => ⟨S1152x1x32, .f32⟩
  | 7 => ⟨S1152x2x32, .f32⟩
  | 8 => ⟨S1152x2x32, .f32⟩
  | 9 => ⟨S1152x2x32, .f32⟩
  | 10 => ⟨S1152x2x32, .f32⟩
  | 11 => ⟨S1152x2x32, .f32⟩
  | 12 => ⟨S1152x2x32, .f32⟩
  | 13 => ⟨S1152x2x32, .f32⟩
  | 14 => ⟨S1152x2x32, .f32⟩
  | 15 => ⟨S1152x2x32, .f32⟩
  | 16 => ⟨S1152x2x32, .f32⟩
  | 17 => ⟨S1152x2x32, .f32⟩
  | 18 => ⟨S1152x2x32, .f32⟩
  | 19 => ⟨S1152x2x64, .f32⟩
  | 20 => ⟨S1152x128, .f32⟩
  | 21 => ⟨S1152x128, .f32⟩
  | 22 => ⟨S1152x128, .f32⟩
  | 23 => ⟨S_, .f32⟩
  | 24 => ⟨S1152x128, .f32⟩
  | 25 => ⟨S1152x128, .f32⟩
  | 26 => ⟨S1152x128, .f32⟩
  | 27 => ⟨S1152x128, .f32⟩
  | 28 => ⟨S1152x128, .i1⟩
  | 29 => ⟨S1152x128, .f32⟩
  | 30 => ⟨S1152x128, .f32⟩
  | 31 => ⟨S1152x128, .f32⟩
  | 32 => ⟨S1152x128, .f32⟩
  | 33 => ⟨S1152x128, .f32⟩
  | 34 => ⟨S1152x128, .f32⟩
  | 35 => ⟨S1152x128, .f32⟩
  | 36 => ⟨S1152x128, .f32⟩
  | 37 => ⟨S1152x128, .f32⟩
  | _ => ⟨S1152x7680, .f32⟩

abbrev hbmTy (i : Nat) : BufTy := match i / 128 with
  | 0 => hbmTy0_0 i
  | 1 => hbmTy0_1 i
  | _ => ⟨S1152x7680, .f32⟩

abbrev bufTy : (tb : Table) → Fin (tcTables nBuf tb) → BufTy
  | .hbm, ⟨i, _⟩ => hbmTy i
  | _, _ => ⟨S1152x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_cst_1 : Ref sig .tc := ⟨.hbm, 51, rfl⟩
abbrev main_v47 : Ref sig .tc := ⟨.hbm, 52, rfl⟩
abbrev main_v48 : Ref sig .tc := ⟨.hbm, 53, rfl⟩
abbrev main_cst_2 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_cst_3 : Ref sig .tc := ⟨.hbm, 85, rfl⟩
abbrev main_v79 : Ref sig .tc := ⟨.hbm, 86, rfl⟩
abbrev main_v80 : Ref sig .tc := ⟨.hbm, 87, rfl⟩
abbrev main_cst_4 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_cst_5 : Ref sig .tc := ⟨.hbm, 119, rfl⟩
abbrev main_v111 : Ref sig .tc := ⟨.hbm, 120, rfl⟩
abbrev main_v112 : Ref sig .tc := ⟨.hbm, 121, rfl⟩
abbrev main_cst_6 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_call0_v0 : Ref sig .tc := ⟨.hbm, 150, rfl⟩
abbrev main_call0_call0_cst : Ref sig .tc := ⟨.hbm, 151, rfl⟩
abbrev main_call0_call0_v0 : Ref sig .tc := ⟨.hbm, 152, rfl⟩
abbrev main_call0_call0_v1 : Ref sig .tc := ⟨.hbm, 153, rfl⟩
abbrev main_call0_call0_v2 : Ref sig .tc := ⟨.hbm, 154, rfl⟩
abbrev main_call0_call0_v3 : Ref sig .tc := ⟨.hbm, 155, rfl⟩
abbrev main_call0_call0_v4 : Ref sig .tc := ⟨.hbm, 156, rfl⟩
abbrev main_call0_call0_v5 : Ref sig .tc := ⟨.hbm, 157, rfl⟩
abbrev main_call0_call0_v6 : Ref sig .tc := ⟨.hbm, 158, rfl⟩
abbrev main_call0_call0_v7 : Ref sig .tc := ⟨.hbm, 159, rfl⟩
abbrev main_call0_call0_v8 : Ref sig .tc := ⟨.hbm, 160, rfl⟩
abbrev main_call0_call0_v9 : Ref sig .tc := ⟨.hbm, 161, rfl⟩
abbrev main_call0_call0_v10 : Ref sig .tc := ⟨.hbm, 162, rfl⟩
abbrev main_call0_call0_v11 : Ref sig .tc := ⟨.hbm, 163, rfl⟩
abbrev main_call0_v1 : Ref sig .tc := ⟨.hbm, 164, rfl⟩
abbrev main_v140 : Ref sig .tc := ⟨.hbm, 165, rfl⟩

abbrev nD : Nat := 1
abbrev τ : Topo := Topo.v7x

variable {F : FTy → Type} [FloatOps F]
-- ==== Kernel7.lean ====
abbrev S1152x1024 : Shape := ⟨2, ![1152, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S1152x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1152x1024, .f32⟩
  | .hbm, ⟨10, _⟩ => ⟨S1152x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | _, _ => ⟨S1152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S1152x1024 : Shape := ⟨2, ![1152, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1152 : Shape := ⟨1, ![1152]⟩
abbrev S1152x1 : Shape := ⟨2, ![1152, 1]⟩
abbrev S1x1024 : Shape := ⟨2, ![1, 1024]⟩
abbrev S1152x4096 : Shape := ⟨2, ![1152, 4096]⟩

abbrev nBuf : Space → Nat
  | .hbm => 44
  | .vmem => 0
  | .smem => 0
  | _ => 0

abbrev bufTy : (tb : Table) → Fin (tcTables nBuf tb) → BufTy
  | .hbm, ⟨0, _⟩ => ⟨S1152x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1152x1024, .f32⟩
  | .hbm, ⟨6, _⟩ => ⟨S_, .f32⟩
  | .hbm, ⟨7, _⟩ => ⟨S1152, .f32⟩
  | .hbm, ⟨8, _⟩ => ⟨S1152x1, .f32⟩
  | .hbm, ⟨9, _⟩ => ⟨S_, .f32⟩
  | .hbm, ⟨10, _⟩ => ⟨S1152x1, .f32⟩
  | .hbm, ⟨11, _⟩ => ⟨S1152x1, .f32⟩
  | .hbm, ⟨12, _⟩ => ⟨S_, .f32⟩
  | .hbm, ⟨13, _⟩ => ⟨S1152x1, .f32⟩
  | .hbm, ⟨14, _⟩ => ⟨S1152x1, .f32⟩
  | .hbm, ⟨15, _⟩ => ⟨S1152x1, .f32⟩
  | .hbm, ⟨16, _⟩ => ⟨S1152x1024, .f32⟩
  | .hbm, ⟨17, _⟩ => ⟨S1152x1024, .f32⟩
  | .hbm, ⟨18, _⟩ => ⟨S1x1024, .f32⟩
  | .hbm, ⟨19, _⟩ => ⟨S1152x1024, .f32⟩
  | .hbm, ⟨20, _⟩ => ⟨S1152x1024, .f32⟩
  | .hbm, ⟨21, _⟩ => ⟨S1152x4096, .f32⟩
  | .hbm, ⟨22, _⟩ => ⟨S_, .f32⟩
  | .hbm, ⟨23, _⟩ => ⟨S1152x4096, .f32⟩
  | .hbm, ⟨24, _⟩ => ⟨S1152x4096, .f32⟩
  | .hbm, ⟨25, _⟩ => ⟨S1152x4096, .f32⟩
  | .hbm, ⟨26, _⟩ => ⟨S1152x1024, .f32⟩
  | .hbm, ⟨27, _⟩ => ⟨S1152x1024, .f32⟩
  | .hbm, ⟨28, _⟩ => ⟨S1152x1024, .f32⟩
  | .hbm, ⟨29, _⟩ => ⟨S_, .f32⟩
  | .hbm, ⟨30, _⟩ => ⟨S1152, .f32⟩
  | .hbm, ⟨31, _⟩ => ⟨S1152x1, .f32⟩
  | .hbm, ⟨32, _⟩ => ⟨S_, .f32⟩
  | .hbm, ⟨33, _⟩ => ⟨S1152x1, .f32⟩
  | .hbm, ⟨34, _⟩ => ⟨S1152x1, .f32⟩
  | .hbm, ⟨35, _⟩ => ⟨S_, .f32⟩
  | .hbm, ⟨36, _⟩ => ⟨S1152x1, .f32⟩
  | .hbm, ⟨37, _⟩ => ⟨S1152x1, .f32⟩
  | .hbm, ⟨38, _⟩ => ⟨S1152x1, .f32⟩
  | .hbm, ⟨39, _⟩ => ⟨S1152x1024, .f32⟩
  | .hbm, ⟨40, _⟩ => ⟨S1152x1024, .f32⟩
  | .hbm, ⟨41, _⟩ => ⟨S1x1024, .f32⟩
  | .hbm, ⟨42, _⟩ => ⟨S1152x1024, .f32⟩
  | .hbm, ⟨43, _⟩ => ⟨S1152x1024, .f32⟩
  | _, _ => ⟨S1152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel8.lean ====
abbrev S1152x1024 : Shape := ⟨2, ![1152, 1024]⟩
abbrev S1024 : Shape := ⟨1, ![1024]⟩
abbrev S1024x7516 : Shape := ⟨2, ![1024, 7516]⟩
abbrev S7516 : Shape := ⟨1, ![7516]⟩
abbrev S1x7516 : Shape := ⟨2, ![1, 7516]⟩
abbrev S1025x7516 : Shape := ⟨2, ![1025, 7516]⟩
abbrev S1025x4096 : Shape := ⟨2, ![1025, 4096]⟩
abbrev S1025x512 : Shape := ⟨2, ![1025, 512]⟩
abbrev S1025x256 : Shape := ⟨2, ![1025, 256]⟩
abbrev S1025x128 : Shape := ⟨2, ![1025, 128]⟩
abbrev S1025x4 : Shape := ⟨2, ![1025, 4]⟩
abbrev S_ : Shape := ⟨0, ![]⟩
abbrev S1025x16 : Shape := ⟨2, ![1025, 16]⟩
abbrev S1025x96 : Shape := ⟨2, ![1025, 96]⟩
abbrev S1025x64 : Shape := ⟨2, ![1025, 64]⟩
abbrev S1025x7432 : Shape := ⟨2, ![1025, 7432]⟩
abbrev S1025x248 : Shape := ⟨2, ![1025, 248]⟩
abbrev S1025x7680 : Shape := ⟨2, ![1025, 7680]⟩
abbrev S1024x7680 : Shape := ⟨2, ![1024, 7680]⟩
abbrev S1x7680 : Shape := ⟨2, ![1, 7680]⟩
abbrev S1x1024 : Shape := ⟨2, ![1, 1024]⟩
abbrev S1152x7680 : Shape := ⟨2, ![1152, 7680]⟩
abbrev S384x1024 : Shape := ⟨2, ![384, 1024]⟩
abbrev S1024x1536 : Shape := ⟨2, ![1024, 1536]⟩
abbrev S1x1536 : Shape := ⟨2, ![1, 1536]⟩
abbrev S384x1536 : Shape := ⟨2, ![384, 1536]⟩
abbrev S384 : Shape := ⟨1, ![384]⟩
abbrev S384x1 : Shape := ⟨2, ![384, 1]⟩

abbrev nBuf : Space → Nat
  | .hbm => 39
  | .vmem => 9
  | .smem => 0
  | _ => 0

abbrev bufTy : (tb : Table) → Fin (tcTables nBuf tb) → BufTy
  | .hbm, ⟨0, _⟩ => ⟨S1152x1024, .f32⟩
  | .hbm, ⟨1, _⟩ => ⟨S1024, .f32⟩
  | .hbm, ⟨2, _⟩ => ⟨S1024x7516, .f32⟩
  | .hbm, ⟨3, _⟩ => ⟨S7516, .f32⟩
  | .hbm, ⟨4, _⟩ => ⟨S1x7516, .f32⟩
  | .hbm, ⟨5, _⟩ => ⟨S1025x7516, .f32⟩
  | .hbm, ⟨6, _⟩ => ⟨S1025x4096, .f32⟩
  | .hbm, ⟨7, _⟩ => ⟨S1025x512, .f32⟩
  | .hbm, ⟨8, _⟩ => ⟨S1025x256, .f32⟩
  | .hbm, ⟨9, _⟩ => ⟨S1025x256, .f32⟩
  | .hbm, ⟨10, _⟩ => ⟨S1025x256, .f32⟩
  | .hbm, ⟨11, _⟩ => ⟨S1025x256, .f32⟩
  | .hbm, ⟨12, _⟩ => ⟨S1025x256, .f32⟩
  | .hbm, ⟨13, _⟩ => ⟨S1025x256, .f32⟩
  | .hbm, ⟨14, _⟩ => ⟨S1025x256, .f32⟩
  | .hbm, ⟨15, _⟩ => ⟨S1025x256, .f32⟩
  | .hbm, ⟨16, _⟩ => ⟨S1025x256, .f32⟩
  | .hbm, ⟨17, _⟩ => ⟨S1025x256, .f32⟩
  | .hbm, ⟨18, _⟩ => ⟨S1025x128, .f32⟩
  | .hbm, ⟨19, _⟩ => ⟨S1025x128, .f32⟩
  | .hbm, ⟨20, _⟩ => ⟨S1025x4, .f32⟩
  | .hbm, ⟨21, _⟩ => ⟨S1025x4, .f32⟩
  | .hbm, ⟨22, _⟩ => ⟨S1025x4, .f32⟩
  | .hbm, ⟨23, _⟩ => ⟨S_, .f32⟩
  | .hbm, ⟨24, _⟩ => ⟨S1025x4, .f32⟩
  | .hbm, ⟨25, _⟩ => ⟨S1025x16, .f32⟩
  | .hbm, ⟨26, _⟩ => ⟨S_, .f32⟩
  | .hbm, ⟨27, _⟩ => ⟨S1025x96, .f32⟩
  | .hbm, ⟨28, _⟩ => ⟨S1025x64, .f32⟩
  | .hbm, ⟨29, _⟩ => ⟨S_, .f32⟩
  | .hbm, ⟨30, _⟩ => ⟨S1025x64, .f32⟩
  | .hbm, ⟨31, _⟩ => ⟨S1025x7432, .f32⟩
  | .hbm, ⟨32, _⟩ => ⟨S1025x248, .f32⟩
  | .hbm, ⟨33, _⟩ => ⟨S1025x7680, .f32⟩
  | .hbm, ⟨34, _⟩ => ⟨S1024x7680, .f32⟩
  | .hbm, ⟨35, _⟩ => ⟨S1024x7680, .bf16⟩
  | .hbm, ⟨36, _⟩ => ⟨S1x7680, .f32⟩
  | .hbm, ⟨37, _⟩ => ⟨S1x1024, .f32⟩
  | .hbm, ⟨38, _⟩ => ⟨S1152x7680, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1x1536, .f32⟩
  | .local _ .vmem, ⟨6, _⟩ => ⟨S1x1536, .f32⟩
  | .local _ .vmem, ⟨7, _⟩ => ⟨S384x1536, .f32⟩
  | .local _ .vmem, ⟨8, _⟩ => ⟨S384x1536, .f32⟩
  | _, _ => ⟨S1152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![5, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S384x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S1152x1024 : Shape := ⟨2, ![1152, 1024]⟩
abbrev S1024 : Shape := ⟨1, ![1024]⟩
abbrev S1024x7516 : Shape := ⟨2, ![1024, 7516]⟩
abbrev S7516 : Shape := ⟨1, ![7516]⟩
abbrev S_ : Shape := ⟨0, ![]⟩
abbrev S1152 : Shape := ⟨1, ![1152]⟩
abbrev S1152x1 : Shape := ⟨2, ![1152, 1]⟩
abbrev S1x1024 : Shape := ⟨2, ![1, 1024]⟩
abbrev S1152x7516 : Shape := ⟨2, ![1152, 7516]⟩
abbrev S1x7516 : Shape := ⟨2, ![1, 7516]⟩
abbrev S1152x256 : Shape := ⟨2, ![1152, 256]⟩
abbrev S1152x4 : Shape := ⟨2, ![1152, 4]⟩
abbrev S1152x128 : Shape := ⟨2, ![1152, 128]⟩
abbrev S1152x16 : Shape := ⟨2, ![1152, 16]⟩
abbrev S1152x64 : Shape := ⟨2, ![1152, 64]⟩
abbrev S1152x512 : Shape := ⟨2, ![1152, 512]⟩
abbrev S1152x4096 : Shape := ⟨2, ![1152, 4096]⟩
abbrev S1152x96 : Shape := ⟨2, ![1152, 96]⟩
abbrev S1152x7432 : Shape := ⟨2, ![1152, 7432]⟩
abbrev S1152x248 : Shape := ⟨2, ![1152, 248]⟩
abbrev S1152x7680 : Shape := ⟨2, ![1152, 7680]⟩

abbrev nBuf : Space → Nat
  | .hbm => 52
  | .vmem => 0
  | .smem => 0
  | _ => 0

abbrev bufTy : (tb : Table) → Fin (tcTables nBuf tb) → BufTy
  | .hbm, ⟨0, _⟩ => ⟨S1152x1024, .f32⟩
  | .hbm, ⟨1, _⟩ => ⟨S1024, .f32⟩
  | .hbm, ⟨2, _⟩ => ⟨S1024x7516, .f32⟩
  | .hbm, ⟨3, _⟩ => ⟨S7516, .f32⟩
  | .hbm, ⟨4, _⟩ => ⟨S1152x1024, .f32⟩
  | .hbm, ⟨5, _⟩ => ⟨S_, .f32⟩
  | .hbm, ⟨6, _⟩ => ⟨S1152, .f32⟩
  | .hbm, ⟨7, _⟩ => ⟨S1152x1, .f32⟩
  | .hbm, ⟨8, _⟩ => ⟨S_, .f32⟩
  | .hbm, ⟨9, _⟩ => ⟨S1152x1, .f32⟩
  | .hbm, ⟨10, _⟩ => ⟨S1152x1, .f32⟩
  | .hbm, ⟨11, _⟩ => ⟨S_, .f32⟩
  | .hbm, ⟨12, _⟩ => ⟨S1152x1, .f32⟩
  | .hbm, ⟨13, _⟩ => ⟨S1152x1, .f32⟩
  | .hbm, ⟨14, _⟩ => ⟨S1152x1, .f32⟩
  | .hbm, ⟨15, _⟩ => ⟨S1152x1024, .f32⟩
  | .hbm, ⟨16, _⟩ => ⟨S1152x1024, .f32⟩
  | .hbm, ⟨17, _⟩ => ⟨S1x1024, .f32⟩
  | .hbm, ⟨18, _⟩ => ⟨S1152x1024, .f32⟩
  | .hbm, ⟨19, _⟩ => ⟨S1152x1024, .f32⟩
  | .hbm, ⟨20, _⟩ => ⟨S1152x7516, .f32⟩
  | .hbm, ⟨21, _⟩ => ⟨S1x7516, .f32⟩
  | .hbm, ⟨22, _⟩ => ⟨S1152x7516, .f32⟩
  | .hbm, ⟨23, _⟩ => ⟨S1152x7516, .f32⟩
  | .hbm, ⟨24, _⟩ => ⟨S1152x256, .f32⟩
  | .hbm, ⟨25, _⟩ => ⟨S1152x256, .f32⟩
  | .hbm, ⟨26, _⟩ => ⟨S1152x256, .f32⟩
  | .hbm, ⟨27, _⟩ => ⟨S1152x4, .f32⟩
  | .hbm, ⟨28, _⟩ => ⟨S1152x128, .f32⟩
  | .hbm, ⟨29, _⟩ => ⟨S1152x128, .f32⟩
  | .hbm, ⟨30, _⟩ => ⟨S1152x256, .f32⟩
  | .hbm, ⟨31, _⟩ => ⟨S1152x16, .f32⟩
  | .hbm, ⟨32, _⟩ => ⟨S1152x256, .f32⟩
  | .hbm, ⟨33, _⟩ => ⟨S1152x256, .f32⟩
  | .hbm, ⟨34, _⟩ => ⟨S1152x256, .f32⟩
  | .hbm, ⟨35, _⟩ => ⟨S1152x256, .f32⟩
  | .hbm, ⟨36, _⟩ => ⟨S1152x256, .f32⟩
  | .hbm, ⟨37, _⟩ => ⟨S1152x4, .f32⟩
  | .hbm, ⟨38, _⟩ => ⟨S1152x64, .f32⟩
  | .hbm, ⟨39, _⟩ => ⟨S1152x256, .f32⟩
  | .hbm, ⟨40, _⟩ => ⟨S1152x512, .f32⟩
  | .hbm, ⟨41, _⟩ => ⟨S1152x4, .f32⟩
  | .hbm, ⟨42, _⟩ => ⟨S1152x4096, .f32⟩
  | .hbm, ⟨43, _⟩ => ⟨S_, .f32⟩
  | .hbm, ⟨44, _⟩ => ⟨S1152x4, .f32⟩
  | .hbm, ⟨45, _⟩ => ⟨S_, .f32⟩
  | .hbm, ⟨46, _⟩ => ⟨S1152x96, .f32⟩
  | .hbm, ⟨47, _⟩ => ⟨S_, .f32⟩
  | .hbm, ⟨48, _⟩ => ⟨S1152x64, .f32⟩
  | .hbm, ⟨49, _⟩ => ⟨S1152x7432, .f32⟩
  | .hbm, ⟨50, _⟩ => ⟨S1152x248, .f32⟩
  | .hbm, ⟨51, _⟩ => ⟨S1152x7680, .f32⟩
  | _, _ => ⟨S1152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel9.lean ====
abbrev S1152x256 : Shape := ⟨2, ![1152, 256]⟩
abbrev S1152x7680 : Shape := ⟨2, ![1152, 7680]⟩
abbrev S1152x1024 : Shape := ⟨2, ![1152, 1024]⟩
abbrev S256x1024 : Shape := ⟨2, ![256, 1024]⟩
abbrev S1024x1024 : Shape := ⟨2, ![1024, 1024]⟩
abbrev S1x256x1024 : Shape := ⟨3, ![1, 256, 1024]⟩
abbrev S4x256x1024 : Shape := ⟨3, ![4, 256, 1024]⟩
abbrev S384x256 : Shape := ⟨2, ![384, 256]⟩
abbrev S384x4096 : Shape := ⟨2, ![384, 4096]⟩
abbrev S384x1024 : Shape := ⟨2, ![384, 1024]⟩

abbrev nBuf : Space → Nat
  | .hbm => 19
  | .vmem => 16
  | .smem => 0
  | _ => 0

abbrev bufTy : (tb : Table) → Fin (tcTables nBuf tb) → BufTy
  | .hbm, ⟨0, _⟩ => ⟨S1152x256, .f32⟩
  | .hbm, ⟨1, _⟩ => ⟨S1152x256, .f32⟩
  | .hbm, ⟨2, _⟩ => ⟨S1152x256, .f32⟩
  | .hbm, ⟨3, _⟩ => ⟨S1152x256, .f32⟩
  | .hbm, ⟨4, _⟩ => ⟨S1152x7680, .f32⟩
  | .hbm, ⟨5, _⟩ => ⟨S1152x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S1024x1024, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S4x256x1024, .f32⟩
  | .hbm, ⟨16, _⟩ => ⟨S4x256x1024, .bf16⟩
  | .hbm, ⟨17, _⟩ => ⟨S1024x1024, .bf16⟩
  | .hbm, ⟨18, _⟩ => ⟨S1152x1024, .f32⟩
  | .local _ .vmem, ⟨0, _⟩ => ⟨S384x256, .f32⟩
  | .local _ .vmem, ⟨1, _⟩ => ⟨S384x256, .f32⟩
  | .local _ .vmem, ⟨2, _⟩ => ⟨S384x256, .f32⟩
  | .local _ .vmem, ⟨3, _⟩ => ⟨S384x256, .f32⟩
  | .local _ .vmem, ⟨4, _⟩ => ⟨S384x256, .f32⟩
  | .local _ .vmem, ⟨5, _⟩ => ⟨S384x256, .f32⟩
  | .local _ .vmem, ⟨6, _⟩ => ⟨S384x256, .f32⟩
  | .local _ .vmem, ⟨7, _⟩ => ⟨S384x256, .f32⟩
  | .local _ .vmem, ⟨8, _⟩ => ⟨S384x4096, .f32⟩
  | .local _ .vmem, ⟨9, _⟩ => ⟨S384x4096, .f32⟩
  | .local _ .vmem, ⟨10, _⟩ => ⟨S384x1024, .f32⟩
  | .local _ .vmem, ⟨11, _⟩ => ⟨S384x1024, .f32⟩
  | .local _ .vmem, ⟨12, _⟩ => ⟨S4x256x1024, .bf16⟩
  | .local _ .vmem, ⟨13, _⟩ => ⟨S1024x1024, .bf16⟩
  | .local _ .vmem, ⟨14, _⟩ => ⟨S384x1024, .f32⟩
  | .local _ .vmem, ⟨15, _⟩ => ⟨S384x1024, .f32⟩
  | _, _ => ⟨S1152x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S1152x256 : Shape := ⟨2, ![1152, 256]⟩
abbrev S1152x7680 : Shape := ⟨2, ![1152, 7680]⟩
abbrev S1152x1024 : Shape := ⟨2, ![1152, 1024]⟩
abbrev S256x1024 : Shape := ⟨2, ![256, 1024]⟩
abbrev S1024x1024 : Shape := ⟨2, ![1024, 1024]⟩
abbrev S1152x4096 : Shape := ⟨2, ![1152, 4096]⟩
abbrev S_ : Shape := ⟨0, ![]⟩
abbrev S1152x4x1024 : Shape := ⟨3, ![1152, 4, 1024]⟩
abbrev S1152x1x1024 : Shape := ⟨3, ![1152, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1152x256, .f32⟩
  | .hbm, ⟨1, _⟩ => ⟨S1152x256, .f32⟩
  | .hbm, ⟨2, _⟩ => ⟨S1152x256, .f32⟩
  | .hbm, ⟨3, _⟩ => ⟨S1152x256, .f32⟩
  | .hbm, ⟨4, _⟩ => ⟨S1152x7680, .f32⟩
  | .hbm, ⟨5, _⟩ => ⟨S1152x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S1024x1024, .f32⟩
  | .hbm, ⟨11, _⟩ => ⟨S1152x4096, .f32⟩
  | .hbm, ⟨12, _⟩ => ⟨S1152x4096, .f32⟩
  | .hbm, ⟨13, _⟩ => ⟨S1152x4096, .f32⟩
  | .hbm, ⟨14, _⟩ => ⟨S_, .f32⟩
  | .hbm, ⟨15, _⟩ => ⟨S1152x4096, .f32⟩
  | .hbm, ⟨16, _⟩ => ⟨S1152x4096, .f32⟩
  | .hbm, ⟨17, _⟩ => ⟨S_, .f32⟩
  | .hbm, ⟨18, _⟩ => ⟨S1152x4096, .f32⟩
  | .hbm, ⟨19, _⟩ => ⟨S1152x4096, .f32⟩
  | .hbm, ⟨20, _⟩ => ⟨S1152x4x1024, .f32⟩
  | .hbm, ⟨21, _⟩ => ⟨S1152x1x1024, .f32⟩
  | .hbm, ⟨22, _⟩ => ⟨S1152x1024, .f32⟩
  | .hbm, ⟨23, _⟩ => ⟨S1152x1024, .f32⟩
  | .hbm, ⟨24, _⟩ => ⟨S1152x1024, .f32⟩
  | .hbm, ⟨25, _⟩ => ⟨S1152x1x1024, .f32⟩
  | .hbm, ⟨26, _⟩ => ⟨S1152x1024, .f32⟩
  | .hbm, ⟨27, _⟩ => ⟨S1152x1024, .f32⟩
  | .hbm, ⟨28, _⟩ => ⟨S1152x1024, .f32⟩
  | .hbm, ⟨29, _⟩ => ⟨S1152x1024, .f32⟩
  | .hbm, ⟨30, _⟩ => ⟨S1152x1x1024, .f32⟩
  | .hbm, ⟨31, _⟩ => ⟨S1152x1024, .f32⟩
  | .hbm, ⟨32, _⟩ => ⟨S1152x1024, .f32⟩
  | .hbm, ⟨33, _⟩ => ⟨S1152x1024, .f32⟩
  | .hbm, ⟨34, _⟩ => ⟨S1152x1024, .f32⟩
  | .hbm, ⟨35, _⟩ => ⟨S1152x1x1024, .f32⟩
  | .hbm, ⟨36, _⟩ => ⟨S1152x1024, .f32⟩
  | .hbm, ⟨37, _⟩ => ⟨S1152x1024, .f32⟩
  | .hbm, ⟨38, _⟩ => ⟨S1152x1024, .f32⟩
  | .hbm, ⟨39, _⟩ => ⟨S1152x1024, .f32⟩
  | .hbm, ⟨40, _⟩ => ⟨S1152x1024, .f32⟩
  | .hbm, ⟨41, _⟩ => ⟨S1152x1024, .f32⟩
  | _, _ => ⟨S1152x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel10.lean ====
abbrev S1152x7680 : Shape := ⟨2, ![1152, 7680]⟩
abbrev S128x3x512 : Shape := ⟨3, ![128, 3, 512]⟩
abbrev S128x4x64x64 : Shape := ⟨4, ![128, 4, 64, 64]⟩
abbrev S4x512 : Shape := ⟨2, ![4, 512]⟩
abbrev S512 : Shape := ⟨1, ![512]⟩
abbrev S4 : Shape := ⟨1, ![4]⟩
abbrev S256 : Shape := ⟨1, ![256]⟩
abbrev S_ : Shape := ⟨0, ![]⟩
abbrev S1x128 : Shape := ⟨2, ![1, 128]⟩
abbrev S1 : Shape := ⟨1, ![1]⟩
abbrev S2 : Shape := ⟨1, ![2]⟩
abbrev S4x64 : Shape := ⟨2, ![4, 64]⟩
abbrev S1x256 : Shape := ⟨2, ![1, 256]⟩
abbrev S2x1 : Shape := ⟨2, ![2, 1]⟩
abbrev S1x4 : Shape := ⟨2, ![1, 4]⟩
abbrev S2x4 : Shape := ⟨2, ![2, 4]⟩
abbrev S128x64x4x64 : Shape := ⟨4, ![128, 64, 4, 64]⟩
abbrev S128x1x64x4x64 : Shape := ⟨5, ![128, 1, 64, 4, 64]⟩
abbrev S1x2x1x4x1 : Shape := ⟨5, ![1, 2, 1, 4, 1]⟩
abbrev S128x2x64x4x64 : Shape := ⟨5, ![128, 2, 64, 4, 64]⟩
abbrev S128x128x256 : Shape := ⟨3, ![128, 128, 256]⟩
abbrev S1x512 : Shape := ⟨2, ![1, 512]⟩
abbrev S1024x256 : Shape := ⟨2, ![1024, 256]⟩
abbrev S8x512 : Shape := ⟨2, ![8, 512]⟩
abbrev S8x256 : Shape := ⟨2, ![8, 256]⟩
abbrev S8x128 : Shape := ⟨2, ![8, 128]⟩
abbrev S1x3x512 : Shape := ⟨3, ![1, 3, 512]⟩
abbrev S1x128x256 : Shape := ⟨3, ![1, 128, 256]⟩
abbrev S16x512 : Shape := ⟨2, ![16, 512]⟩
abbrev S3x512 : Shape := ⟨2, ![3, 512]⟩
abbrev S128x256 : Shape := ⟨2, ![128, 256]⟩
abbrev S8x8 : Shape := ⟨2, ![8, 8]⟩
abbrev S128x8 : Shape := ⟨2, ![128, 8]⟩
abbrev S8x1 : Shape := ⟨2, ![8, 1]⟩
abbrev S8x64 : Shape := ⟨2, ![8, 64]⟩
abbrev S1x8 : Shape := ⟨2, ![1, 8]⟩
abbrev S1x1 : Shape := ⟨2, ![1, 1]⟩
abbrev S8 : Shape := ⟨1, ![8]⟩

abbrev nBuf : Space → Nat
  | .hbm => 67
  | .vmem => 22
  | .smem => 0
  | _ => 0

abbrev bufTy : (tb : Table) → Fin (tcTables nBuf tb) → BufTy
  | .hbm, ⟨0, _⟩ => ⟨S1152x7680, .f32⟩
  | .hbm, ⟨1, _⟩ => ⟨S128x3x512, .f32⟩
  | .hbm, ⟨2, _⟩ => ⟨S128x4x64x64, .f32⟩
  | .hbm, ⟨3, _⟩ => ⟨S4x512, .f32⟩
  | .hbm, ⟨4, _⟩ => ⟨S512, .f32⟩
  | .hbm, ⟨5, _⟩ => ⟨S4, .f32⟩
  | .hbm, ⟨6, _⟩ => ⟨S4, .f32⟩
  | .hbm, ⟨7, _⟩ => ⟨S4, .f32⟩
  | .hbm, ⟨8, _⟩ => ⟨S256, .f32⟩
  | .hbm, ⟨9, _⟩ => ⟨S_, .f32⟩
  | .hbm, ⟨10, _⟩ => ⟨S1x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S1x128, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S4x64, .f32⟩
  | .hbm, ⟨28, _⟩ => ⟨S256, .f32⟩
  | .hbm, ⟨29, _⟩ => ⟨S1x256, .f32⟩
  | .hbm, ⟨30, _⟩ => ⟨S1x256, .f32⟩
  | .hbm, ⟨31, _⟩ => ⟨S2, .i32⟩
  | .hbm, ⟨32, _⟩ => ⟨S2x1, .i32⟩
  | .hbm, ⟨33, _⟩ => ⟨S4, .i32⟩
  | .hbm, ⟨34, _⟩ => ⟨S_, .i32⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S4, .i32⟩
  | .hbm, ⟨39, _⟩ => ⟨S_, .i32⟩
  | .hbm, ⟨40, _⟩ => ⟨S4, .i32⟩
  | .hbm, ⟨41, _⟩ => ⟨S4, .i1⟩
  | .hbm, ⟨42, _⟩ => ⟨S4, .i32⟩
  | .hbm, ⟨43, _⟩ => ⟨S4, .i32⟩
  | .hbm, ⟨44, _⟩ => ⟨S_, .i32⟩
  | .hbm, ⟨45, _⟩ => ⟨S4, .i32⟩
  | .hbm, ⟨46, _⟩ => ⟨S4, .i1⟩
  | .hbm, ⟨47, _⟩ => ⟨S4, .i1⟩
  | .hbm, ⟨48, _⟩ => ⟨S_, .i32⟩
  | .hbm, ⟨49, _⟩ => ⟨S4, .i32⟩
  | .hbm, ⟨50, _⟩ => ⟨S4, .i32⟩
  | .hbm, ⟨51, _⟩ => ⟨S4, .i32⟩
  | .hbm, ⟨52, _⟩ => ⟨S1x4, .i32⟩
  | .hbm, ⟨53, _⟩ => ⟨S2x4, .i32⟩
  | .hbm, ⟨54, _⟩ => ⟨S2x4, .i32⟩
  | .hbm, ⟨55, _⟩ => ⟨S2x4, .i1⟩
  | .hbm, ⟨56, _⟩ => ⟨S2x4, .f32⟩
  | .hbm, ⟨57, _⟩ => ⟨S128x64x4x64, .f32⟩
  | .hbm, ⟨58, _⟩ => ⟨S128x1x64x4x64, .f32⟩
  | .hbm, ⟨59, _⟩ => ⟨S1x2x1x4x1, .f32⟩
  | .hbm, ⟨60, _⟩ => ⟨S128x2x64x4x64, .f32⟩
  | .hbm, ⟨61, _⟩ => ⟨S128x2x64x4x64, .f32⟩
  | .hbm, ⟨62, _⟩ => ⟨S128x2x64x4x64, .f32⟩
  | .hbm, ⟨63, _⟩ => ⟨S128x128x256, .f32⟩
  | .hbm, ⟨64, _⟩ => ⟨S1x512, .f32⟩
  | .hbm, ⟨65, _⟩ => ⟨S1024x256, .f32⟩
  | .hbm, ⟨66, _⟩ => ⟨S128x128x256, .f32⟩
  | .local _ .vmem, ⟨0, _⟩ => ⟨S8x512, .f32⟩
  | .local _ .vmem, ⟨1, _⟩ => ⟨S8x512, .f32⟩
  | .local _ .vmem, ⟨2, _⟩ => ⟨S8x256, .f32⟩
  | .local _ .vmem, ⟨3, _⟩ => ⟨S8x256, .f32⟩
  | .local _ .vmem, ⟨4, _⟩ => ⟨S8x128, .f32⟩
  | .local _ .vmem, ⟨5, _⟩ => ⟨S8x128, .f32⟩
  | .local _ .vmem, ⟨6, _⟩ => ⟨S1x3x512, .f32⟩
  | .local _ .vmem, ⟨7, _⟩ => ⟨S1x3x512, .f32⟩
  | .local _ .vmem, ⟨8, _⟩ => ⟨S1x128x256, .f32⟩
  | .local _ .vmem, ⟨9, _⟩ => ⟨S1x128x256, .f32⟩
  | .local _ .vmem, ⟨10, _⟩ => ⟨S4x512, .f32⟩
  | .local _ .vmem, ⟨11, _⟩ => ⟨S1x512, .f32⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S1x256, .f32⟩
  | .local _ .vmem, ⟨16, _⟩ => ⟨S8x256, .f32⟩
  | .local _ .vmem, ⟨17, _⟩ => ⟨S8x256, .f32⟩
  | .local _ .vmem, ⟨18, _⟩ => ⟨S1x128x256, .f32⟩
  | .local _ .vmem, ⟨19, _⟩ => ⟨S1x128x256, .f32⟩
  | .local _ .vmem, ⟨20, _⟩ => ⟨S16x512, .f32⟩
  | .local _ .vmem, ⟨21, _⟩ => ⟨S8x512, .f32⟩
  | _, _ => ⟨S1152x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33_0 : Ref sig .tc := ⟨.hbm, 65, rfl⟩
abbrev main_v33_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c8_i32 : BitVec 32 := 8#32
  let c0_i32 : BitVec 32 := 0#32
  ![v0.toNat, c8_i32.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c25_i32 : BitVec 32 := 25#32
  let c0_i32 : BitVec 32 := 0#32
  ![v0.toNat, c25_i32.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c58_i32 : BitVec 32 := 58#32
  let c0_i32 : BitVec 32 := 0#32
  ![v0.toNat, c58_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference10Ideal.lean ====
abbrev S1152x7680 : Shape := ⟨2, ![1152, 7680]⟩
abbrev S128x3x512 : Shape := ⟨3, ![128, 3, 512]⟩
abbrev S128x4x64x64 : Shape := ⟨4, ![128, 4, 64, 64]⟩
abbrev S4x512 : Shape := ⟨2, ![4, 512]⟩
abbrev S512 : Shape := ⟨1, ![512]⟩
abbrev S4 : Shape := ⟨1, ![4]⟩
abbrev S256 : Shape := ⟨1, ![256]⟩
abbrev S1024x7680 : Shape := ⟨2, ![1024, 7680]⟩
abbrev S1024x256 : Shape := ⟨2, ![1024, 256]⟩
abbrev S128x8x256 : Shape := ⟨3, ![128, 8, 256]⟩
abbrev S1024x512 : Shape := ⟨2, ![1024, 512]⟩
abbrev S128x8x512 : Shape := ⟨3, ![128, 8, 512]⟩
abbrev S128x11x512 : Shape := ⟨3, ![128, 11, 512]⟩
abbrev S1x512 : Shape := ⟨2, ![1, 512]⟩
abbrev S1x1x512 : Shape := ⟨3, ![1, 1, 512]⟩
abbrev S_ : Shape := ⟨0, ![]⟩
abbrev S128x8x4x64 : Shape := ⟨4, ![128, 8, 4, 64]⟩
abbrev S128x8x128 : Shape := ⟨3, ![128, 8, 128]⟩
abbrev S128x8x2x64 : Shape := ⟨4, ![128, 8, 2, 64]⟩
abbrev S128x8x2x2x64 : Shape := ⟨5, ![128, 8, 2, 2, 64]⟩
abbrev S1024x4 : Shape := ⟨2, ![1024, 4]⟩
abbrev S128x8x4 : Shape := ⟨3, ![128, 8, 4]⟩
abbrev S1x1x4 : Shape := ⟨3, ![1, 1, 4]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x8x1 : Shape := ⟨4, ![1, 8, 8, 1]⟩
abbrev S128x8x1x4 : Shape := ⟨4, ![128, 8, 1, 4]⟩
abbrev S128x1x8x4 : Shape := ⟨4, ![128, 1, 8, 4]⟩
abbrev S128x8x8x4 : Shape := ⟨4, ![128, 8, 8, 4]⟩
abbrev S128x4x8x8 : Shape := ⟨4, ![128, 4, 8, 8]⟩
abbrev S128x4x64x8 : Shape := ⟨4, ![128, 4, 64, 8]⟩
abbrev S128x8x4x1 : Shape := ⟨4, ![128, 8, 4, 1]⟩
abbrev S128x4x8 : Shape := ⟨3, ![128, 4, 8]⟩
abbrev S128x4x1x8 : Shape := ⟨4, ![128, 4, 1, 8]⟩
abbrev S128x1x4 : Shape := ⟨3, ![128, 1, 4]⟩
abbrev S128x4 : Shape := ⟨2, ![128, 4]⟩
abbrev S128x4x1x1 : Shape := ⟨4, ![128, 4, 1, 1]⟩
abbrev S4x1 : Shape := ⟨2, ![4, 1]⟩
abbrev S1x1x4x1 : Shape := ⟨4, ![1, 1, 4, 1]⟩
abbrev S128x8 : Shape := ⟨2, ![128, 8]⟩
abbrev S128x8x1 : Shape := ⟨3, ![128, 8, 1]⟩
abbrev S1x1x256 : Shape := ⟨3, ![1, 1, 256]⟩
abbrev S2 : Shape := ⟨1, ![2]⟩
abbrev S2x1 : Shape := ⟨2, ![2, 1]⟩
abbrev S1x4 : Shape := ⟨2, ![1, 4]⟩
abbrev S2x4 : Shape := ⟨2, ![2, 4]⟩
abbrev S1x2x1x4x1 : Shape := ⟨5, ![1, 2, 1, 4, 1]⟩
abbrev S128x64x4x64 : Shape := ⟨4, ![128, 64, 4, 64]⟩
abbrev S128x1x64x4x64 : Shape := ⟨5, ![128, 1, 64, 4, 64]⟩
abbrev S128x2x64x4x64 : Shape := ⟨5, ![128, 2, 64, 4, 64]⟩
abbrev S128x128x256 : Shape := ⟨3, ![128, 128, 256]⟩

abbrev nBuf : Space → Nat
  | .hbm => 209
  | .vmem => 0
  | .smem => 0
  | _ => 0

abbrev hbmTy0_0 (i : Nat) : BufTy := match i % 128 with
  | 0 => ⟨S1152x7680, .f32⟩
  | 1 => ⟨S128x3x512, .f32⟩
  | 2 => ⟨S128x4x64x64, .f32⟩
  | 3 => ⟨S4x512, .f32⟩
  | 4 => ⟨S512, .f32⟩
  | 5 => ⟨S4, .f32⟩
  | 6 => ⟨S4, .f32⟩
  | 7 => ⟨S4, .f32⟩
  | 8 => ⟨S256, .f32⟩
  | 9 => ⟨S1024x7680, .f32⟩
  | 10 => ⟨S1024x256, .f32⟩
  | 11 => ⟨S128x8x256, .f32⟩
  | 12 => ⟨S1024x512, .f32⟩
  | 13 => ⟨S128x8x512, .f32⟩
  | 14 => ⟨S128x11x512, .f32⟩
  | 15 => ⟨S128x8x512, .f32⟩
  | 16 => ⟨S1x512, .f32⟩
  | 17 => ⟨S512, .f32⟩
  | 18 => ⟨S1x1x512, .f32⟩
  | 19 => ⟨S128x8x512, .f32⟩
  | 20 => ⟨S128x8x512, .f32⟩
  | 21 => ⟨S1x1x512, .f32⟩
  | 22 => ⟨S128x8x512, .f32⟩
  | 23 => ⟨S128x8x512, .f32⟩
  | 24 => ⟨S128x8x512, .f32⟩
  | 25 => ⟨S1x512, .f32⟩
  | 26 => ⟨S512, .f32⟩
  | 27 => ⟨S1x1x512, .f32⟩
  | 28 => ⟨S128x8x512, .f32⟩
  | 29 => ⟨S128x8x512, .f32⟩
  | 30 => ⟨S128x8x512, .f32⟩
  | 31 => ⟨S128x8x512, .f32⟩
  | 32 => ⟨S1x512, .f32⟩
  | 33 => ⟨S512, .f32⟩
  | 34 => ⟨S1x1x512, .f32⟩
  | 35 => ⟨S128x8x512, .f32⟩
  | 36 => ⟨S128x8x512, .f32⟩
  | 37 => ⟨S128x8x512, .f32⟩
  | 38 => ⟨S128x8x512, .f32⟩
  | 39 => ⟨S1x512, .f32⟩
  | 40 => ⟨S512, .f32⟩
  | 41 => ⟨S1x1x512, .f32⟩
  | 42 => ⟨S128x8x512, .f32⟩
  | 43 => ⟨S128x8x512, .f32⟩
  | 44 => ⟨S128x8x512, .f32⟩
  | 45 => ⟨S128x8x512, .f32⟩
  | 46 => ⟨S128x8x512, .f32⟩
  | 47 => ⟨S_, .f32⟩
  | 48 => ⟨S128x8x512, .f32⟩
  | 49 => ⟨S128x8x512, .f32⟩
  | 50 => ⟨S_, .f32⟩
  | 51 => ⟨S128x8x512, .f32⟩
  | 52 => ⟨S128x8x512, .f32⟩
  | 53 => ⟨S128x8x512, .f32⟩
  | 54 => ⟨S128x8x256, .f32⟩
  | 55 => ⟨S128x8x4x64, .f32⟩
  | 56 => ⟨S128x8x128, .f32⟩
  | 57 => ⟨S128x8x2x64, .f32⟩
  | 58 => ⟨S128x8x2x2x64, .f32⟩
  | 59 => ⟨S128x8x4x64, .f32⟩
  | 60 => ⟨S128x8x128, .f32⟩
  | 61 => ⟨S128x8x2x64, .f32⟩
  | 62 => ⟨S128x8x2x2x64, .f32⟩
  | 63 => ⟨S128x8x4x64, .f32⟩
  | 64 => ⟨S1024x4, .f32⟩
  | 65 => ⟨S128x8x4, .f32⟩
  | 66 => ⟨S1x1x4, .f32⟩
  | 67 => ⟨S128x8x4, .f32⟩
  | 68 => ⟨S128x8x4, .f32⟩
  | 69 => ⟨S_, .f32⟩
  | 70 => ⟨S128x8x4, .f32⟩
  | 71 => ⟨S128x8x4, .f32⟩
  | 72 => ⟨S128x8x4, .f32⟩
  | 73 => ⟨S128x8x4, .f32⟩
  | 74 => ⟨S128x8x4, .i1⟩
  | 75 => ⟨S128x8x4, .f32⟩
  | 76 => ⟨S128x8x4, .f32⟩
  | 77 => ⟨S128x8x4, .f32⟩
  | 78 => ⟨S128x8x4, .f32⟩
  | 79 => ⟨S128x8x4, .f32⟩
  | 80 => ⟨S128x8x4, .f32⟩
  | 81 => ⟨S128x8x4, .f32⟩
  | 82 => ⟨S128x8x4, .f32⟩
  | 83 => ⟨S4, .f32⟩
  | 84 => ⟨S4, .f32⟩
  | 85 => ⟨S1x1x4, .f32⟩
  | 86 => ⟨S128x8x4, .f32⟩
  | 87 => ⟨S128x8x4, .f32⟩
  | 88 => ⟨S_, .f32⟩
  | 89 => ⟨S_, .f32⟩
  | 90 => ⟨S128x8x4, .f32⟩
  | 91 => ⟨S8, .i32⟩
  | 92 => ⟨S8x1, .i32⟩
  | 93 => ⟨S1x8, .i32⟩
  | 94 => ⟨S8x8, .i32⟩
  | 95 => ⟨S8x8, .i32⟩
  | 96 => ⟨S8x8, .i1⟩
  | 97 => ⟨S1x8x8x1, .i1⟩
  | 98 => ⟨S128x8x1x4, .f32⟩
  | 99 => ⟨S128x1x8x4, .f32⟩
  | 100 => ⟨S128x8x8x4, .f32⟩
  | 101 => ⟨S128x8x8x4, .f32⟩
  | 102 => ⟨S128x8x8x4, .f32⟩
  | 103 => ⟨S_, .f32⟩
  | 104 => ⟨S_, .f32⟩
  | 105 => ⟨S128x8x8x4, .i1⟩
  | 106 => ⟨S128x8x8x4, .f32⟩
  | 107 => ⟨S128x8x8x4, .f32⟩
  | 108 => ⟨S128x8x8x4, .f32⟩
  | 109 => ⟨S128x4x8x8, .f32⟩
  | 110 => ⟨S128x4x8x8, .f32⟩
  | 111 => ⟨S128x4x8x8, .f32⟩
  | 112 => ⟨S128x4x64x8, .f32⟩
  | 113 => ⟨S128x8x4x64, .f32⟩
  | 114 => ⟨S128x8x4, .f32⟩
  | 115 => ⟨S128x8x4x1, .f32⟩
  | 116 => ⟨S128x8x4x64, .f32⟩
  | 117 => ⟨S128x8x4x64, .f32⟩
  | 118 => ⟨S128x4x8, .f32⟩
  | 119 => ⟨S128x4x1x8, .f32⟩
  | 120 => ⟨S128x4x8x8, .f32⟩
  | 121 => ⟨S128x4x8x8, .f32⟩
  | 122 => ⟨S128x4x64x8, .f32⟩
  | 123 => ⟨S128x8x4x64, .f32⟩
  | 124 => ⟨S128x8x4x64, .f32⟩
  | 125 => ⟨S128x1x4, .f32⟩
  | 126 => ⟨S128x4, .f32⟩
  | 127 => ⟨S128x1x4, .f32⟩
  | _ => ⟨S1152x7680, .f32⟩

abbrev hbmTy0_1 (i : Nat) : BufTy := match i % 128 with
  | 0 => ⟨S128x8x4, .f32⟩
  | 1 => ⟨S128x8x4, .f32⟩
  | 2 => ⟨S128x8x4, .f32⟩
  | 3 => ⟨S128x8x4, .f32⟩
  | 4 => ⟨S128x4, .f32⟩
  | 5 => ⟨S128x4x1x1, .f32⟩
  | 6 => ⟨S128x4x64x64, .f32⟩
  | 7 => ⟨S128x4x64x64, .f32⟩
  | 8 => ⟨S128x8x4x1, .f32⟩
  | 9 => ⟨S128x8x4x64, .f32⟩
  | 10 => ⟨S128x8x4x64, .f32⟩
  | 11 => ⟨S128x4x64x64, .f32⟩
  | 12 => ⟨S128x4x64x64, .f32⟩
  | 13 => ⟨S4x1, .f32⟩
  | 14 => ⟨S1x1x4x1, .f32⟩
  | 15 => ⟨S128x8x4x64, .f32⟩
  | 16 => ⟨S128x8x4x64, .f32⟩
  | 17 => ⟨S128x8x4x64, .f32⟩
  | 18 => ⟨S128x8x256, .f32⟩
  | 19 => ⟨S128x8x256, .f32⟩
  | 20 => ⟨S128x8x256, .f32⟩
  | 21 => ⟨S_, .f32⟩
  | 22 => ⟨S128x8x256, .f32⟩
  | 23 => ⟨S128x8x256, .f32⟩
  | 24 => ⟨S_, .f32⟩
  | 25 => ⟨S128x8x256, .f32⟩
  | 26 => ⟨S128x8x256, .f32⟩
  | 27 => ⟨S128x8x256, .f32⟩
  | 28 => ⟨S128x8x256, .f32⟩
  | 29 => ⟨S128x8x256, .f32⟩
  | 30 => ⟨S_, .f32⟩
  | 31 => ⟨S128x8, .f32⟩
  | 32 => ⟨S128x8x1, .f32⟩
  | 33 => ⟨S_, .f32⟩
  | 34 => ⟨S128x8x1, .f32⟩
  | 35 => ⟨S128x8x1, .f32⟩
  | 36 => ⟨S_, .f32⟩
  | 37 => ⟨S128x8x1, .f32⟩
  | 38 => ⟨S128x8x1, .f32⟩
  | 39 => ⟨S128x8x1, .f32⟩
  | 40 => ⟨S128x8x256, .f32⟩
  | 41 => ⟨S128x8x256, .f32⟩
  | 42 => ⟨S1x1x256, .f32⟩
  | 43 => ⟨S128x8x256, .f32⟩
  | 44 => ⟨S128x8x256, .f32⟩
  | 45 => ⟨S2, .i32⟩
  | 46 => ⟨S4, .i32⟩
  | 47 => ⟨S_, .i32⟩
  | 48 => ⟨S_, .i32⟩
  | 49 => ⟨S4, .i32⟩
  | 50 => ⟨S4, .i32⟩
  | 51 => ⟨S4, .i32⟩
  | 52 => ⟨S_, .i32⟩
  | 53 => ⟨S4, .i32⟩
  | 54 => ⟨S4, .i1⟩
  | 55 => ⟨S4, .i32⟩
  | 56 => ⟨S4, .i32⟩
  | 57 => ⟨S_, .i32⟩
  | 58 => ⟨S4, .i32⟩
  | 59 => ⟨S4, .i1⟩
  | 60 => ⟨S4, .i1⟩
  | 61 => ⟨S_, .i32⟩
  | 62 => ⟨S4, .i32⟩
  | 63 => ⟨S4, .i32⟩
  | 64 => ⟨S4, .i32⟩
  | 65 => ⟨S2x1, .i32⟩
  | 66 => ⟨S1x4, .i32⟩
  | 67 => ⟨S2x4, .i32⟩
  | 68 => ⟨S2x4, .i32⟩
  | 69 => ⟨S2x4, .i1⟩
  | 70 => ⟨S1x2x1x4x1, .i1⟩
  | 71 => ⟨S128x64x4x64, .f32⟩
  | 72 => ⟨S128x1x64x4x64, .f32⟩
  | 73 => ⟨S_, .f32⟩
  | 74 => ⟨S_, .f32⟩
  | 75 => ⟨S128x2x64x4x64, .i1⟩
  | 76 => ⟨S128x2x64x4x64, .f32⟩
  | 77 => ⟨S128x2x64x4x64, .f32⟩
  | 78 => ⟨S128x2x64x4x64, .f32⟩
  | 79 => ⟨S1024x256, .f32⟩
  | 80 => ⟨S128x128x256, .f32⟩
  | _ => ⟨S1152x7680, .f32⟩

abbrev hbmTy (i : Nat) : BufTy := match i / 128 with
  | 0 => hbmTy0_0 i
  | 1 => hbmTy0_1 i
  | _ => ⟨S1152x7680, .f32⟩

abbrev bufTy : (tb : Table) → Fin (tcTables nBuf tb) → BufTy
  | .hbm, ⟨i, _⟩ => hbmTy i
  | _, _ => ⟨S1152x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call2_call0_cst : Ref sig .tc := ⟨.hbm, 88, rfl⟩
abbrev main_call2_call0_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_call4_v0 : Ref sig .tc := ⟨.hbm, 147, rfl⟩
abbrev main_call4_v1 : Ref sig .tc := ⟨.hbm, 148, rfl⟩
abbrev main_call4_cst : Ref sig .tc := ⟨.hbm, 149, rfl⟩
abbrev main_call4_v2 : Ref sig .tc := ⟨.hbm, 150, rfl⟩
abbrev main_call4_v3 : Ref sig .tc := ⟨.hbm, 151, rfl⟩
abbrev main_call4_cst_0 : Ref sig .tc := ⟨.hbm, 152, rfl⟩
abbrev main_call4_v4 : Ref sig .tc := ⟨.hbm, 153, rfl⟩
abbrev main_call4_v5 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_0 : Ref sig .tc := ⟨.hbm, 158, rfl⟩
abbrev main_v114 : Ref sig .tc := ⟨.hbm, 159, rfl⟩
abbrev main_v115 : Ref sig .tc := ⟨.hbm, 160, rfl⟩
abbrev main_cst_1 : Ref sig .tc := ⟨.hbm, 161, rfl⟩
abbrev main_v116 : Ref sig .tc := ⟨.hbm, 162, rfl⟩
abbrev main_v117 : Ref sig .tc := ⟨.hbm, 163, rfl⟩
abbrev main_cst_2 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c : Ref sig .tc := ⟨.hbm, 175, rfl⟩
abbrev main_call5_v0 : Ref sig .tc := ⟨.hbm, 176, rfl⟩
abbrev main_call5_v1 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_call5_v5 : Ref sig .tc := ⟨.hbm, 181, rfl⟩
abbrev main_call5_v6 : Ref sig .tc := ⟨.hbm, 182, rfl⟩
abbrev main_call5_v7 : Ref sig .tc := ⟨.hbm, 183, rfl⟩
abbrev main_call5_v8 : Ref sig .tc := ⟨.hbm, 184, rfl⟩
abbrev main_call5_c : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_c_0 : Ref sig .tc := ⟨.hbm, 189, rfl⟩
abbrev main_call5_v12 : Ref sig .tc := ⟨.hbm, 190, rfl⟩
abbrev main_call5_v13 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_cst_3 : Ref sig .tc := ⟨.hbm, 201, rfl⟩
abbrev main_call6_v0 : Ref sig .tc := ⟨.hbm, 202, rfl⟩
abbrev main_call6_v1 : Ref sig .tc := ⟨.hbm, 203, rfl⟩
abbrev main_call6_v2 : Ref sig .tc := ⟨.hbm, 204, rfl⟩
abbrev main_call6_v3 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩

abbrev nD : Nat := 1
abbrev τ : Topo := Topo.v7x

variable {F : FTy → Type} [FloatOps F]
-- ==== Kernel11.lean ====
abbrev S16384x128 : Shape := ⟨2, ![16384, 128]⟩
abbrev S1152x128 : Shape := ⟨2, ![1152, 128]⟩
abbrev S128x128 : Shape := ⟨2, ![128, 128]⟩
abbrev S8x8x2048 : Shape := ⟨3, ![8, 8, 2048]⟩
abbrev S8x8x128 : Shape := ⟨3, ![8, 8, 128]⟩
abbrev S2048x128 : Shape := ⟨2, ![2048, 128]⟩
abbrev S16x128 : Shape := ⟨2, ![16, 128]⟩
abbrev S1x8x2048 : Shape := ⟨3, ![1, 8, 2048]⟩
abbrev S1x8x128 : Shape := ⟨3, ![1, 8, 128]⟩
abbrev S8x128 : Shape := ⟨2, ![8, 128]⟩
abbrev S16x16 : Shape := ⟨2, ![16, 16]⟩
abbrev S1x128 : Shape := ⟨2, ![1, 128]⟩

abbrev nBuf : Space → Nat
  | .hbm => 6
  | .vmem => 13
  | .smem => 0
  | _ => 0

abbrev bufTy : (tb : Table) → Fin (tcTables nBuf tb) → BufTy
  | .hbm, ⟨0, _⟩ => ⟨S16384x128, .f32⟩
  | .hbm, ⟨1, _⟩ => ⟨S1152x128, .f32⟩
  | .hbm, ⟨2, _⟩ => ⟨S16384x128, .f32⟩
  | .hbm, ⟨3, _⟩ => ⟨S128x128, .f32⟩
  | .hbm, ⟨4, _⟩ => ⟨S8x8x2048, .f32⟩
  | .hbm, ⟨5, _⟩ => ⟨S8x8x128, .f32⟩
  | .local _ .vmem, ⟨0, _⟩ => ⟨S2048x128, .f32⟩
  | .local _ .vmem, ⟨1, _⟩ => ⟨S2048x128, .f32⟩
  | .local _ .vmem, ⟨2, _⟩ => ⟨S16x128, .f32⟩
  | .local _ .vmem, ⟨3, _⟩ => ⟨S16x128, .f32⟩
  | .local _ .vmem, ⟨4, _⟩ => ⟨S2048x128, .f32⟩
  | .local _ .vmem, ⟨5, _⟩ => ⟨S2048x128, .f32⟩
  | .local _ .vmem, ⟨6, _⟩ => ⟨S16x128, .f32⟩
  | .local _ .vmem, ⟨7, _⟩ => ⟨S16x128, .f32⟩
  | .local _ .vmem, ⟨8, _⟩ => ⟨S1x8x2048, .f32⟩
  | .local _ .vmem, ⟨9, _⟩ => ⟨S1x8x2048, .f32⟩
  | .local _ .vmem, ⟨10, _⟩ => ⟨S1x8x128, .f32⟩
  | .local _ .vmem, ⟨11, _⟩ => ⟨S1x8x128, .f32⟩
  | .local _ .vmem, ⟨12, _⟩ => ⟨S128x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S16384x128 : Shape := ⟨2, ![16384, 128]⟩
abbrev S1152x128 : Shape := ⟨2, ![1152, 128]⟩
abbrev S128x128 : Shape := ⟨2, ![128, 128]⟩
abbrev S8x16x128 : Shape := ⟨3, ![8, 16, 128]⟩
abbrev S8x2048x128 : Shape := ⟨3, ![8, 2048, 128]⟩
abbrev S8x2064x128 : Shape := ⟨3, ![8, 2064, 128]⟩
abbrev S_ : Shape := ⟨0, ![]⟩
abbrev S8x2064x8 : Shape := ⟨3, ![8, 2064, 8]⟩
abbrev S8x8x2064 : Shape := ⟨3, ![8, 8, 2064]⟩
abbrev S8x8x16 : Shape := ⟨3, ![8, 8, 16]⟩
abbrev S8x8x128 : Shape := ⟨3, ![8, 8, 128]⟩
abbrev S8x8x2048 : Shape := ⟨3, ![8, 8, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1152x128, .f32⟩
  | .hbm, ⟨2, _⟩ => ⟨S128x128, .f32⟩
  | .hbm, ⟨3, _⟩ => ⟨S8x16x128, .f32⟩
  | .hbm, ⟨4, _⟩ => ⟨S8x2048x128, .f32⟩
  | .hbm, ⟨5, _⟩ => ⟨S8x2064x128, .f32⟩
  | .hbm, ⟨6, _⟩ => ⟨S_, .f32⟩
  | .hbm, ⟨7, _⟩ => ⟨S_, .f32⟩
  | .hbm, ⟨8, _⟩ => ⟨S8x2064x128, .f32⟩
  | .hbm, ⟨9, _⟩ => ⟨S8x2064x8, .f32⟩
  | .hbm, ⟨10, _⟩ => ⟨S8x8x2064, .f32⟩
  | .hbm, ⟨11, _⟩ => ⟨S8x8x16, .f32⟩
  | .hbm, ⟨12, _⟩ => ⟨S_, .i32⟩
  | .hbm, ⟨13, _⟩ => ⟨S_, .f32⟩
  | .hbm, ⟨14, _⟩ => ⟨S8x8x128, .f32⟩
  | .hbm, ⟨15, _⟩ => ⟨S8x2048x128, .f32⟩
  | .hbm, ⟨16, _⟩ => ⟨S16384x128, .f32⟩
  | .hbm, ⟨17, _⟩ => ⟨S8x16x128, .f32⟩
  | .hbm, ⟨18, _⟩ => ⟨S128x128, .f32⟩
  | .hbm, ⟨19, _⟩ => ⟨S8x8x2048, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Gla.Body.lean ====
/-
  One grid point of the gated linear attention kernel, as a few named functions.

  The kernel's body is one long straight line: the 128 key lanes of the decay sum are written out one after the other.
  This file names what it computes — the running gate sums, the decayed score of one head, the output before the norm, the new
  state, the normalised output — with the 128 lanes as a recursion, and shows that the generated body results are these
  functions (every proof here is by unfolding).
-/
module

public import proofs.«01_k».proof.Proof.Gen.KernelIdeal.Frame
public import Idealize.ShloMosaic.Lib.Pointwise
public import Idealize.ShloMosaic.Lib.Pipeline.Value

@[expose] public section

noncomputable section

namespace Cert.Gla

open Cert.KernelIdeal Cert.KernelIdeal.Gen Idealize.ShloMosaic

/-- One column of an 8×128 block lies inside the block. -/
theorem slices_col (j : Fin 128) : S8x128.Slices ![0, j.val] S8x1 := by revert j; decide +kernel
/-- One row of a 128×8 block lies inside the block. -/
theorem slices_row (j : Fin 128) : S128x8.Slices ![j.val, 0] S1x8 := by revert j; decide +kernel

/-- Column `j` of an 8×128 block, spread over the eight columns of an 8×8 square. -/
def colOf (x : FVec Ideal S8x128 .f32) (j : Fin 128) : FVec Ideal S8x8 .f32 :=
  broadcastTo S8x8 (extractStridedSlice S8x1 ![0, j.val] x (slices_col j)) broadcasts_S8x1_S8x8
/-- Row `j` of a 128×8 block, spread over the eight rows of an 8×8 square. -/
def rowOf (x : FVec Ideal S128x8 .f32) (j : Fin 128) : FVec Ideal S8x8 .f32 :=
  broadcastTo S8x8 (extractStridedSlice S1x8 ![j.val, 0] x (slices_row j)) broadcasts_S1x8_S8x8

/-- The zero constant. -/
abbrev zero : Ideal .f32 := Ideal.ofBits .f32 0x00000000#32

/-- Lane `j`'s term of a decayed score: query times key times the exponential of the gates between them. -/
def term (b : FVec Ideal S8x128 .f32) (bT kT : FVec Ideal S128x8 .f32) (qs : FVec Ideal S8x128 .f32) (j : Fin 128) :
    FVec Ideal S8x8 .f32 :=
  mulf (mulf (colOf qs j) (rowOf kT j)) (exp (minimumf (subf (colOf b j) (rowOf bT j)) (broadcast S8x8 zero)))

/-- The sum of the first `n` terms of a family, added one at a time onto zero. -/
def sumUpTo (f : Nat → FVec Ideal S8x8 .f32) : Nat → FVec Ideal S8x8 .f32
  | 0 => broadcast S8x8 zero
  | n + 1 => addf (sumUpTo f n) (f n)

/-- Lane `d` of head `h`. -/
def lane (h d : Nat) : Fin 128 := ⟨(h * 32 + d) % 128, Nat.mod_lt _ (by omega)⟩

/-- Head `h`'s decayed scores, zero above the diagonal. -/
def att (b : FVec Ideal S8x128 .f32) (bT kT : FVec Ideal S128x8 .f32) (qs : FVec Ideal S8x128 .f32) (h : Nat) :
    FVec Ideal S8x8 .f32 :=
  select k0_pay13 (sumUpTo (fun d => term b bT kT qs (lane h d)) 32) (broadcast S8x8 zero)

/-- Head `h`'s part of the output: its scores times the values, kept on the head's own 64 lanes. -/
def headPart (b : FVec Ideal S8x128 .f32) (bT kT : FVec Ideal S128x8 .f32) (qs : FVec Ideal S8x128 .f32)
    (v : FVec Ideal S8x256 .bf16) (h : Nat) : FVec Ideal S8x256 .f32 :=
  select (cmpi .eq k0_pay14 (broadcast S8x256 (BitVec.ofNat 32 h)))
    (matmul dot_S8x8_S8x256_S8x256_1_0_0_1_n_n none (truncf .bf16 (att b bT kT qs h) bitsLt_bf16_f32) v
      (constant S8x256 .f32 0x00000000#32))
    (broadcast S8x256 zero)

/-- The running sums of the gates over the block's rows. -/
def cum (small : FVec Ideal S8x128 .f32) (wa2 : FVec Ideal S128x128 .bf16) (ba2 : FVec Ideal S1x128 .f32) :
    FVec Ideal S8x128 .f32 :=
  k0_pay9 k0_pay6 (k0_pay7 wa2 ba2 small) (k0_pay8 wa2 ba2 small)

/-- The output before the norm: the state's part, then the four heads'. -/
def y (q k : FVec Ideal S8x128 .f32) (v : FVec Ideal S8x256 .f32) (small : FVec Ideal S8x128 .f32) (s : FVec Ideal S1x128x256 .f32)
    (wa2 : FVec Ideal S128x128 .bf16) (ba2 : FVec Ideal S1x128 .f32) : FVec Ideal S8x256 .f32 :=
  let b := cum small wa2 ba2
  let bT := transpose S128x8 [1, 0] b transposes_S8x128_p1_0_S128x8
  let kT := transpose S128x8 [1, 0] k transposes_S8x128_p1_0_S128x8
  let qs := k0_pay12 q
  let vb := k0_pay15 v
  addf (addf (addf (addf (k0_pay16 (k0_pay4 s) q k0_pay6 (k0_pay7 wa2 ba2 small) (k0_pay8 wa2 ba2 small))
    (headPart b bT kT qs vb 0)) (headPart b bT kT qs vb 1)) (headPart b bT kT qs vb 2)) (headPart b bT kT qs vb 3)

set_option maxRecDepth 100000 in
/-- The body's value before the norm is `y`. -/
theorem pay138_eq (x0 x1 : Vec Ideal S8x128 .f32) (x2 x3 : Vec Ideal S8x256 .f32) (x4 : Vec Ideal S8x128 .f32) (x5 : Vec Ideal S1x128x256 .f32)
    (x6 : Vec Ideal S128x128 .bf16) (x7 : Vec Ideal S1x128 .f32) (x8 : Vec Ideal S1x256 .f32) :
    k0_pay138 x0 x1 x2 x3 x4 x5 x6 x7 x8
      = y (View.ld x0 r0_4) (View.ld x1 r0_4) (View.ld x2 r0_5) (View.ld x4 r0_4) (View.ld x5 r0_3) (View.ld x6 r0_0) (View.ld x7 r0_1) := by
  rfl

end Cert.Gla

end
-- ==== Proof.Gla.Scalar.lean ====
/-
  The arithmetic of gated linear attention on the extended reals: the logarithm of the sigmoid in its two spellings, the sign of
  the gates and of their running sums, sums over 0/1 weights, and sums over lanes grouped by head.
-/
module

public import Idealize.ShloMosaic.Lib.Pointwise
public import Idealize.ShloMosaic.Lib.IdealHost
public import Mathlib.Algebra.BigOperators.Fin

@[expose] public section

noncomputable section

namespace Cert.Gla

open Idealize.ShloMosaic
open scoped BigOperators

/-! ## The logarithm of the sigmoid -/

/-- `log (sigmoid x)` in the form that never overflows: `min x 0 - log (1 + exp (-|x|))`. -/
def lsig (x : EReal) : EReal := min x 0 - Ideal.log1p (Ideal.exp (0 - max x (-x)))

/-- `log (1 + exp r)` is a real number that is not negative. -/
theorem log1p_exp_coe (r : ℝ) : ∃ l : ℝ, 0 ≤ l ∧ Ideal.log1p (Ideal.exp (r : EReal)) = (l : EReal) := by
  have h : (1 : EReal) + (Real.exp r : EReal) = ((1 + Real.exp r : ℝ) : EReal) := by norm_cast
  refine ⟨Real.log (1 + Real.exp r), Real.log_nonneg (by linarith [Real.exp_pos r]), ?_⟩
  show Ideal.log (1 + (Real.exp r : EReal)) = _
  rw [h]
  show (if 1 + Real.exp r ≤ 0 then (⊥ : EReal) else _) = _
  rw [if_neg (by linarith [Real.exp_pos r])]

/-- The greater of two real numbers, among the extended reals. -/
theorem coe_max (a c : ℝ) : max (a : EReal) (c : EReal) = ((max a c : ℝ) : EReal) :=
  (EReal.coe_strictMono.monotone.map_max (a := a) (b := c)).symm
/-- The lesser of two real numbers, among the extended reals. -/
theorem coe_min (a c : ℝ) : min (a : EReal) (c : EReal) = ((min a c : ℝ) : EReal) :=
  (EReal.coe_strictMono.monotone.map_min (a := a) (b := c)).symm

/-- `log (1 + 0)` is zero. -/
theorem log1p_zero : Ideal.log1p 0 = 0 := by
  show Ideal.log (1 + 0) = 0
  rw [add_zero]
  show (if (1 : ℝ) ≤ 0 then (⊥ : EReal) else ((Real.log 1 : ℝ) : EReal)) = 0
  rw [if_neg (by norm_num), Real.log_one]; rfl

/-- Minus the absolute value of a real number, among the extended reals. -/
theorem zero_sub_max (r : ℝ) : (0 : EReal) - max (r : EReal) (-(r : EReal)) = ((0 - max r (-r) : ℝ) : EReal) := by
  rw [← EReal.coe_neg, coe_max, EReal.coe_sub]; rfl

/-- `lsig` is never positive. -/
theorem lsig_nonpos (x : EReal) : lsig x ≤ 0 := by
  unfold lsig
  induction x with
  | bot => simp [log1p_zero]
  | top => simp [log1p_zero]
  | coe r =>
    obtain ⟨l, hl, e⟩ := log1p_exp_coe (0 - max r (-r))
    rw [zero_sub_max, e]
    have : min (r : EReal) 0 = ((min r 0 : ℝ) : EReal) := coe_min r 0
    rw [this, ← EReal.coe_sub]
    have h0 : min r 0 ≤ 0 := min_le_right _ _
    exact_mod_cast (by linarith : min r 0 - l ≤ 0)

/-- `-(max (-x) 0 + log (1 + exp (-|x|)))`, the spelling of a negated softplus, is `lsig x`. -/
theorem neg_softplus_neg (x : EReal) :
    -(max (-x) 0 + Ideal.log1p (Ideal.exp (-(max (-x - 0) (-(-x - 0)))))) = lsig x := by
  unfold lsig
  induction x with
  | bot => simp [log1p_zero]
  | top => simp [log1p_zero]
  | coe r =>
    have e1 : -(max (-(r : EReal) - 0) (-(-(r : EReal) - 0))) = ((0 - max r (-r) : ℝ) : EReal) := by
      rw [sub_zero, neg_neg, max_comm, ← zero_sub_max, zero_sub]
    obtain ⟨l, hl, e⟩ := log1p_exp_coe (0 - max r (-r))
    rw [e1, zero_sub_max, e]
    have h1 : max (-(r : EReal)) 0 = ((max (-r) 0 : ℝ) : EReal) := coe_max (-r) 0
    have h2 : min (r : EReal) 0 = ((min r 0 : ℝ) : EReal) := coe_min r 0
    rw [h1, h2, ← EReal.coe_add, ← EReal.coe_neg, ← EReal.coe_sub]
    congr 1
    rcases le_total r 0 with h | h
    · rw [max_eq_left (by linarith), min_eq_left h]; ring
    · rw [max_eq_right (by linarith), min_eq_right h]; ring

/-- The constant sixteen. -/
theorem ofBits_sixteen : Ideal.ofBits .f32 0x41800000#32 = ((16 : ℝ) : EReal) := by
  simp [Ideal.ofBits, Ideal.ieee, -EReal.coe_mul]; norm_num

/-- A gate: a sixteenth of the logarithm of the sigmoid. -/
def gate (x : EReal) : EReal := Ideal.div (lsig x) (Ideal.ofBits .f32 0x41800000#32)

/-- A gate is never positive. -/
theorem gate_nonpos (x : EReal) : gate x ≤ 0 := by
  unfold gate
  rw [ofBits_sixteen, Ideal.div_coe (by norm_num : (16 : ℝ) ≠ 0)]
  have h := lsig_nonpos x
  have : (0 : EReal) ≤ ((1 / 16 : ℝ) : EReal) := by exact_mod_cast (by norm_num : (0 : ℝ) ≤ 1 / 16)
  exact EReal.mul_nonpos_iff.2 (Or.inr ⟨h, this⟩)

/-! ## Running sums of gates -/

/-- The sum of the rows up to row `t`. -/
def pre {n : Nat} (g : Fin n → EReal) (t : Fin n) : EReal := ∑ s, if s ≤ t then g s else 0

/-- A running sum of gates is never positive. -/
theorem pre_nonpos {n : Nat} {g : Fin n → EReal} (hg : ∀ s, g s ≤ 0) (t : Fin n) : pre g t ≤ 0 :=
  Finset.sum_nonpos fun s _ => by split <;> simp [hg]

/-- Running sums of gates fall. -/
theorem pre_anti {n : Nat} {g : Fin n → EReal} (hg : ∀ s, g s ≤ 0) {s t : Fin n} (h : s ≤ t) : pre g t ≤ pre g s := by
  refine Finset.sum_le_sum fun u _ => ?_
  by_cases hu : u ≤ s
  · rw [if_pos hu, if_pos (hu.trans h)]
  · rw [if_neg hu]; split
    · exact hg u
    · exact le_refl _

/-- The difference of a smaller from a larger number that is not `⊤` is already at most zero. -/
theorem min_sub_zero {a c : EReal} (h : a ≤ c) (hc : c ≤ 0) : min (a - c) 0 = a - c := by
  refine min_eq_left ?_
  induction c with
  | bot => rw [le_bot_iff.1 h]; simp
  | top => exact absurd hc (by simp)
  | coe r =>
    induction a with
    | bot => simp
    | top => exact absurd h (by simp)
    | coe q => rw [← EReal.coe_sub]; exact_mod_cast sub_nonpos.2 (by exact_mod_cast h)

/-- A number that is not positive, split into itself and two remainders of no weight: the three parts with weight one
    together are the number. -/
theorem three_parts {g : EReal} (hg : g ≤ 0) : g + (g - g) + ((g - g) - (g - g)) = g := by
  induction g with
  | bot => simp
  | top => exact absurd hg (by simp)
  | coe r => simp [← EReal.coe_sub]

/-! ## Lanes by head -/

/-- Lane `d` of head `h` among 128 lanes. -/
def l32 (h : Fin 4) (d : Fin 32) : Fin 128 := ⟨h.val * 32 + d.val, by omega⟩
/-- Lane `e` of head `h` among 256 lanes. -/
def l64 (h : Fin 4) (e : Fin 64) : Fin 256 := ⟨h.val * 64 + e.val, by omega⟩

/-- Every one of the 128 lanes is a lane of a head. -/
theorem exists_l32 (j : Fin 128) : ∃ h d, j = l32 h d :=
  ⟨⟨j.val / 32, by omega⟩, ⟨j.val % 32, by omega⟩, Fin.ext (by simp only [l32]; omega)⟩
/-- Every one of the 256 lanes is a lane of a head. -/
theorem exists_l64 (j : Fin 256) : ∃ h e, j = l64 h e :=
  ⟨⟨j.val / 64, by omega⟩, ⟨j.val % 64, by omega⟩, Fin.ext (by simp only [l64]; omega)⟩

/-- A sum over 128 lanes that vanishes off head `h` is a sum over the head's 32 lanes. -/
theorem sum_l32 (f : Fin 128 → EReal) (h : Fin 4) (hf : ∀ h' d, h' ≠ h → f (l32 h' d) = 0) :
    ∑ j, f j = ∑ d, f (l32 h d) := by
  have e : ∑ j, f j = ∑ p : Fin 4 × Fin 32, f (l32 p.1 p.2) := by
    refine (Fintype.sum_equiv (finProdFinEquiv (m := 4) (n := 32)) (fun p => f (l32 p.1 p.2)) f fun p => congrArg f (Fin.ext ?_)).symm
    simp only [l32, finProdFinEquiv_apply_val]; omega
  rw [e, Fintype.sum_prod_type, Finset.sum_eq_single h (fun h' _ hn => Finset.sum_eq_zero fun d _ => hf h' d hn)
    (fun hn => absurd (Finset.mem_univ h) hn)]
/-- A sum over 256 lanes that vanishes off head `h` is a sum over the head's 64 lanes. -/
theorem sum_l64 (f : Fin 256 → EReal) (h : Fin 4) (hf : ∀ h' e, h' ≠ h → f (l64 h' e) = 0) :
    ∑ j, f j = ∑ e, f (l64 h e) := by
  have e : ∑ j, f j = ∑ p : Fin 4 × Fin 64, f (l64 p.1 p.2) := by
    refine (Fintype.sum_equiv (finProdFinEquiv (m := 4) (n := 64)) (fun p => f (l64 p.1 p.2)) f fun p => congrArg f (Fin.ext ?_)).symm
    simp only [l64, finProdFinEquiv_apply_val]; omega
  rw [e, Fintype.sum_prod_type, Finset.sum_eq_single h (fun h' _ hn => Finset.sum_eq_zero fun d _ => hf h' d hn)
    (fun hn => absurd (Finset.mem_univ h) hn)]

/-- A fold that adds one number after another is the start and the sum. -/
theorem foldl_add {n : Nat} (f : Fin n → EReal) (v : EReal) : (List.finRange n).foldl (fun r i => r + f i) v = v + ∑ i, f i := by
  have : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [this, ← List.ofFn_eq_map, List.sum_ofFn]

/-! ## One chunk of gated linear attention -/

/-- The data of one chunk: eight rows of queries, keys, values, output gates and decay gates, the state before them, and the
    weight of the norm; four heads, 32 key lanes and 64 value lanes each. -/
structure Chunk where
  /-- queries, scaled -/
  q : Fin 8 → Fin 4 → Fin 32 → EReal
  /-- keys -/
  k : Fin 8 → Fin 4 → Fin 32 → EReal
  /-- values -/
  v : Fin 8 → Fin 4 → Fin 64 → EReal
  /-- output gates before their activation -/
  r : Fin 8 → Fin 4 → Fin 64 → EReal
  /-- gate logits -/
  x : Fin 8 → Fin 4 → Fin 32 → EReal
  /-- state before the chunk -/
  s : Fin 4 → Fin 32 → Fin 64 → EReal
  /-- weight of the norm -/
  w : Fin 64 → EReal

namespace Chunk

variable (C : Chunk)

/-- The running sum of the gates. -/
def b (t : Fin 8) (h : Fin 4) (d : Fin 32) : EReal := pre (fun u => gate (C.x u h d)) t
/-- The decayed score of row `t` with row `s`. -/
def att (h : Fin 4) (t s : Fin 8) : EReal := ∑ d, C.q t h d * C.k s h d * Ideal.exp (C.b t h d - C.b s h d)
/-- The output before the norm: the state's part and the part of the rows not after `t`. -/
def y (t : Fin 8) (h : Fin 4) (e : Fin 64) : EReal :=
  (∑ d, C.q t h d * Ideal.exp (C.b t h d) * C.s h d e) + ∑ s, (if s ≤ t then C.att h t s else 0) * C.v s h e
/-- The output: the norm of each head's 64 lanes, weighted, times the activated gate. -/
def out (t : Fin 8) (h : Fin 4) (e : Fin 64) : EReal :=
  C.y t h e * Ideal.rsqrt (Ideal.div (∑ e', C.y t h e' * C.y t h e') (Ideal.ofBits .f32 0x42800000#32) + Ideal.ofBits .f32 0x358637BD#32)
    * C.w e * (C.r t h e * Ideal.logistic (C.r t h e))
/-- The state after the chunk. -/
def st (h : Fin 4) (d : Fin 32) (e : Fin 64) : EReal :=
  Ideal.exp (C.b 7 h d) * C.s h d e + ∑ s, C.k s h d * Ideal.exp (C.b 7 h d - C.b s h d) * C.v s h e

/-- The running sums fall, so the difference of two of them is at most zero already. -/
theorem min_b {t s : Fin 8} (hst : s ≤ t) (h : Fin 4) (d : Fin 32) :
    min (C.b t h d - C.b s h d) 0 = C.b t h d - C.b s h d :=
  min_sub_zero (pre_anti (fun _ => gate_nonpos _) hst) (pre_nonpos (fun _ => gate_nonpos _) s)

end Chunk

end Cert.Gla

end
-- ==== Proof.Gla.Block.lean ====
/-
  One grid point of the gated linear attention kernel, read at an index: the block it writes of the output and of the state are
  those of the chunk (`Chunk.out`, `Chunk.st`) whose data its input blocks hold.
-/
module

public import proofs.«01_k».proof.Proof.Gla.Body
public import proofs.«01_k».proof.Proof.Gla.Scalar

@[expose] public section

noncomputable section

namespace Cert.Gla

open Cert.KernelIdeal Cert.KernelIdeal.Gen Idealize.ShloMosaic
open scoped BigOperators

/-- A choice by the comparison of two row numbers. -/
theorem select_sge (t s : Fin 8) (a c : EReal) :
    Scalar.select (IntOp.cmpi .sge (BitVec.ofNat 32 t.val) (BitVec.ofNat 32 s.val)) a c = if s ≤ t then a else c := by
  fin_cases t <;> fin_cases s <;> rfl

/-- The weight zero or one that a comparison of two row numbers becomes. -/
theorem tri_word (t s : Fin 8) :
    FloatOps.sitofp (F := Ideal) .f32 (BitVec.setWidth 32 (IntOp.cmpi .sge (BitVec.ofNat 32 t.val) (BitVec.ofNat 32 s.val)))
      = if s ≤ t then (1 : EReal) else 0 := by
  have e : BitVec.setWidth 32 (IntOp.cmpi .sge (BitVec.ofNat 32 t.val) (BitVec.ofNat 32 s.val)) = if s ≤ t then 1#32 else 0#32 := by
    fin_cases t <;> fin_cases s <;> rfl
  rw [e]
  split
  · show (((1#32 : BitVec 32).toInt : ℝ) : EReal) = 1
    norm_num
  · show (((0#32 : BitVec 32).toInt : ℝ) : EReal) = 0
    norm_num

/-- A choice by the comparison of two head numbers. -/
theorem select_head (h h' : Fin 4) (a c : EReal) :
    Scalar.select (IntOp.cmpi .eq (BitVec.ofNat 32 h.val) (BitVec.ofNat 32 h'.val)) a c = if h = h' then a else c := by
  fin_cases h <;> fin_cases h' <;> rfl

/-- The gate of row `r` at lane `j`. -/
theorem gate_apply (small : Vec Ideal S8x128 .f32) (wa2 : Vec Ideal S128x128 .bf16) (ba2 : Vec Ideal S1x128 .f32) (r : Fin 8) (j : Fin 128) :
    k0_pay5 wa2 ba2 small (ix2 r j) = gate (∑ x, small (ix2 r x) * wa2 (ix2 x j) + ba2 (ix2 0 j)) := by
  pointwise [k0_pay5]
  rfl

/-- The three products with the lower triangle of ones add up to the running sum of the gates. -/
theorem cum_apply (small : Vec Ideal S8x128 .f32) (wa2 : Vec Ideal S128x128 .bf16) (ba2 : Vec Ideal S1x128 .f32) (r : Fin 8) (j : Fin 128) :
    cum small wa2 ba2 (ix2 r j) = pre (fun u => gate (∑ x, small (ix2 u x) * wa2 (ix2 x j) + ba2 (ix2 0 j))) r := by
  unfold cum
  pointwise [k0_pay9, k0_pay6, k0_pay7, k0_pay8]
  rw [← Finset.sum_add_distrib, ← Finset.sum_add_distrib]
  refine Finset.sum_congr rfl fun u _ => ?_
  rw [tri_word, gate_apply]
  by_cases h : u ≤ r
  · rw [if_pos h, if_pos h, one_mul, one_mul, one_mul]; exact three_parts (gate_nonpos _)
  · rw [if_neg h, if_neg h, zero_mul, zero_mul, zero_mul, add_zero, add_zero]

/-- The head of a value lane, as the kernel computes it. -/
theorem head_apply (r : Fin 8) (h : Fin 4) (e : Fin 64) : k0_pay14 (ix2 r (l64 h e)) = BitVec.ofNat 32 h.val := by
  pointwise [k0_pay14]
  revert h e
  decide +kernel

/-- The scaled query. -/
theorem pay12_apply (q : Vec Ideal S8x128 .f32) (r : Fin 8) (j : Fin 128) :
    k0_pay12 q (ix2 r j) = q (ix2 r j) * Ideal.ofBits .f32 0x3E3504F3#32 := by
  pointwise [k0_pay12]

/-- The values are taken as they are. -/
theorem pay15_apply (q : Vec Ideal S8x256 .f32) (r : Fin 8) (j : Fin 256) : k0_pay15 q (ix2 r j) = q (ix2 r j) := by
  pointwise [k0_pay15]

/-- The sum of terms added one at a time is the sum of the terms. -/
theorem sumUpTo_apply (f : Nat → FVec Ideal S8x8 .f32) (n : Nat) (t s : Fin 8) : sumUpTo f n (ix2 t s) = ∑ d : Fin n, f d.val (ix2 t s) := by
  induction n with
  | zero => unfold sumUpTo; pointwise; simp
  | succ n ih => unfold sumUpTo; rw [Fin.sum_univ_castSucc]; pointwise; rw [ih]; rfl

/-- One lane's term of a decayed score. -/
theorem term_apply (b : FVec Ideal S8x128 .f32) (bT kT : FVec Ideal S128x8 .f32) (qs : FVec Ideal S8x128 .f32) (j : Fin 128) (t s : Fin 8) :
    term b bT kT qs j (ix2 t s) = qs (ix2 t j) * kT (ix2 j s) * Ideal.exp (min (b (ix2 t j) - bT (ix2 j s)) 0) := by
  pointwise [term, colOf, rowOf]

/-- Lane `d` of head `h` is the lane of that number. -/
theorem lane_eq (h : Fin 4) (d : Fin 32) : lane h.val d.val = l32 h d :=
  Fin.ext (Nat.mod_eq_of_lt (by have := h.isLt; have := d.isLt; omega))

/-- One head's part of the output at a lane: the head's scores times the values at the head's own lanes, zero elsewhere. -/
theorem headPart_apply (b : FVec Ideal S8x128 .f32) (bT kT : FVec Ideal S128x8 .f32) (qs : FVec Ideal S8x128 .f32)
    (v : FVec Ideal S8x256 .bf16) (h : Fin 4) (t : Fin 8) (h' : Fin 4) (e : Fin 64) :
    headPart b bT kT qs v h.val (ix2 t (l64 h' e)) = if h' = h then
      ∑ s, (if s ≤ t then ∑ d, qs (ix2 t (l32 h d)) * kT (ix2 (l32 h d) s) * Ideal.exp (min (b (ix2 t (l32 h d)) - bT (ix2 (l32 h d) s)) 0) else 0)
        * v (ix2 s (l64 h' e)) else 0 := by
  pointwise [headPart, att]
  rw [head_apply, select_head]
  by_cases hh : h' = h
  swap
  · rw [if_neg hh, if_neg hh]
  rw [if_pos hh, if_pos hh]
  refine Finset.sum_congr rfl fun s _ => ?_
  congr 1
  pointwise [k0_pay13]
  rw [select_sge, sumUpTo_apply]
  by_cases hs : s ≤ t
  swap
  · rw [if_neg hs, if_neg hs, zero_mul]
  rw [if_pos hs, if_pos hs]
  congr 1
  refine Finset.sum_congr rfl fun d _ => ?_
  rw [lane_eq, term_apply]

/-- The input blocks of a grid point hold the data of the chunk `C`: the state as four blocks on the diagonal of a square, the
    gate logits as what their product with the weights gives. -/
structure Holds (x0 x1 : Vec Ideal S8x128 .f32) (x2 x3 : Vec Ideal S8x256 .f32) (x4 : Vec Ideal S8x128 .f32) (x5 : Vec Ideal S1x128x256 .f32)
    (x6 : Vec Ideal S128x128 .bf16) (x7 : Vec Ideal S1x128 .f32) (x8 : Vec Ideal S1x256 .f32) (C : Chunk) : Prop where
  q : ∀ t h d, x0 (ix2 t (l32 h d)) * Ideal.ofBits .f32 0x3E3504F3#32 = C.q t h d
  k : ∀ t h d, x1 (ix2 t (l32 h d)) = C.k t h d
  v : ∀ t h e, x2 (ix2 t (l64 h e)) = C.v t h e
  r : ∀ t h e, x3 (ix2 t (l64 h e)) = C.r t h e
  x : ∀ t h d, ∑ z, x4 (ix2 t z) * x6 (ix2 z (l32 h d)) + x7 (ix2 0 (l32 h d)) = C.x t h d
  s : ∀ h d h' e, x5 (ix3 0 (l32 h d) (l64 h' e)) = if h = h' then C.s h d e else 0
  w : ∀ h e, x8 (ix2 0 (l64 h e)) = C.w e

variable {x0 x1 : Vec Ideal S8x128 .f32} {x2 x3 : Vec Ideal S8x256 .f32} {x4 : Vec Ideal S8x128 .f32} {x5 : Vec Ideal S1x128x256 .f32}
  {x6 : Vec Ideal S128x128 .bf16} {x7 : Vec Ideal S1x128 .f32} {x8 : Vec Ideal S1x256 .f32} {C : Chunk}

/-- The running sums of a grid point are its chunk's. -/
theorem Holds.cum (H : Holds x0 x1 x2 x3 x4 x5 x6 x7 x8 C) (t : Fin 8) (h : Fin 4) (d : Fin 32) :
    Gla.cum x4 x6 x7 (ix2 t (l32 h d)) = C.b t h d := by
  rw [cum_apply]
  unfold Chunk.b
  congr 1
  funext u
  rw [H.x]

/-- The output before the norm of a grid point is its chunk's. -/
theorem Holds.y (H : Holds x0 x1 x2 x3 x4 x5 x6 x7 x8 C) (t : Fin 8) (h : Fin 4) (e : Fin 64) :
    Gla.y x0 x1 x2 x4 x5 x6 x7 (ix2 t (l64 h e)) = C.y t h e := by
  have hb := H.cum
  have part : ∀ h' : Fin 4, headPart (Gla.cum x4 x6 x7) (transpose S128x8 [1, 0] (Gla.cum x4 x6 x7) transposes_S8x128_p1_0_S128x8)
      (transpose S128x8 [1, 0] x1 transposes_S8x128_p1_0_S128x8) (k0_pay12 x0) (k0_pay15 x2) h'.val (ix2 t (l64 h e))
      = if h = h' then ∑ s, (if s ≤ t then C.att h t s else 0) * C.v s h e else 0 := by
    intro h'
    rw [headPart_apply]
    by_cases hh : h = h'
    · subst hh
      rw [if_pos rfl, if_pos rfl]
      refine Finset.sum_congr rfl fun s _ => ?_
      rw [pay15_apply, H.v]
      congr 1
      by_cases hs : s ≤ t
      · rw [if_pos hs, if_pos hs]
        refine Finset.sum_congr rfl fun d _ => ?_
        pointwise
        rw [pay12_apply, H.q, H.k, hb, hb, C.min_b hs]
      · rw [if_neg hs, if_neg hs]
    · rw [if_neg hh, if_neg hh]
  have st : k0_pay16 (k0_pay4 x5) x0 k0_pay6 (k0_pay7 x6 x7 x4) (k0_pay8 x6 x7 x4) (ix2 t (l64 h e))
      = ∑ d, C.q t h d * Ideal.exp (C.b t h d) * C.s h d e := by
    pointwise [k0_pay16, k0_pay4]
    rw [sum_l32 _ h fun h' d hn => by rw [H.s, if_neg hn, mul_zero]]
    refine Finset.sum_congr rfl fun d _ => ?_
    rw [H.s, if_pos rfl, pay12_apply, H.q]
    congr 2
    exact congrArg Ideal.exp (hb t h d)
  unfold Gla.y
  pointwise
  refine (congrArg₂ (· + ·) (congrArg₂ (· + ·) (congrArg₂ (· + ·) (congrArg₂ (· + ·) st (part 0)) (part 1)) (part 2)) (part 3)).trans ?_
  unfold Chunk.y
  fin_cases h <;> simp

/-- The corner of a matrix. -/
theorem hz : (![0, 0] : Fin 2 → Nat) = fun _ => 0 := funext fun a => by fin_cases a <;> rfl
/-- The corner of a three-dimensional array. -/
theorem hz3 : (![0, 0, 0] : Fin 3 → Nat) = fun _ => 0 := funext fun a => by fin_cases a <;> rfl

/-- A choice by the kernel's head number of a value lane. -/
theorem select_lane (t : Fin 8) (h : Fin 4) (e : Fin 64) (g : Fin 4) (w : BitVec 32) (hw : w = BitVec.ofNat 32 g.val) (a c : EReal) :
    Scalar.select (IntOp.cmpi .eq (k0_pay14 (ix2 t (l64 h e))) w) a c = if h = g then a else c := by
  rw [hw, head_apply, select_head]

/-- The output block of a grid point is its chunk's output. -/
theorem Holds.out9 (H : Holds x0 x1 x2 x3 x4 x5 x6 x7 x8 C) (t : Fin 8) (h : Fin 4) (e : Fin 64) :
    out0_9 x0 x1 x2 x3 x4 x5 x6 x7 x8 (ix2 t (l64 h e)) = C.out t h e := by
  have hy := H.y
  unfold out0_9
  rw [pay138_eq]
  rw [show View.ld x0 r0_4 = x0 from View.ld_unit_zero hz _ x0, show View.ld x1 r0_4 = x1 from View.ld_unit_zero hz _ x1,
    show View.ld x2 r0_5 = x2 from View.ld_unit_zero hz _ x2, show View.ld x4 r0_4 = x4 from View.ld_unit_zero hz _ x4,
    show View.ld x5 r0_3 = x5 from View.ld_unit_zero hz3 _ x5, show View.ld x6 r0_0 = x6 from View.ld_unit_zero hz _ x6,
    show View.ld x7 r0_1 = x7 from View.ld_unit_zero hz _ x7]
  generalize Gla.y x0 x1 x2 x4 x5 x6 x7 = Y at hy ⊢
  have hs : ∀ (g : Fin 4) (w : BitVec 32), w = BitVec.ofNat 32 g.val →
      ∑ x, Scalar.select (IntOp.cmpi .eq (k0_pay14 (ix2 t x)) w) (Y (ix2 t x) * Y (ix2 t x)) (0 : EReal) = ∑ e, C.y t g e * C.y t g e := by
    intro g w hw
    rw [sum_l64 _ g fun h' e hn => by rw [select_lane t h' e g w hw, if_neg hn]]
    refine Finset.sum_congr rfl fun e _ => ?_
    rw [select_lane t g e g w hw, if_pos rfl, hy]
  unfold k0_pay136
  rw [View.canon_unit_zero (by decide)]
  pointwise [k0_pay1, k0_pay3, k0_pay122, k0_pay123, k0_pay124, k0_pay125, k0_pay126]
  rw [hs 3 3#32 rfl, hs 2 2#32 rfl, hs 1 1#32 rfl, hs 0 0#32 rfl, select_lane t h e 3 3#32 rfl, select_lane t h e 2 2#32 rfl,
    select_lane t h e 1 1#32 rfl, select_lane t h e 0 0#32 rfl, hy, H.r, H.w]
  unfold Chunk.out
  fin_cases h <;> rfl

/-- The head of a key lane, as the kernel computes it. -/
theorem rowHead_apply (h : Fin 4) (d : Fin 32) (j : Fin 256) : k0_pay117 (ix2 (l32 h d) j) = BitVec.ofNat 32 h.val := by
  pointwise [k0_pay117]
  revert h d
  decide +kernel

/-- The state block of a grid point holds its chunk's state in the four blocks on the diagonal and zero elsewhere. -/
theorem Holds.out10 (H : Holds x0 x1 x2 x3 x4 x5 x6 x7 x8 C) (h : Fin 4) (d : Fin 32) (h' : Fin 4) (e : Fin 64) :
    out0_10 x0 x1 x2 x3 x4 x5 x6 x7 x8 (ix3 0 (l32 h d) (l64 h' e)) = if h = h' then C.st h d e else 0 := by
  unfold_out out0_10
  rw [View.canon_unit_zero (by decide)]
  pointwise [k0_pay121, k0_pay115, k0_pay116, k0_pay2, k0_pay4]
  rw [show View.ld x4 r0_4 = x4 from View.ld_unit_zero hz _ x4, show View.ld x6 r0_0 = x6 from View.ld_unit_zero hz _ x6,
    show View.ld x7 r0_1 = x7 from View.ld_unit_zero hz _ x7, show View.ld x2 r0_5 = x2 from View.ld_unit_zero hz _ x2]
  have hb : ∀ t h d, k0_pay9 k0_pay6 (k0_pay7 x6 x7 x4) (k0_pay8 x6 x7 x4) (ix2 t (l32 h d)) = C.b t h d := H.cum
  have hbT : k0_pay10 k0_pay6 (k0_pay7 x6 x7 x4) (k0_pay8 x6 x7 x4) (ix2 (l32 h d) 7) = C.b 7 h d := by
    pointwise [k0_pay10]; exact hb 7 h d
  rw [hbT, rowHead_apply, H.s]
  pointwise [k0_pay118, k0_pay119, k0_pay120]
  have hc : ∀ (h' : Fin 4) (e : Fin 64), (Scalar.select
            (IntOp.andi
              (IntOp.cmpi CmpIPredicate.ne
                (IntOp.subi (BitVec.setWidth 32 (IntOp.cmpi CmpIPredicate.sgt (BitVec.ofNat 32 (l64 h' e).val) 0#32))
                  (BitVec.setWidth 32 (IntOp.cmpi CmpIPredicate.slt (BitVec.ofNat 32 (l64 h' e).val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 (l64 h' e).val) 64#32) 0#32))
            (IntOp.subi (IntOp.divsi ArithUnit.vector (BitVec.ofNat 32 (l64 h' e).val) 64#32) 1#32)
            (IntOp.divsi ArithUnit.vector (BitVec.ofNat 32 (l64 h' e).val) 64#32)) = BitVec.ofNat 32 h'.val := by
    decide +kernel
  rw [hc, select_head]
  by_cases hh : h = h'
  · subst hh
    rw [if_pos rfl, if_pos rfl, if_pos rfl]
    unfold Chunk.st
    congr 1
    refine Finset.sum_congr rfl fun s _ => ?_
    rw [hb, hb, H.k, pay15_apply, H.v]
  · rw [if_neg hh, if_neg hh, if_neg hh, mul_zero, add_zero]

end Cert.Gla

end
-- ==== Proof.Gla.Windows.lean ====
/-
  What the blocks of a grid point of the gated linear attention kernel hold of the program's arguments: point `t` reads the eight
  rows of sequence `t` below the first 128 rows, the state of sequence `t` laid out as four blocks on the diagonal of a square, and
  the padded weights.
-/
module

public import proofs.«01_k».proof.Proof.Gla.Block
public import proofs.«01_k».proof.Proof.Gen.KernelIdeal.Value
public import Idealize.ShloMosaic.Lib.Pipeline.ValueKit
public import Idealize.ShloMosaic.Lib.Claim
public import Idealize.ShloMosaic.Lib.Routing.OpsOne
public import Idealize.ShloMosaic.Lib.FinSumWindow

@[expose] public section

set_option maxRecDepth 16384

noncomputable section

namespace Cert.Gla

open Cert.KernelIdeal Cert.KernelIdeal.Gen Idealize.ShloMosaic Idealize.ShloMosaic.TcCoe
open scoped BigOperators

/-- The row of the packed projections that row `r` of sequence `t` is. -/
def row (t : Fin 128) (r : Fin 8) : Fin 1152 := ⟨128 + (t.val * 8 + r.val), by omega⟩

/-- The chunk that sequence `t` is, from the packed projections, the states, the second gate weight and its bias, and the weight
    of the norm. -/
def chunk (pr : Vec Ideal S1152x7680 .f32) (s : Vec Ideal S128x4x32x64 .f32) (wa2 : Vec Ideal S16x128 .f32) (ba2 : Vec Ideal S128 .f32)
    (g : Vec Ideal S64 .f32) (t : Fin 128) : Chunk where
  q r h d := pr (ix2 (row t r) ⟨7168 + (h.val * 32 + d.val), by omega⟩) * Ideal.ofBits .f32 0x3E3504F3#32
  k r h d := pr (ix2 (row t r) ⟨7296 + (h.val * 32 + d.val), by omega⟩)
  v r h e := pr (ix2 (row t r) ⟨6656 + (h.val * 64 + e.val), by omega⟩)
  r r h e := pr (ix2 (row t r) ⟨6912 + (h.val * 64 + e.val), by omega⟩)
  x r h d := ∑ z : Fin 16, pr (ix2 (row t r) ⟨7440 + z.val, by omega⟩) * wa2 (ix2 z (l32 h d)) + ba2 (ix1 (l32 h d))
  s h d e := s (ix4 t h d e)
  w e := g (ix1 e)

/-- The block that each window takes at grid point `t`. -/
theorem idx : ∀ t : Fin grid0.N, win0_0.index t = ![t.val + 16, 56] ∧ win0_1.index t = ![t.val + 16, 57] ∧ win0_2.index t = ![t.val + 16, 26]
    ∧ win0_3.index t = ![t.val + 16, 27] ∧ win0_4.index t = ![t.val + 16, 58] ∧ win0_5.index t = ![t.val, 0, 0] ∧ win0_6.index t = ![0, 0]
    ∧ win0_7.index t = ![0, 0] ∧ win0_8.index t = ![0, 0] ∧ win0_9.index t = ![t.val, 0] ∧ win0_10.index t = ![t.val, 0, 0] := by
  decide +kernel

/-- Where an update of sixteen rows written from row sixteen lands. -/
theorem lands (i : IVec S1 32) (hi : i = fun _ => 16#32) (a : Fin 16) (b : Fin 128) (r c : Fin 128) :
    scatter_S128x128_S1_S16x128_01_n_0_0.resultIdx? (ix2 a b) i = some (ix2 r c) ↔ r.val = 16 + a.val ∧ c = b := by
  subst hi
  refine Iff.trans (Routing.resultIdx?_ix2 (R := 128) (C := 128) scatter_S128x128_S1_S16x128_01_n_0_0 (ix2 a b) (fun _ => 16#32) r c) ?_
  have h0 : scatter_S128x128_S1_S16x128_01_n_0_0.start (ix2 a b) (fun _ => 16#32) 0 = 16 := rfl
  have h1 : scatter_S128x128_S1_S16x128_01_n_0_0.start (ix2 a b) (fun _ => 16#32) 1 = 0 := rfl
  have w0 : scatter_S128x128_S1_S16x128_01_n_0_0.window (ix2 a b) 0 = a.val := rfl
  have w1 : scatter_S128x128_S1_S16x128_01_n_0_0.window (ix2 a b) 1 = b.val := rfl
  rw [h0, h1, w0, w1, Fin.ext_iff]
  omega

/-- Sixteen rows written from row sixteen, read at one of them. -/
theorem scatter_hit (x : Vec Ideal S128x128 .f32) (i : IVec S1 32) (hi : i = fun _ => 16#32) (u : Vec Ideal S16x128 .f32) (a : Fin 16) (c : Fin 128)
    (r : Fin 128) (hr : r.val = 16 + a.val) : Host.scatter scatter_S128x128_S1_S16x128_01_n_0_0 (fun _ b => b) x i u (ix2 r c) = u (ix2 a c) := by
  refine Routing.scatter_set_hit _ x i u _ _ (fun k hk => ?_) (ix2 a c) ((lands i hi a c r c).2 ⟨hr, rfl⟩)
  idx_vars k
  obtain ⟨h1, h2⟩ := (lands i hi k0 k1 r c).1 hk
  subst h2
  rw [show k0 = a from Fin.ext (by omega)]

/-- Sixteen rows written from row sixteen, read off them. -/
theorem scatter_miss (x : Vec Ideal S128x128 .f32) (i : IVec S1 32) (hi : i = fun _ => 16#32) (u : Vec Ideal S16x128 .f32) (c : Fin 128)
    (r : Fin 128) (hr : ¬(16 ≤ r.val ∧ r.val < 16 + 16)) : Host.scatter scatter_S128x128_S1_S16x128_01_n_0_0 (fun _ b => b) x i u (ix2 r c) = x (ix2 r c) := by
  refine Routing.scatter_set_miss _ x i u _ fun k hk => ?_
  idx_vars k
  have := ((lands i hi k0 k1 r c).1 hk).1
  omega

variable (m : (ℓ : Loc nD τ sig) → Buf (Elt Ideal) ℓ) (c : Dev nD)

/-- The chunk of sequence `t` of the program's arguments. -/
abbrev chunkOf (t : Fin 128) : Chunk :=
  chunk (m ((c : Thread nD τ).loc main_arg0)) (m ((c : Thread nD τ).loc main_arg1)) (m ((c : Thread nD τ).loc main_arg2))
    (m ((c : Thread nD τ).loc main_arg3)) (m ((c : Thread nD τ).loc main_arg4)) t

/-- The padded second gate weight as the kernel finds it: the weight in rows 16 to 31. -/
theorem wa2_hit (z : Fin 16) (j r : Fin 128) (hr : r.val = 16 + z.val) :
    (V m c main_v3 : Vec Ideal S128x128 .bf16) (ix2 r j) = m ((c : Thread nD τ).loc main_arg2) (ix2 z j) := by
  entry_read
  pointwise
  exact scatter_hit _ _ rfl _ z _ _ hr

/-- and zero in the other rows. -/
theorem wa2_miss (j r : Fin 128) (hr : ¬(16 ≤ r.val ∧ r.val < 16 + 16)) :
    (V m c main_v3 : Vec Ideal S128x128 .bf16) (ix2 r j) = (0 : EReal) := by
  entry_read
  pointwise
  refine (scatter_miss _ _ rfl _ _ _ hr).trans ?_
  pointwise

/-- The gate's bias as the kernel finds it. -/
theorem ba2_read (j : Fin 128) : (V m c main_v4 : Vec Ideal S1x128 .f32) (ix2 0 j) = m ((c : Thread nD τ).loc main_arg3) (ix1 j) := by
  entry_read
  pointwise

/-- The norm's weight as the kernel finds it: once for every head. -/
theorem gn_read (h : Fin 4) (e : Fin 64) : (V m c main_v8 : Vec Ideal S1x256 .f32) (ix2 0 (l64 h e)) = m ((c : Thread nD τ).loc main_arg4) (ix1 e) := by
  entry_read
  pointwise
  congr 2
  exact Fin.ext (by simp only [l64]; omega)

/-- The comparison of two head numbers as a weight. -/
theorem eye_word (h h' : Fin 4) :
    FloatOps.uitofp (F := Ideal) .f32 (IntOp.cmpi .eq (IntOp.addi (BitVec.ofNat 32 h.val) 0#32) (BitVec.ofNat 32 h'.val))
      = if h = h' then (1 : EReal) else 0 := by
  have e : IntOp.cmpi .eq (IntOp.addi (BitVec.ofNat 32 h.val) 0#32) (BitVec.ofNat 32 h'.val) = if h = h' then 1#1 else 0#1 := by
    fin_cases h <;> fin_cases h' <;> rfl
  rw [e]
  split
  · show (((1#1 : BitVec 1).toNat : ℝ) : EReal) = 1
    norm_num
  · show (((0#1 : BitVec 1).toNat : ℝ) : EReal) = 0
    norm_num

/-- The state as the kernel finds it: four blocks on the diagonal of a square, zero elsewhere. -/
theorem s0_read (t : Fin 128) (h : Fin 4) (d : Fin 32) (h' : Fin 4) (e : Fin 64) :
    (V m c main_v20 : Vec Ideal S128x128x256 .f32) (ix3 t (l32 h d) (l64 h' e))
      = if h = h' then (m ((c : Thread nD τ).loc main_arg1) : Vec Ideal S128x4x32x64 .f32) (ix4 t h d e) else (0 : EReal) := by
  entry_read
  pointwise
  have e1 : (l32 h d).val / 32 = h.val := by simp only [l32]; omega
  have e2 : (l64 h' e).val / 64 = h'.val := by simp only [l64]; omega
  have i1 : ∀ p, (⟨(l32 h d).val / 32, p⟩ : Fin 4) = h := fun _ => Fin.ext e1
  have i2 : ∀ p, (⟨(l32 h d).val % 32, p⟩ : Fin 32) = d := fun _ => Fin.ext (by simp only [l32]; omega)
  have i3 : ∀ p, (⟨(l64 h' e).val % 64, p⟩ : Fin 64) = e := fun _ => Fin.ext (by simp only [l64]; omega)
  rw [i1, i2, i3, e1, e2, eye_word]
  split
  · exact mul_one (M := EReal) _
  · exact mul_zero (M₀ := EReal) _

/-- A product with the padded weight is one with the weight. -/
theorem sum_pad (x w : Fin 128 → EReal) (x' w' : Fin 16 → EReal) (hx : ∀ (z : Fin 16) (r : Fin 128), r.val = 16 + z.val → x r = x' z)
    (hw : ∀ (z : Fin 16) (r : Fin 128), r.val = 16 + z.val → w r = w' z) (h0 : ∀ r : Fin 128, ¬(16 ≤ r.val ∧ r.val < 16 + 16) → w r = 0) :
    ∑ z, x z * w z = ∑ z, x' z * w' z := by
  rw [FinSumWindow.sum_window (W := 16) 16 (by omega) _ fun r hr => by rw [h0 r hr, mul_zero]]
  exact Finset.sum_congr rfl fun z _ => by rw [hx z _ rfl, hw z _ rfl]

/-- The rows of the small projections that a grid point reads. -/
theorem small_read (t : Fin cfg0.N) (r : Fin 8) (z : Fin 128) : (iblk m c 4 t : Vec Ideal S8x128 .f32) (ix2 r z)
    = m ((c : Thread nD τ).loc main_arg0) (ix2 (row t r) ⟨7424 + z.val, by omega⟩) := by
  blk_ext [iblk, V_main_arg0, idx t, row]
/-- The padded weight that a grid point reads. -/
theorem wa2_blk (t : Fin cfg0.N) (z j : Fin 128) : (iblk m c 6 t : Vec Ideal S128x128 .bf16) (ix2 z j) = V m c main_v3 (ix2 z j) := by
  blk_ext [iblk, idx t]
/-- The bias that a grid point reads. -/
theorem ba2_blk (t : Fin cfg0.N) (j : Fin 128) : (iblk m c 7 t : Vec Ideal S1x128 .f32) (ix2 0 j) = V m c main_v4 (ix2 0 j) := by
  blk_ext [iblk, idx t]

/-- The blocks of grid point `t` hold the data of sequence `t`. -/
theorem holds (t : Fin cfg0.N) :
    Holds (iblk m c 0 t) (iblk m c 1 t) (iblk m c 2 t) (iblk m c 3 t) (iblk m c 4 t) (iblk m c 5 t) (iblk m c 6 t) (iblk m c 7 t) (iblk m c 8 t)
      (chunkOf m c t) where
  q r h d := by
    have : (iblk m c 0 t : Vec Ideal S8x128 .f32) (ix2 r (l32 h d))
      = m ((c : Thread nD τ).loc main_arg0) (ix2 (row t r) ⟨7168 + (h.val * 32 + d.val), by omega⟩) := by
      blk_ext [iblk, V_main_arg0, idx t, row, l32]
    rw [this]; rfl
  k r h d := by
    show _ = m ((c : Thread nD τ).loc main_arg0) (ix2 (row t r) ⟨7296 + (h.val * 32 + d.val), _⟩)
    blk_ext [iblk, V_main_arg0, idx t, row, l32]
  v r h e := by
    show _ = m ((c : Thread nD τ).loc main_arg0) (ix2 (row t r) ⟨6656 + (h.val * 64 + e.val), _⟩)
    blk_ext [iblk, V_main_arg0, idx t, row, l64]
  r r h e := by
    show _ = m ((c : Thread nD τ).loc main_arg0) (ix2 (row t r) ⟨6912 + (h.val * 64 + e.val), _⟩)
    blk_ext [iblk, V_main_arg0, idx t, row, l64]
  x r h d := by
    refine congrArg₂ (· + ·) (sum_pad (fun z => (iblk m c 4 t : Vec Ideal S8x128 .f32) (ix2 r z)) (fun z => (iblk m c 6 t : Vec Ideal S128x128 .bf16) (ix2 z (l32 h d)))
      (fun z => m ((c : Thread nD τ).loc main_arg0) (ix2 (row t r) ⟨7440 + z.val, by omega⟩)) (fun z => m ((c : Thread nD τ).loc main_arg2) (ix2 z (l32 h d)))
      (fun z r' hr => ?_) (fun z r' hr => ?_) fun r' hr => ?_) ((ba2_blk m c t _).trans (ba2_read m c _))
    · refine (small_read m c t r r').trans ?_
      congr 2
      exact Fin.ext (by simp only []; omega)
    · exact (wa2_blk m c t r' _).trans (wa2_hit m c z _ r' hr)
    · exact (wa2_blk m c t r' _).trans (wa2_miss m c _ r' hr)
  s h d h' e := by
    have e5 : (iblk m c 5 t : Vec Ideal S1x128x256 .f32) (ix3 0 (l32 h d) (l64 h' e)) = V m c main_v20 (ix3 (t : Fin 128) (l32 h d) (l64 h' e)) := by
      blk_ext [iblk, idx t, l32, l64]
    exact e5.trans (s0_read m c t h d h' e)
  w h e := by
    have e8 : (iblk m c 8 t : Vec Ideal S1x256 .f32) (ix2 0 (l64 h e)) = V m c main_v8 (ix2 0 (l64 h e)) := by
      blk_ext [iblk, idx t, l64]
    exact e8.trans (gn_read m c h e)

end Cert.Gla

end
-- ==== Proof.Gla.Final.lean ====
/-
  The arrays that the gated linear attention kernel leaves: every block is written by one grid point, so the arrays hold the
  outputs and the states of all 128 sequences.
-/
module

public import proofs.«01_k».proof.Proof.Gla.Windows

@[expose] public section

set_option maxRecDepth 16384

noncomputable section

namespace Cert.Gla

open Cert.KernelIdeal Cert.KernelIdeal.Gen Idealize.ShloMosaic Idealize.ShloMosaic.TcCoe
open Idealize.ShloMosaic.Pipeline (Dat)

/-- The outputs of all sequences: row `t * 8 + r`, lane `h * 64 + e` holds sequence `t`'s output at row `r`, head `h`, lane `e`. -/
def outs (C : Fin 128 → Chunk) : Vec Ideal S1024x256 .f32 := fun i =>
  (C ⟨(i 0).val / 8, Nat.div_lt_of_lt_mul (i 0).isLt⟩).out ⟨(i 0).val % 8, Nat.mod_lt _ (by decide)⟩
    ⟨(i 1).val / 64, Nat.div_lt_of_lt_mul (i 1).isLt⟩ ⟨(i 1).val % 64, Nat.mod_lt _ (by decide)⟩

/-- The states of all sequences, each as four blocks on the diagonal of a square. -/
def states (C : Fin 128 → Chunk) : Vec Ideal S128x128x256 .f32 := fun i =>
  if (i 1).val / 32 = (i 2).val / 64 then
    (C ⟨(i 0).val, (i 0).isLt⟩).st ⟨(i 1).val / 32, Nat.div_lt_of_lt_mul (i 1).isLt⟩ ⟨(i 1).val % 32, Nat.mod_lt _ (by decide)⟩
      ⟨(i 2).val % 64, Nat.mod_lt _ (by decide)⟩
  else 0

/-- The outputs at an index. -/
theorem outs_apply (C : Fin 128 → Chunk) (t : Fin 128) (r : Fin 8) (h : Fin 4) (e : Fin 64) (i : Fin 1024) (hi : i.val = t.val * 8 + r.val) :
    outs C (ix2 i (l64 h e)) = (C t).out r h e := by
  have hr := r.isLt
  have he := e.isLt
  have key : ∀ (t' : Fin 128) (r' : Fin 8) (h' : Fin 4) (e' : Fin 64), t' = t → r' = r → h' = h → e' = e →
      (C t').out r' h' e' = (C t).out r h e := by
    rintro _ _ _ _ rfl rfl rfl rfl; rfl
  exact key _ _ _ _ (Fin.ext (by show i.val / 8 = _; omega)) (Fin.ext (by show i.val % 8 = _; omega))
    (Fin.ext (by show (h.val * 64 + e.val) / 64 = _; omega)) (Fin.ext (by show (h.val * 64 + e.val) % 64 = _; omega))

/-- The states at an index. -/
theorem states_apply (C : Fin 128 → Chunk) (t : Fin 128) (h : Fin 4) (d : Fin 32) (h' : Fin 4) (e : Fin 64) :
    states C (ix3 t (l32 h d) (l64 h' e)) = if h = h' then (C t).st h d e else 0 := by
  have key : ∀ (p : Prop) [Decidable p] (t' : Fin 128) (h1 : Fin 4) (d' : Fin 32) (e' : Fin 64), (p ↔ h = h') → t' = t → h1 = h → d' = d → e' = e →
      (if p then (C t').st h1 d' e' else 0) = if h = h' then (C t).st h d e else 0 := by
    rintro p _ _ _ _ _ hp rfl rfl rfl rfl
    by_cases hh : p
    · rw [if_pos hh, if_pos (hp.1 hh)]
    · rw [if_neg hh, if_neg (mt hp.2 hh)]
  refine key _ _ _ _ _ ?_ rfl (Fin.ext ?_) (Fin.ext ?_) (Fin.ext ?_)
  · show (h.val * 32 + d.val) / 32 = (h'.val * 64 + e.val) / 64 ↔ _
    rw [Fin.ext_iff]; omega
  · show (h.val * 32 + d.val) / 32 = _
    omega
  · show (h.val * 32 + d.val) % 32 = _
    omega
  · show (h'.val * 64 + e.val) % 64 = _
    omega

variable (m : (ℓ : Loc nD τ sig) → Buf (Elt Ideal) ℓ) (c : Dev nD)

/-- The output array after the run. -/
theorem arr9 : (dats m 0 c).arrAt 9 cfg0.N = outs (chunkOf m c) := by
  refine (dats m 0 c).arrAt_eq_of_covers 9 _ (by decide +kernel) fun t hf y => ?_
  blk_simp
  rw [after0_9]
  idx_vars y
  obtain ⟨h, e, rfl⟩ := exists_l64 y1
  refine ((holds m c t).out9 y0 h e).trans ?_
  refine ((outs_apply (chunkOf m c) t y0 h e ⟨t.val * 8 + y0.val, by have : t.val < 128 := t.isLt; omega⟩ rfl).symm).trans ?_
  blk_ext [idx t]

/-- The state array after the run. -/
theorem arr10 : (dats m 0 c).arrAt 10 cfg0.N = states (chunkOf m c) := by
  refine (dats m 0 c).arrAt_eq_of_covers 10 _ (by decide +kernel) fun t hf y => ?_
  blk_simp
  rw [after0_10]
  idx_vars y
  obtain ⟨h', e, rfl⟩ := exists_l64 y2
  obtain ⟨h, d, rfl⟩ := exists_l32 y1
  obtain rfl : y0 = 0 := Subsingleton.elim _ _
  refine ((holds m c t).out10 h d h' e).trans ?_
  refine ((states_apply (chunkOf m c) t h d h' e).symm).trans ?_
  blk_ext [idx t]

end Cert.Gla

end
-- ==== Proof.Gla.Reference.lean ====
/-
  The reference, read one sequence at a time: its two results hold the outputs and the states of the chunk that each sequence is.
-/
module

public import proofs.«01_k».proof.Proof.Gla.Final
public import proofs.«01_k».proof.Proof.Gen.ReferenceIdeal.Read

@[expose] public section

set_option maxRecDepth 16384

noncomputable section

namespace Cert.Gla

open Cert.ReferenceIdeal Cert.ReferenceIdeal.Gen Cert.ReferenceIdeal.Read Idealize.ShloMosaic Idealize.ShloMosaic.TcCoe
open scoped BigOperators

variable (x0 : (⟨Cert.ReferenceIdeal.S1152x7680, .f32⟩ : BufTy).Contents (Elt Ideal)) (x1 : (⟨Cert.ReferenceIdeal.S128x4x32x64, .f32⟩ : BufTy).Contents (Elt Ideal))
  (x2 : (⟨Cert.ReferenceIdeal.S16x128, .f32⟩ : BufTy).Contents (Elt Ideal)) (x3 : (⟨Cert.ReferenceIdeal.S128, .f32⟩ : BufTy).Contents (Elt Ideal))
  (x4 : (⟨Cert.ReferenceIdeal.S64, .f32⟩ : BufTy).Contents (Elt Ideal))

/-- The scaled queries. -/
theorem q_read (b : Fin 128) (t : Fin 8) (h : Fin 4) (d : Fin 32) :
    val_main_v4 (F := Ideal) x0 (ix4 b t h d) = (chunk x0 x1 x2 x3 x4 b).q t h d := by
  pointwise [val_main_v4, val_main_v2, val_main_v1, val_main_v0, val_main_v3, val_main_cst]
  rfl

/-- The keys. -/
theorem k_read (b : Fin 128) (t : Fin 8) (h : Fin 4) (d : Fin 32) :
    val_main_v6 (F := Ideal) x0 (ix4 b t h d) = (chunk x0 x1 x2 x3 x4 b).k t h d := by
  pointwise [val_main_v6, val_main_v5, val_main_v0]
  rfl

/-- The values. -/
theorem v_read (b : Fin 128) (t : Fin 8) (h : Fin 4) (e : Fin 64) :
    val_main_v8 (F := Ideal) x0 (ix4 b t h e) = (chunk x0 x1 x2 x3 x4 b).v t h e := by
  pointwise [val_main_v8, val_main_v7, val_main_v0]
  rfl

/-- The output gates. -/
theorem r_read (b : Fin 128) (t : Fin 8) (h : Fin 4) (e : Fin 64) :
    val_main_v10 (F := Ideal) x0 (ix3 b t (l64 h e)) = (chunk x0 x1 x2 x3 x4 b).r t h e := by
  pointwise [val_main_v10, val_main_v9, val_main_v0]
  rfl

/-- The gate logits. -/
theorem x_read (b : Fin 128) (t : Fin 8) (h : Fin 4) (d : Fin 32) :
    val_main_v16 (F := Ideal) x0 x2 x3 (ix3 b t (l32 h d)) = (chunk x0 x1 x2 x3 x4 b).x t h d := by
  pointwise [val_main_v16, val_main_v13, val_main_v15, val_main_v14, val_main_v12, val_main_v11, val_main_v0]
  rfl

/-- The logarithm of the logistic function. -/
theorem logSigmoid_read (b : Fin 128) (t : Fin 8) (j : Fin 128) :
    val_main_v17 (F := Ideal) x0 x2 x3 (ix3 b t j) = lsig (val_main_v16 (F := Ideal) x0 x2 x3 (ix3 b t j)) := by
  pointwise [val_main_v17, val_main_call0_v1, val_main_call0_v0, val_main_call0_call0_v11, val_main_call0_call0_v10, val_main_call0_call0_v9,
    val_main_call0_call0_v8, val_main_call0_call0_v7, val_main_call0_call0_v6, val_main_call0_call0_v5, val_main_call0_call0_v4, val_main_call0_call0_v3,
    val_main_call0_call0_v2, val_main_call0_call0_v1, val_main_call0_call0_v0, val_main_call0_call0_cst]
  rw [if_neg (not_not.2 rfl)]
  generalize val_main_v16 (F := Ideal) x0 x2 x3 (ix3 b t j) = z
  refine Eq.trans ?_ (neg_softplus_neg z)
  show -(max (-z) 0 + Ideal.log1p (Ideal.exp (-(max (-z) (-(-z)))))) = _
  rw [sub_zero]

/-- The gates. -/
theorem gate_read (b : Fin 128) (t : Fin 8) (h : Fin 4) (d : Fin 32) :
    val_main_v20 (F := Ideal) x0 x2 x3 (ix4 b t h d) = gate ((chunk x0 x1 x2 x3 x4 b).x t h d) := by
  pointwise [val_main_v20, val_main_v19, val_main_v18, val_main_cst_0]
  exact congrArg (fun z => Ideal.div z _) ((logSigmoid_read x0 x2 x3 b t (l32 h d)).trans (congrArg lsig (x_read x0 x1 x2 x3 x4 b t h d)))

/-- The windows of eight rows, one per row. -/
def windowEquiv : Fin 8 ≃ (⟨4, ![1, 8, 1, 1]⟩ : Shape).Idx where
  toFun u := ix4 (0 : Fin 1) u (0 : Fin 1) (0 : Fin 1)
  invFun k := k 1
  left_inv _ := rfl
  right_inv k := by
    idx_vars k
    obtain rfl : k0 = 0 := Subsingleton.elim _ _
    obtain rfl : k2 = 0 := Subsingleton.elim _ _
    obtain rfl : k3 = 0 := Subsingleton.elim _ _
    rfl

/-- Eight terms that reach back from row `t`, those before the first row dropped, sum to the running sum. -/
theorem back_sum (g : Fin 8 → EReal) (t : Fin 8) :
    ∑ u : Fin 8, (if hu : 7 ≤ t.val + u.val then g ⟨t.val + u.val - 7, by omega⟩ else 0) = pre g t := by
  unfold pre
  rw [Fin.sum_univ_eight, Fin.sum_univ_eight]
  fin_cases t <;> simp [add_assoc, Fin.le_def]

/-- A sum over windows that reach seven rows back is the running sum of the eight rows. -/
theorem window_sum (x : FVec Ideal Cert.ReferenceIdeal.S128x8x4x32 .f32) (i : FVec Ideal Cert.ReferenceIdeal.S_ .f32) (hi : ∀ p, i p = (0 : EReal))
    (b : Fin 128) (t : Fin 8) (h : Fin 4) (d : Fin 32) :
    Host.reduceWindowAdd (F := Ideal) ![1, 8, 1, 1] ![1, 1, 1, 1] ![0, 7, 0, 0] ![0, 0, 0, 0] x i
      reduceWindows_S128x8x4x32_S128x8x4x32_w1s1p0_0_w8s1p7_0_w1s1p0_0_w1s1p0_0 h_S_ (ix4 b t h d)
      = pre (fun u => x (ix4 b u h d)) t := by
  unfold Host.reduceWindowAdd
  rw [Ideal.hostReduceWindowAdd_def]
  unfold Ideal.hostReduceWindowAdd Host.reduceWindow
  dsimp only
  rw [foldl_add, hi, zero_add]
  refine Eq.trans (Equiv.sum_comp (windowEquiv.trans (⟨4, ![1, 8, 1, 1]⟩ : Shape).rowMajor) _).symm ?_
  refine (Finset.sum_congr rfl fun u _ => ?_).trans (back_sum (fun u => x (ix4 b u h d)) t)
  rw [Equiv.trans_apply]
  simp only [Equiv.symm_apply_apply]
  have hu := u.isLt
  have ht := t.isLt
  by_cases h7 : 7 ≤ t.val + u.val
  · rw [dif_pos h7, dif_pos]
    · refine congrArg x (funext fun a => Fin.ext ?_)
      fin_cases a
      · show b.val * 1 + 0 - 0 = b.val
        omega
      · show t.val * 1 + u.val - 7 = t.val + u.val - 7
        omega
      · show h.val * 1 + 0 - 0 = h.val
        omega
      · show d.val * 1 + 0 - 0 = d.val
        omega
    · intro a
      fin_cases a
      · show 0 ≤ b.val * 1 + 0 ∧ b.val * 1 + 0 - 0 < 128
        omega
      · show 7 ≤ t.val * 1 + u.val ∧ t.val * 1 + u.val - 7 < 8
        omega
      · show 0 ≤ h.val * 1 + 0 ∧ h.val * 1 + 0 - 0 < 4
        omega
      · show 0 ≤ d.val * 1 + 0 ∧ d.val * 1 + 0 - 0 < 32
        omega
  · rw [dif_neg h7, dif_neg]
    intro hin
    have : 7 ≤ t.val * 1 + u.val := (hin 1).1
    omega

/-- The running sums. -/
theorem b_read (b : Fin 128) (t : Fin 8) (h : Fin 4) (d : Fin 32) :
    val_main_v21 (F := Ideal) x0 x2 x3 (ix4 b t h d) = (chunk x0 x1 x2 x3 x4 b).b t h d := by
  refine (window_sum _ _ (fun p => ?_) b t h d).trans ?_
  · obtain rfl : p = ix0 := Subsingleton.elim _ _
    pointwise [val_main_call1_call0_v0, val_main_call1_call0_cst]
  · exact congrArg (fun f => pre f t) (funext fun u => gate_read x0 x1 x2 x3 x4 b u h d)

/-- The product under a score's sum: what a row after `t` would give is zero. -/
theorem v41_read (b : Fin 128) (t s : Fin 8) (h : Fin 4) (d : Fin 32) :
    val_main_v41 (F := Ideal) x0 x2 x3 (ix5 b t s h d) = if s ≤ t then (chunk x0 x1 x2 x3 x4 b).q t h d * (chunk x0 x1 x2 x3 x4 b).k s h d
      * Ideal.exp ((chunk x0 x1 x2 x3 x4 b).b t h d - (chunk x0 x1 x2 x3 x4 b).b s h d) else 0 := by
  pointwise [val_main_v41, val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v22,
    val_main_call2_v0, val_main_call2_v1, val_main_call2_v2, val_main_cst_1]
  rw [q_read x0 x1 x2 x3 x4, k_read x0 x1 x2 x3 x4, b_read x0 x1 x2 x3 x4, b_read x0 x1 x2 x3 x4, select_sge]
  have e : constant (F := Ideal) Cert.ReferenceIdeal.S_ .f32 4286578688#32 ix0 = ⊥ := by
    show Ideal.ofBits .f32 0xFF800000#32 = ⊥
    simp [Ideal.ofBits, Ideal.ieee]
  by_cases hs : s ≤ t
  · rw [if_pos hs, if_pos hs]
  · rw [if_neg hs, if_neg hs]
    show _ * Ideal.exp (constant (F := Ideal) Cert.ReferenceIdeal.S_ .f32 4286578688#32 ix0) = 0
    rw [e]
    exact mul_zero (M₀ := EReal) _

/-- The scores, masked. -/
theorem att_read (b : Fin 128) (h : Fin 4) (t s : Fin 8) :
    val_main_v43 (F := Ideal) x0 x2 x3 (ix4 b h t s) = if s ≤ t then (chunk x0 x1 x2 x3 x4 b).att h t s else 0 := by
  pointwise [val_main_v43, val_main_v42, val_main_cst_2]
  refine (Finset.sum_congr rfl fun d _ => v41_read x0 x1 x2 x3 x4 b t s h d).trans ?_
  by_cases hs : s ≤ t
  · simp only [if_pos hs]
    rfl
  · simp only [if_neg hs]
    exact Finset.sum_const_zero

/-- The outputs before the norm. -/
theorem y_read (b : Fin 128) (t : Fin 8) (h : Fin 4) (e : Fin 64) :
    val_main_v50 (F := Ideal) x0 x1 x2 x3 (ix4 b t h e) = (chunk x0 x1 x2 x3 x4 b).y t h e := by
  pointwise [val_main_v50, val_main_v49, val_main_v48, val_main_v47, val_main_v46, val_main_v45, val_main_v44]
  refine congrArg₂ (· + ·) (Finset.sum_congr rfl fun d _ => ?_) (Finset.sum_congr rfl fun s _ => ?_)
  · rw [q_read x0 x1 x2 x3 x4, b_read x0 x1 x2 x3 x4]
    exact mul_comm (G := EReal) _ _
  · rw [v_read x0 x1 x2 x3 x4, att_read x0 x1 x2 x3 x4]
    exact mul_comm (G := EReal) _ _

/-- The states after the chunk. -/
theorem st_read (b : Fin 128) (h : Fin 4) (d : Fin 32) (e : Fin 64) :
    val_main_v63 (F := Ideal) x0 x1 x2 x3 (ix4 b h d e) = (chunk x0 x1 x2 x3 x4 b).st h d e := by
  pointwise [val_main_v63, val_main_v62, val_main_v61, val_main_v60, val_main_v59, val_main_v58, val_main_v57, val_main_v56, val_main_v55, val_main_v54,
    val_main_v53, val_main_v52, val_main_v51]
  refine congrArg₂ (· + ·) ?_ (Finset.sum_congr rfl fun s _ => ?_)
  · rw [b_read x0 x1 x2 x3 x4]
    rfl
  · rw [b_read x0 x1 x2 x3 x4, b_read x0 x1 x2 x3 x4, k_read x0 x1 x2 x3 x4, v_read x0 x1 x2 x3 x4]

/-- The normed outputs. -/
theorem norm_read (b : Fin 128) (t : Fin 8) (h : Fin 4) (e : Fin 64) :
    val_main_v77 (F := Ideal) x0 x1 x2 x3 x4 (ix3 b t (l64 h e)) = (chunk x0 x1 x2 x3 x4 b).y t h e
      * Ideal.rsqrt (Ideal.div (∑ e', (chunk x0 x1 x2 x3 x4 b).y t h e' * (chunk x0 x1 x2 x3 x4 b).y t h e') (Ideal.ofBits .f32 0x42800000#32)
        + Ideal.ofBits .f32 0x358637BD#32) * x4 (ix1 e) := by
  have key : ∀ (h' : Fin 4) (e' : Fin 64), h' = h → e' = e → val_main_v76 (F := Ideal) x0 x1 x2 x3 x4 (ix4 b t h' e')
      = val_main_v76 (F := Ideal) x0 x1 x2 x3 x4 (ix4 b t h e) := by rintro _ _ rfl rfl; rfl
  pointwise [val_main_v77]
  refine (key _ _ (Fin.ext ?_) (Fin.ext ?_)).trans ?_
  · show (h.val * 64 + e.val) / 64 = _
    omega
  · show (h.val * 64 + e.val) % 64 = _
    omega
  pointwise [val_main_v76, val_main_v75, val_main_v74, val_main_v73, val_main_v72, val_main_v71, val_main_v70, val_main_v69, val_main_v68, val_main_v67,
    val_main_v66, val_main_v65, val_main_v64, val_main_cst_3, val_main_cst_4, val_main_cst_5]
  simp only [y_read x0 x1 x2 x3 x4]

/-- The activated gates. -/
theorem silu_read (b : Fin 128) (t : Fin 8) (h : Fin 4) (e : Fin 64) :
    val_main_v78 (F := Ideal) x0 (ix3 b t (l64 h e)) = (chunk x0 x1 x2 x3 x4 b).r t h e * Ideal.logistic ((chunk x0 x1 x2 x3 x4 b).r t h e) := by
  pointwise [val_main_v78, val_main_call3_v5, val_main_call3_v4, val_main_call3_v3, val_main_call3_v2, val_main_call3_v1, val_main_call3_v0,
    val_main_call3_cst, val_main_call3_cst_0]
  rw [r_read x0 x1 x2 x3 x4]
  rfl

/-- The outputs. -/
theorem out_read (b : Fin 128) (t : Fin 8) (h : Fin 4) (e : Fin 64) (i : Fin 1024) (hi : i.val = b.val * 8 + t.val) :
    val_main_v89 (F := Ideal) x0 x1 x2 x3 x4 (ix2 i (l64 h e)) = (chunk x0 x1 x2 x3 x4 b).out t h e := by
  have key : ∀ (b' : Fin 128) (t' : Fin 8), b' = b → t' = t → val_main_v79 (F := Ideal) x0 x1 x2 x3 x4 (ix3 b' t' (l64 h e))
      = val_main_v79 (F := Ideal) x0 x1 x2 x3 x4 (ix3 b t (l64 h e)) := by rintro _ _ rfl rfl; rfl
  pointwise [val_main_v89]
  refine (key _ _ (Fin.ext ?_) (Fin.ext ?_)).trans ?_
  · show i.val / 8 = _
    omega
  · show i.val % 8 = _
    omega
  pointwise [val_main_v79]
  rw [norm_read, silu_read x0 x1 x2 x3 x4]
  rfl

/-- The first result. -/
theorem out0_read : val_main_v89 (F := Ideal) x0 x1 x2 x3 x4 = outs (chunk x0 x1 x2 x3 x4) := by
  funext i
  idx_vars i
  obtain ⟨h, e, rfl⟩ := exists_l64 i1
  have hi : i0.val = (⟨i0.val / 8, by omega⟩ : Fin 128).val * 8 + (⟨i0.val % 8, by omega⟩ : Fin 8).val := by
    show _ = i0.val / 8 * 8 + i0.val % 8
    omega
  exact (out_read x0 x1 x2 x3 x4 _ _ h e i0 hi).trans (outs_apply _ _ _ h e i0 hi).symm

/-- The second result. -/
theorem out1_read : val_main_v90 (F := Ideal) x0 x1 x2 x3 = states (chunk x0 x1 x2 x3 x4) := by
  funext i
  idx_vars i
  obtain ⟨h', e, rfl⟩ := exists_l64 i2
  obtain ⟨h, d, rfl⟩ := exists_l32 i1
  refine Eq.trans ?_ (states_apply _ i0 h d h' e).symm
  have key : ∀ (h1 : Fin 4) (d1 : Fin 32) (h2 : Fin 4) (e1 : Fin 64), h1 = h → d1 = d → h2 = h' → e1 = e →
      val_main_v88 (F := Ideal) x0 x1 x2 x3 (ix5 i0 h1 d1 h2 e1) = val_main_v88 (F := Ideal) x0 x1 x2 x3 (ix5 i0 h d h' e) := by
    rintro _ _ _ _ rfl rfl rfl rfl; rfl
  pointwise [val_main_v90]
  refine (key _ _ _ _ (Fin.ext ?_) (Fin.ext ?_) (Fin.ext ?_) (Fin.ext ?_)).trans ?_
  · show (h.val * 32 + d.val) / 32 = _
    omega
  · show (h.val * 32 + d.val) % 32 = _
    omega
  · show (h'.val * 64 + e.val) / 64 = _
    omega
  · show (h'.val * 64 + e.val) % 64 = _
    omega
  pointwise [val_main_v88, val_main_call4_v0, val_main_call4_v1, val_main_call4_v2, val_main_call4_v3, val_main_cst_6, val_main_v87, val_main_v86, val_main_v85,
    val_main_v84, val_main_v83, val_main_v82, val_main_v81, val_main_v80]
  rw [st_read x0 x1 x2 x3 x4]
  refine (select_head h h' _ _).trans ?_
  by_cases hh : h = h'
  · rw [if_pos hh, if_pos hh]
  · rw [if_neg hh, if_neg hh]
    show Ideal.ofBits .f32 0x00000000#32 = 0
    simp [Ideal.ofBits, Ideal.ieee]

end Cert.Gla

end
-- ==== Proof.Mlp.Row.lean ====
/-
  The feed-forward layer of one row: the row normed by its root mean square, taken to 4096 features, their positive parts squared,
  and brought back to 1024 lanes that are added to the row.
-/
module

public import Idealize.ShloMosaic.Lib.Pointwise
public import Idealize.ShloMosaic.Lib.IdealHost
public import Mathlib.Algebra.BigOperators.Fin

@[expose] public section

noncomputable section

namespace Cert.Mlp

open Idealize.ShloMosaic
open scoped BigOperators

/-- A row divided by its root mean square, times the weight of the norm. -/
def norm (x g : Fin 1024 → EReal) (d : Fin 1024) : EReal :=
  x d * Ideal.rsqrt (Ideal.div (∑ k, x k * x k) (Ideal.ofBits .f32 0x44800000#32) + Ideal.ofBits .f32 0x358637BD#32) * g d

/-- A feature of a normed row: the square of the positive part of its product with a column of the weights. -/
def feat (u w : Fin 1024 → EReal) : EReal := max (∑ d, u d * w d) 0 * max (∑ d, u d * w d) 0

/-- The layer's output at lane `j`. -/
def mlp (x g : Fin 1024 → EReal) (wu : Fin 1024 → Fin 4096 → EReal) (wd : Fin 4096 → Fin 1024 → EReal) (j : Fin 1024) : EReal :=
  x j + ∑ f, feat (norm x g) (fun d => wu d f) * wd f j

/-- Feature number `d` of quarter `q`. -/
def l1024 (q : Fin 4) (d : Fin 1024) : Fin 4096 := ⟨q.val * 1024 + d.val, by omega⟩

/-- Four sums over a quarter each, added one after the other, are the sum over all features. -/
theorem sum_quarters (a : EReal) (f : Fin 4096 → EReal) :
    a + ∑ d, f (l1024 0 d) + ∑ d, f (l1024 1 d) + ∑ d, f (l1024 2 d) + ∑ d, f (l1024 3 d) = a + ∑ i, f i := by
  have e : ∑ i, f i = ∑ q : Fin 4, ∑ d : Fin 1024, f (l1024 q d) := by
    rw [← Finset.sum_product']
    refine (Fintype.sum_equiv (finProdFinEquiv (m := 4) (n := 1024)) _ _ fun x => ?_).symm
    refine congrArg f (Fin.ext ?_)
    show x.1.val * 1024 + x.2.val = x.2.val + 1024 * x.1.val
    omega
  rw [e, Fin.sum_univ_four]
  simp only [add_assoc]

end Cert.Mlp

end
-- ==== Proof.Proj.Pack.lean ====
/-
  The packed layout of the in-projection: its 7680 columns are the 7516 projected ones in another order, with columns of zeros between.
-/
module

public import Idealize.ShloMosaic.Lib.Pointwise
public import Idealize.ShloMosaic.Lib.IdealHost

@[expose] public section

noncomputable section

namespace Cert.Proj

open Idealize.ShloMosaic
open scoped BigOperators

/-- A row of 7516 entries, zero beyond its end. -/
def ext (f : Fin 7516 → EReal) (n : ℕ) : EReal := if h : n < 7516 then f ⟨n, h⟩ else 0

/-- Within the row it is the row. -/
theorem ext_lt (f : Fin 7516 → EReal) (n : ℕ) (h : n < 7516) : ext f n = f ⟨n, h⟩ := dif_pos h

/-- Beyond its end it is zero. -/
theorem ext_ge (f : Fin 7516 → EReal) (n : ℕ) (h : 7516 ≤ n) : ext f n = 0 := dif_neg (by omega)

/-- Products with a matrix, plus a bias, column by column: the columns beyond the end are zero on both sides. -/
theorem ext_product (u : Fin 1024 → EReal) (w : Fin 1024 → Fin 7516 → EReal) (b : Fin 7516 → EReal) (n : ℕ) :
    ∑ k, u k * ext (w k) n + ext b n = ext (fun s => ∑ k, u k * w k s + b s) n := by
  by_cases h : n < 7516
  · simp only [ext_lt _ n h]
  · simp only [ext_ge _ n (by omega), mul_zero, Finset.sum_const_zero, add_zero]

/-- Where column `c` of pieces laid side by side comes from, each piece given by its width and the column it starts from. -/
def src : List (ℕ × ℕ) → ℕ → ℕ
  | [], c => c
  | p :: l, c => if c < p.1 then p.2 + c else src l (c - p.1)

/-- The sixteen wide pieces: the gates of the merge first. Width and first column. -/
def wide : List (ℕ × ℕ) :=
  [(4096, 3420), (512, 2904), (256, 0), (256, 256), (256, 512), (256, 1556), (256, 1812), (256, 2068), (256, 2324), (256, 2648),
    (256, 1028), (256, 1300), (128, 772), (128, 900), (4, 768), (4, 2580)]

/-- The last lanes' six pieces; those that start at 7516 are zeros. -/
def lanes : List (ℕ × ℕ) := [(4, 3416), (4, 7516), (16, 1284), (96, 7516), (64, 2584), (64, 7516)]

/-- The projected column that packed column `c` holds (7516 or more: none, the column is zero). -/
def col (c : ℕ) : ℕ := if c < 7432 then src wide c else src lanes (c - 7432)

section Pieces

variable {R N : ℕ} (r : Fin R) (y : Fin N) (f : ℕ → EReal)

/-- The last piece, read at a column. -/
theorem cat_one {n o : ℕ} {x : (⟨2, ![R, n]⟩ : Shape).Idx → EReal} (hx : ∀ k : Fin n, x (ix2 r k) = f (o + k.val))
    (hs : ∀ s ∈ ([⟨⟨2, ![R, n]⟩, x⟩] : List ((s : Shape) × (s.Idx → EReal))).map (·.1), s.FitsOff (⟨2, ![R, N]⟩ : Shape) 1) (c : ℕ)
    (hc : c < (axisSizes (⟨2, ![R, N]⟩ : Shape) 1 ([⟨⟨2, ![R, n]⟩, x⟩] : List ((s : Shape) × (s.Idx → EReal)))).sum) :
    concatenateAt (⟨2, ![R, N]⟩ : Shape) 1 (ix2 r y) [⟨⟨2, ![R, n]⟩, x⟩] hs c hc = f (src [(n, o)] c) := by
  have hn : c < n := by
    rw [axisSizes_cons _ _ _ _ (hs _ List.mem_cons_self)] at hc
    simpa [axisSizes] using hc
  rw [concatenateAt_singleton, Shape.Idx.norm_def]
  refine Eq.trans (congrArg x ?_) ((hx ⟨c, hn⟩).trans (by simp only [src, if_pos hn]))
  funext a
  match a with
  | ⟨0, _⟩ => rfl
  | ⟨1, _⟩ => rfl

/-- One more piece in front, read at a column. -/
theorem cat_cons {n o : ℕ} {x : (⟨2, ![R, n]⟩ : Shape).Idx → EReal} {q : (s : Shape) × (s.Idx → EReal)}
    {xs : List ((s : Shape) × (s.Idx → EReal))} {l : List (ℕ × ℕ)} (hx : ∀ k : Fin n, x (ix2 r k) = f (o + k.val))
    (hq : ∀ hs c hc, concatenateAt (⟨2, ![R, N]⟩ : Shape) 1 (ix2 r y) (q :: xs) hs c hc = f (src l c))
    (hs : ∀ s ∈ (⟨⟨2, ![R, n]⟩, x⟩ :: q :: xs : List ((s : Shape) × (s.Idx → EReal))).map (·.1), s.FitsOff (⟨2, ![R, N]⟩ : Shape) 1) (c : ℕ)
    (hc : c < (axisSizes (⟨2, ![R, N]⟩ : Shape) 1 (⟨⟨2, ![R, n]⟩, x⟩ :: q :: xs : List ((s : Shape) × (s.Idx → EReal)))).sum) :
    concatenateAt (⟨2, ![R, N]⟩ : Shape) 1 (ix2 r y) (⟨⟨2, ![R, n]⟩, x⟩ :: q :: xs) hs c hc = f (src ((n, o) :: l) c) := by
  rw [concatenateAt_cons]
  by_cases hn : c < n
  · refine (dif_pos (show c < (⟨2, ![R, n]⟩ : Shape).size 1 from hn)).trans ?_
    rw [Shape.Idx.norm_def]
    refine Eq.trans (congrArg x ?_) ((hx ⟨c, hn⟩).trans (by simp only [src, if_pos hn]))
    funext a
    match a with
    | ⟨0, _⟩ => rfl
    | ⟨1, _⟩ => rfl
  · refine (dif_neg (show ¬ c < (⟨2, ![R, n]⟩ : Shape).size 1 from hn)).trans ?_
    refine (hq _ _ _).trans ?_
    show _ = f (if c < n then _ else _)
    rw [if_neg hn]
    rfl

end Pieces

end Cert.Proj

end
-- ==== Proof.HostLine.lean ====
/-
  A line of host operations, run in two parts.
-/
module

public import Idealize.ShloMosaic.Lib.StableHlo.Run

@[expose] public section

namespace Cert.HostLine

open Idealize.ShloMosaic

variable {τ : Topo} {sig : RefSig} {Val : EltTy → Type}

/-- What the line leaves is what its operations from number `k` on leave of what the first `k` leave. -/
theorem after_split (k : ℕ) (ops : List (HloOp τ sig Val)) (W : Valuation τ sig Val) :
    StableHlo.after ops W = StableHlo.after (ops.drop k) (StableHlo.after (ops.take k) W) := by
  induction k generalizing ops W with
  | zero => rfl
  | succ k ih =>
    cases ops with
    | nil => rfl
    | cons op ops => exact ih ops _

end Cert.HostLine

end
-- ==== Proof.Proj.Kernel.lean ====
/-
  The in-projection kernel: each grid point writes 512 rows of 1536 packed columns, and the 160 points fill the array.
-/
module

public import proofs.«01_k».proof.Proof.Mlp.Row
public import proofs.«01_k».proof.Proof.Proj.Pack
public import proofs.«01_k».proof.Proof.HostLine
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Proj

open Cert.Kernel2Ideal Cert.Kernel2Ideal.Gen Idealize.ShloMosaic Idealize.ShloMosaic.TcCoe
open Idealize.ShloMosaic.Pipeline (Dat)
open Cert.Mlp (norm)
open scoped BigOperators

theorem hz : (![0, 0] : Fin 2 → ℕ) = fun _ => 0 := by decide

/-- The block that a grid point writes, from the blocks it reads. -/
theorem out4_apply (x : Vec Ideal S512x1024 .f32) (g : Vec Ideal S1x1024 .f32) (w : Vec Ideal S1024x1536 .bf16) (b : Vec Ideal S1x1536 .f32)
    (r : Fin 512) (j : Fin 1536) :
    out0_4 x g w b (ix2 r j) = ∑ k, norm (fun k => x (ix2 r k)) (fun k => g (ix2 0 k)) k * w (ix2 k j) + b (ix2 0 j) := by
  unfold out0_4
  rw [View.canon_unit_zero (by decide)]
  rw [View.ld_unit_zero hz _ x, View.ld_unit_zero hz _ g, View.ld_unit_zero hz _ w, View.ld_unit_zero hz _ b]
  pointwise [k0_pay1]
  rfl

variable (m : (ℓ : Loc nD τ sig) → Buf (Elt Ideal) ℓ) (c : Dev nD)

/-! ## What the host line leaves -/

/-- Row `k` of the weights with the bias below them as row 1024. -/
def wrow (k : Fin 1025) (s : Fin 7516) : EReal :=
  if h : k.val < 1024 then (m ((c : Thread nD τ).loc main_arg2) : Vec Ideal S1024x7516 .f32) (ix2 ⟨k.val, h⟩ s)
  else (m ((c : Thread nD τ).loc main_arg3) : Vec Ideal S7516 .f32) (ix1 s)

/-- The 4096 columns from 3420 on. -/
theorem v2_read (r : Fin 1025) (k : Fin 4096) : (V m c main_v2 : Vec Ideal S1025x4096 .f32) (ix2 r k) = ext (wrow m c r) (3420 + k.val) := by
  rw [ext_lt _ _ (by omega)]
  entry_read
  pointwise [wrow]

/-- The 512 columns from 2904 on. -/
theorem v3_read (r : Fin 1025) (k : Fin 512) : (V m c main_v3 : Vec Ideal S1025x512 .f32) (ix2 r k) = ext (wrow m c r) (2904 + k.val) := by
  rw [ext_lt _ _ (by omega)]
  entry_read
  pointwise [wrow]

/-- The 256 columns from 0 on. -/
theorem v4_read (r : Fin 1025) (k : Fin 256) : (V m c main_v4 : Vec Ideal S1025x256 .f32) (ix2 r k) = ext (wrow m c r) (0 + k.val) := by
  rw [ext_lt _ _ (by omega)]
  entry_read
  pointwise [wrow]

/-- The 256 columns from 256 on. -/
theorem v5_read (r : Fin 1025) (k : Fin 256) : (V m c main_v5 : Vec Ideal S1025x256 .f32) (ix2 r k) = ext (wrow m c r) (256 + k.val) := by
  rw [ext_lt _ _ (by omega)]
  entry_read
  pointwise [wrow]

/-- The 256 columns from 512 on. -/
theorem v6_read (r : Fin 1025) (k : Fin 256) : (V m c main_v6 : Vec Ideal S1025x256 .f32) (ix2 r k) = ext (wrow m c r) (512 + k.val) := by
  rw [ext_lt _ _ (by omega)]
  entry_read
  pointwise [wrow]

/-- The 256 columns from 1556 on. -/
theorem v7_read (r : Fin 1025) (k : Fin 256) : (V m c main_v7 : Vec Ideal S1025x256 .f32) (ix2 r k) = ext (wrow m c r) (1556 + k.val) := by
  rw [ext_lt _ _ (by omega)]
  entry_read
  pointwise [wrow]

/-- The 256 columns from 1812 on. -/
theorem v8_read (r : Fin 1025) (k : Fin 256) : (V m c main_v8 : Vec Ideal S1025x256 .f32) (ix2 r k) = ext (wrow m c r) (1812 + k.val) := by
  rw [ext_lt _ _ (by omega)]
  entry_read
  pointwise [wrow]

/-- The 256 columns from 2068 on. -/
theorem v9_read (r : Fin 1025) (k : Fin 256) : (V m c main_v9 : Vec Ideal S1025x256 .f32) (ix2 r k) = ext (wrow m c r) (2068 + k.val) := by
  rw [ext_lt _ _ (by omega)]
  entry_read
  pointwise [wrow]

/-- The 256 columns from 2324 on. -/
theorem v10_read (r : Fin 1025) (k : Fin 256) : (V m c main_v10 : Vec Ideal S1025x256 .f32) (ix2 r k) = ext (wrow m c r) (2324 + k.val) := by
  rw [ext_lt _ _ (by omega)]
  entry_read
  pointwise [wrow]

/-- The 256 columns from 2648 on. -/
theorem v11_read (r : Fin 1025) (k : Fin 256) : (V m c main_v11 : Vec Ideal S1025x256 .f32) (ix2 r k) = ext (wrow m c r) (2648 + k.val) := by
  rw [ext_lt _ _ (by omega)]
  entry_read
  pointwise [wrow]

/-- The 256 columns from 1028 on. -/
theorem v12_read (r : Fin 1025) (k : Fin 256) : (V m c main_v12 : Vec Ideal S1025x256 .f32) (ix2 r k) = ext (wrow m c r) (1028 + k.val) := by
  rw [ext_lt _ _ (by omega)]
  entry_read
  pointwise [wrow]

/-- The 256 columns from 1300 on. -/
theorem v13_read (r : Fin 1025) (k : Fin 256) : (V m c main_v13 : Vec Ideal S1025x256 .f32) (ix2 r k) = ext (wrow m c r) (1300 + k.val) := by
  rw [ext_lt _ _ (by omega)]
  entry_read
  pointwise [wrow]

/-- The 128 columns from 772 on. -/
theorem v14_read (r : Fin 1025) (k : Fin 128) : (V m c main_v14 : Vec Ideal S1025x128 .f32) (ix2 r k) = ext (wrow m c r) (772 + k.val) := by
  rw [ext_lt _ _ (by omega)]
  entry_read
  pointwise [wrow]

/-- The 128 columns from 900 on. -/
theorem v15_read (r : Fin 1025) (k : Fin 128) : (V m c main_v15 : Vec Ideal S1025x128 .f32) (ix2 r k) = ext (wrow m c r) (900 + k.val) := by
  rw [ext_lt _ _ (by omega)]
  entry_read
  pointwise [wrow]

/-- The 4 columns from 768 on. -/
theorem v16_read (r : Fin 1025) (k : Fin 4) : (V m c main_v16 : Vec Ideal S1025x4 .f32) (ix2 r k) = ext (wrow m c r) (768 + k.val) := by
  rw [ext_lt _ _ (by omega)]
  entry_read
  pointwise [wrow]

/-- The 4 columns from 2580 on. -/
theorem v17_read (r : Fin 1025) (k : Fin 4) : (V m c main_v17 : Vec Ideal S1025x4 .f32) (ix2 r k) = ext (wrow m c r) (2580 + k.val) := by
  rw [ext_lt _ _ (by omega)]
  entry_read
  pointwise [wrow]

/-- The 4 columns from 3416 on. -/
theorem v18_read (r : Fin 1025) (k : Fin 4) : (V m c main_v18 : Vec Ideal S1025x4 .f32) (ix2 r k) = ext (wrow m c r) (3416 + k.val) := by
  rw [ext_lt _ _ (by omega)]
  entry_read
  pointwise [wrow]

/-- Columns of zeros. -/
theorem v19_read (r : Fin 1025) (k : Fin 4) : (V m c main_v19 : Vec Ideal S1025x4 .f32) (ix2 r k) = ext (wrow m c r) (7516 + k.val) := by
  rw [ext_ge _ _ (by omega)]
  entry_read
  pointwise

/-- The 16 columns from 1284 on. -/
theorem v20_read (r : Fin 1025) (k : Fin 16) : (V m c main_v20 : Vec Ideal S1025x16 .f32) (ix2 r k) = ext (wrow m c r) (1284 + k.val) := by
  rw [ext_lt _ _ (by omega)]
  entry_read
  pointwise [wrow]

/-- Columns of zeros. -/
theorem v21_read (r : Fin 1025) (k : Fin 96) : (V m c main_v21 : Vec Ideal S1025x96 .f32) (ix2 r k) = ext (wrow m c r) (7516 + k.val) := by
  rw [ext_ge _ _ (by omega)]
  entry_read
  pointwise

/-- The 64 columns from 2584 on. -/
theorem v22_read (r : Fin 1025) (k : Fin 64) : (V m c main_v22 : Vec Ideal S1025x64 .f32) (ix2 r k) = ext (wrow m c r) (2584 + k.val) := by
  rw [ext_lt _ _ (by omega)]
  entry_read
  pointwise [wrow]

/-- Columns of zeros. -/
theorem v23_read (r : Fin 1025) (k : Fin 64) : (V m c main_v23 : Vec Ideal S1025x64 .f32) (ix2 r k) = ext (wrow m c r) (7516 + k.val) := by
  rw [ext_ge _ _ (by omega)]
  entry_read
  pointwise

/-- What the host line leaves, in two parts. -/
theorem V_split (b : Ref sig .tc) :
    V m c b = StableHlo.after (hostOps0.drop 27) (StableHlo.after (hostOps0.take 27) fun b => m (c, b)) b := by
  exact congrFun (HostLine.after_split 27 hostOps0 _) _

/-- The sixteen wide pieces, side by side. -/
def catWide (v2 : FVec Ideal S1025x4096 .f32) (v3 : FVec Ideal S1025x512 .f32) (v4 : FVec Ideal S1025x256 .f32) (v5 : FVec Ideal S1025x256 .f32) (v6 : FVec Ideal S1025x256 .f32) (v7 : FVec Ideal S1025x256 .f32) (v8 : FVec Ideal S1025x256 .f32) (v9 : FVec Ideal S1025x256 .f32) (v10 : FVec Ideal S1025x256 .f32) (v11 : FVec Ideal S1025x256 .f32) (v12 : FVec Ideal S1025x256 .f32) (v13 : FVec Ideal S1025x256 .f32) (v14 : FVec Ideal S1025x128 .f32) (v15 : FVec Ideal S1025x128 .f32) (v16 : FVec Ideal S1025x4 .f32) (v17 : FVec Ideal S1025x4 .f32) : FVec Ideal S1025x7432 .f32 :=
  concatenate S1025x7432 1 [⟨S1025x4096, v2⟩, ⟨S1025x512, v3⟩, ⟨S1025x256, v4⟩, ⟨S1025x256, v5⟩, ⟨S1025x256, v6⟩, ⟨S1025x256, v7⟩, ⟨S1025x256, v8⟩, ⟨S1025x256, v9⟩, ⟨S1025x256, v10⟩, ⟨S1025x256, v11⟩, ⟨S1025x256, v12⟩, ⟨S1025x256, v13⟩, ⟨S1025x128, v14⟩, ⟨S1025x128, v15⟩, ⟨S1025x4, v16⟩, ⟨S1025x4, v17⟩]
    concatenates_S1025x4096_S1025x512_S1025x256_S1025x256_S1025x256_S1025x256_S1025x256_S1025x256_S1025x256_S1025x256_S1025x256_S1025x256_S1025x128_S1025x128_S1025x4_S1025x4_S1025x7432_d1

/-- The six pieces of the last lanes, side by side. -/
def catLanes (v18 : FVec Ideal S1025x4 .f32) (v19 : FVec Ideal S1025x4 .f32) (v20 : FVec Ideal S1025x16 .f32) (v21 : FVec Ideal S1025x96 .f32) (v22 : FVec Ideal S1025x64 .f32) (v23 : FVec Ideal S1025x64 .f32) : FVec Ideal S1025x248 .f32 :=
  concatenate S1025x248 1 [⟨S1025x4, v18⟩, ⟨S1025x4, v19⟩, ⟨S1025x16, v20⟩, ⟨S1025x96, v21⟩, ⟨S1025x64, v22⟩, ⟨S1025x64, v23⟩]
    concatenates_S1025x4_S1025x4_S1025x16_S1025x96_S1025x64_S1025x64_S1025x248_d1

/-- The buffer of the wide pieces. -/
theorem v24_eq : V m c main_v24 = catWide (V m c main_v2) (V m c main_v3) (V m c main_v4) (V m c main_v5) (V m c main_v6) (V m c main_v7) (V m c main_v8) (V m c main_v9) (V m c main_v10) (V m c main_v11) (V m c main_v12) (V m c main_v13) (V m c main_v14) (V m c main_v15) (V m c main_v16) (V m c main_v17) := by
  rw [V_split m c main_v2, V_split m c main_v3, V_split m c main_v4, V_split m c main_v5, V_split m c main_v6, V_split m c main_v7, V_split m c main_v8, V_split m c main_v9, V_split m c main_v10, V_split m c main_v11, V_split m c main_v12, V_split m c main_v13, V_split m c main_v14, V_split m c main_v15, V_split m c main_v16, V_split m c main_v17, V_split m c main_v24]
  generalize StableHlo.after (hostOps0.take 27) (fun b => m (c, b)) = W
  unfold hostOps0
  simp only [List.drop_succ_cons, List.drop_zero]
  after_results
  rfl

/-- The buffer of the last lanes. -/
theorem v25_eq : V m c main_v25 = catLanes (V m c main_v18) (V m c main_v19) (V m c main_v20) (V m c main_v21) (V m c main_v22) (V m c main_v23) := by
  rw [V_split m c main_v18, V_split m c main_v19, V_split m c main_v20, V_split m c main_v21, V_split m c main_v22, V_split m c main_v23, V_split m c main_v25]
  generalize StableHlo.after (hostOps0.take 27) (fun b => m (c, b)) = W
  unfold hostOps0
  simp only [List.drop_succ_cons, List.drop_zero]
  after_results
  rfl

/-- The two side by side. -/
def catBoth (a : FVec Ideal S1025x7432 .f32) (b : FVec Ideal S1025x248 .f32) : FVec Ideal S1025x7680 .f32 :=
  concatenate S1025x7680 1 [⟨S1025x7432, a⟩, ⟨S1025x248, b⟩] concatenates_S1025x7432_S1025x248_S1025x7680_d1

/-- The weights of the call: the rows above the last. -/
theorem v28_eq : V m c main_v28 = truncf (F := Ideal) .bf16
    (extractStridedSlice S1024x7680 ![0, 0] (catBoth (V m c main_v24) (V m c main_v25)) slices_S1025x7680_S1024x7680_0_0) bitsLt_bf16_f32 := by
  rw [V_split m c main_v24, V_split m c main_v25, V_split m c main_v28]
  generalize StableHlo.after (hostOps0.take 27) (fun b => m (c, b)) = W
  unfold hostOps0
  simp only [List.drop_succ_cons, List.drop_zero]
  after_results
  rfl

/-- The bias of the call: the last row. -/
theorem v29_eq : V m c main_v29 =
    extractStridedSlice S1x7680 ![1024, 0] (catBoth (V m c main_v24) (V m c main_v25)) slices_S1025x7680_S1x7680_1024_0 := by
  rw [V_split m c main_v24, V_split m c main_v25, V_split m c main_v29]
  generalize StableHlo.after (hostOps0.take 27) (fun b => m (c, b)) = W
  unfold hostOps0
  simp only [List.drop_succ_cons, List.drop_zero]
  after_results
  rfl

/-- The norm's weight of the call. -/
theorem v30_eq : V m c main_v30 = broadcastInDim S1x1024 ![1] bcast_S1024_S1x1024_1 (V m c main_arg1) := by
  rw [V_split m c main_arg1, V_split m c main_v30]
  generalize StableHlo.after (hostOps0.take 27) (fun b => m (c, b)) = W
  unfold hostOps0
  simp only [List.drop_succ_cons, List.drop_zero]
  after_results

/-- The wide pieces, read. -/
theorem v24_read (r : Fin 1025) (y : Fin 7432) : (V m c main_v24 : Vec Ideal S1025x7432 .f32) (ix2 r y) = ext (wrow m c r) (src wide y.val) := by
  rw [v24_eq]
  refine (concatenate_cons_apply _ _ _ _ _ _ _).trans ?_
  exact cat_cons r y (ext (wrow m c r)) (v2_read m c r)
    (cat_cons r y (ext (wrow m c r)) (v3_read m c r)
    (cat_cons r y (ext (wrow m c r)) (v4_read m c r)
    (cat_cons r y (ext (wrow m c r)) (v5_read m c r)
    (cat_cons r y (ext (wrow m c r)) (v6_read m c r)
    (cat_cons r y (ext (wrow m c r)) (v7_read m c r)
    (cat_cons r y (ext (wrow m c r)) (v8_read m c r)
    (cat_cons r y (ext (wrow m c r)) (v9_read m c r)
    (cat_cons r y (ext (wrow m c r)) (v10_read m c r)
    (cat_cons r y (ext (wrow m c r)) (v11_read m c r)
    (cat_cons r y (ext (wrow m c r)) (v12_read m c r)
    (cat_cons r y (ext (wrow m c r)) (v13_read m c r)
    (cat_cons r y (ext (wrow m c r)) (v14_read m c r)
    (cat_cons r y (ext (wrow m c r)) (v15_read m c r)
    (cat_cons r y (ext (wrow m c r)) (v16_read m c r)
    (cat_one r y (ext (wrow m c r)) (v17_read m c r)))))))))))))))) _ _ _

/-- The last lanes, read. -/
theorem v25_read (r : Fin 1025) (y : Fin 248) : (V m c main_v25 : Vec Ideal S1025x248 .f32) (ix2 r y) = ext (wrow m c r) (src lanes y.val) := by
  rw [v25_eq]
  refine (concatenate_cons_apply _ _ _ _ _ _ _).trans ?_
  exact cat_cons r y (ext (wrow m c r)) (v18_read m c r)
    (cat_cons r y (ext (wrow m c r)) (v19_read m c r)
    (cat_cons r y (ext (wrow m c r)) (v20_read m c r)
    (cat_cons r y (ext (wrow m c r)) (v21_read m c r)
    (cat_cons r y (ext (wrow m c r)) (v22_read m c r)
    (cat_one r y (ext (wrow m c r)) (v23_read m c r)))))) _ _ _

/-- The packed columns, read. -/
theorem both_read (r : Fin 1025) (y : Fin 7680) :
    catBoth (V m c main_v24) (V m c main_v25) (ix2 r y) = ext (wrow m c r) (col y.val) := by
  pointwise [catBoth]
  unfold col
  split
  · exact v24_read m c r _
  · exact v25_read m c r _

/-! ## What a grid point reads -/

/-- A row above the last is a row of the weights. -/
theorem wrow_weight (k : Fin 1024) :
    wrow m c ⟨k.val, by omega⟩ = fun s => (m ((c : Thread nD τ).loc main_arg2) : Vec Ideal S1024x7516 .f32) (ix2 k s) := by
  funext s
  simp only [wrow, k.isLt, dite_true]

/-- The last row is the bias. -/
theorem wrow_bias : wrow m c ⟨1024, by omega⟩ = fun s => (m ((c : Thread nD τ).loc main_arg3) : Vec Ideal S7516 .f32) (ix1 s) := by
  funext s
  simp only [wrow, lt_irrefl, dite_false]

/-- The block that each window takes at grid point `t`. -/
theorem idx : ∀ t : Fin grid0.N, win0_0.index t = ![t.val % 32, 0] ∧ win0_1.index t = ![0, 0] ∧ win0_2.index t = ![0, t.val / 32]
    ∧ win0_3.index t = ![0, t.val / 32] ∧ win0_4.index t = ![t.val % 32, t.val / 32] := by
  decide +kernel

/-- Row number `r` of grid point `t`. -/
def row (t : Fin cfg0.N) (r : Fin 512) : Fin 16384 := ⟨t.val % 32 * 512 + r.val, by omega⟩

/-- Column number `j` of grid point `t`. -/
def lane (t : Fin cfg0.N) (j : Fin 1536) : Fin 7680 := ⟨t.val / 32 * 1536 + j.val, by have : t.val < 160 := t.isLt; omega⟩

/-- The rows that a grid point reads. -/
theorem x_read (t : Fin cfg0.N) (r : Fin 512) (k : Fin 1024) :
    (iblk m c 0 t : Vec Ideal S512x1024 .f32) (ix2 r k) = m ((c : Thread nD τ).loc main_arg0) (ix2 (row t r) k) := by
  blk_ext [iblk, V_main_arg0, idx t, row]

/-- The norm's weight as a grid point reads it. -/
theorem g_read (t : Fin cfg0.N) (k : Fin 1024) :
    (iblk m c 1 t : Vec Ideal S1x1024 .f32) (ix2 0 k) = m ((c : Thread nD τ).loc main_arg1) (ix1 k) := by
  refine Eq.trans (b := (V m c main_v30 : Vec Ideal S1x1024 .f32) (ix2 0 k)) (by blk_ext [iblk, idx t]) ?_
  rw [v30_eq, V_main_arg1]
  pointwise

/-- The weights as a grid point reads them. -/
theorem w_read (t : Fin cfg0.N) (k : Fin 1024) (j : Fin 1536) :
    (iblk m c 2 t : Vec Ideal S1024x1536 .bf16) (ix2 k j)
      = ext (fun s => (m ((c : Thread nD τ).loc main_arg2) : Vec Ideal S1024x7516 .f32) (ix2 k s)) (col (lane t j).val) := by
  refine Eq.trans (b := (V m c main_v28 : Vec Ideal S1024x7680 .bf16) (ix2 k (lane t j))) (by blk_ext [iblk, idx t, lane]) ?_
  rw [v28_eq]
  refine Eq.trans (b := catBoth (V m c main_v24) (V m c main_v25) (ix2 ⟨k.val, by omega⟩ (lane t j))) (by pointwise) ?_
  rw [both_read]
  rw [wrow_weight]

/-- The bias as a grid point reads it. -/
theorem b_read (t : Fin cfg0.N) (j : Fin 1536) :
    (iblk m c 3 t : Vec Ideal S1x1536 .f32) (ix2 0 j)
      = ext (fun s => (m ((c : Thread nD τ).loc main_arg3) : Vec Ideal S7516 .f32) (ix1 s)) (col (lane t j).val) := by
  refine Eq.trans (b := (V m c main_v29 : Vec Ideal S1x7680 .f32) (ix2 0 (lane t j))) (by blk_ext [iblk, idx t, lane]) ?_
  rw [v29_eq]
  refine Eq.trans (b := catBoth (V m c main_v24) (V m c main_v25) (ix2 ⟨1024, by omega⟩ (lane t j))) (by pointwise) ?_
  rw [both_read]
  rw [wrow_bias]

/-! ## The result -/

/-- A row of projections: the normed row times the weights, plus the bias. -/
def proj (x g : Fin 1024 → EReal) (w : Fin 1024 → Fin 7516 → EReal) (b : Fin 7516 → EReal) (s : Fin 7516) : EReal :=
  ∑ k, norm x g k * w k s + b s

/-- The packed projections of all rows. -/
def outs (x : Vec Ideal S16384x1024 .f32) (g : Vec Ideal S1024 .f32) (w : Vec Ideal S1024x7516 .f32) (b : Vec Ideal S7516 .f32) :
    Vec Ideal S16384x7680 .f32 :=
  fun i => ext (proj (fun k => x (ix2 (i 0) k)) (fun k => g (ix1 k)) (fun k s => w (ix2 k s)) (fun s => b (ix1 s))) (col (i 1).val)

/-- The packed projections of the program's arguments. -/
abbrev outsOf : Vec Ideal S16384x7680 .f32 :=
  outs (m ((c : Thread nD τ).loc main_arg0)) (m ((c : Thread nD τ).loc main_arg1)) (m ((c : Thread nD τ).loc main_arg2))
    (m ((c : Thread nD τ).loc main_arg3))

/-- A grid point's block is that of the program's arguments. -/
theorem out_read (t : Fin cfg0.N) (r : Fin 512) (j : Fin 1536) :
    out0_4 (iblk m c 0 t) (iblk m c 1 t) (iblk m c 2 t) (iblk m c 3 t) (ix2 r j) = outsOf m c (ix2 (row t r) (lane t j)) := by
  rw [out4_apply]
  simp only [x_read, g_read, w_read, b_read]
  exact ext_product _ _ _ _

/-- The result array after the run. -/
theorem arr4 : (dats m 0 c).arrAt 4 cfg0.N = outsOf m c := by
  refine (dats m 0 c).arrAt_eq_of_covers 4 _ (by decide +kernel) fun t hf y => ?_
  blk_simp
  rw [after0_4]
  idx_vars y
  refine (out_read m c t y0 y1).trans ?_
  blk_ext [idx t, row, lane]

end Cert.Proj

end
-- ==== Proof.Proj.Reference.lean ====
/-
  The reference of the in-projection, read at an index.
-/
module

public import proofs.«01_k».proof.Proof.Proj.Kernel
public import proofs.«01_k».proof.Proof.Gen.Reference2Ideal.Read

@[expose] public section

set_option maxRecDepth 16384

noncomputable section

namespace Cert.Proj

open Cert.Reference2Ideal Cert.Reference2Ideal.Gen Cert.Reference2Ideal.Read Idealize.ShloMosaic Idealize.ShloMosaic.TcCoe
open Cert.Mlp (norm)
open scoped BigOperators

variable (x0 : (⟨Cert.Reference2Ideal.S16384x1024, .f32⟩ : BufTy).Contents (Elt Ideal)) (x1 : (⟨Cert.Reference2Ideal.S1024, .f32⟩ : BufTy).Contents (Elt Ideal))
  (x2 : (⟨Cert.Reference2Ideal.S1024x7516, .f32⟩ : BufTy).Contents (Elt Ideal)) (x3 : (⟨Cert.Reference2Ideal.S7516, .f32⟩ : BufTy).Contents (Elt Ideal))

/-- The projections of row `r` in the order of the weights' columns. -/
abbrev prow (r : Fin 16384) : Fin 7516 → EReal :=
  proj (fun k => x0 (ix2 r k)) (fun k => x1 (ix1 k)) (fun k s => x2 (ix2 k s)) (fun s => x3 (ix1 s))

/-- The normed rows. -/
theorem norm_read (r : Fin 16384) (k : Fin 1024) :
    val_main_v12 (F := Ideal) x0 x1 (ix2 r k) = norm (fun k => x0 (ix2 r k)) (fun k => x1 (ix1 k)) k := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The projections. -/
theorem p_read (r : Fin 16384) (s : Fin 7516) : val_main_v16 (F := Ideal) x0 x1 x2 x3 (ix2 r s) = prow x0 x1 x2 x3 r s := by
  pointwise [val_main_v16, val_main_v15, val_main_v14, val_main_v13]
  simp only [norm_read]
  rfl

/-- The 4096 columns from 3420 on. -/
theorem r35_read (r : Fin 16384) (k : Fin 4096) : val_main_v35 (F := Ideal) x0 x1 x2 x3 (ix2 r k) = ext (prow x0 x1 x2 x3 r) (3420 + k.val) := by
  rw [ext_lt _ _ (by omega), ← p_read]
  pointwise [val_main_v35]

/-- The 512 columns from 2904 on. -/
theorem r33_read (r : Fin 16384) (k : Fin 512) : val_main_v33 (F := Ideal) x0 x1 x2 x3 (ix2 r k) = ext (prow x0 x1 x2 x3 r) (2904 + k.val) := by
  rw [ext_lt _ _ (by omega), ← p_read]
  pointwise [val_main_v33]

/-- The 256 columns from 0 on. -/
theorem r17_read (r : Fin 16384) (k : Fin 256) : val_main_v17 (F := Ideal) x0 x1 x2 x3 (ix2 r k) = ext (prow x0 x1 x2 x3 r) (0 + k.val) := by
  rw [ext_lt _ _ (by omega), ← p_read]
  pointwise [val_main_v17]

/-- The 256 columns from 256 on. -/
theorem r18_read (r : Fin 16384) (k : Fin 256) : val_main_v18 (F := Ideal) x0 x1 x2 x3 (ix2 r k) = ext (prow x0 x1 x2 x3 r) (256 + k.val) := by
  rw [ext_lt _ _ (by omega), ← p_read]
  pointwise [val_main_v18]

/-- The 256 columns from 512 on. -/
theorem r19_read (r : Fin 16384) (k : Fin 256) : val_main_v19 (F := Ideal) x0 x1 x2 x3 (ix2 r k) = ext (prow x0 x1 x2 x3 r) (512 + k.val) := by
  rw [ext_lt _ _ (by omega), ← p_read]
  pointwise [val_main_v19]

/-- The 256 columns from 1556 on. -/
theorem r26_read (r : Fin 16384) (k : Fin 256) : val_main_v26 (F := Ideal) x0 x1 x2 x3 (ix2 r k) = ext (prow x0 x1 x2 x3 r) (1556 + k.val) := by
  rw [ext_lt _ _ (by omega), ← p_read]
  pointwise [val_main_v26]

/-- The 256 columns from 1812 on. -/
theorem r27_read (r : Fin 16384) (k : Fin 256) : val_main_v27 (F := Ideal) x0 x1 x2 x3 (ix2 r k) = ext (prow x0 x1 x2 x3 r) (1812 + k.val) := by
  rw [ext_lt _ _ (by omega), ← p_read]
  pointwise [val_main_v27]

/-- The 256 columns from 2068 on. -/
theorem r28_read (r : Fin 16384) (k : Fin 256) : val_main_v28 (F := Ideal) x0 x1 x2 x3 (ix2 r k) = ext (prow x0 x1 x2 x3 r) (2068 + k.val) := by
  rw [ext_lt _ _ (by omega), ← p_read]
  pointwise [val_main_v28]

/-- The 256 columns from 2324 on. -/
theorem r29_read (r : Fin 16384) (k : Fin 256) : val_main_v29 (F := Ideal) x0 x1 x2 x3 (ix2 r k) = ext (prow x0 x1 x2 x3 r) (2324 + k.val) := by
  rw [ext_lt _ _ (by omega), ← p_read]
  pointwise [val_main_v29]

/-- The 256 columns from 2648 on. -/
theorem r32_read (r : Fin 16384) (k : Fin 256) : val_main_v32 (F := Ideal) x0 x1 x2 x3 (ix2 r k) = ext (prow x0 x1 x2 x3 r) (2648 + k.val) := by
  rw [ext_lt _ _ (by omega), ← p_read]
  pointwise [val_main_v32]

/-- The 256 columns from 1028 on. -/
theorem r23_read (r : Fin 16384) (k : Fin 256) : val_main_v23 (F := Ideal) x0 x1 x2 x3 (ix2 r k) = ext (prow x0 x1 x2 x3 r) (1028 + k.val) := by
  rw [ext_lt _ _ (by omega), ← p_read]
  pointwise [val_main_v23]

/-- The 256 columns from 1300 on. -/
theorem r25_read (r : Fin 16384) (k : Fin 256) : val_main_v25 (F := Ideal) x0 x1 x2 x3 (ix2 r k) = ext (prow x0 x1 x2 x3 r) (1300 + k.val) := by
  rw [ext_lt _ _ (by omega), ← p_read]
  pointwise [val_main_v25]

/-- The 128 columns from 772 on. -/
theorem r21_read (r : Fin 16384) (k : Fin 128) : val_main_v21 (F := Ideal) x0 x1 x2 x3 (ix2 r k) = ext (prow x0 x1 x2 x3 r) (772 + k.val) := by
  rw [ext_lt _ _ (by omega), ← p_read]
  pointwise [val_main_v21]

/-- The 128 columns from 900 on. -/
theorem r22_read (r : Fin 16384) (k : Fin 128) : val_main_v22 (F := Ideal) x0 x1 x2 x3 (ix2 r k) = ext (prow x0 x1 x2 x3 r) (900 + k.val) := by
  rw [ext_lt _ _ (by omega), ← p_read]
  pointwise [val_main_v22]

/-- The 4 columns from 768 on. -/
theorem r20_read (r : Fin 16384) (k : Fin 4) : val_main_v20 (F := Ideal) x0 x1 x2 x3 (ix2 r k) = ext (prow x0 x1 x2 x3 r) (768 + k.val) := by
  rw [ext_lt _ _ (by omega), ← p_read]
  pointwise [val_main_v20]

/-- The 4 columns from 2580 on. -/
theorem r30_read (r : Fin 16384) (k : Fin 4) : val_main_v30 (F := Ideal) x0 x1 x2 x3 (ix2 r k) = ext (prow x0 x1 x2 x3 r) (2580 + k.val) := by
  rw [ext_lt _ _ (by omega), ← p_read]
  pointwise [val_main_v30]

/-- The 4 columns from 3416 on. -/
theorem r34_read (r : Fin 16384) (k : Fin 4) : val_main_v34 (F := Ideal) x0 x1 x2 x3 (ix2 r k) = ext (prow x0 x1 x2 x3 r) (3416 + k.val) := by
  rw [ext_lt _ _ (by omega), ← p_read]
  pointwise [val_main_v34]

/-- Columns of zeros. -/
theorem r36_read (r : Fin 16384) (k : Fin 4) : val_main_v36 (F := Ideal) (ix2 r k) = ext (prow x0 x1 x2 x3 r) (7516 + k.val) := by
  rw [ext_ge _ _ (by omega)]
  pointwise [val_main_v36, val_main_cst_2]
  try simp [Ideal.ofBits, Ideal.ieee]

/-- The 16 columns from 1284 on. -/
theorem r24_read (r : Fin 16384) (k : Fin 16) : val_main_v24 (F := Ideal) x0 x1 x2 x3 (ix2 r k) = ext (prow x0 x1 x2 x3 r) (1284 + k.val) := by
  rw [ext_lt _ _ (by omega), ← p_read]
  pointwise [val_main_v24]

/-- Columns of zeros. -/
theorem r37_read (r : Fin 16384) (k : Fin 96) : val_main_v37 (F := Ideal) (ix2 r k) = ext (prow x0 x1 x2 x3 r) (7516 + k.val) := by
  rw [ext_ge _ _ (by omega)]
  pointwise [val_main_v37, val_main_cst_3]
  try simp [Ideal.ofBits, Ideal.ieee]

/-- The 64 columns from 2584 on. -/
theorem r31_read (r : Fin 16384) (k : Fin 64) : val_main_v31 (F := Ideal) x0 x1 x2 x3 (ix2 r k) = ext (prow x0 x1 x2 x3 r) (2584 + k.val) := by
  rw [ext_lt _ _ (by omega), ← p_read]
  pointwise [val_main_v31]

/-- Columns of zeros. -/
theorem r38_read (r : Fin 16384) (k : Fin 64) : val_main_v38 (F := Ideal) (ix2 r k) = ext (prow x0 x1 x2 x3 r) (7516 + k.val) := by
  rw [ext_ge _ _ (by omega)]
  pointwise [val_main_v38, val_main_cst_4]
  try simp [Ideal.ofBits, Ideal.ieee]

/-- The wide pieces. -/
theorem v39_read (r : Fin 16384) (y : Fin 7432) : val_main_v39 (F := Ideal) x0 x1 x2 x3 (ix2 r y) = ext (prow x0 x1 x2 x3 r) (src wide y.val) := by
  refine (concatenate_cons_apply _ _ _ _ _ _ _).trans ?_
  exact cat_cons r y (ext (prow x0 x1 x2 x3 r)) (r35_read x0 x1 x2 x3 r)
    (cat_cons r y (ext (prow x0 x1 x2 x3 r)) (r33_read x0 x1 x2 x3 r)
    (cat_cons r y (ext (prow x0 x1 x2 x3 r)) (r17_read x0 x1 x2 x3 r)
    (cat_cons r y (ext (prow x0 x1 x2 x3 r)) (r18_read x0 x1 x2 x3 r)
    (cat_cons r y (ext (prow x0 x1 x2 x3 r)) (r19_read x0 x1 x2 x3 r)
    (cat_cons r y (ext (prow x0 x1 x2 x3 r)) (r26_read x0 x1 x2 x3 r)
    (cat_cons r y (ext (prow x0 x1 x2 x3 r)) (r27_read x0 x1 x2 x3 r)
    (cat_cons r y (ext (prow x0 x1 x2 x3 r)) (r28_read x0 x1 x2 x3 r)
    (cat_cons r y (ext (prow x0 x1 x2 x3 r)) (r29_read x0 x1 x2 x3 r)
    (cat_cons r y (ext (prow x0 x1 x2 x3 r)) (r32_read x0 x1 x2 x3 r)
    (cat_cons r y (ext (prow x0 x1 x2 x3 r)) (r23_read x0 x1 x2 x3 r)
    (cat_cons r y (ext (prow x0 x1 x2 x3 r)) (r25_read x0 x1 x2 x3 r)
    (cat_cons r y (ext (prow x0 x1 x2 x3 r)) (r21_read x0 x1 x2 x3 r)
    (cat_cons r y (ext (prow x0 x1 x2 x3 r)) (r22_read x0 x1 x2 x3 r)
    (cat_cons r y (ext (prow x0 x1 x2 x3 r)) (r20_read x0 x1 x2 x3 r)
    (cat_one r y (ext (prow x0 x1 x2 x3 r)) (r30_read x0 x1 x2 x3 r)))))))))))))))) _ _ _

/-- The last lanes. -/
theorem v40_read (r : Fin 16384) (y : Fin 248) : val_main_v40 (F := Ideal) x0 x1 x2 x3 (ix2 r y) = ext (prow x0 x1 x2 x3 r) (src lanes y.val) := by
  refine (concatenate_cons_apply _ _ _ _ _ _ _).trans ?_
  exact cat_cons r y (ext (prow x0 x1 x2 x3 r)) (r34_read x0 x1 x2 x3 r)
    (cat_cons r y (ext (prow x0 x1 x2 x3 r)) (r36_read x0 x1 x2 x3 r)
    (cat_cons r y (ext (prow x0 x1 x2 x3 r)) (r24_read x0 x1 x2 x3 r)
    (cat_cons r y (ext (prow x0 x1 x2 x3 r)) (r37_read x0 x1 x2 x3 r)
    (cat_cons r y (ext (prow x0 x1 x2 x3 r)) (r31_read x0 x1 x2 x3 r)
    (cat_one r y (ext (prow x0 x1 x2 x3 r)) (r38_read x0 x1 x2 x3 r)))))) _ _ _

/-- The result. -/
theorem out0_read : val_main_v41 (F := Ideal) x0 x1 x2 x3 = outs x0 x1 x2 x3 := by
  funext i
  idx_vars i
  refine Eq.trans (b := ext (prow x0 x1 x2 x3 i0) (col i1.val)) ?_ rfl
  pointwise [val_main_v41]
  unfold col
  split
  · exact v39_read x0 x1 x2 x3 i0 _
  · exact v40_read x0 x1 x2 x3 i0 _

end Cert.Proj

end
-- ==== Proof.Mlp.Kernel.lean ====
/-
  The feed-forward kernel: each grid point writes 512 rows of the output and of its norm, and the 32 points fill the arrays.
-/
module

public import proofs.«01_k».proof.Proof.Mlp.Row
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Mlp

open Cert.Kernel3Ideal Cert.Kernel3Ideal.Gen Idealize.ShloMosaic Idealize.ShloMosaic.TcCoe
open Idealize.ShloMosaic.Pipeline (Dat)
open scoped BigOperators

theorem hz : (![0, 0] : Fin 2 → ℕ) = fun _ => 0 := by decide

/-- The normed rows of a block. -/
theorem norm_apply (x : Vec Ideal S512x1024 .f32) (g : Vec Ideal S1x1024 .f32) (r : Fin 512) (d : Fin 1024) :
    k0_pay1 x g (ix2 r d) = norm (fun k => x (ix2 r k)) (fun k => g (ix2 0 k)) d := by
  pointwise [k0_pay1]
  rfl

/-- The rows of the output that a grid point writes. -/
theorem out5_apply (x : Vec Ideal S512x1024 .f32) (g : Vec Ideal S1x1024 .f32) (wu : Vec Ideal S1024x4096 .bf16) (wd : Vec Ideal S4096x1024 .bf16)
    (gf : Vec Ideal S1x1024 .f32) (r : Fin 512) (j : Fin 1024) :
    out0_5 x g wu wd gf (ix2 r j) = mlp (fun k => x (ix2 r k)) (fun k => g (ix2 0 k)) (fun d f => wu (ix2 d f)) (fun f e => wd (ix2 f e)) j := by
  unfold_out out0_5
  rw [View.canon_unit_zero (by decide)]
  rw [View.ld_unit_zero hz _ x, View.ld_unit_zero hz _ g]
  pointwise [k0_pay3, k0_pay2]
  simp only [norm_apply]
  unfold mlp
  rw [← sum_quarters]
  let f : Fin 4096 → EReal := fun f => feat (norm (fun k => x (ix2 r k)) (fun k => g (ix2 0 k))) (fun d => wu (ix2 d f)) * wd (ix2 f j)
  have key : ∀ (q : Fin 4) (d : Fin 1024) (i : Fin 4096), i.val = q.val * 1024 + d.val → f i = f (l1024 q d) := fun q d i h => congrArg f (Fin.ext h)
  refine congrArg₂ (· + ·) (congrArg₂ (· + ·) (congrArg₂ (· + ·) (congrArg₂ (· + ·) rfl ?_) ?_) ?_) ?_
  · exact Finset.sum_congr rfl fun d _ => key 0 d _ (by show d.val = 0 * 1024 + d.val; omega)
  · exact Finset.sum_congr rfl fun d _ => key 1 d _ (by show 1024 + d.val = 1 * 1024 + d.val; omega)
  · exact Finset.sum_congr rfl fun d _ => key 2 d _ (by show 2048 + d.val = 2 * 1024 + d.val; omega)
  · exact Finset.sum_congr rfl fun d _ => key 3 d _ (by show 3072 + d.val = 3 * 1024 + d.val; omega)

/-- The rows of the normed output that a grid point writes. -/
theorem out6_apply (x : Vec Ideal S512x1024 .f32) (g : Vec Ideal S1x1024 .f32) (wu : Vec Ideal S1024x4096 .bf16) (wd : Vec Ideal S4096x1024 .bf16)
    (gf : Vec Ideal S1x1024 .f32) (r : Fin 512) (j : Fin 1024) :
    out0_6 x g wu wd gf (ix2 r j) = norm (fun k => out0_5 x g wu wd gf (ix2 r k)) (fun k => gf (ix2 0 k)) j := by
  unfold out0_6 out0_5
  rw [View.canon_unit_zero (by decide), View.canon_unit_zero (by decide)]
  rw [View.ld_unit_zero hz _ gf]
  pointwise [k0_pay4]
  rfl

variable (m : (ℓ : Loc nD τ sig) → Buf (Elt Ideal) ℓ) (c : Dev nD)

/-- The block that each window takes at grid point `t`. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] := by
  decide +kernel

/-- The layer's output of all rows, from the rows, the weights and the norm's weight. -/
def outs (h : Vec Ideal S16384x1024 .f32) (g : Vec Ideal S1024 .f32) (wu : Vec Ideal S1024x4096 .f32) (wd : Vec Ideal S4096x1024 .f32) :
    Vec Ideal S16384x1024 .f32 :=
  fun i => mlp (fun k => h (ix2 (i 0) k)) (fun k => g (ix1 k)) (fun d f => wu (ix2 d f)) (fun f e => wd (ix2 f e)) (i 1)

/-- The rows of an array, each divided by its root mean square, times a weight. -/
def norms (h : Vec Ideal S16384x1024 .f32) (g : Vec Ideal S1024 .f32) : Vec Ideal S16384x1024 .f32 :=
  fun i => norm (fun k => h (ix2 (i 0) k)) (fun k => g (ix1 k)) (i 1)

/-- The outputs of the program's arguments. -/
abbrev outsOf : Vec Ideal S16384x1024 .f32 :=
  outs (m ((c : Thread nD τ).loc main_arg0)) (m ((c : Thread nD τ).loc main_arg1)) (m ((c : Thread nD τ).loc main_arg2))
    (m ((c : Thread nD τ).loc main_arg3))

/-- Row number `r` of grid point `t`. -/
def row (t : Fin cfg0.N) (r : Fin 512) : Fin 16384 := ⟨t.val * 512 + r.val, by have : t.val < 32 := t.isLt; omega⟩

/-- The rows that a grid point reads. -/
theorem h_read (t : Fin cfg0.N) (r : Fin 512) (k : Fin 1024) :
    (iblk m c 0 t : Vec Ideal S512x1024 .f32) (ix2 r k) = m ((c : Thread nD τ).loc main_arg0) (ix2 (row t r) k) := by
  blk_ext [iblk, V_main_arg0, idx t, row]

/-- The norm's weight as a grid point reads it. -/
theorem g_read (t : Fin cfg0.N) (k : Fin 1024) :
    (iblk m c 1 t : Vec Ideal S1x1024 .f32) (ix2 0 k) = m ((c : Thread nD τ).loc main_arg1) (ix1 k) := by
  refine Eq.trans (b := (V m c main_v0 : Vec Ideal S1x1024 .f32) (ix2 0 k)) (by blk_ext [iblk, idx t]) ?_
  entry_read
  pointwise

/-- The first weights as a grid point reads them. -/
theorem wu_read (t : Fin cfg0.N) (d : Fin 1024) (f : Fin 4096) :
    (iblk m c 2 t : Vec Ideal S1024x4096 .bf16) (ix2 d f) = m ((c : Thread nD τ).loc main_arg2) (ix2 d f) := by
  refine Eq.trans (b := (V m c main_v1 : Vec Ideal S1024x4096 .bf16) (ix2 d f)) (by blk_ext [iblk, idx t]) ?_
  entry_read
  pointwise

/-- The second weights as a grid point reads them. -/
theorem wd_read (t : Fin cfg0.N) (f : Fin 4096) (e : Fin 1024) :
    (iblk m c 3 t : Vec Ideal S4096x1024 .bf16) (ix2 f e) = m ((c : Thread nD τ).loc main_arg3) (ix2 f e) := by
  refine Eq.trans (b := (V m c main_v2 : Vec Ideal S4096x1024 .bf16) (ix2 f e)) (by blk_ext [iblk, idx t]) ?_
  entry_read
  pointwise

/-- The last norm's weight as a grid point reads it. -/
theorem gf_read (t : Fin cfg0.N) (k : Fin 1024) :
    (iblk m c 4 t : Vec Ideal S1x1024 .f32) (ix2 0 k) = m ((c : Thread nD τ).loc main_arg4) (ix1 k) := by
  refine Eq.trans (b := (V m c main_v3 : Vec Ideal S1x1024 .f32) (ix2 0 k)) (by blk_ext [iblk, idx t]) ?_
  entry_read
  pointwise

/-- A grid point's rows of the output are those of the program's arguments. -/
theorem out5_read (t : Fin cfg0.N) (r : Fin 512) (j : Fin 1024) :
    out0_5 (iblk m c 0 t) (iblk m c 1 t) (iblk m c 2 t) (iblk m c 3 t) (iblk m c 4 t) (ix2 r j) = outsOf m c (ix2 (row t r) j) := by
  rw [out5_apply]
  simp only [h_read, g_read, wu_read, wd_read]
  rfl

/-- The output array after the run. -/
theorem arr5 : (dats m 0 c).arrAt 5 cfg0.N = outsOf m c := by
  refine (dats m 0 c).arrAt_eq_of_covers 5 _ (by decide +kernel) fun t hf y => ?_
  blk_simp
  rw [after0_5]
  idx_vars y
  refine (out5_read m c t y0 y1).trans ?_
  blk_ext [idx t, row]

/-- The array of the normed output after the run. -/
theorem arr6 : (dats m 0 c).arrAt 6 cfg0.N = norms (outsOf m c) (m ((c : Thread nD τ).loc main_arg4)) := by
  refine (dats m 0 c).arrAt_eq_of_covers 6 _ (by decide +kernel) fun t hf y => ?_
  blk_simp
  rw [after0_6]
  idx_vars y
  refine Eq.trans (b := norms (outsOf m c) (m ((c : Thread nD τ).loc main_arg4)) (ix2 (row t y0) y1)) ?_ ?_
  · refine (out6_apply _ _ _ _ _ y0 y1).trans ?_
    simp only [out5_read, gf_read]
    rfl
  · blk_ext [idx t, row]

end Cert.Mlp

end
-- ==== Proof.Mlp.Reference.lean ====
/-
  The reference of the feed-forward layer, read at an index: its results are the outputs of all rows and their norms.
-/
module

public import proofs.«01_k».proof.Proof.Mlp.Kernel
public import proofs.«01_k».proof.Proof.Gen.Reference3Ideal.Read

@[expose] public section

set_option maxRecDepth 16384

noncomputable section

namespace Cert.Mlp

open Cert.Reference3Ideal Cert.Reference3Ideal.Gen Cert.Reference3Ideal.Read Idealize.ShloMosaic Idealize.ShloMosaic.TcCoe
open scoped BigOperators

variable (x0 : (⟨Cert.Reference3Ideal.S16384x1024, .f32⟩ : BufTy).Contents (Elt Ideal)) (x1 : (⟨Cert.Reference3Ideal.S1024, .f32⟩ : BufTy).Contents (Elt Ideal))
  (x2 : (⟨Cert.Reference3Ideal.S1024x4096, .f32⟩ : BufTy).Contents (Elt Ideal)) (x3 : (⟨Cert.Reference3Ideal.S4096x1024, .f32⟩ : BufTy).Contents (Elt Ideal))
  (x4 : (⟨Cert.Reference3Ideal.S1024, .f32⟩ : BufTy).Contents (Elt Ideal))

/-- The normed rows. -/
theorem refNorm_read (r : Fin 16384) (d : Fin 1024) :
    val_main_v12 (F := Ideal) x0 x1 (ix2 r d) = norm (fun k => x0 (ix2 r k)) (fun k => x1 (ix1 k)) d := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- The features. -/
theorem feat_read (r : Fin 16384) (f : Fin 4096) :
    val_main_v15 (F := Ideal) x0 x1 x2 (ix2 r f) = feat (norm (fun k => x0 (ix2 r k)) (fun k => x1 (ix1 k))) (fun d => x2 (ix2 d f)) := by
  pointwise [val_main_v15, val_main_v14, val_main_v13, val_main_call0_v0, val_main_call0_cst]
  simp only [refNorm_read]
  rfl

/-- The first result. -/
theorem out0_read : val_main_v17 (F := Ideal) x0 x1 x2 x3 = outs x0 x1 x2 x3 := by
  funext i
  idx_vars i
  pointwise [val_main_v17, val_main_v16]
  simp only [feat_read]
  rfl

/-- The second result. -/
theorem out1_read : val_main_v30 (F := Ideal) x0 x1 x2 x3 x4 = norms (outs x0 x1 x2 x3) x4 := by
  rw [← out0_read]
  funext i
  idx_vars i
  pointwise [val_main_v30, val_main_v29, val_main_v28, val_main_v27, val_main_v26, val_main_v25, val_main_v24, val_main_v23, val_main_v22, val_main_v21,
    val_main_v20, val_main_v19, val_main_v18, val_main_cst_2, val_main_cst_3, val_main_cst_4]
  rfl

end Cert.Mlp

end
-- ==== Proof.Merge.Row.lean ====
/-
  The merge of one row: four branches of 256 lanes, each taken to 1024 lanes and weighted by its own gates, are added, taken through
  the output weights and added to the row.
-/
module

public import Idealize.ShloMosaic.Lib.Pointwise
public import Idealize.ShloMosaic.Lib.IdealHost
public import Mathlib.Algebra.BigOperators.Fin

@[expose] public section

noncomputable section

namespace Cert.Merge

open Idealize.ShloMosaic
open scoped BigOperators

/-- The gate number `d` of branch `b` in a row of projections. -/
def gate (b : Fin 4) (d : Fin 1024) : Fin 4096 := ⟨b.val * 1024 + d.val, by omega⟩

/-- A branch at lane `d`: its product with its weights, times its gate. -/
def branch (p : Fin 4096 → EReal) (b : Fin 4) (y : Fin 256 → EReal) (w : Fin 256 → Fin 1024 → EReal) (d : Fin 1024) : EReal :=
  Ideal.logistic (p (gate b d)) * ∑ k, y k * w k d

/-- The merged row at lane `j`. -/
def merge (p : Fin 4096 → EReal) (x : Fin 1024 → EReal) (y0 y1 y2 y3 : Fin 256 → EReal) (w0 w1 w2 w3 : Fin 256 → Fin 1024 → EReal)
    (wo : Fin 1024 → Fin 1024 → EReal) (j : Fin 1024) : EReal :=
  x j + ∑ d, (branch p 0 y0 w0 d + branch p 1 y1 w1 d + branch p 2 y2 w2 d + branch p 3 y3 w3 d) * wo d j

end Cert.Merge

end
-- ==== Proof.Merge.Kernel.lean ====
/-
  The merge kernel: each grid point writes 256 rows of the result, and the 64 points fill the array.
-/
module

public import proofs.«01_k».proof.Proof.Merge.Row
public import proofs.«01_k».proof.Proof.HostLine
public import proofs.«01_k».proof.Proof.Gen.Kernel4Ideal.Value
public import Idealize.ShloMosaic.Lib.Pipeline.ValueKit
public import Idealize.ShloMosaic.Lib.Claim

@[expose] public section

set_option maxRecDepth 16384

noncomputable section

namespace Cert.Merge

open Cert.Kernel4Ideal Cert.Kernel4Ideal.Gen Idealize.ShloMosaic Idealize.ShloMosaic.TcCoe
open Idealize.ShloMosaic.Pipeline (Dat)
open scoped BigOperators

variable (m : (ℓ : Loc nD τ sig) → Buf (Elt Ideal) ℓ) (c : Dev nD)

/-- The rows that a grid point writes, from what its blocks hold. -/
theorem out_apply (t : Fin cfg0.N) (r : Fin 256) (j : Fin 1024) :
    outsAt0 m c t (ix2 r j) = merge (fun k => X0_4 m c t (ix2 r k)) (fun k => (iblk m c 5 t : Vec Ideal S256x1024 .f32) (ix2 r k))
      (fun k => (iblk m c 0 t : Vec Ideal S256x256 .f32) (ix2 r k)) (fun k => (iblk m c 1 t : Vec Ideal S256x256 .f32) (ix2 r k))
      (fun k => (iblk m c 2 t : Vec Ideal S256x256 .f32) (ix2 r k)) (fun k => (iblk m c 3 t : Vec Ideal S256x256 .f32) (ix2 r k))
      (fun k d => (iblk m c 6 t : Vec Ideal S4x256x1024 .bf16) (ix3 0 k d)) (fun k d => (iblk m c 6 t : Vec Ideal S4x256x1024 .bf16) (ix3 1 k d))
      (fun k d => (iblk m c 6 t : Vec Ideal S4x256x1024 .bf16) (ix3 2 k d)) (fun k d => (iblk m c 6 t : Vec Ideal S4x256x1024 .bf16) (ix3 3 k d))
      (fun d e => (iblk m c 7 t : Vec Ideal S1024x1024 .bf16) (ix2 d e)) j := by
  unfold outsAt0
  generalize (X0_4 m c t : Vec Ideal S256x4096 .f32) = p
  generalize (iblk m c 5 t : Vec Ideal S256x1024 .f32) = x
  generalize (iblk m c 0 t : Vec Ideal S256x256 .f32) = y0
  generalize (iblk m c 1 t : Vec Ideal S256x256 .f32) = y1
  generalize (iblk m c 2 t : Vec Ideal S256x256 .f32) = y2
  generalize (iblk m c 3 t : Vec Ideal S256x256 .f32) = y3
  generalize (iblk m c 6 t : Vec Ideal S4x256x1024 .bf16) = w
  generalize (iblk m c 7 t : Vec Ideal S1024x1024 .bf16) = wo
  frame_out
  pointwise [k0_pay1, k0_pay2, k0_pay3, k0_pay4]
  have key : ∀ (b : Fin 4) (d : Fin 1024) (i : Fin 4096) (y : Fin 256 → EReal) (u : Fin 256 → Fin 1024 → EReal), i.val = b.val * 1024 + d.val →
      Ideal.logistic (p (ix2 r i)) * ∑ k, y k * u k d = branch (fun k => p (ix2 r k)) b y u d := by
    intro b d i y u h
    rw [show i = gate b d from Fin.ext h]
    rfl
  unfold merge
  refine congrArg₂ (· + ·) rfl (Finset.sum_congr rfl fun d _ => congrArg (· * wo (ix2 d j)) ?_)
  refine congrArg₂ (· + ·) (congrArg₂ (· + ·) (congrArg₂ (· + ·) ?_ ?_) ?_) ?_
  · exact key 0 d _ (fun k => y0 (ix2 r k)) (fun k d => w (ix3 0 k d)) (by show d.val = 0 * 1024 + d.val; omega)
  · exact key 1 d _ (fun k => y1 (ix2 r k)) (fun k d => w (ix3 1 k d)) (by show 1024 + d.val = 1 * 1024 + d.val; omega)
  · exact key 2 d _ (fun k => y2 (ix2 r k)) (fun k d => w (ix3 2 k d)) (by show 2048 + d.val = 2 * 1024 + d.val; omega)
  · exact key 3 d _ (fun k => y3 (ix2 r k)) (fun k d => w (ix3 3 k d)) (by show 3072 + d.val = 3 * 1024 + d.val; omega)

/-- The block that each window takes at grid point `t`. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0, 0]
    ∧ win0_7.index t = ![0, 0] ∧ win0_8.index t = ![t.val, 0] := by
  decide +kernel

/-- Row number `r` of grid point `t`. -/
def row (t : Fin cfg0.N) (r : Fin 256) : Fin 16384 := ⟨t.val * 256 + r.val, by have : t.val < 64 := t.isLt; omega⟩

/-- The gates that a grid point reads: the first 4096 columns of its rows of the projections. -/
theorem p_read (t : Fin cfg0.N) (r : Fin 256) (k : Fin 4096) :
    (X0_4 m c t : Vec Ideal S256x4096 .f32) (ix2 r k) = m ((c : Thread nD τ).loc main_arg4) (ix2 (row t r) ⟨k.val, by omega⟩) := by
  unfold X0_4 Pipeline.Window.fill
  rw [dif_pos (moved0_4 t _)]
  blk_ext [iblk, V_main_arg4, idx t, row]

/-- The rows of the first branch that a grid point reads. -/
theorem y0_read (t : Fin cfg0.N) (r : Fin 256) (k : Fin 256) :
    (iblk m c 0 t : Vec Ideal S256x256 .f32) (ix2 r k) = m ((c : Thread nD τ).loc main_arg0) (ix2 (row t r) k) := by
  blk_ext [iblk, V_main_arg0, idx t, row]

/-- The rows of the second branch that a grid point reads. -/
theorem y1_read (t : Fin cfg0.N) (r : Fin 256) (k : Fin 256) :
    (iblk m c 1 t : Vec Ideal S256x256 .f32) (ix2 r k) = m ((c : Thread nD τ).loc main_arg1) (ix2 (row t r) k) := by
  blk_ext [iblk, V_main_arg1, idx t, row]

/-- The rows of the third branch that a grid point reads. -/
theorem y2_read (t : Fin cfg0.N) (r : Fin 256) (k : Fin 256) :
    (iblk m c 2 t : Vec Ideal S256x256 .f32) (ix2 r k) = m ((c : Thread nD τ).loc main_arg2) (ix2 (row t r) k) := by
  blk_ext [iblk, V_main_arg2, idx t, row]

/-- The rows of the fourth branch that a grid point reads. -/
theorem y3_read (t : Fin cfg0.N) (r : Fin 256) (k : Fin 256) :
    (iblk m c 3 t : Vec Ideal S256x256 .f32) (ix2 r k) = m ((c : Thread nD τ).loc main_arg3) (ix2 (row t r) k) := by
  blk_ext [iblk, V_main_arg3, idx t, row]

/-- The rows that a grid point adds to. -/
theorem x_read (t : Fin cfg0.N) (r : Fin 256) (k : Fin 1024) :
    (iblk m c 5 t : Vec Ideal S256x1024 .f32) (ix2 r k) = m ((c : Thread nD τ).loc main_arg5) (ix2 (row t r) k) := by
  blk_ext [iblk, V_main_arg5, idx t, row]

/-- The stacked weights as a grid point reads them. -/
theorem w_read (t : Fin cfg0.N) (b : Fin 4) (k : Fin 256) (d : Fin 1024) :
    (iblk m c 6 t : Vec Ideal S4x256x1024 .bf16) (ix3 b k d) = (V m c main_v5 : Vec Ideal S4x256x1024 .bf16) (ix3 b k d) := by
  blk_ext [iblk, idx t]

/-- What the host line leaves, in two parts. -/
theorem V_split (b : Ref sig .tc) :
    V m c b = StableHlo.after (hostOps0.drop 4) (StableHlo.after (hostOps0.take 4) fun b => m (c, b)) b := by
  exact congrFun (HostLine.after_split 4 hostOps0 _) _

/-- Four arrays, one above the other. -/
def stack (b0 b1 b2 b3 : FVec Ideal S1x256x1024 .f32) : FVec Ideal S4x256x1024 .bf16 :=
  truncf .bf16 (concatenate S4x256x1024 0 [⟨S1x256x1024, b0⟩, ⟨S1x256x1024, b1⟩, ⟨S1x256x1024, b2⟩, ⟨S1x256x1024, b3⟩]
    concatenates_S1x256x1024_S1x256x1024_S1x256x1024_S1x256x1024_S4x256x1024_d0) bitsLt_bf16_f32

/-- The stacked weights are the four branches' weights, one above the other. -/
theorem stack_eq : V m c main_v5 = stack (V m c main_v0) (V m c main_v1) (V m c main_v2) (V m c main_v3) := by
  rw [V_split m c main_v0, V_split m c main_v1, V_split m c main_v2, V_split m c main_v3, V_split m c main_v5]
  generalize StableHlo.after (hostOps0.take 4) (fun b => m (c, b)) = W
  unfold hostOps0
  simp only [List.drop_succ_cons, List.drop_zero]
  after_results
  rfl

/-- The first branch's weights. -/
theorem w0_read (t : Fin cfg0.N) (k : Fin 256) (d : Fin 1024) :
    (iblk m c 6 t : Vec Ideal S4x256x1024 .bf16) (ix3 0 k d) = m ((c : Thread nD τ).loc main_arg6) (ix2 k d) := by
  refine (w_read m c t 0 k d).trans ?_
  rw [stack_eq]
  refine Eq.trans (b := (V m c main_v0 : Vec Ideal S1x256x1024 .f32) (ix3 0 k d)) (by pointwise [stack]) ?_
  entry_read
  pointwise

/-- The second branch's weights. -/
theorem w1_read (t : Fin cfg0.N) (k : Fin 256) (d : Fin 1024) :
    (iblk m c 6 t : Vec Ideal S4x256x1024 .bf16) (ix3 1 k d) = m ((c : Thread nD τ).loc main_arg7) (ix2 k d) := by
  refine (w_read m c t 1 k d).trans ?_
  rw [stack_eq]
  refine Eq.trans (b := (V m c main_v1 : Vec Ideal S1x256x1024 .f32) (ix3 0 k d)) (by pointwise [stack]) ?_
  entry_read
  pointwise

/-- The third branch's weights. -/
theorem w2_read (t : Fin cfg0.N) (k : Fin 256) (d : Fin 1024) :
    (iblk m c 6 t : Vec Ideal S4x256x1024 .bf16) (ix3 2 k d) = m ((c : Thread nD τ).loc main_arg8) (ix2 k d) := by
  refine (w_read m c t 2 k d).trans ?_
  rw [stack_eq]
  refine Eq.trans (b := (V m c main_v2 : Vec Ideal S1x256x1024 .f32) (ix3 0 k d)) (by pointwise [stack]) ?_
  entry_read
  pointwise

/-- The fourth branch's weights. -/
theorem w3_read (t : Fin cfg0.N) (k : Fin 256) (d : Fin 1024) :
    (iblk m c 6 t : Vec Ideal S4x256x1024 .bf16) (ix3 3 k d) = m ((c : Thread nD τ).loc main_arg9) (ix2 k d) := by
  refine (w_read m c t 3 k d).trans ?_
  rw [stack_eq]
  refine Eq.trans (b := (V m c main_v3 : Vec Ideal S1x256x1024 .f32) (ix3 0 k d)) (by pointwise [stack]) ?_
  entry_read
  pointwise

/-- The output weights as a grid point reads them. -/
theorem wo_read (t : Fin cfg0.N) (d e : Fin 1024) :
    (iblk m c 7 t : Vec Ideal S1024x1024 .bf16) (ix2 d e) = m ((c : Thread nD τ).loc main_arg10) (ix2 d e) := by
  refine Eq.trans (b := (V m c main_v6 : Vec Ideal S1024x1024 .bf16) (ix2 d e)) (by blk_ext [iblk, idx t]) ?_
  entry_read
  pointwise

/-- All merged rows, from the four branches, the projections whose first 4096 columns are the gates, the rows added to, and the
    weights. -/
def outs (y0 y1 y2 y3 : Vec Ideal S16384x256 .f32) (p : Vec Ideal S16384x7680 .f32) (x : Vec Ideal S16384x1024 .f32)
    (w0 w1 w2 w3 : Vec Ideal S256x1024 .f32) (wo : Vec Ideal S1024x1024 .f32) : Vec Ideal S16384x1024 .f32 :=
  fun i => merge (fun k => p (ix2 (i 0) ⟨k.val, by omega⟩)) (fun k => x (ix2 (i 0) k)) (fun k => y0 (ix2 (i 0) k)) (fun k => y1 (ix2 (i 0) k))
    (fun k => y2 (ix2 (i 0) k)) (fun k => y3 (ix2 (i 0) k)) (fun k d => w0 (ix2 k d)) (fun k d => w1 (ix2 k d)) (fun k d => w2 (ix2 k d))
    (fun k d => w3 (ix2 k d)) (fun d e => wo (ix2 d e)) (i 1)

/-- The merged rows of the program's arguments. -/
abbrev outsOf : Vec Ideal S16384x1024 .f32 :=
  outs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- A grid point's rows are those of the program's arguments. -/
theorem out_read (t : Fin cfg0.N) (r : Fin 256) (j : Fin 1024) : outsAt0 m c t (ix2 r j) = outsOf m c (ix2 (row t r) j) := by
  rw [out_apply]
  simp only [p_read, x_read, y0_read, y1_read, y2_read, y3_read, w0_read, w1_read, w2_read, w3_read, wo_read]
  rfl

/-- The result array after the run. -/
theorem arr8 : (dats m 0 c).arrAt 8 cfg0.N = outsOf m c := by
  refine (dats m 0 c).arrAt_eq_of_covers 8 _ (by decide +kernel) fun t hf y => ?_
  blk_simp
  rw [after0_8]
  idx_vars y
  refine (out_read m c t y0 y1).trans ?_
  blk_ext [idx t, row]

end Cert.Merge

end
-- ==== Proof.Merge.Reference.lean ====
/-
  The reference of the merge, read at an index.
-/
module

public import proofs.«01_k».proof.Proof.Merge.Kernel
public import proofs.«01_k».proof.Proof.Gen.Reference4Ideal.Read

@[expose] public section

set_option maxRecDepth 16384

noncomputable section

namespace Cert.Merge

open Cert.Reference4Ideal Cert.Reference4Ideal.Gen Cert.Reference4Ideal.Read Idealize.ShloMosaic Idealize.ShloMosaic.TcCoe
open scoped BigOperators

variable (x0 x1 x2 x3 : (⟨Cert.Reference4Ideal.S16384x256, .f32⟩ : BufTy).Contents (Elt Ideal))
  (x4 : (⟨Cert.Reference4Ideal.S16384x7680, .f32⟩ : BufTy).Contents (Elt Ideal)) (x5 : (⟨Cert.Reference4Ideal.S16384x1024, .f32⟩ : BufTy).Contents (Elt Ideal))
  (x6 x7 x8 x9 : (⟨Cert.Reference4Ideal.S256x1024, .f32⟩ : BufTy).Contents (Elt Ideal))
  (x10 : (⟨Cert.Reference4Ideal.S1024x1024, .f32⟩ : BufTy).Contents (Elt Ideal))

/-- The gates. -/
theorem gate_read (r : Fin 16384) (b : Fin 4) (d : Fin 1024) :
    val_main_v7 (F := Ideal) x4 (ix3 r b d) = Ideal.logistic (x4 (ix2 r ⟨(gate b d).val, by omega⟩)) := by
  pointwise [val_main_v7, val_main_v6, val_main_v5, val_main_v4, val_main_v3, val_main_v2, val_main_v1, val_main_v0, val_main_cst, val_main_cst_0]
  rfl

/-- The result. -/
theorem out0_read : val_main_v28 (F := Ideal) x0 x1 x2 x3 x4 x5 x6 x7 x8 x9 x10 = outs x0 x1 x2 x3 x4 x5 x6 x7 x8 x9 x10 := by
  funext i
  idx_vars i
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8]
  simp only [gate_read]
  rfl

end Cert.Merge

end
-- ==== Proof.MergeTail.Kernel.lean ====
/-
  The merge kernel on the 1152 rows of meta tokens and sample: each grid point writes 384 rows of the result, and the three points fill the array.
-/
module

public import proofs.«01_k».proof.Proof.Merge.Row
public import proofs.«01_k».proof.Proof.HostLine
public import proofs.«01_k».proof.Proof.Gen.Kernel9Ideal.Value
public import Idealize.ShloMosaic.Lib.Pipeline.ValueKit
public import Idealize.ShloMosaic.Lib.Claim

@[expose] public section

set_option maxRecDepth 16384

noncomputable section

namespace Cert.MergeTail

open Cert.Kernel9Ideal Cert.Kernel9Ideal.Gen Idealize.ShloMosaic Idealize.ShloMosaic.TcCoe
open Cert.Merge
open Idealize.ShloMosaic.Pipeline (Dat)
open scoped BigOperators

variable (m : (ℓ : Loc nD τ sig) → Buf (Elt Ideal) ℓ) (c : Dev nD)

/-- The rows that a grid point writes, from what its blocks hold. -/
theorem out_apply (t : Fin cfg0.N) (r : Fin 384) (j : Fin 1024) :
    outsAt0 m c t (ix2 r j) = merge (fun k => X0_4 m c t (ix2 r k)) (fun k => (iblk m c 5 t : Vec Ideal S384x1024 .f32) (ix2 r k))
      (fun k => (iblk m c 0 t : Vec Ideal S384x256 .f32) (ix2 r k)) (fun k => (iblk m c 1 t : Vec Ideal S384x256 .f32) (ix2 r k))
      (fun k => (iblk m c 2 t : Vec Ideal S384x256 .f32) (ix2 r k)) (fun k => (iblk m c 3 t : Vec Ideal S384x256 .f32) (ix2 r k))
      (fun k d => (iblk m c 6 t : Vec Ideal S4x256x1024 .bf16) (ix3 0 k d)) (fun k d => (iblk m c 6 t : Vec Ideal S4x256x1024 .bf16) (ix3 1 k d))
      (fun k d => (iblk m c 6 t : Vec Ideal S4x256x1024 .bf16) (ix3 2 k d)) (fun k d => (iblk m c 6 t : Vec Ideal S4x256x1024 .bf16) (ix3 3 k d))
      (fun d e => (iblk m c 7 t : Vec Ideal S1024x1024 .bf16) (ix2 d e)) j := by
  unfold outsAt0
  generalize (X0_4 m c t : Vec Ideal S384x4096 .f32) = p
  generalize (iblk m c 5 t : Vec Ideal S384x1024 .f32) = x
  generalize (iblk m c 0 t : Vec Ideal S384x256 .f32) = y0
  generalize (iblk m c 1 t : Vec Ideal S384x256 .f32) = y1
  generalize (iblk m c 2 t : Vec Ideal S384x256 .f32) = y2
  generalize (iblk m c 3 t : Vec Ideal S384x256 .f32) = y3
  generalize (iblk m c 6 t : Vec Ideal S4x256x1024 .bf16) = w
  generalize (iblk m c 7 t : Vec Ideal S1024x1024 .bf16) = wo
  frame_out
  pointwise [k0_pay1, k0_pay2, k0_pay3, k0_pay4]
  have key : ∀ (b : Fin 4) (d : Fin 1024) (i : Fin 4096) (y : Fin 256 → EReal) (u : Fin 256 → Fin 1024 → EReal), i.val = b.val * 1024 + d.val →
      Ideal.logistic (p (ix2 r i)) * ∑ k, y k * u k d = branch (fun k => p (ix2 r k)) b y u d := by
    intro b d i y u h
    rw [show i = gate b d from Fin.ext h]
    rfl
  unfold merge
  refine congrArg₂ (· + ·) rfl (Finset.sum_congr rfl fun d _ => congrArg (· * wo (ix2 d j)) ?_)
  refine congrArg₂ (· + ·) (congrArg₂ (· + ·) (congrArg₂ (· + ·) ?_ ?_) ?_) ?_
  · exact key 0 d _ (fun k => y0 (ix2 r k)) (fun k d => w (ix3 0 k d)) (by show d.val = 0 * 1024 + d.val; omega)
  · exact key 1 d _ (fun k => y1 (ix2 r k)) (fun k d => w (ix3 1 k d)) (by show 1024 + d.val = 1 * 1024 + d.val; omega)
  · exact key 2 d _ (fun k => y2 (ix2 r k)) (fun k d => w (ix3 2 k d)) (by show 2048 + d.val = 2 * 1024 + d.val; omega)
  · exact key 3 d _ (fun k => y3 (ix2 r k)) (fun k d => w (ix3 3 k d)) (by show 3072 + d.val = 3 * 1024 + d.val; omega)

/-- The block that each window takes at grid point `t`. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0, 0]
    ∧ win0_7.index t = ![0, 0] ∧ win0_8.index t = ![t.val, 0] := by
  decide +kernel

/-- Row number `r` of grid point `t`. -/
def row (t : Fin cfg0.N) (r : Fin 384) : Fin 1152 := ⟨t.val * 384 + r.val, by have : t.val < 3 := t.isLt; omega⟩

/-- The gates that a grid point reads: the first 4096 columns of its rows of the projections. -/
theorem p_read (t : Fin cfg0.N) (r : Fin 384) (k : Fin 4096) :
    (X0_4 m c t : Vec Ideal S384x4096 .f32) (ix2 r k) = m ((c : Thread nD τ).loc main_arg4) (ix2 (row t r) ⟨k.val, by omega⟩) := by
  unfold X0_4 Pipeline.Window.fill
  rw [dif_pos (moved0_4 t _)]
  blk_ext [iblk, V_main_arg4, idx t, row]

/-- The rows of the first branch that a grid point reads. -/
theorem y0_read (t : Fin cfg0.N) (r : Fin 384) (k : Fin 256) :
    (iblk m c 0 t : Vec Ideal S384x256 .f32) (ix2 r k) = m ((c : Thread nD τ).loc main_arg0) (ix2 (row t r) k) := by
  blk_ext [iblk, V_main_arg0, idx t, row]

/-- The rows of the second branch that a grid point reads. -/
theorem y1_read (t : Fin cfg0.N) (r : Fin 384) (k : Fin 256) :
    (iblk m c 1 t : Vec Ideal S384x256 .f32) (ix2 r k) = m ((c : Thread nD τ).loc main_arg1) (ix2 (row t r) k) := by
  blk_ext [iblk, V_main_arg1, idx t, row]

/-- The rows of the third branch that a grid point reads. -/
theorem y2_read (t : Fin cfg0.N) (r : Fin 384) (k : Fin 256) :
    (iblk m c 2 t : Vec Ideal S384x256 .f32) (ix2 r k) = m ((c : Thread nD τ).loc main_arg2) (ix2 (row t r) k) := by
  blk_ext [iblk, V_main_arg2, idx t, row]

/-- The rows of the fourth branch that a grid point reads. -/
theorem y3_read (t : Fin cfg0.N) (r : Fin 384) (k : Fin 256) :
    (iblk m c 3 t : Vec Ideal S384x256 .f32) (ix2 r k) = m ((c : Thread nD τ).loc main_arg3) (ix2 (row t r) k) := by
  blk_ext [iblk, V_main_arg3, idx t, row]

/-- The rows that a grid point adds to. -/
theorem x_read (t : Fin cfg0.N) (r : Fin 384) (k : Fin 1024) :
    (iblk m c 5 t : Vec Ideal S384x1024 .f32) (ix2 r k) = m ((c : Thread nD τ).loc main_arg5) (ix2 (row t r) k) := by
  blk_ext [iblk, V_main_arg5, idx t, row]

/-- The stacked weights as a grid point reads them. -/
theorem w_read (t : Fin cfg0.N) (b : Fin 4) (k : Fin 256) (d : Fin 1024) :
    (iblk m c 6 t : Vec Ideal S4x256x1024 .bf16) (ix3 b k d) = (V m c main_v5 : Vec Ideal S4x256x1024 .bf16) (ix3 b k d) := by
  blk_ext [iblk, idx t]

/-- What the host line leaves, in two parts. -/
theorem V_split (b : Ref sig .tc) :
    V m c b = StableHlo.after (hostOps0.drop 4) (StableHlo.after (hostOps0.take 4) fun b => m (c, b)) b := by
  exact congrFun (HostLine.after_split 4 hostOps0 _) _

/-- Four arrays, one above the other. -/
def stack (b0 b1 b2 b3 : FVec Ideal S1x256x1024 .f32) : FVec Ideal S4x256x1024 .bf16 :=
  truncf .bf16 (concatenate S4x256x1024 0 [⟨S1x256x1024, b0⟩, ⟨S1x256x1024, b1⟩, ⟨S1x256x1024, b2⟩, ⟨S1x256x1024, b3⟩]
    concatenates_S1x256x1024_S1x256x1024_S1x256x1024_S1x256x1024_S4x256x1024_d0) bitsLt_bf16_f32

/-- The stacked weights are the four branches' weights, one above the other. -/
theorem stack_eq : V m c main_v5 = stack (V m c main_v0) (V m c main_v1) (V m c main_v2) (V m c main_v3) := by
  rw [V_split m c main_v0, V_split m c main_v1, V_split m c main_v2, V_split m c main_v3, V_split m c main_v5]
  generalize StableHlo.after (hostOps0.take 4) (fun b => m (c, b)) = W
  unfold hostOps0
  simp only [List.drop_succ_cons, List.drop_zero]
  after_results
  rfl

/-- The first branch's weights. -/
theorem w0_read (t : Fin cfg0.N) (k : Fin 256) (d : Fin 1024) :
    (iblk m c 6 t : Vec Ideal S4x256x1024 .bf16) (ix3 0 k d) = m ((c : Thread nD τ).loc main_arg6) (ix2 k d) := by
  refine (w_read m c t 0 k d).trans ?_
  rw [stack_eq]
  refine Eq.trans (b := (V m c main_v0 : Vec Ideal S1x256x1024 .f32) (ix3 0 k d)) (by pointwise [stack]) ?_
  entry_read
  pointwise

/-- The second branch's weights. -/
theorem w1_read (t : Fin cfg0.N) (k : Fin 256) (d : Fin 1024) :
    (iblk m c 6 t : Vec Ideal S4x256x1024 .bf16) (ix3 1 k d) = m ((c : Thread nD τ).loc main_arg7) (ix2 k d) := by
  refine (w_read m c t 1 k d).trans ?_
  rw [stack_eq]
  refine Eq.trans (b := (V m c main_v1 : Vec Ideal S1x256x1024 .f32) (ix3 0 k d)) (by pointwise [stack]) ?_
  entry_read
  pointwise

/-- The third branch's weights. -/
theorem w2_read (t : Fin cfg0.N) (k : Fin 256) (d : Fin 1024) :
    (iblk m c 6 t : Vec Ideal S4x256x1024 .bf16) (ix3 2 k d) = m ((c : Thread nD τ).loc main_arg8) (ix2 k d) := by
  refine (w_read m c t 2 k d).trans ?_
  rw [stack_eq]
  refine Eq.trans (b := (V m c main_v2 : Vec Ideal S1x256x1024 .f32) (ix3 0 k d)) (by pointwise [stack]) ?_
  entry_read
  pointwise

/-- The fourth branch's weights. -/
theorem w3_read (t : Fin cfg0.N) (k : Fin 256) (d : Fin 1024) :
    (iblk m c 6 t : Vec Ideal S4x256x1024 .bf16) (ix3 3 k d) = m ((c : Thread nD τ).loc main_arg9) (ix2 k d) := by
  refine (w_read m c t 3 k d).trans ?_
  rw [stack_eq]
  refine Eq.trans (b := (V m c main_v3 : Vec Ideal S1x256x1024 .f32) (ix3 0 k d)) (by pointwise [stack]) ?_
  entry_read
  pointwise

/-- The output weights as a grid point reads them. -/
theorem wo_read (t : Fin cfg0.N) (d e : Fin 1024) :
    (iblk m c 7 t : Vec Ideal S1024x1024 .bf16) (ix2 d e) = m ((c : Thread nD τ).loc main_arg10) (ix2 d e) := by
  refine Eq.trans (b := (V m c main_v6 : Vec Ideal S1024x1024 .bf16) (ix2 d e)) (by blk_ext [iblk, idx t]) ?_
  entry_read
  pointwise

/-- All merged rows, from the four branches, the projections whose first 4096 columns are the gates, the rows added to, and the
    weights. -/
def outs (y0 y1 y2 y3 : Vec Ideal S1152x256 .f32) (p : Vec Ideal S1152x7680 .f32) (x : Vec Ideal S1152x1024 .f32)
    (w0 w1 w2 w3 : Vec Ideal S256x1024 .f32) (wo : Vec Ideal S1024x1024 .f32) : Vec Ideal S1152x1024 .f32 :=
  fun i => merge (fun k => p (ix2 (i 0) ⟨k.val, by omega⟩)) (fun k => x (ix2 (i 0) k)) (fun k => y0 (ix2 (i 0) k)) (fun k => y1 (ix2 (i 0) k))
    (fun k => y2 (ix2 (i 0) k)) (fun k => y3 (ix2 (i 0) k)) (fun k d => w0 (ix2 k d)) (fun k d => w1 (ix2 k d)) (fun k d => w2 (ix2 k d))
    (fun k d => w3 (ix2 k d)) (fun d e => wo (ix2 d e)) (i 1)

/-- The merged rows of the program's arguments. -/
abbrev outsOf : Vec Ideal S1152x1024 .f32 :=
  outs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- A grid point's rows are those of the program's arguments. -/
theorem out_read (t : Fin cfg0.N) (r : Fin 384) (j : Fin 1024) : outsAt0 m c t (ix2 r j) = outsOf m c (ix2 (row t r) j) := by
  rw [out_apply]
  simp only [p_read, x_read, y0_read, y1_read, y2_read, y3_read, w0_read, w1_read, w2_read, w3_read, wo_read]
  rfl

/-- The result array after the run. -/
theorem arr8 : (dats m 0 c).arrAt 8 cfg0.N = outsOf m c := by
  refine (dats m 0 c).arrAt_eq_of_covers 8 _ (by decide +kernel) fun t hf y => ?_
  blk_simp
  rw [after0_8]
  idx_vars y
  refine (out_read m c t y0 y1).trans ?_
  blk_ext [idx t, row]

end Cert.MergeTail

end
-- ==== Proof.MergeTail.Reference.lean ====
/-
  The reference of the merge on the 1152 other rows, read at an index.
-/
module

public import proofs.«01_k».proof.Proof.MergeTail.Kernel
public import proofs.«01_k».proof.Proof.Gen.Reference9Ideal.Read

@[expose] public section

set_option maxRecDepth 16384

noncomputable section

namespace Cert.MergeTail

open Cert.Reference9Ideal Cert.Reference9Ideal.Gen Cert.Reference9Ideal.Read Idealize.ShloMosaic Idealize.ShloMosaic.TcCoe
open Cert.Merge
open scoped BigOperators

variable (x0 x1 x2 x3 : (⟨Cert.Reference9Ideal.S1152x256, .f32⟩ : BufTy).Contents (Elt Ideal))
  (x4 : (⟨Cert.Reference9Ideal.S1152x7680, .f32⟩ : BufTy).Contents (Elt Ideal)) (x5 : (⟨Cert.Reference9Ideal.S1152x1024, .f32⟩ : BufTy).Contents (Elt Ideal))
  (x6 x7 x8 x9 : (⟨Cert.Reference9Ideal.S256x1024, .f32⟩ : BufTy).Contents (Elt Ideal))
  (x10 : (⟨Cert.Reference9Ideal.S1024x1024, .f32⟩ : BufTy).Contents (Elt Ideal))

/-- The gates. -/
theorem gate_read (r : Fin 1152) (b : Fin 4) (d : Fin 1024) :
    val_main_v7 (F := Ideal) x4 (ix3 r b d) = Ideal.logistic (x4 (ix2 r ⟨(gate b d).val, by omega⟩)) := by
  pointwise [val_main_v7, val_main_v6, val_main_v5, val_main_v4, val_main_v3, val_main_v2, val_main_v1, val_main_v0, val_main_cst, val_main_cst_0]
  rfl

/-- The result. -/
theorem out0_read : val_main_v28 (F := Ideal) x0 x1 x2 x3 x4 x5 x6 x7 x8 x9 x10 = outs x0 x1 x2 x3 x4 x5 x6 x7 x8 x9 x10 := by
  funext i
  idx_vars i
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8]
  simp only [gate_read]
  rfl

end Cert.MergeTail

end
-- ==== Proof.ProjTail.Kernel.lean ====
/-
  The in-projection kernel on the 1152 rows of meta tokens and sample: each grid point writes 384 rows of 1536 packed columns, and the 15 points fill the array.
-/
module

public import proofs.«01_k».proof.Proof.Mlp.Row
public import proofs.«01_k».proof.Proof.Proj.Pack
public import proofs.«01_k».proof.Proof.HostLine
public import proofs.«01_k».proof.Proof.Gen.Kernel8Ideal.Value
public import Idealize.ShloMosaic.Lib.Pipeline.ValueKit
public import Idealize.ShloMosaic.Lib.Claim

@[expose] public section

set_option maxRecDepth 16384

noncomputable section

namespace Cert.ProjTail

open Cert.Kernel8Ideal Cert.Kernel8Ideal.Gen Idealize.ShloMosaic Idealize.ShloMosaic.TcCoe
open Cert.Proj
open Idealize.ShloMosaic.Pipeline (Dat)
open Cert.Mlp (norm)
open scoped BigOperators

theorem hz : (![0, 0] : Fin 2 → ℕ) = fun _ => 0 := by decide

/-- The block that a grid point writes, from the blocks it reads. -/
theorem out4_apply (x : Vec Ideal S384x1024 .f32) (g : Vec Ideal S1x1024 .f32) (w : Vec Ideal S1024x1536 .bf16) (b : Vec Ideal S1x1536 .f32)
    (r : Fin 384) (j : Fin 1536) :
    out0_4 x g w b (ix2 r j) = ∑ k, norm (fun k => x (ix2 r k)) (fun k => g (ix2 0 k)) k * w (ix2 k j) + b (ix2 0 j) := by
  unfold out0_4
  rw [View.canon_unit_zero (by decide)]
  rw [View.ld_unit_zero hz _ x, View.ld_unit_zero hz _ g, View.ld_unit_zero hz _ w, View.ld_unit_zero hz _ b]
  pointwise [k0_pay1]
  rfl

variable (m : (ℓ : Loc nD τ sig) → Buf (Elt Ideal) ℓ) (c : Dev nD)

/-! ## What the host line leaves -/

/-- Row `k` of the weights with the bias below them as row 1024. -/
def wrow (k : Fin 1025) (s : Fin 7516) : EReal :=
  if h : k.val < 1024 then (m ((c : Thread nD τ).loc main_arg2) : Vec Ideal S1024x7516 .f32) (ix2 ⟨k.val, h⟩ s)
  else (m ((c : Thread nD τ).loc main_arg3) : Vec Ideal S7516 .f32) (ix1 s)

/-- The 4096 columns from 3420 on. -/
theorem v2_read (r : Fin 1025) (k : Fin 4096) : (V m c main_v2 : Vec Ideal S1025x4096 .f32) (ix2 r k) = ext (wrow m c r) (3420 + k.val) := by
  rw [ext_lt _ _ (by omega)]
  entry_read
  pointwise [wrow]

/-- The 512 columns from 2904 on. -/
theorem v3_read (r : Fin 1025) (k : Fin 512) : (V m c main_v3 : Vec Ideal S1025x512 .f32) (ix2 r k) = ext (wrow m c r) (2904 + k.val) := by
  rw [ext_lt _ _ (by omega)]
  entry_read
  pointwise [wrow]

/-- The 256 columns from 0 on. -/
theorem v4_read (r : Fin 1025) (k : Fin 256) : (V m c main_v4 : Vec Ideal S1025x256 .f32) (ix2 r k) = ext (wrow m c r) (0 + k.val) := by
  rw [ext_lt _ _ (by omega)]
  entry_read
  pointwise [wrow]

/-- The 256 columns from 256 on. -/
theorem v5_read (r : Fin 1025) (k : Fin 256) : (V m c main_v5 : Vec Ideal S1025x256 .f32) (ix2 r k) = ext (wrow m c r) (256 + k.val) := by
  rw [ext_lt _ _ (by omega)]
  entry_read
  pointwise [wrow]

/-- The 256 columns from 512 on. -/
theorem v6_read (r : Fin 1025) (k : Fin 256) : (V m c main_v6 : Vec Ideal S1025x256 .f32) (ix2 r k) = ext (wrow m c r) (512 + k.val) := by
  rw [ext_lt _ _ (by omega)]
  entry_read
  pointwise [wrow]

/-- The 256 columns from 1556 on. -/
theorem v7_read (r : Fin 1025) (k : Fin 256) : (V m c main_v7 : Vec Ideal S1025x256 .f32) (ix2 r k) = ext (wrow m c r) (1556 + k.val) := by
  rw [ext_lt _ _ (by omega)]
  entry_read
  pointwise [wrow]

/-- The 256 columns from 1812 on. -/
theorem v8_read (r : Fin 1025) (k : Fin 256) : (V m c main_v8 : Vec Ideal S1025x256 .f32) (ix2 r k) = ext (wrow m c r) (1812 + k.val) := by
  rw [ext_lt _ _ (by omega)]
  entry_read
  pointwise [wrow]

/-- The 256 columns from 2068 on. -/
theorem v9_read (r : Fin 1025) (k : Fin 256) : (V m c main_v9 : Vec Ideal S1025x256 .f32) (ix2 r k) = ext (wrow m c r) (2068 + k.val) := by
  rw [ext_lt _ _ (by omega)]
  entry_read
  pointwise [wrow]

/-- The 256 columns from 2324 on. -/
theorem v10_read (r : Fin 1025) (k : Fin 256) : (V m c main_v10 : Vec Ideal S1025x256 .f32) (ix2 r k) = ext (wrow m c r) (2324 + k.val) := by
  rw [ext_lt _ _ (by omega)]
  entry_read
  pointwise [wrow]

/-- The 256 columns from 2648 on. -/
theorem v11_read (r : Fin 1025) (k : Fin 256) : (V m c main_v11 : Vec Ideal S1025x256 .f32) (ix2 r k) = ext (wrow m c r) (2648 + k.val) := by
  rw [ext_lt _ _ (by omega)]
  entry_read
  pointwise [wrow]

/-- The 256 columns from 1028 on. -/
theorem v12_read (r : Fin 1025) (k : Fin 256) : (V m c main_v12 : Vec Ideal S1025x256 .f32) (ix2 r k) = ext (wrow m c r) (1028 + k.val) := by
  rw [ext_lt _ _ (by omega)]
  entry_read
  pointwise [wrow]

/-- The 256 columns from 1300 on. -/
theorem v13_read (r : Fin 1025) (k : Fin 256) : (V m c main_v13 : Vec Ideal S1025x256 .f32) (ix2 r k) = ext (wrow m c r) (1300 + k.val) := by
  rw [ext_lt _ _ (by omega)]
  entry_read
  pointwise [wrow]

/-- The 128 columns from 772 on. -/
theorem v14_read (r : Fin 1025) (k : Fin 128) : (V m c main_v14 : Vec Ideal S1025x128 .f32) (ix2 r k) = ext (wrow m c r) (772 + k.val) := by
  rw [ext_lt _ _ (by omega)]
  entry_read
  pointwise [wrow]

/-- The 128 columns from 900 on. -/
theorem v15_read (r : Fin 1025) (k : Fin 128) : (V m c main_v15 : Vec Ideal S1025x128 .f32) (ix2 r k) = ext (wrow m c r) (900 + k.val) := by
  rw [ext_lt _ _ (by omega)]
  entry_read
  pointwise [wrow]

/-- The 4 columns from 768 on. -/
theorem v16_read (r : Fin 1025) (k : Fin 4) : (V m c main_v16 : Vec Ideal S1025x4 .f32) (ix2 r k) = ext (wrow m c r) (768 + k.val) := by
  rw [ext_lt _ _ (by omega)]
  entry_read
  pointwise [wrow]

/-- The 4 columns from 2580 on. -/
theorem v17_read (r : Fin 1025) (k : Fin 4) : (V m c main_v17 : Vec Ideal S1025x4 .f32) (ix2 r k) = ext (wrow m c r) (2580 + k.val) := by
  rw [ext_lt _ _ (by omega)]
  entry_read
  pointwise [wrow]

/-- The 4 columns from 3416 on. -/
theorem v18_read (r : Fin 1025) (k : Fin 4) : (V m c main_v18 : Vec Ideal S1025x4 .f32) (ix2 r k) = ext (wrow m c r) (3416 + k.val) := by
  rw [ext_lt _ _ (by omega)]
  entry_read
  pointwise [wrow]

/-- Columns of zeros. -/
theorem v19_read (r : Fin 1025) (k : Fin 4) : (V m c main_v19 : Vec Ideal S1025x4 .f32) (ix2 r k) = ext (wrow m c r) (7516 + k.val) := by
  rw [ext_ge _ _ (by omega)]
  entry_read
  pointwise

/-- The 16 columns from 1284 on. -/
theorem v20_read (r : Fin 1025) (k : Fin 16) : (V m c main_v20 : Vec Ideal S1025x16 .f32) (ix2 r k) = ext (wrow m c r) (1284 + k.val) := by
  rw [ext_lt _ _ (by omega)]
  entry_read
  pointwise [wrow]

/-- Columns of zeros. -/
theorem v21_read (r : Fin 1025) (k : Fin 96) : (V m c main_v21 : Vec Ideal S1025x96 .f32) (ix2 r k) = ext (wrow m c r) (7516 + k.val) := by
  rw [ext_ge _ _ (by omega)]
  entry_read
  pointwise

/-- The 64 columns from 2584 on. -/
theorem v22_read (r : Fin 1025) (k : Fin 64) : (V m c main_v22 : Vec Ideal S1025x64 .f32) (ix2 r k) = ext (wrow m c r) (2584 + k.val) := by
  rw [ext_lt _ _ (by omega)]
  entry_read
  pointwise [wrow]

/-- Columns of zeros. -/
theorem v23_read (r : Fin 1025) (k : Fin 64) : (V m c main_v23 : Vec Ideal S1025x64 .f32) (ix2 r k) = ext (wrow m c r) (7516 + k.val) := by
  rw [ext_ge _ _ (by omega)]
  entry_read
  pointwise

/-- What the host line leaves, in two parts. -/
theorem V_split (b : Ref sig .tc) :
    V m c b = StableHlo.after (hostOps0.drop 27) (StableHlo.after (hostOps0.take 27) fun b => m (c, b)) b := by
  exact congrFun (HostLine.after_split 27 hostOps0 _) _

/-- The sixteen wide pieces, side by side. -/
def catWide (v2 : FVec Ideal S1025x4096 .f32) (v3 : FVec Ideal S1025x512 .f32) (v4 : FVec Ideal S1025x256 .f32) (v5 : FVec Ideal S1025x256 .f32) (v6 : FVec Ideal S1025x256 .f32) (v7 : FVec Ideal S1025x256 .f32) (v8 : FVec Ideal S1025x256 .f32) (v9 : FVec Ideal S1025x256 .f32) (v10 : FVec Ideal S1025x256 .f32) (v11 : FVec Ideal S1025x256 .f32) (v12 : FVec Ideal S1025x256 .f32) (v13 : FVec Ideal S1025x256 .f32) (v14 : FVec Ideal S1025x128 .f32) (v15 : FVec Ideal S1025x128 .f32) (v16 : FVec Ideal S1025x4 .f32) (v17 : FVec Ideal S1025x4 .f32) : FVec Ideal S1025x7432 .f32 :=
  concatenate S1025x7432 1 [⟨S1025x4096, v2⟩, ⟨S1025x512, v3⟩, ⟨S1025x256, v4⟩, ⟨S1025x256, v5⟩, ⟨S1025x256, v6⟩, ⟨S1025x256, v7⟩, ⟨S1025x256, v8⟩, ⟨S1025x256, v9⟩, ⟨S1025x256, v10⟩, ⟨S1025x256, v11⟩, ⟨S1025x256, v12⟩, ⟨S1025x256, v13⟩, ⟨S1025x128, v14⟩, ⟨S1025x128, v15⟩, ⟨S1025x4, v16⟩, ⟨S1025x4, v17⟩]
    concatenates_S1025x4096_S1025x512_S1025x256_S1025x256_S1025x256_S1025x256_S1025x256_S1025x256_S1025x256_S1025x256_S1025x256_S1025x256_S1025x128_S1025x128_S1025x4_S1025x4_S1025x7432_d1

/-- The six pieces of the last lanes, side by side. -/
def catLanes (v18 : FVec Ideal S1025x4 .f32) (v19 : FVec Ideal S1025x4 .f32) (v20 : FVec Ideal S1025x16 .f32) (v21 : FVec Ideal S1025x96 .f32) (v22 : FVec Ideal S1025x64 .f32) (v23 : FVec Ideal S1025x64 .f32) : FVec Ideal S1025x248 .f32 :=
  concatenate S1025x248 1 [⟨S1025x4, v18⟩, ⟨S1025x4, v19⟩, ⟨S1025x16, v20⟩, ⟨S1025x96, v21⟩, ⟨S1025x64, v22⟩, ⟨S1025x64, v23⟩]
    concatenates_S1025x4_S1025x4_S1025x16_S1025x96_S1025x64_S1025x64_S1025x248_d1

/-- The buffer of the wide pieces. -/
theorem v24_eq : V m c main_v24 = catWide (V m c main_v2) (V m c main_v3) (V m c main_v4) (V m c main_v5) (V m c main_v6) (V m c main_v7) (V m c main_v8) (V m c main_v9) (V m c main_v10) (V m c main_v11) (V m c main_v12) (V m c main_v13) (V m c main_v14) (V m c main_v15) (V m c main_v16) (V m c main_v17) := by
  rw [V_split m c main_v2, V_split m c main_v3, V_split m c main_v4, V_split m c main_v5, V_split m c main_v6, V_split m c main_v7, V_split m c main_v8, V_split m c main_v9, V_split m c main_v10, V_split m c main_v11, V_split m c main_v12, V_split m c main_v13, V_split m c main_v14, V_split m c main_v15, V_split m c main_v16, V_split m c main_v17, V_split m c main_v24]
  generalize StableHlo.after (hostOps0.take 27) (fun b => m (c, b)) = W
  unfold hostOps0
  simp only [List.drop_succ_cons, List.drop_zero]
  after_results
  rfl

/-- The buffer of the last lanes. -/
theorem v25_eq : V m c main_v25 = catLanes (V m c main_v18) (V m c main_v19) (V m c main_v20) (V m c main_v21) (V m c main_v22) (V m c main_v23) := by
  rw [V_split m c main_v18, V_split m c main_v19, V_split m c main_v20, V_split m c main_v21, V_split m c main_v22, V_split m c main_v23, V_split m c main_v25]
  generalize StableHlo.after (hostOps0.take 27) (fun b => m (c, b)) = W
  unfold hostOps0
  simp only [List.drop_succ_cons, List.drop_zero]
  after_results
  rfl

/-- The two side by side. -/
def catBoth (a : FVec Ideal S1025x7432 .f32) (b : FVec Ideal S1025x248 .f32) : FVec Ideal S1025x7680 .f32 :=
  concatenate S1025x7680 1 [⟨S1025x7432, a⟩, ⟨S1025x248, b⟩] concatenates_S1025x7432_S1025x248_S1025x7680_d1

/-- The weights of the call: the rows above the last. -/
theorem v28_eq : V m c main_v28 = truncf (F := Ideal) .bf16
    (extractStridedSlice S1024x7680 ![0, 0] (catBoth (V m c main_v24) (V m c main_v25)) slices_S1025x7680_S1024x7680_0_0) bitsLt_bf16_f32 := by
  rw [V_split m c main_v24, V_split m c main_v25, V_split m c main_v28]
  generalize StableHlo.after (hostOps0.take 27) (fun b => m (c, b)) = W
  unfold hostOps0
  simp only [List.drop_succ_cons, List.drop_zero]
  after_results
  rfl

/-- The bias of the call: the last row. -/
theorem v29_eq : V m c main_v29 =
    extractStridedSlice S1x7680 ![1024, 0] (catBoth (V m c main_v24) (V m c main_v25)) slices_S1025x7680_S1x7680_1024_0 := by
  rw [V_split m c main_v24, V_split m c main_v25, V_split m c main_v29]
  generalize StableHlo.after (hostOps0.take 27) (fun b => m (c, b)) = W
  unfold hostOps0
  simp only [List.drop_succ_cons, List.drop_zero]
  after_results
  rfl

/-- The norm's weight of the call. -/
theorem v30_eq : V m c main_v30 = broadcastInDim S1x1024 ![1] bcast_S1024_S1x1024_1 (V m c main_arg1) := by
  rw [V_split m c main_arg1, V_split m c main_v30]
  generalize StableHlo.after (hostOps0.take 27) (fun b => m (c, b)) = W
  unfold hostOps0
  simp only [List.drop_succ_cons, List.drop_zero]
  after_results

/-- The wide pieces, read. -/
theorem v24_read (r : Fin 1025) (y : Fin 7432) : (V m c main_v24 : Vec Ideal S1025x7432 .f32) (ix2 r y) = ext (wrow m c r) (src wide y.val) := by
  rw [v24_eq]
  refine (concatenate_cons_apply _ _ _ _ _ _ _).trans ?_
  exact cat_cons r y (ext (wrow m c r)) (v2_read m c r)
    (cat_cons r y (ext (wrow m c r)) (v3_read m c r)
    (cat_cons r y (ext (wrow m c r)) (v4_read m c r)
    (cat_cons r y (ext (wrow m c r)) (v5_read m c r)
    (cat_cons r y (ext (wrow m c r)) (v6_read m c r)
    (cat_cons r y (ext (wrow m c r)) (v7_read m c r)
    (cat_cons r y (ext (wrow m c r)) (v8_read m c r)
    (cat_cons r y (ext (wrow m c r)) (v9_read m c r)
    (cat_cons r y (ext (wrow m c r)) (v10_read m c r)
    (cat_cons r y (ext (wrow m c r)) (v11_read m c r)
    (cat_cons r y (ext (wrow m c r)) (v12_read m c r)
    (cat_cons r y (ext (wrow m c r)) (v13_read m c r)
    (cat_cons r y (ext (wrow m c r)) (v14_read m c r)
    (cat_cons r y (ext (wrow m c r)) (v15_read m c r)
    (cat_cons r y (ext (wrow m c r)) (v16_read m c r)
    (cat_one r y (ext (wrow m c r)) (v17_read m c r)))))))))))))))) _ _ _

/-- The last lanes, read. -/
theorem v25_read (r : Fin 1025) (y : Fin 248) : (V m c main_v25 : Vec Ideal S1025x248 .f32) (ix2 r y) = ext (wrow m c r) (src lanes y.val) := by
  rw [v25_eq]
  refine (concatenate_cons_apply _ _ _ _ _ _ _).trans ?_
  exact cat_cons r y (ext (wrow m c r)) (v18_read m c r)
    (cat_cons r y (ext (wrow m c r)) (v19_read m c r)
    (cat_cons r y (ext (wrow m c r)) (v20_read m c r)
    (cat_cons r y (ext (wrow m c r)) (v21_read m c r)
    (cat_cons r y (ext (wrow m c r)) (v22_read m c r)
    (cat_one r y (ext (wrow m c r)) (v23_read m c r)))))) _ _ _

/-- The packed columns, read. -/
theorem both_read (r : Fin 1025) (y : Fin 7680) :
    catBoth (V m c main_v24) (V m c main_v25) (ix2 r y) = ext (wrow m c r) (col y.val) := by
  pointwise [catBoth]
  unfold col
  split
  · exact v24_read m c r _
  · exact v25_read m c r _

/-! ## What a grid point reads -/

/-- A row above the last is a row of the weights. -/
theorem wrow_weight (k : Fin 1024) :
    wrow m c ⟨k.val, by omega⟩ = fun s => (m ((c : Thread nD τ).loc main_arg2) : Vec Ideal S1024x7516 .f32) (ix2 k s) := by
  funext s
  simp only [wrow, k.isLt, dite_true]

/-- The last row is the bias. -/
theorem wrow_bias : wrow m c ⟨1024, by omega⟩ = fun s => (m ((c : Thread nD τ).loc main_arg3) : Vec Ideal S7516 .f32) (ix1 s) := by
  funext s
  simp only [wrow, lt_irrefl, dite_false]

/-- The block that each window takes at grid point `t`. -/
theorem idx : ∀ t : Fin grid0.N, win0_0.index t = ![t.val % 3, 0] ∧ win0_1.index t = ![0, 0] ∧ win0_2.index t = ![0, t.val / 3]
    ∧ win0_3.index t = ![0, t.val / 3] ∧ win0_4.index t = ![t.val % 3, t.val / 3] := by
  decide +kernel

/-- Row number `r` of grid point `t`. -/
def row (t : Fin cfg0.N) (r : Fin 384) : Fin 1152 := ⟨t.val % 3 * 384 + r.val, by omega⟩

/-- Column number `j` of grid point `t`. -/
def lane (t : Fin cfg0.N) (j : Fin 1536) : Fin 7680 := ⟨t.val / 3 * 1536 + j.val, by have : t.val < 15 := t.isLt; omega⟩

/-- The rows that a grid point reads. -/
theorem x_read (t : Fin cfg0.N) (r : Fin 384) (k : Fin 1024) :
    (iblk m c 0 t : Vec Ideal S384x1024 .f32) (ix2 r k) = m ((c : Thread nD τ).loc main_arg0) (ix2 (row t r) k) := by
  blk_ext [iblk, V_main_arg0, idx t, row]

/-- The norm's weight as a grid point reads it. -/
theorem g_read (t : Fin cfg0.N) (k : Fin 1024) :
    (iblk m c 1 t : Vec Ideal S1x1024 .f32) (ix2 0 k) = m ((c : Thread nD τ).loc main_arg1) (ix1 k) := by
  refine Eq.trans (b := (V m c main_v30 : Vec Ideal S1x1024 .f32) (ix2 0 k)) (by blk_ext [iblk, idx t]) ?_
  rw [v30_eq, V_main_arg1]
  pointwise

/-- The weights as a grid point reads them. -/
theorem w_read (t : Fin cfg0.N) (k : Fin 1024) (j : Fin 1536) :
    (iblk m c 2 t : Vec Ideal S1024x1536 .bf16) (ix2 k j)
      = ext (fun s => (m ((c : Thread nD τ).loc main_arg2) : Vec Ideal S1024x7516 .f32) (ix2 k s)) (col (lane t j).val) := by
  refine Eq.trans (b := (V m c main_v28 : Vec Ideal S1024x7680 .bf16) (ix2 k (lane t j))) (by blk_ext [iblk, idx t, lane]) ?_
  rw [v28_eq]
  refine Eq.trans (b := catBoth (V m c main_v24) (V m c main_v25) (ix2 ⟨k.val, by omega⟩ (lane t j))) (by pointwise) ?_
  rw [both_read]
  rw [wrow_weight]

/-- The bias as a grid point reads it. -/
theorem b_read (t : Fin cfg0.N) (j : Fin 1536) :
    (iblk m c 3 t : Vec Ideal S1x1536 .f32) (ix2 0 j)
      = ext (fun s => (m ((c : Thread nD τ).loc main_arg3) : Vec Ideal S7516 .f32) (ix1 s)) (col (lane t j).val) := by
  refine Eq.trans (b := (V m c main_v29 : Vec Ideal S1x7680 .f32) (ix2 0 (lane t j))) (by blk_ext [iblk, idx t, lane]) ?_
  rw [v29_eq]
  refine Eq.trans (b := catBoth (V m c main_v24) (V m c main_v25) (ix2 ⟨1024, by omega⟩ (lane t j))) (by pointwise) ?_
  rw [both_read]
  rw [wrow_bias]

/-! ## The result -/

/-- A row of projections: the normed row times the weights, plus the bias. -/
def proj (x g : Fin 1024 → EReal) (w : Fin 1024 → Fin 7516 → EReal) (b : Fin 7516 → EReal) (s : Fin 7516) : EReal :=
  ∑ k, norm x g k * w k s + b s

/-- The packed projections of all rows. -/
def outs (x : Vec Ideal S1152x1024 .f32) (g : Vec Ideal S1024 .f32) (w : Vec Ideal S1024x7516 .f32) (b : Vec Ideal S7516 .f32) :
    Vec Ideal S1152x7680 .f32 :=
  fun i => ext (proj (fun k => x (ix2 (i 0) k)) (fun k => g (ix1 k)) (fun k s => w (ix2 k s)) (fun s => b (ix1 s))) (col (i 1).val)

/-- The packed projections of the program's arguments. -/
abbrev outsOf : Vec Ideal S1152x7680 .f32 :=
  outs (m ((c : Thread nD τ).loc main_arg0)) (m ((c : Thread nD τ).loc main_arg1)) (m ((c : Thread nD τ).loc main_arg2))
    (m ((c : Thread nD τ).loc main_arg3))

/-- A grid point's block is that of the program's arguments. -/
theorem out_read (t : Fin cfg0.N) (r : Fin 384) (j : Fin 1536) :
    out0_4 (iblk m c 0 t) (iblk m c 1 t) (iblk m c 2 t) (iblk m c 3 t) (ix2 r j) = outsOf m c (ix2 (row t r) (lane t j)) := by
  rw [out4_apply]
  simp only [x_read, g_read, w_read, b_read]
  exact ext_product _ _ _ _

/-- The result array after the run. -/
theorem arr4 : (dats m 0 c).arrAt 4 cfg0.N = outsOf m c := by
  refine (dats m 0 c).arrAt_eq_of_covers 4 _ (by decide +kernel) fun t hf y => ?_
  blk_simp
  rw [after0_4]
  idx_vars y
  refine (out_read m c t y0 y1).trans ?_
  blk_ext [idx t, row, lane]

end Cert.ProjTail

end
-- ==== Proof.ProjTail.Reference.lean ====
/-
  The reference of the in-projection of the 1152 other rows, read at an index.
-/
module

public import proofs.«01_k».proof.Proof.ProjTail.Kernel
public import proofs.«01_k».proof.Proof.Gen.Reference8Ideal.Read

@[expose] public section

set_option maxRecDepth 16384

noncomputable section

namespace Cert.ProjTail

open Cert.Reference8Ideal Cert.Reference8Ideal.Gen Cert.Reference8Ideal.Read Idealize.ShloMosaic Idealize.ShloMosaic.TcCoe
open Cert.Proj
open Cert.Mlp (norm)
open scoped BigOperators

variable (x0 : (⟨Cert.Reference8Ideal.S1152x1024, .f32⟩ : BufTy).Contents (Elt Ideal)) (x1 : (⟨Cert.Reference8Ideal.S1024, .f32⟩ : BufTy).Contents (Elt Ideal))
  (x2 : (⟨Cert.Reference8Ideal.S1024x7516, .f32⟩ : BufTy).Contents (Elt Ideal)) (x3 : (⟨Cert.Reference8Ideal.S7516, .f32⟩ : BufTy).Contents (Elt Ideal))

/-- The projections of row `r` in the order of the weights' columns. -/
abbrev prow (r : Fin 1152) : Fin 7516 → EReal :=
  proj (fun k => x0 (ix2 r k)) (fun k => x1 (ix1 k)) (fun k s => x2 (ix2 k s)) (fun s => x3 (ix1 s))

/-- The normed rows. -/
theorem norm_read (r : Fin 1152) (k : Fin 1024) :
    val_main_v12 (F := Ideal) x0 x1 (ix2 r k) = norm (fun k => x0 (ix2 r k)) (fun k => x1 (ix1 k)) k := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The projections. -/
theorem p_read (r : Fin 1152) (s : Fin 7516) : val_main_v16 (F := Ideal) x0 x1 x2 x3 (ix2 r s) = prow x0 x1 x2 x3 r s := by
  pointwise [val_main_v16, val_main_v15, val_main_v14, val_main_v13]
  simp only [norm_read]
  rfl

/-- The 4096 columns from 3420 on. -/
theorem r35_read (r : Fin 1152) (k : Fin 4096) : val_main_v35 (F := Ideal) x0 x1 x2 x3 (ix2 r k) = ext (prow x0 x1 x2 x3 r) (3420 + k.val) := by
  rw [ext_lt _ _ (by omega), ← p_read]
  pointwise [val_main_v35]

/-- The 512 columns from 2904 on. -/
theorem r33_read (r : Fin 1152) (k : Fin 512) : val_main_v33 (F := Ideal) x0 x1 x2 x3 (ix2 r k) = ext (prow x0 x1 x2 x3 r) (2904 + k.val) := by
  rw [ext_lt _ _ (by omega), ← p_read]
  pointwise [val_main_v33]

/-- The 256 columns from 0 on. -/
theorem r17_read (r : Fin 1152) (k : Fin 256) : val_main_v17 (F := Ideal) x0 x1 x2 x3 (ix2 r k) = ext (prow x0 x1 x2 x3 r) (0 + k.val) := by
  rw [ext_lt _ _ (by omega), ← p_read]
  pointwise [val_main_v17]

/-- The 256 columns from 256 on. -/
theorem r18_read (r : Fin 1152) (k : Fin 256) : val_main_v18 (F := Ideal) x0 x1 x2 x3 (ix2 r k) = ext (prow x0 x1 x2 x3 r) (256 + k.val) := by
  rw [ext_lt _ _ (by omega), ← p_read]
  pointwise [val_main_v18]

/-- The 256 columns from 512 on. -/
theorem r19_read (r : Fin 1152) (k : Fin 256) : val_main_v19 (F := Ideal) x0 x1 x2 x3 (ix2 r k) = ext (prow x0 x1 x2 x3 r) (512 + k.val) := by
  rw [ext_lt _ _ (by omega), ← p_read]
  pointwise [val_main_v19]

/-- The 256 columns from 1556 on. -/
theorem r26_read (r : Fin 1152) (k : Fin 256) : val_main_v26 (F := Ideal) x0 x1 x2 x3 (ix2 r k) = ext (prow x0 x1 x2 x3 r) (1556 + k.val) := by
  rw [ext_lt _ _ (by omega), ← p_read]
  pointwise [val_main_v26]

/-- The 256 columns from 1812 on. -/
theorem r27_read (r : Fin 1152) (k : Fin 256) : val_main_v27 (F := Ideal) x0 x1 x2 x3 (ix2 r k) = ext (prow x0 x1 x2 x3 r) (1812 + k.val) := by
  rw [ext_lt _ _ (by omega), ← p_read]
  pointwise [val_main_v27]

/-- The 256 columns from 2068 on. -/
theorem r28_read (r : Fin 1152) (k : Fin 256) : val_main_v28 (F := Ideal) x0 x1 x2 x3 (ix2 r k) = ext (prow x0 x1 x2 x3 r) (2068 + k.val) := by
  rw [ext_lt _ _ (by omega), ← p_read]
  pointwise [val_main_v28]

/-- The 256 columns from 2324 on. -/
theorem r29_read (r : Fin 1152) (k : Fin 256) : val_main_v29 (F := Ideal) x0 x1 x2 x3 (ix2 r k) = ext (prow x0 x1 x2 x3 r) (2324 + k.val) := by
  rw [ext_lt _ _ (by omega), ← p_read]
  pointwise [val_main_v29]

/-- The 256 columns from 2648 on. -/
theorem r32_read (r : Fin 1152) (k : Fin 256) : val_main_v32 (F := Ideal) x0 x1 x2 x3 (ix2 r k) = ext (prow x0 x1 x2 x3 r) (2648 + k.val) := by
  rw [ext_lt _ _ (by omega), ← p_read]
  pointwise [val_main_v32]

/-- The 256 columns from 1028 on. -/
theorem r23_read (r : Fin 1152) (k : Fin 256) : val_main_v23 (F := Ideal) x0 x1 x2 x3 (ix2 r k) = ext (prow x0 x1 x2 x3 r) (1028 + k.val) := by
  rw [ext_lt _ _ (by omega), ← p_read]
  pointwise [val_main_v23]

/-- The 256 columns from 1300 on. -/
theorem r25_read (r : Fin 1152) (k : Fin 256) : val_main_v25 (F := Ideal) x0 x1 x2 x3 (ix2 r k) = ext (prow x0 x1 x2 x3 r) (1300 + k.val) := by
  rw [ext_lt _ _ (by omega), ← p_read]
  pointwise [val_main_v25]

/-- The 128 columns from 772 on. -/
theorem r21_read (r : Fin 1152) (k : Fin 128) : val_main_v21 (F := Ideal) x0 x1 x2 x3 (ix2 r k) = ext (prow x0 x1 x2 x3 r) (772 + k.val) := by
  rw [ext_lt _ _ (by omega), ← p_read]
  pointwise [val_main_v21]

/-- The 128 columns from 900 on. -/
theorem r22_read (r : Fin 1152) (k : Fin 128) : val_main_v22 (F := Ideal) x0 x1 x2 x3 (ix2 r k) = ext (prow x0 x1 x2 x3 r) (900 + k.val) := by
  rw [ext_lt _ _ (by omega), ← p_read]
  pointwise [val_main_v22]

/-- The 4 columns from 768 on. -/
theorem r20_read (r : Fin 1152) (k : Fin 4) : val_main_v20 (F := Ideal) x0 x1 x2 x3 (ix2 r k) = ext (prow x0 x1 x2 x3 r) (768 + k.val) := by
  rw [ext_lt _ _ (by omega), ← p_read]
  pointwise [val_main_v20]

/-- The 4 columns from 2580 on. -/
theorem r30_read (r : Fin 1152) (k : Fin 4) : val_main_v30 (F := Ideal) x0 x1 x2 x3 (ix2 r k) = ext (prow x0 x1 x2 x3 r) (2580 + k.val) := by
  rw [ext_lt _ _ (by omega), ← p_read]
  pointwise [val_main_v30]

/-- The 4 columns from 3416 on. -/
theorem r34_read (r : Fin 1152) (k : Fin 4) : val_main_v34 (F := Ideal) x0 x1 x2 x3 (ix2 r k) = ext (prow x0 x1 x2 x3 r) (3416 + k.val) := by
  rw [ext_lt _ _ (by omega), ← p_read]
  pointwise [val_main_v34]

/-- Columns of zeros. -/
theorem r36_read (r : Fin 1152) (k : Fin 4) : val_main_v36 (F := Ideal) (ix2 r k) = ext (prow x0 x1 x2 x3 r) (7516 + k.val) := by
  rw [ext_ge _ _ (by omega)]
  pointwise [val_main_v36, val_main_cst_2]
  try simp [Ideal.ofBits, Ideal.ieee]

/-- The 16 columns from 1284 on. -/
theorem r24_read (r : Fin 1152) (k : Fin 16) : val_main_v24 (F := Ideal) x0 x1 x2 x3 (ix2 r k) = ext (prow x0 x1 x2 x3 r) (1284 + k.val) := by
  rw [ext_lt _ _ (by omega), ← p_read]
  pointwise [val_main_v24]

/-- Columns of zeros. -/
theorem r37_read (r : Fin 1152) (k : Fin 96) : val_main_v37 (F := Ideal) (ix2 r k) = ext (prow x0 x1 x2 x3 r) (7516 + k.val) := by
  rw [ext_ge _ _ (by omega)]
  pointwise [val_main_v37, val_main_cst_3]
  try simp [Ideal.ofBits, Ideal.ieee]

/-- The 64 columns from 2584 on. -/
theorem r31_read (r : Fin 1152) (k : Fin 64) : val_main_v31 (F := Ideal) x0 x1 x2 x3 (ix2 r k) = ext (prow x0 x1 x2 x3 r) (2584 + k.val) := by
  rw [ext_lt _ _ (by omega), ← p_read]
  pointwise [val_main_v31]

/-- Columns of zeros. -/
theorem r38_read (r : Fin 1152) (k : Fin 64) : val_main_v38 (F := Ideal) (ix2 r k) = ext (prow x0 x1 x2 x3 r) (7516 + k.val) := by
  rw [ext_ge _ _ (by omega)]
  pointwise [val_main_v38, val_main_cst_4]
  try simp [Ideal.ofBits, Ideal.ieee]

/-- The wide pieces. -/
theorem v39_read (r : Fin 1152) (y : Fin 7432) : val_main_v39 (F := Ideal) x0 x1 x2 x3 (ix2 r y) = ext (prow x0 x1 x2 x3 r) (src wide y.val) := by
  refine (concatenate_cons_apply _ _ _ _ _ _ _).trans ?_
  exact cat_cons r y (ext (prow x0 x1 x2 x3 r)) (r35_read x0 x1 x2 x3 r)
    (cat_cons r y (ext (prow x0 x1 x2 x3 r)) (r33_read x0 x1 x2 x3 r)
    (cat_cons r y (ext (prow x0 x1 x2 x3 r)) (r17_read x0 x1 x2 x3 r)
    (cat_cons r y (ext (prow x0 x1 x2 x3 r)) (r18_read x0 x1 x2 x3 r)
    (cat_cons r y (ext (prow x0 x1 x2 x3 r)) (r19_read x0 x1 x2 x3 r)
    (cat_cons r y (ext (prow x0 x1 x2 x3 r)) (r26_read x0 x1 x2 x3 r)
    (cat_cons r y (ext (prow x0 x1 x2 x3 r)) (r27_read x0 x1 x2 x3 r)
    (cat_cons r y (ext (prow x0 x1 x2 x3 r)) (r28_read x0 x1 x2 x3 r)
    (cat_cons r y (ext (prow x0 x1 x2 x3 r)) (r29_read x0 x1 x2 x3 r)
    (cat_cons r y (ext (prow x0 x1 x2 x3 r)) (r32_read x0 x1 x2 x3 r)
    (cat_cons r y (ext (prow x0 x1 x2 x3 r)) (r23_read x0 x1 x2 x3 r)
    (cat_cons r y (ext (prow x0 x1 x2 x3 r)) (r25_read x0 x1 x2 x3 r)
    (cat_cons r y (ext (prow x0 x1 x2 x3 r)) (r21_read x0 x1 x2 x3 r)
    (cat_cons r y (ext (prow x0 x1 x2 x3 r)) (r22_read x0 x1 x2 x3 r)
    (cat_cons r y (ext (prow x0 x1 x2 x3 r)) (r20_read x0 x1 x2 x3 r)
    (cat_one r y (ext (prow x0 x1 x2 x3 r)) (r30_read x0 x1 x2 x3 r)))))))))))))))) _ _ _

/-- The last lanes. -/
theorem v40_read (r : Fin 1152) (y : Fin 248) : val_main_v40 (F := Ideal) x0 x1 x2 x3 (ix2 r y) = ext (prow x0 x1 x2 x3 r) (src lanes y.val) := by
  refine (concatenate_cons_apply _ _ _ _ _ _ _).trans ?_
  exact cat_cons r y (ext (prow x0 x1 x2 x3 r)) (r34_read x0 x1 x2 x3 r)
    (cat_cons r y (ext (prow x0 x1 x2 x3 r)) (r36_read x0 x1 x2 x3 r)
    (cat_cons r y (ext (prow x0 x1 x2 x3 r)) (r24_read x0 x1 x2 x3 r)
    (cat_cons r y (ext (prow x0 x1 x2 x3 r)) (r37_read x0 x1 x2 x3 r)
    (cat_cons r y (ext (prow x0 x1 x2 x3 r)) (r31_read x0 x1 x2 x3 r)
    (cat_one r y (ext (prow x0 x1 x2 x3 r)) (r38_read x0 x1 x2 x3 r)))))) _ _ _

/-- The result. -/
theorem out0_read : val_main_v41 (F := Ideal) x0 x1 x2 x3 = outs x0 x1 x2 x3 := by
  funext i
  idx_vars i
  refine Eq.trans (b := ext (prow x0 x1 x2 x3 i0) (col i1.val)) ?_ rfl
  pointwise [val_main_v41]
  unfold col
  split
  · exact v39_read x0 x1 x2 x3 i0 _
  · exact v40_read x0 x1 x2 x3 i0 _

end Cert.ProjTail

end
-- ==== Proof.MlpTail.Kernel.lean ====
/-
  The feed-forward kernel on the 1152 rows of meta tokens and sample: each grid point writes 384 rows of the output and of its
  norm, and the 3 points fill the arrays.
-/
module

public import proofs.«01_k».proof.Proof.Mlp.Row
public import proofs.«01_k».proof.Proof.Gen.Kernel7Ideal.Value
public import Idealize.ShloMosaic.Lib.Pipeline.ValueKit
public import Idealize.ShloMosaic.Lib.Claim

@[expose] public section

set_option maxRecDepth 16384

noncomputable section

namespace Cert.MlpTail

open Cert.Kernel7Ideal Cert.Kernel7Ideal.Gen Idealize.ShloMosaic Idealize.ShloMosaic.TcCoe
open Idealize.ShloMosaic.Pipeline (Dat)
open Cert.Mlp (norm feat mlp l1024 sum_quarters)
open scoped BigOperators

theorem hz : (![0, 0] : Fin 2 → ℕ) = fun _ => 0 := by decide

/-- The normed rows of a block. -/
theorem norm_apply (x : Vec Ideal S384x1024 .f32) (g : Vec Ideal S1x1024 .f32) (r : Fin 384) (d : Fin 1024) :
    k0_pay1 x g (ix2 r d) = norm (fun k => x (ix2 r k)) (fun k => g (ix2 0 k)) d := by
  pointwise [k0_pay1]
  rfl

/-- The rows of the output that a grid point writes. -/
theorem out5_apply (x : Vec Ideal S384x1024 .f32) (g : Vec Ideal S1x1024 .f32) (wu : Vec Ideal S1024x4096 .bf16) (wd : Vec Ideal S4096x1024 .bf16)
    (gf : Vec Ideal S1x1024 .f32) (r : Fin 384) (j : Fin 1024) :
    out0_5 x g wu wd gf (ix2 r j) = mlp (fun k => x (ix2 r k)) (fun k => g (ix2 0 k)) (fun d f => wu (ix2 d f)) (fun f e => wd (ix2 f e)) j := by
  unfold_out out0_5
  rw [View.canon_unit_zero (by decide)]
  rw [View.ld_unit_zero hz _ x, View.ld_unit_zero hz _ g]
  pointwise [k0_pay3, k0_pay2]
  simp only [norm_apply]
  unfold mlp
  rw [← sum_quarters]
  let f : Fin 4096 → EReal := fun f => feat (norm (fun k => x (ix2 r k)) (fun k => g (ix2 0 k))) (fun d => wu (ix2 d f)) * wd (ix2 f j)
  have key : ∀ (q : Fin 4) (d : Fin 1024) (i : Fin 4096), i.val = q.val * 1024 + d.val → f i = f (l1024 q d) := fun q d i h => congrArg f (Fin.ext h)
  refine congrArg₂ (· + ·) (congrArg₂ (· + ·) (congrArg₂ (· + ·) (congrArg₂ (· + ·) rfl ?_) ?_) ?_) ?_
  · exact Finset.sum_congr rfl fun d _ => key 0 d _ (by show d.val = 0 * 1024 + d.val; omega)
  · exact Finset.sum_congr rfl fun d _ => key 1 d _ (by show 1024 + d.val = 1 * 1024 + d.val; omega)
  · exact Finset.sum_congr rfl fun d _ => key 2 d _ (by show 2048 + d.val = 2 * 1024 + d.val; omega)
  · exact Finset.sum_congr rfl fun d _ => key 3 d _ (by show 3072 + d.val = 3 * 1024 + d.val; omega)

/-- The rows of the normed output that a grid point writes. -/
theorem out6_apply (x : Vec Ideal S384x1024 .f32) (g : Vec Ideal S1x1024 .f32) (wu : Vec Ideal S1024x4096 .bf16) (wd : Vec Ideal S4096x1024 .bf16)
    (gf : Vec Ideal S1x1024 .f32) (r : Fin 384) (j : Fin 1024) :
    out0_6 x g wu wd gf (ix2 r j) = norm (fun k => out0_5 x g wu wd gf (ix2 r k)) (fun k => gf (ix2 0 k)) j := by
  unfold out0_6 out0_5
  rw [View.canon_unit_zero (by decide), View.canon_unit_zero (by decide)]
  rw [View.ld_unit_zero hz _ gf]
  pointwise [k0_pay4]
  rfl

variable (m : (ℓ : Loc nD τ sig) → Buf (Elt Ideal) ℓ) (c : Dev nD)

/-- The block that each window takes at grid point `t`. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] := by
  decide +kernel

/-- The layer's output of all rows, from the rows, the weights and the norm's weight. -/
def outs (h : Vec Ideal S1152x1024 .f32) (g : Vec Ideal S1024 .f32) (wu : Vec Ideal S1024x4096 .f32) (wd : Vec Ideal S4096x1024 .f32) :
    Vec Ideal S1152x1024 .f32 :=
  fun i => mlp (fun k => h (ix2 (i 0) k)) (fun k => g (ix1 k)) (fun d f => wu (ix2 d f)) (fun f e => wd (ix2 f e)) (i 1)

/-- The rows of an array, each divided by its root mean square, times a weight. -/
def norms (h : Vec Ideal S1152x1024 .f32) (g : Vec Ideal S1024 .f32) : Vec Ideal S1152x1024 .f32 :=
  fun i => norm (fun k => h (ix2 (i 0) k)) (fun k => g (ix1 k)) (i 1)

/-- The outputs of the program's arguments. -/
abbrev outsOf : Vec Ideal S1152x1024 .f32 :=
  outs (m ((c : Thread nD τ).loc main_arg0)) (m ((c : Thread nD τ).loc main_arg1)) (m ((c : Thread nD τ).loc main_arg2))
    (m ((c : Thread nD τ).loc main_arg3))

/-- Row number `r` of grid point `t`. -/
def row (t : Fin cfg0.N) (r : Fin 384) : Fin 1152 := ⟨t.val * 384 + r.val, by have : t.val < 3 := t.isLt; omega⟩

/-- The rows that a grid point reads. -/
theorem h_read (t : Fin cfg0.N) (r : Fin 384) (k : Fin 1024) :
    (iblk m c 0 t : Vec Ideal S384x1024 .f32) (ix2 r k) = m ((c : Thread nD τ).loc main_arg0) (ix2 (row t r) k) := by
  blk_ext [iblk, V_main_arg0, idx t, row]

/-- The norm's weight as a grid point reads it. -/
theorem g_read (t : Fin cfg0.N) (k : Fin 1024) :
    (iblk m c 1 t : Vec Ideal S1x1024 .f32) (ix2 0 k) = m ((c : Thread nD τ).loc main_arg1) (ix1 k) := by
  refine Eq.trans (b := (V m c main_v0 : Vec Ideal S1x1024 .f32) (ix2 0 k)) (by blk_ext [iblk, idx t]) ?_
  entry_read
  pointwise

/-- The first weights as a grid point reads them. -/
theorem wu_read (t : Fin cfg0.N) (d : Fin 1024) (f : Fin 4096) :
    (iblk m c 2 t : Vec Ideal S1024x4096 .bf16) (ix2 d f) = m ((c : Thread nD τ).loc main_arg2) (ix2 d f) := by
  refine Eq.trans (b := (V m c main_v1 : Vec Ideal S1024x4096 .bf16) (ix2 d f)) (by blk_ext [iblk, idx t]) ?_
  entry_read
  pointwise

/-- The second weights as a grid point reads them. -/
theorem wd_read (t : Fin cfg0.N) (f : Fin 4096) (e : Fin 1024) :
    (iblk m c 3 t : Vec Ideal S4096x1024 .bf16) (ix2 f e) = m ((c : Thread nD τ).loc main_arg3) (ix2 f e) := by
  refine Eq.trans (b := (V m c main_v2 : Vec Ideal S4096x1024 .bf16) (ix2 f e)) (by blk_ext [iblk, idx t]) ?_
  entry_read
  pointwise

/-- The last norm's weight as a grid point reads it. -/
theorem gf_read (t : Fin cfg0.N) (k : Fin 1024) :
    (iblk m c 4 t : Vec Ideal S1x1024 .f32) (ix2 0 k) = m ((c : Thread nD τ).loc main_arg4) (ix1 k) := by
  refine Eq.trans (b := (V m c main_v3 : Vec Ideal S1x1024 .f32) (ix2 0 k)) (by blk_ext [iblk, idx t]) ?_
  entry_read
  pointwise

/-- A grid point's rows of the output are those of the program's arguments. -/
theorem out5_read (t : Fin cfg0.N) (r : Fin 384) (j : Fin 1024) :
    out0_5 (iblk m c 0 t) (iblk m c 1 t) (iblk m c 2 t) (iblk m c 3 t) (iblk m c 4 t) (ix2 r j) = outsOf m c (ix2 (row t r) j) := by
  rw [out5_apply]
  simp only [h_read, g_read, wu_read, wd_read]
  rfl

/-- The output array after the run. -/
theorem arr5 : (dats m 0 c).arrAt 5 cfg0.N = outsOf m c := by
  refine (dats m 0 c).arrAt_eq_of_covers 5 _ (by decide +kernel) fun t hf y => ?_
  blk_simp
  rw [after0_5]
  idx_vars y
  refine (out5_read m c t y0 y1).trans ?_
  blk_ext [idx t, row]

/-- The array of the normed output after the run. -/
theorem arr6 : (dats m 0 c).arrAt 6 cfg0.N = norms (outsOf m c) (m ((c : Thread nD τ).loc main_arg4)) := by
  refine (dats m 0 c).arrAt_eq_of_covers 6 _ (by decide +kernel) fun t hf y => ?_
  blk_simp
  rw [after0_6]
  idx_vars y
  refine Eq.trans (b := norms (outsOf m c) (m ((c : Thread nD τ).loc main_arg4)) (ix2 (row t y0) y1)) ?_ ?_
  · refine (out6_apply _ _ _ _ _ y0 y1).trans ?_
    simp only [out5_read, gf_read]
    rfl
  · blk_ext [idx t, row]

end Cert.MlpTail

end
-- ==== Proof.MlpTail.Reference.lean ====
/-
  The reference of the feed-forward layer on the 1152 rows of meta tokens and sample, read at an index: its results are the outputs of all rows and their norms.
-/
module

public import proofs.«01_k».proof.Proof.MlpTail.Kernel
public import proofs.«01_k».proof.Proof.Gen.Reference7Ideal.Read

@[expose] public section

set_option maxRecDepth 16384

noncomputable section

namespace Cert.MlpTail

open Cert.Reference7Ideal Cert.Reference7Ideal.Gen Cert.Reference7Ideal.Read Idealize.ShloMosaic Idealize.ShloMosaic.TcCoe
open scoped BigOperators
open Cert.Mlp (norm feat mlp)

variable (x0 : (⟨Cert.Reference7Ideal.S1152x1024, .f32⟩ : BufTy).Contents (Elt Ideal)) (x1 : (⟨Cert.Reference7Ideal.S1024, .f32⟩ : BufTy).Contents (Elt Ideal))
  (x2 : (⟨Cert.Reference7Ideal.S1024x4096, .f32⟩ : BufTy).Contents (Elt Ideal)) (x3 : (⟨Cert.Reference7Ideal.S4096x1024, .f32⟩ : BufTy).Contents (Elt Ideal))
  (x4 : (⟨Cert.Reference7Ideal.S1024, .f32⟩ : BufTy).Contents (Elt Ideal))

/-- The normed rows. -/
theorem refNorm_read (r : Fin 1152) (d : Fin 1024) :
    val_main_v12 (F := Ideal) x0 x1 (ix2 r d) = norm (fun k => x0 (ix2 r k)) (fun k => x1 (ix1 k)) d := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- The features. -/
theorem feat_read (r : Fin 1152) (f : Fin 4096) :
    val_main_v15 (F := Ideal) x0 x1 x2 (ix2 r f) = feat (norm (fun k => x0 (ix2 r k)) (fun k => x1 (ix1 k))) (fun d => x2 (ix2 d f)) := by
  pointwise [val_main_v15, val_main_v14, val_main_v13, val_main_call0_v0, val_main_call0_cst]
  simp only [refNorm_read]
  rfl

/-- The first result. -/
theorem out0_read : val_main_v17 (F := Ideal) x0 x1 x2 x3 = outs x0 x1 x2 x3 := by
  funext i
  idx_vars i
  pointwise [val_main_v17, val_main_v16]
  simp only [feat_read]
  rfl

/-- The second result. -/
theorem out1_read : val_main_v30 (F := Ideal) x0 x1 x2 x3 x4 = norms (outs x0 x1 x2 x3) x4 := by
  rw [← out0_read]
  funext i
  idx_vars i
  pointwise [val_main_v30, val_main_v29, val_main_v28, val_main_v27, val_main_v26, val_main_v25, val_main_v24, val_main_v23, val_main_v22, val_main_v21,
    val_main_v20, val_main_v19, val_main_v18, val_main_cst_2, val_main_cst_3, val_main_cst_4]
  rfl

end Cert.MlpTail

end
-- ==== Proof.RopeTail.Kernel.lean ====
/-
  The rotary kernel on the 1152 rows of meta tokens and sample: each grid point writes 384 rows of the five results, and the three points fill the arrays.
-/
module

public import proofs.«01_k».proof.Proof.Gla.Scalar
public import proofs.«01_k».proof.Proof.HostLine
public import proofs.«01_k».proof.Proof.Gen.Reference6Ideal.Read
public import proofs.«01_k».proof.Proof.Gen.Kernel6Ideal.Value
public import Idealize.ShloMosaic.Lib.Pipeline.ValueKit
public import Idealize.ShloMosaic.Lib.Claim
public import Idealize.ShloMosaic.Lib.KernelVsHost

@[expose] public section

set_option maxRecDepth 16384

noncomputable section

namespace Cert.RopeTail

open Cert.Kernel6Ideal Cert.Kernel6Ideal.Gen Idealize.ShloMosaic Idealize.ShloMosaic.TcCoe
open Idealize.ShloMosaic.Pipeline (Dat)

/-- The offset of a whole block. -/
theorem hz : (![0, 0] : Fin 2 → ℕ) = fun _ => 0 := by decide

/-- The lane that a lane of 128 is turned against: the one 32 further in the first half of its head, 32 back in the second. -/
def partner (l : Fin 128) : Fin 128 := ⟨if l.val % 64 < 32 then l.val + 32 else l.val - 32, by have := l.isLt; split <;> omega⟩

/-- The kernel's test of a lane: whether it lies in the first half of its head. -/
theorem mask_apply (r : Fin 384) (l : Fin 128) : k0_pay7 (ix2 r l) = if l.val % 64 < 32 then 1#1 else 0#1 := by
  pointwise [k0_pay7]
  revert l
  decide +kernel

/-- One block of 128 lanes turned: each lane times its cosine plus its partner times its sine. -/
theorem turn_apply (cs sn x : Vec Ideal S384x128 .f32) (r : Fin 384) (l : Fin 128) :
    k0_pay4 cs sn x (ix2 r l) = x (ix2 r l) * cs (ix2 r l) + x (ix2 r (partner l)) * sn (ix2 r l) := by
  change (addf (mulf x (k0_pay2 cs)) (mulf (select k0_pay7 (dynamicRotate 1 96#32 none x rotates_S384x128_d1)
    (dynamicRotate 1 32#32 none x rotates_S384x128_d1)) (k0_pay3 sn))) (ix2 r l) = _
  pointwise [k0_pay2, k0_pay3]
  refine congrArg (fun y => x (ix2 r l) * cs (ix2 r l) + y * sn (ix2 r l)) ?_
  rw [mask_apply]
  have hl := l.isLt
  by_cases h : l.val % 64 < 32
  · rw [if_pos h]
    refine congrArg x (congrArg (ix2 r) (Fin.ext ?_))
    simp only [partner, if_pos h]
    omega
  · rw [if_neg h]
    refine congrArg x (congrArg (ix2 r) (Fin.ext ?_))
    simp only [partner, if_neg h]
    omega

/-- The lane that a lane of 256 is turned against. -/
def partner2 (l : Fin 256) : Fin 256 := ⟨if l.val % 64 < 32 then l.val + 32 else l.val - 32, by have := l.isLt; split <;> omega⟩

/-- Four heads turned: each lane times its cosine plus its partner times its sine, the tables repeating after 128 lanes. -/
def turn2 (cs sn : Vec Ideal S384x128 .f32) (x : Vec Ideal S384x256 .f32) : Vec Ideal S384x256 .f32 := fun i =>
  x i * cs (ix2 (i 0) ⟨(i 1).val % 128, Nat.mod_lt _ (by decide)⟩)
    + x (ix2 (i 0) (partner2 (i 1))) * sn (ix2 (i 0) ⟨(i 1).val % 128, Nat.mod_lt _ (by decide)⟩)

/-- Lane `l` of the second half of four heads. -/
theorem emb_hi (r : Fin 384) (l : Fin 128) : (r0_2.emb (ix2 r l) : S384x256.Idx) = ix2 r ⟨128 + l.val, by omega⟩ := by
  funext a
  have h := Rect.idx_unit_val (s := S384x256) ![0, 128] S384x128.size inb_S384x256_S384x128_0_128 (ix2 r l) a
  refine Fin.ext (Eq.trans h ?_)
  fin_cases a
  · show 0 + r.val = r.val; omega
  · rfl

/-- Lane `l` of the first half. -/
theorem emb_lo (r : Fin 384) (l : Fin 128) : (r0_1.emb (ix2 r l) : S384x256.Idx) = ix2 r ⟨l.val, by omega⟩ := by
  funext a
  have h := Rect.idx_unit_val (s := S384x256) ![0, 0] S384x128.size inb_S384x256_S384x128_0_0 (ix2 r l) a
  refine Fin.ext (Eq.trans h ?_)
  fin_cases a
  · show 0 + r.val = r.val; omega
  · show 0 + l.val = l.val; omega

/-- The two halves of four heads, each turned by itself, are the four heads turned. -/
theorem halves (cs sn : Vec Ideal S384x128 .f32) (x : Vec Ideal S384x256 .f32) :
    View.canon [⟨r0_2, k0_pay4 cs sn (View.ld x r0_2)⟩, ⟨r0_1, k0_pay4 cs sn (View.ld x r0_1)⟩] = turn2 cs sn x := by
  funext y
  refine View.canon_apply_of_pieces (turn2 cs sn x) _ (fun p hp => ?_) y (cover0_7 _ _ y)
  simp only [List.mem_cons, List.not_mem_nil, or_false] at hp
  rcases hp with rfl | rfl
  · intro i
    obtain ⟨r, l, rfl⟩ : ∃ (r : Fin 384) (l : Fin 128), i = ix2 r l := ⟨i 0, i 1, eq_ix2 i⟩
    refine (turn_apply cs sn _ r l).trans ?_
    have hl := l.isLt
    show x (r0_2.emb (ix2 r l)) * _ + x (r0_2.emb (ix2 r (partner l))) * _ = _
    rw [emb_hi, emb_hi]
    have e : (⟨128 + (partner l).val, by have := (partner l).isLt; omega⟩ : Fin 256) = partner2 ⟨128 + l.val, by omega⟩ := by
      refine Fin.ext ?_
      simp only [partner, partner2]
      split <;> split <;> omega
    have e' : (⟨(128 + l.val) % 128, Nat.mod_lt _ (by decide)⟩ : Fin 128) = l := Fin.ext (by show (128 + l.val) % 128 = l.val; omega)
    rw [e]
    show _ = x (ix2 r ⟨128 + l.val, _⟩) * cs (ix2 r ⟨(128 + l.val) % 128, _⟩) + x (ix2 r (partner2 ⟨128 + l.val, _⟩)) * sn (ix2 r ⟨(128 + l.val) % 128, _⟩)
    rw [e']
  · intro i
    obtain ⟨r, l, rfl⟩ : ∃ (r : Fin 384) (l : Fin 128), i = ix2 r l := ⟨i 0, i 1, eq_ix2 i⟩
    refine (turn_apply cs sn _ r l).trans ?_
    have hl := l.isLt
    show x (r0_1.emb (ix2 r l)) * _ + x (r0_1.emb (ix2 r (partner l))) * _ = _
    rw [emb_lo, emb_lo]
    have e : (⟨(partner l).val, by have := (partner l).isLt; omega⟩ : Fin 256) = partner2 ⟨l.val, by omega⟩ := Fin.ext rfl
    have e' : (⟨l.val % 128, Nat.mod_lt _ (by decide)⟩ : Fin 128) = l := Fin.ext (Nat.mod_eq_of_lt hl)
    rw [e]
    show _ = x (ix2 r ⟨l.val, _⟩) * cs (ix2 r ⟨l.val % 128, _⟩) + x (ix2 r (partner2 ⟨l.val, _⟩)) * sn (ix2 r ⟨l.val % 128, _⟩)
    rw [e']

variable (x0 x1 x2 : Vec Ideal S384x256 .f32) (x3 x4 x5 x6 : Vec Ideal S384x128 .f32)

/-- The first result of a grid point: its block of the sparse attention's queries, turned. -/
theorem out7_eq : out0_7 x0 x1 x2 x3 x4 x5 x6 = turn2 x5 x6 x0 := by
  unfold_out out0_7
  rw [View.ld_unit_zero hz _ x5, View.ld_unit_zero hz _ x6]
  exact halves x5 x6 x0

/-- The second: its block of the keys, turned. -/
theorem out8_eq : out0_8 x0 x1 x2 x3 x4 x5 x6 = turn2 x5 x6 x1 := by
  unfold_out out0_8
  rw [View.ld_unit_zero hz _ x5, View.ld_unit_zero hz _ x6]
  exact halves x5 x6 x1

/-- The third: its block of the indexer's queries, turned. -/
theorem out9_eq : out0_9 x0 x1 x2 x3 x4 x5 x6 = turn2 x5 x6 x2 := by
  unfold_out out0_9
  rw [View.ld_unit_zero hz _ x5, View.ld_unit_zero hz _ x6]
  exact halves x5 x6 x2

/-- The fourth: its block of the indexer's keys and of the padding beside them, turned. -/
theorem out10_eq : out0_10 x0 x1 x2 x3 x4 x5 x6 = k0_pay4 x5 x6 x3 := by
  unfold_out out0_10
  rw [View.canon_unit_zero (by decide), View.ld_unit_zero hz _ x5, View.ld_unit_zero hz _ x6, View.ld_unit_zero hz _ x3]
  rfl

/-- The fifth: the logarithm of the logistic function of its block of forget gates. -/
theorem out11_apply (r : Fin 384) (l : Fin 128) : out0_11 x0 x1 x2 x3 x4 x5 x6 (ix2 r l) = Gla.lsig (x4 (ix2 r l)) := by
  unfold_out out0_11
  rw [View.canon_unit_zero (by decide), View.ld_unit_zero hz _ x4]
  pointwise [k0_pay1]
  rfl

variable (m : (ℓ : Loc nD τ sig) → Buf (Elt Ideal) ℓ) (c : Dev nD)

/-- The host's cosines are the reference's. -/
theorem cosT_eq : V m c main_v23 = (Cert.Reference6Ideal.Read.val_main_v25 (F := Ideal) : Vec Ideal S1152x32 .f32) := by
  entry_read
  rfl

/-- The host's sines are the reference's. -/
theorem sinT_eq : V m c main_v24 = (Cert.Reference6Ideal.Read.val_main_v27 (F := Ideal) : Vec Ideal S1152x32 .f32) := by
  entry_read
  rfl

/-- What the host line leaves, in two parts. -/
theorem V_split (b : Ref sig .tc) :
    V m c b = StableHlo.after (hostOps0.drop 27) (StableHlo.after (hostOps0.take 27) fun b => m (c, b)) b := by
  exact congrFun (HostLine.after_split 27 hostOps0 _) _

/-- Four tables of 32 columns, side by side. -/
def beside (b0 b1 b2 b3 : FVec Ideal S1152x32 .f32) : FVec Ideal S1152x128 .f32 :=
  concatenate S1152x128 1 [⟨S1152x32, b0⟩, ⟨S1152x32, b1⟩, ⟨S1152x32, b2⟩, ⟨S1152x32, b3⟩]
    concatenates_S1152x32_S1152x32_S1152x32_S1152x32_S1152x128_d1

/-- The cosines that the grid points read: the host's table four times, side by side. -/
theorem cos4_eq : V m c main_v25 = beside (V m c main_v23) (V m c main_v23) (V m c main_v23) (V m c main_v23) := by
  rw [V_split m c main_v23, V_split m c main_v25]
  generalize StableHlo.after (hostOps0.take 27) (fun b => m (c, b)) = W
  unfold hostOps0
  simp only [List.drop_succ_cons, List.drop_zero]
  after_results
  rfl

/-- The sines that the grid points read: the host's table four times, side by side, the first and third with the sign turned. -/
theorem sin4_eq : V m c main_v28 = beside (negf (V m c main_v24)) (V m c main_v24) (negf (V m c main_v24)) (V m c main_v24) := by
  rw [V_split m c main_v24, V_split m c main_v28]
  generalize StableHlo.after (hostOps0.take 27) (fun b => m (c, b)) = W
  unfold hostOps0
  simp only [List.drop_succ_cons, List.drop_zero]
  after_results
  rfl

/-- Two tables side by side, twice, read at a lane. -/
theorem beside_apply (b0 b1 : FVec Ideal S1152x32 .f32) (j : Fin 1152) (l : Fin 128) :
    beside b0 b1 b0 b1 (ix2 j l) = if l.val % 64 < 32 then b0 (ix2 j ⟨l.val % 32, Nat.mod_lt _ (by decide)⟩) else b1 (ix2 j ⟨l.val % 32, Nat.mod_lt _ (by decide)⟩) := by
  have hl := l.isLt
  have hq : l.val / 32 = 0 ∨ l.val / 32 = 1 ∨ l.val / 32 = 2 ∨ l.val / 32 = 3 := by omega
  obtain ⟨u, hu⟩ : ∃ u : Fin 32, u.val = l.val % 32 := ⟨⟨l.val % 32, Nat.mod_lt _ (by decide)⟩, rfl⟩
  have hu' : (⟨l.val % 32, Nat.mod_lt _ (by decide)⟩ : Fin 32) = u := Fin.ext hu.symm
  rw [hu']
  rcases hq with h | h | h | h
  · rw [if_pos (by omega), show l = ⟨u.val, by omega⟩ from Fin.ext (by show l.val = u.val; omega)]
    pointwise [beside]
  · rw [if_neg (by omega), show l = ⟨32 + u.val, by omega⟩ from Fin.ext (by show l.val = 32 + u.val; omega)]
    pointwise [beside]
  · rw [if_pos (by omega), show l = ⟨64 + u.val, by omega⟩ from Fin.ext (by show l.val = 64 + u.val; omega)]
    pointwise [beside]
    exact (dif_neg (by omega)).trans ((dif_neg (by omega)).trans ((dif_pos (by omega)).trans (congrArg (fun k => b0 (ix2 j k)) (Fin.ext (by show 64 + u.val - 32 - 32 = u.val; omega)))))
  · rw [if_neg (by omega), show l = ⟨96 + u.val, by omega⟩ from Fin.ext (by show l.val = 96 + u.val; omega)]
    pointwise [beside]
    exact (dif_neg (by omega)).trans ((dif_neg (by omega)).trans ((dif_neg (by omega)).trans (congrArg (fun k => b1 (ix2 j k)) (Fin.ext (by show 96 + u.val - 32 - 32 - 32 = u.val; omega)))))

/-- The block that each window takes at grid point `t`. -/
theorem idx : ∀ t : Fin grid0.N, win0_0.index t = ![t.val, 21] ∧ win0_1.index t = ![t.val, 22] ∧ win0_2.index t = ![t.val, 24]
    ∧ win0_3.index t = ![t.val, 59] ∧ win0_4.index t = ![t.val, 58] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] := by
  decide +kernel

/-- Row number `r` of grid point `t`. -/
def row (t : Fin cfg0.N) (r : Fin 384) : Fin 1152 := ⟨t.val * 384 + r.val, by have : t.val < 3 := t.isLt; omega⟩

/-- The cosines of the positions' angles, one row a position. -/
abbrev cosT : Vec Ideal S1152x32 .f32 := Cert.Reference6Ideal.Read.val_main_v25 (F := Ideal)

/-- The sines. -/
abbrev sinT : Vec Ideal S1152x32 .f32 := Cert.Reference6Ideal.Read.val_main_v27 (F := Ideal)

/-- A column's place in its half of a head. -/
def lane (k : ℕ) : Fin 32 := ⟨k % 32, Nat.mod_lt _ (by decide)⟩

/-- The column that a column of the projections is turned against. -/
def mate (k : Fin 7680) : Fin 7680 := ⟨if k.val % 64 < 32 then k.val + 32 else k.val - 32, by have := k.isLt; split <;> omega⟩

/-- A column of the projections after the rotation by the row's position. -/
def turned (p : Vec Ideal S1152x7680 .f32) (j : Fin 1152) (k : Fin 7680) : EReal :=
  if k.val % 64 < 32 then p (ix2 j k) * cosT (ix2 j (lane k)) - p (ix2 j (mate k)) * sinT (ix2 j (lane k))
  else p (ix2 j k) * cosT (ix2 j (lane k)) + p (ix2 j (mate k)) * sinT (ix2 j (lane k))

/-- Columns `o` to `o + 255` of the projections, turned. -/
def heads4 (o : ℕ) (ho : o + 256 ≤ 7680) (p : Vec Ideal S1152x7680 .f32) : Vec Ideal S1152x256 .f32 :=
  fun i => turned p (i 0) ⟨o + (i 1).val, by have : (i 1).val < 256 := (i 1).isLt; omega⟩

/-- Columns `o` to `o + 127` of the projections, turned. -/
def heads2 (o : ℕ) (ho : o + 128 ≤ 7680) (p : Vec Ideal S1152x7680 .f32) : Vec Ideal S1152x128 .f32 :=
  fun i => turned p (i 0) ⟨o + (i 1).val, by have : (i 1).val < 128 := (i 1).isLt; omega⟩

/-- The logarithm of the logistic function of columns `o` to `o + 127`. -/
def logs (o : ℕ) (ho : o + 128 ≤ 7680) (p : Vec Ideal S1152x7680 .f32) : Vec Ideal S1152x128 .f32 :=
  fun i => Gla.lsig (p (ix2 (i 0) ⟨o + (i 1).val, by have : (i 1).val < 128 := (i 1).isLt; omega⟩))

/-- The cosines as a grid point reads them. -/
theorem cos_read (t : Fin cfg0.N) (r : Fin 384) (l : Fin 128) :
    (iblk m c 5 t : Vec Ideal S384x128 .f32) (ix2 r l) = cosT (ix2 (row t r) (lane l)) := by
  refine Eq.trans (b := (V m c main_v25 : Vec Ideal S1152x128 .f32) (ix2 (row t r) l)) (by blk_ext [iblk, idx t, row]) ?_
  rw [cos4_eq, cosT_eq]
  refine (beside_apply _ _ (row t r) l).trans ?_
  split <;> rfl

/-- The sines as a grid point reads them: with the sign turned in the first half of a head. -/
theorem sin_read (t : Fin cfg0.N) (r : Fin 384) (l : Fin 128) :
    (iblk m c 6 t : Vec Ideal S384x128 .f32) (ix2 r l) = if l.val % 64 < 32 then - sinT (ix2 (row t r) (lane l)) else sinT (ix2 (row t r) (lane l)) := by
  refine Eq.trans (b := (V m c main_v28 : Vec Ideal S1152x128 .f32) (ix2 (row t r) l)) (by blk_ext [iblk, idx t, row]) ?_
  rw [sin4_eq, sinT_eq]
  exact beside_apply _ _ (row t r) l

/-- The first input's block at a grid point: columns 5376 to 5631 of its rows. -/
theorem x0_read (t : Fin cfg0.N) (r : Fin 384) (k : Fin 256) :
    (iblk m c 0 t : Vec Ideal S384x256 .f32) (ix2 r k) = m ((c : Thread nD τ).loc main_arg0) (ix2 (row t r) ⟨5376 + k.val, by omega⟩) := by
  blk_ext [iblk, V_main_arg0, idx t, row]

/-- The second's: columns 5632 to 5887. -/
theorem x1_read (t : Fin cfg0.N) (r : Fin 384) (k : Fin 256) :
    (iblk m c 1 t : Vec Ideal S384x256 .f32) (ix2 r k) = m ((c : Thread nD τ).loc main_arg0) (ix2 (row t r) ⟨5632 + k.val, by omega⟩) := by
  blk_ext [iblk, V_main_arg0, idx t, row]

/-- The third's: columns 6144 to 6399. -/
theorem x2_read (t : Fin cfg0.N) (r : Fin 384) (k : Fin 256) :
    (iblk m c 2 t : Vec Ideal S384x256 .f32) (ix2 r k) = m ((c : Thread nD τ).loc main_arg0) (ix2 (row t r) ⟨6144 + k.val, by omega⟩) := by
  blk_ext [iblk, V_main_arg0, idx t, row]

/-- The fourth's: columns 7552 to 7679. -/
theorem x3_read (t : Fin cfg0.N) (r : Fin 384) (k : Fin 128) :
    (iblk m c 3 t : Vec Ideal S384x128 .f32) (ix2 r k) = m ((c : Thread nD τ).loc main_arg0) (ix2 (row t r) ⟨7552 + k.val, by omega⟩) := by
  blk_ext [iblk, V_main_arg0, idx t, row]

/-- The fifth's: columns 7424 to 7551. -/
theorem x4_read (t : Fin cfg0.N) (r : Fin 384) (k : Fin 128) :
    (iblk m c 4 t : Vec Ideal S384x128 .f32) (ix2 r k) = m ((c : Thread nD τ).loc main_arg0) (ix2 (row t r) ⟨7424 + k.val, by omega⟩) := by
  blk_ext [iblk, V_main_arg0, idx t, row]

/-- A lane turned by the tables of a grid point is the column turned by the row's position. -/
theorem turned_of (p : Vec Ideal S1152x7680 .f32) (t : Fin cfg0.N) (r : Fin 384) (l : Fin 128) (k : Fin 7680) (hk : k.val % 64 = l.val % 64) :
    p (ix2 (row t r) k) * (iblk m c 5 t : Vec Ideal S384x128 .f32) (ix2 r l)
      + p (ix2 (row t r) (mate k)) * (iblk m c 6 t : Vec Ideal S384x128 .f32) (ix2 r l) = turned p (row t r) k := by
  rw [cos_read, sin_read]
  have e : lane l.val = lane k.val := Fin.ext (by show l.val % 32 = k.val % 32; omega)
  unfold turned
  rw [e]
  by_cases h : k.val % 64 < 32
  · rw [if_pos h, if_pos (by omega), mul_neg, sub_eq_add_neg]
  · rw [if_neg h, if_neg (by omega)]

/-- Four heads turned at a grid point. -/
theorem turn2_read (t : Fin cfg0.N) (x : Vec Ideal S384x256 .f32) (p : Vec Ideal S1152x7680 .f32) (o : ℕ) (ho : o + 256 ≤ 7680) (h64 : o % 64 = 0)
    (hx : ∀ (r : Fin 384) (k : Fin 256), x (ix2 r k) = p (ix2 (row t r) ⟨o + k.val, by omega⟩)) (r : Fin 384) (k : Fin 256) :
    turn2 (iblk m c 5 t) (iblk m c 6 t) x (ix2 r k) = heads4 o ho p (ix2 (row t r) k) := by
  have hk := k.isLt
  refine Eq.trans ?_ (turned_of m c p t r ⟨k.val % 128, Nat.mod_lt _ (by decide)⟩ ⟨o + k.val, by omega⟩ (by show (o + k.val) % 64 = k.val % 128 % 64; omega))
  show x (ix2 r k) * _ + x (ix2 r (partner2 k)) * _ = _
  rw [hx, hx]
  have e : (⟨o + (partner2 k).val, by have := (partner2 k).isLt; omega⟩ : Fin 7680) = mate ⟨o + k.val, by omega⟩ := by
    refine Fin.ext ?_
    simp only [partner2, mate]
    split <;> split <;> omega
  rw [e]
  rfl

/-- Two heads turned at a grid point. -/
theorem turn_read (t : Fin cfg0.N) (x : Vec Ideal S384x128 .f32) (p : Vec Ideal S1152x7680 .f32) (o : ℕ) (ho : o + 128 ≤ 7680) (h64 : o % 64 = 0)
    (hx : ∀ (r : Fin 384) (k : Fin 128), x (ix2 r k) = p (ix2 (row t r) ⟨o + k.val, by omega⟩)) (r : Fin 384) (k : Fin 128) :
    k0_pay4 (iblk m c 5 t) (iblk m c 6 t) x (ix2 r k) = heads2 o ho p (ix2 (row t r) k) := by
  have hk := k.isLt
  refine Eq.trans ?_ (turned_of m c p t r k ⟨o + k.val, by omega⟩ (by show (o + k.val) % 64 = k.val % 64; omega))
  refine (turn_apply _ _ x r k).trans ?_
  rw [hx, hx]
  have e : (⟨o + (partner k).val, by have := (partner k).isLt; omega⟩ : Fin 7680) = mate ⟨o + k.val, by omega⟩ := by
    refine Fin.ext ?_
    simp only [partner, mate]
    split <;> split <;> omega
  rw [e]

/-- The turned queries of the sparse attention after the run. -/
theorem arr7 : (dats m 0 c).arrAt 7 cfg0.N = heads4 5376 (by decide) (m ((c : Thread nD τ).loc main_arg0)) := by
  refine (dats m 0 c).arrAt_eq_of_covers 7 _ (by decide +kernel) fun t hf y => ?_
  blk_simp
  rw [after0_7, out7_eq]
  idx_vars y
  refine (turn2_read m c t _ _ 5376 (by decide) (by decide) (x0_read m c t) y0 y1).trans ?_
  blk_ext [idx t, row]

/-- Its turned keys. -/
theorem arr8 : (dats m 0 c).arrAt 8 cfg0.N = heads4 5632 (by decide) (m ((c : Thread nD τ).loc main_arg0)) := by
  refine (dats m 0 c).arrAt_eq_of_covers 8 _ (by decide +kernel) fun t hf y => ?_
  blk_simp
  rw [after0_8, out8_eq]
  idx_vars y
  refine (turn2_read m c t _ _ 5632 (by decide) (by decide) (x1_read m c t) y0 y1).trans ?_
  blk_ext [idx t, row]

/-- The turned queries of the indexer. -/
theorem arr9 : (dats m 0 c).arrAt 9 cfg0.N = heads4 6144 (by decide) (m ((c : Thread nD τ).loc main_arg0)) := by
  refine (dats m 0 c).arrAt_eq_of_covers 9 _ (by decide +kernel) fun t hf y => ?_
  blk_simp
  rw [after0_9, out9_eq]
  idx_vars y
  refine (turn2_read m c t _ _ 6144 (by decide) (by decide) (x2_read m c t) y0 y1).trans ?_
  blk_ext [idx t, row]

/-- Its turned keys, with the padding beside them. -/
theorem arr10 : (dats m 0 c).arrAt 10 cfg0.N = heads2 7552 (by decide) (m ((c : Thread nD τ).loc main_arg0)) := by
  refine (dats m 0 c).arrAt_eq_of_covers 10 _ (by decide +kernel) fun t hf y => ?_
  blk_simp
  rw [after0_10, out10_eq]
  idx_vars y
  refine (turn_read m c t _ _ 7552 (by decide) (by decide) (x3_read m c t) y0 y1).trans ?_
  blk_ext [idx t, row]

/-- The forgetting attention's log forget gates, with the columns beside them. -/
theorem arr11 : (dats m 0 c).arrAt 11 cfg0.N = logs 7424 (by decide) (m ((c : Thread nD τ).loc main_arg0)) := by
  refine (dats m 0 c).arrAt_eq_of_covers 11 _ (by decide +kernel) fun t hf y => ?_
  blk_simp
  rw [after0_11]
  idx_vars y
  refine (out11_apply _ _ _ _ _ _ _ y0 y1).trans ?_
  rw [x4_read]
  refine Eq.trans (b := logs 7424 (by decide) (m ((c : Thread nD τ).loc main_arg0)) (ix2 (row t y0) y1)) rfl ?_
  blk_ext [idx t, row]

end Cert.RopeTail

end
-- ==== Proof.RopeTail.Reference.lean ====
/-
  The reference of the rotary preparation of the 1152 other rows, read at an index: its results are the columns turned by their rows' positions.
-/
module

public import proofs.«01_k».proof.Proof.RopeTail.Kernel

@[expose] public section

set_option maxRecDepth 16384

noncomputable section

namespace Cert.RopeTail

open Cert.Reference6Ideal Cert.Reference6Ideal.Gen Cert.Reference6Ideal.Read Idealize.ShloMosaic Idealize.ShloMosaic.TcCoe

/-- Equal factors give equal differences of products. -/
theorem turn_sub {a a' b b' c c' d d' : EReal} (ha : a = a') (hb : b = b') (hc : c = c') (hd : d = d') : a * b - c * d = a' * b' - c' * d' := by
  subst ha hb hc hd
  rfl

/-- Equal factors give equal sums of products. -/
theorem turn_add {a a' b b' c c' d d' : EReal} (ha : a = a') (hb : b = b') (hc : c = c') (hd : d = d') : a * b + c * d = a' * b' + c' * d' := by
  subst ha hb hc hd
  rfl

variable (x0 : (⟨Cert.Reference6Ideal.S1152x7680, .f32⟩ : BufTy).Contents (Elt Ideal))

/-- The reference's queries of the sparse attention are the columns turned. -/
theorem ref0_read : val_main_v42 (F := Ideal) x0 = heads4 5376 (by decide) x0 := by
  funext i
  idx_vars i
  pointwise [val_main_v42, val_main_v41]
  have hi := i1.isLt
  show _ = turned x0 i0 ⟨5376 + i1.val, _⟩
  unfold turned
  by_cases h : i1.val % 64 < 32
  · refine (dif_pos h).trans (Eq.trans ?_ (if_pos (show (5376 + i1.val) % 64 < 32 by omega)).symm)
    pointwise [val_main_v35, val_main_v32, val_main_v34, val_main_v29, val_main_v30, val_main_v31, val_main_v33, val_main_v26, val_main_v28, val_main_v12, val_main_v11]
    refine turn_sub rfl ?_ ?_ ?_
    · exact congrArg (fun k => cosT (ix2 i0 k)) (Fin.ext (by show i1.val % 64 = (5376 + i1.val) % 32; omega))
    · refine congrArg (fun k => x0 (ix2 i0 k)) (Fin.ext (Eq.trans ?_ (if_pos (show (5376 + i1.val) % 64 < 32 by omega)).symm))
      show 5376 + (i1.val / 64 * 64 + (32 + i1.val % 64)) = 5376 + i1.val + 32
      omega
    · exact congrArg (fun k => sinT (ix2 i0 k)) (Fin.ext (by show i1.val % 64 = (5376 + i1.val) % 32; omega))
  · refine (dif_neg h).trans (Eq.trans ?_ (if_neg (show ¬ (5376 + i1.val) % 64 < 32 by omega)).symm)
    pointwise [val_main_v40, val_main_v37, val_main_v39, val_main_v29, val_main_v30, val_main_v36, val_main_v38, val_main_v26, val_main_v28, val_main_v12, val_main_v11]
    refine turn_add ?_ ?_ ?_ ?_
    · exact congrArg (fun k => x0 (ix2 i0 k)) (Fin.ext (by show 5376 + (i1.val / 64 * 64 + (32 + (i1.val % 64 - 32))) = 5376 + i1.val; omega))
    · exact congrArg (fun k => cosT (ix2 i0 k)) (Fin.ext (by show i1.val % 64 - 32 = (5376 + i1.val) % 32; omega))
    · refine congrArg (fun k => x0 (ix2 i0 k)) (Fin.ext (Eq.trans ?_ (if_neg (show ¬ (5376 + i1.val) % 64 < 32 by omega)).symm))
      show 5376 + (i1.val / 64 * 64 + (i1.val % 64 - 32)) = 5376 + i1.val - 32
      omega
    · exact congrArg (fun k => sinT (ix2 i0 k)) (Fin.ext (by show i1.val % 64 - 32 = (5376 + i1.val) % 32; omega))

/-- Its keys are the columns turned. -/
theorem ref1_read : val_main_v74 (F := Ideal) x0 = heads4 5632 (by decide) x0 := by
  funext i
  idx_vars i
  pointwise [val_main_v74, val_main_v73]
  have hi := i1.isLt
  show _ = turned x0 i0 ⟨5632 + i1.val, _⟩
  unfold turned
  by_cases h : i1.val % 64 < 32
  · refine (dif_pos h).trans (Eq.trans ?_ (if_pos (show (5632 + i1.val) % 64 < 32 by omega)).symm)
    pointwise [val_main_v67, val_main_v64, val_main_v66, val_main_v61, val_main_v62, val_main_v63, val_main_v65, val_main_v58, val_main_v60, val_main_v44, val_main_v43]
    refine turn_sub rfl ?_ ?_ ?_
    · exact congrArg (fun k => cosT (ix2 i0 k)) (Fin.ext (by show i1.val % 64 = (5632 + i1.val) % 32; omega))
    · refine congrArg (fun k => x0 (ix2 i0 k)) (Fin.ext (Eq.trans ?_ (if_pos (show (5632 + i1.val) % 64 < 32 by omega)).symm))
      show 5632 + (i1.val / 64 * 64 + (32 + i1.val % 64)) = 5632 + i1.val + 32
      omega
    · exact congrArg (fun k => sinT (ix2 i0 k)) (Fin.ext (by show i1.val % 64 = (5632 + i1.val) % 32; omega))
  · refine (dif_neg h).trans (Eq.trans ?_ (if_neg (show ¬ (5632 + i1.val) % 64 < 32 by omega)).symm)
    pointwise [val_main_v72, val_main_v69, val_main_v71, val_main_v61, val_main_v62, val_main_v68, val_main_v70, val_main_v58, val_main_v60, val_main_v44, val_main_v43]
    refine turn_add ?_ ?_ ?_ ?_
    · exact congrArg (fun k => x0 (ix2 i0 k)) (Fin.ext (by show 5632 + (i1.val / 64 * 64 + (32 + (i1.val % 64 - 32))) = 5632 + i1.val; omega))
    · exact congrArg (fun k => cosT (ix2 i0 k)) (Fin.ext (by show i1.val % 64 - 32 = (5632 + i1.val) % 32; omega))
    · refine congrArg (fun k => x0 (ix2 i0 k)) (Fin.ext (Eq.trans ?_ (if_neg (show ¬ (5632 + i1.val) % 64 < 32 by omega)).symm))
      show 5632 + (i1.val / 64 * 64 + (i1.val % 64 - 32)) = 5632 + i1.val - 32
      omega
    · exact congrArg (fun k => sinT (ix2 i0 k)) (Fin.ext (by show i1.val % 64 - 32 = (5632 + i1.val) % 32; omega))

/-- The indexer's queries are the columns turned. -/
theorem ref2_read : val_main_v106 (F := Ideal) x0 = heads4 6144 (by decide) x0 := by
  funext i
  idx_vars i
  pointwise [val_main_v106, val_main_v105]
  have hi := i1.isLt
  show _ = turned x0 i0 ⟨6144 + i1.val, _⟩
  unfold turned
  by_cases h : i1.val % 64 < 32
  · refine (dif_pos h).trans (Eq.trans ?_ (if_pos (show (6144 + i1.val) % 64 < 32 by omega)).symm)
    pointwise [val_main_v99, val_main_v96, val_main_v98, val_main_v93, val_main_v94, val_main_v95, val_main_v97, val_main_v90, val_main_v92, val_main_v76, val_main_v75]
    refine turn_sub rfl ?_ ?_ ?_
    · exact congrArg (fun k => cosT (ix2 i0 k)) (Fin.ext (by show i1.val % 64 = (6144 + i1.val) % 32; omega))
    · refine congrArg (fun k => x0 (ix2 i0 k)) (Fin.ext (Eq.trans ?_ (if_pos (show (6144 + i1.val) % 64 < 32 by omega)).symm))
      show 6144 + (i1.val / 64 * 64 + (32 + i1.val % 64)) = 6144 + i1.val + 32
      omega
    · exact congrArg (fun k => sinT (ix2 i0 k)) (Fin.ext (by show i1.val % 64 = (6144 + i1.val) % 32; omega))
  · refine (dif_neg h).trans (Eq.trans ?_ (if_neg (show ¬ (6144 + i1.val) % 64 < 32 by omega)).symm)
    pointwise [val_main_v104, val_main_v101, val_main_v103, val_main_v93, val_main_v94, val_main_v100, val_main_v102, val_main_v90, val_main_v92, val_main_v76, val_main_v75]
    refine turn_add ?_ ?_ ?_ ?_
    · exact congrArg (fun k => x0 (ix2 i0 k)) (Fin.ext (by show 6144 + (i1.val / 64 * 64 + (32 + (i1.val % 64 - 32))) = 6144 + i1.val; omega))
    · exact congrArg (fun k => cosT (ix2 i0 k)) (Fin.ext (by show i1.val % 64 - 32 = (6144 + i1.val) % 32; omega))
    · refine congrArg (fun k => x0 (ix2 i0 k)) (Fin.ext (Eq.trans ?_ (if_neg (show ¬ (6144 + i1.val) % 64 < 32 by omega)).symm))
      show 6144 + (i1.val / 64 * 64 + (i1.val % 64 - 32)) = 6144 + i1.val - 32
      omega
    · exact congrArg (fun k => sinT (ix2 i0 k)) (Fin.ext (by show i1.val % 64 - 32 = (6144 + i1.val) % 32; omega))

/-- The indexer's keys, and the padding beside them, are the columns turned. -/
theorem ref3_read : val_main_v138 (F := Ideal) x0 = heads2 7552 (by decide) x0 := by
  funext i
  idx_vars i
  pointwise [val_main_v138, val_main_v137]
  have hi := i1.isLt
  show _ = turned x0 i0 ⟨7552 + i1.val, _⟩
  unfold turned
  by_cases h : i1.val % 64 < 32
  · refine (dif_pos h).trans (Eq.trans ?_ (if_pos (show (7552 + i1.val) % 64 < 32 by omega)).symm)
    pointwise [val_main_v131, val_main_v128, val_main_v130, val_main_v125, val_main_v126, val_main_v127, val_main_v129, val_main_v122, val_main_v124, val_main_v108, val_main_v107]
    refine turn_sub rfl ?_ ?_ ?_
    · exact congrArg (fun k => cosT (ix2 i0 k)) (Fin.ext (by show i1.val % 64 = (7552 + i1.val) % 32; omega))
    · refine congrArg (fun k => x0 (ix2 i0 k)) (Fin.ext (Eq.trans ?_ (if_pos (show (7552 + i1.val) % 64 < 32 by omega)).symm))
      show 7552 + (i1.val / 64 * 64 + (32 + i1.val % 64)) = 7552 + i1.val + 32
      omega
    · exact congrArg (fun k => sinT (ix2 i0 k)) (Fin.ext (by show i1.val % 64 = (7552 + i1.val) % 32; omega))
  · refine (dif_neg h).trans (Eq.trans ?_ (if_neg (show ¬ (7552 + i1.val) % 64 < 32 by omega)).symm)
    pointwise [val_main_v136, val_main_v133, val_main_v135, val_main_v125, val_main_v126, val_main_v132, val_main_v134, val_main_v122, val_main_v124, val_main_v108, val_main_v107]
    refine turn_add ?_ ?_ ?_ ?_
    · exact congrArg (fun k => x0 (ix2 i0 k)) (Fin.ext (by show 7552 + (i1.val / 64 * 64 + (32 + (i1.val % 64 - 32))) = 7552 + i1.val; omega))
    · exact congrArg (fun k => cosT (ix2 i0 k)) (Fin.ext (by show i1.val % 64 - 32 = (7552 + i1.val) % 32; omega))
    · refine congrArg (fun k => x0 (ix2 i0 k)) (Fin.ext (Eq.trans ?_ (if_neg (show ¬ (7552 + i1.val) % 64 < 32 by omega)).symm))
      show 7552 + (i1.val / 64 * 64 + (i1.val % 64 - 32)) = 7552 + i1.val - 32
      omega
    · exact congrArg (fun k => sinT (ix2 i0 k)) (Fin.ext (by show i1.val % 64 - 32 = (7552 + i1.val) % 32; omega))

/-- The reference's log forget gates. -/
theorem ref4_read : val_main_v140 (F := Ideal) x0 = logs 7424 (by decide) x0 := by
  funext i
  idx_vars i
  pointwise [val_main_v140, val_main_call0_v1, val_main_call0_v0, val_main_call0_call0_v11, val_main_call0_call0_v10, val_main_call0_call0_v9,
    val_main_call0_call0_v8, val_main_call0_call0_v7, val_main_call0_call0_v6, val_main_call0_call0_v5, val_main_call0_call0_v4, val_main_call0_call0_v3,
    val_main_call0_call0_v2, val_main_call0_call0_v1, val_main_call0_call0_v0, val_main_call0_call0_cst]
  rw [if_neg (not_not.2 rfl)]
  refine Eq.trans ?_ (Gla.neg_softplus_neg (x0 (ix2 i0 ⟨7424 + i1.val, by omega⟩)))
  have e : val_main_v139 (F := Ideal) x0 (ix2 i0 i1) = x0 (ix2 i0 ⟨7424 + i1.val, by omega⟩) := by
    pointwise [val_main_v139]
  rw [e]
  generalize x0 (ix2 i0 ⟨7424 + i1.val, by omega⟩) = z
  show -(max (-z) 0 + Ideal.log1p (Ideal.exp (-(max (-z) (-(-z)))))) = _
  rw [sub_zero]

end Cert.RopeTail

end
-- ==== Proof.Rope.Kernel.lean ====
/-
  The rotary kernel: each grid point writes 512 rows of the five results, and the 32 points fill the arrays.
-/
module

public import proofs.«01_k».proof.Proof.Gla.Scalar
public import proofs.«01_k».proof.Proof.HostLine
public import proofs.«01_k».proof.Proof.Gen.Reference5Ideal.Read
public import proofs.«01_k».proof.Proof.Gen.Kernel5Ideal.Value
public import Idealize.ShloMosaic.Lib.Pipeline.ValueKit
public import Idealize.ShloMosaic.Lib.Claim
public import Idealize.ShloMosaic.Lib.KernelVsHost

@[expose] public section

set_option maxRecDepth 16384

noncomputable section

namespace Cert.Rope

open Cert.Kernel5Ideal Cert.Kernel5Ideal.Gen Idealize.ShloMosaic Idealize.ShloMosaic.TcCoe
open Idealize.ShloMosaic.Pipeline (Dat)

/-- The offset of a whole block. -/
theorem hz : (![0, 0] : Fin 2 → ℕ) = fun _ => 0 := by decide

/-- The lane that a lane of 128 is turned against: the one 32 further in the first half of its head, 32 back in the second. -/
def partner (l : Fin 128) : Fin 128 := ⟨if l.val % 64 < 32 then l.val + 32 else l.val - 32, by have := l.isLt; split <;> omega⟩

/-- The kernel's test of a lane: whether it lies in the first half of its head. -/
theorem mask_apply (r : Fin 512) (l : Fin 128) : k0_pay7 (ix2 r l) = if l.val % 64 < 32 then 1#1 else 0#1 := by
  pointwise [k0_pay7]
  revert l
  decide +kernel

/-- One block of 128 lanes turned: each lane times its cosine plus its partner times its sine. -/
theorem turn_apply (cs sn x : Vec Ideal S512x128 .f32) (r : Fin 512) (l : Fin 128) :
    k0_pay4 cs sn x (ix2 r l) = x (ix2 r l) * cs (ix2 r l) + x (ix2 r (partner l)) * sn (ix2 r l) := by
  change (addf (mulf x (k0_pay2 cs)) (mulf (select k0_pay7 (dynamicRotate 1 96#32 none x rotates_S512x128_d1)
    (dynamicRotate 1 32#32 none x rotates_S512x128_d1)) (k0_pay3 sn))) (ix2 r l) = _
  pointwise [k0_pay2, k0_pay3]
  refine congrArg (fun y => x (ix2 r l) * cs (ix2 r l) + y * sn (ix2 r l)) ?_
  rw [mask_apply]
  have hl := l.isLt
  by_cases h : l.val % 64 < 32
  · rw [if_pos h]
    refine congrArg x (congrArg (ix2 r) (Fin.ext ?_))
    simp only [partner, if_pos h]
    omega
  · rw [if_neg h]
    refine congrArg x (congrArg (ix2 r) (Fin.ext ?_))
    simp only [partner, if_neg h]
    omega

/-- The lane that a lane of 256 is turned against. -/
def partner2 (l : Fin 256) : Fin 256 := ⟨if l.val % 64 < 32 then l.val + 32 else l.val - 32, by have := l.isLt; split <;> omega⟩

/-- Four heads turned: each lane times its cosine plus its partner times its sine, the tables repeating after 128 lanes. -/
def turn2 (cs sn : Vec Ideal S512x128 .f32) (x : Vec Ideal S512x256 .f32) : Vec Ideal S512x256 .f32 := fun i =>
  x i * cs (ix2 (i 0) ⟨(i 1).val % 128, Nat.mod_lt _ (by decide)⟩)
    + x (ix2 (i 0) (partner2 (i 1))) * sn (ix2 (i 0) ⟨(i 1).val % 128, Nat.mod_lt _ (by decide)⟩)

/-- Lane `l` of the second half of four heads. -/
theorem emb_hi (r : Fin 512) (l : Fin 128) : (r0_2.emb (ix2 r l) : S512x256.Idx) = ix2 r ⟨128 + l.val, by omega⟩ := by
  funext a
  have h := Rect.idx_unit_val (s := S512x256) ![0, 128] S512x128.size inb_S512x256_S512x128_0_128 (ix2 r l) a
  refine Fin.ext (Eq.trans h ?_)
  fin_cases a
  · show 0 + r.val = r.val; omega
  · rfl

/-- Lane `l` of the first half. -/
theorem emb_lo (r : Fin 512) (l : Fin 128) : (r0_1.emb (ix2 r l) : S512x256.Idx) = ix2 r ⟨l.val, by omega⟩ := by
  funext a
  have h := Rect.idx_unit_val (s := S512x256) ![0, 0] S512x128.size inb_S512x256_S512x128_0_0 (ix2 r l) a
  refine Fin.ext (Eq.trans h ?_)
  fin_cases a
  · show 0 + r.val = r.val; omega
  · show 0 + l.val = l.val; omega

/-- The two halves of four heads, each turned by itself, are the four heads turned. -/
theorem halves (cs sn : Vec Ideal S512x128 .f32) (x : Vec Ideal S512x256 .f32) :
    View.canon [⟨r0_2, k0_pay4 cs sn (View.ld x r0_2)⟩, ⟨r0_1, k0_pay4 cs sn (View.ld x r0_1)⟩] = turn2 cs sn x := by
  funext y
  refine View.canon_apply_of_pieces (turn2 cs sn x) _ (fun p hp => ?_) y (cover0_7 _ _ y)
  simp only [List.mem_cons, List.not_mem_nil, or_false] at hp
  rcases hp with rfl | rfl
  · intro i
    obtain ⟨r, l, rfl⟩ : ∃ (r : Fin 512) (l : Fin 128), i = ix2 r l := ⟨i 0, i 1, eq_ix2 i⟩
    refine (turn_apply cs sn _ r l).trans ?_
    have hl := l.isLt
    show x (r0_2.emb (ix2 r l)) * _ + x (r0_2.emb (ix2 r (partner l))) * _ = _
    rw [emb_hi, emb_hi]
    have e : (⟨128 + (partner l).val, by have := (partner l).isLt; omega⟩ : Fin 256) = partner2 ⟨128 + l.val, by omega⟩ := by
      refine Fin.ext ?_
      simp only [partner, partner2]
      split <;> split <;> omega
    have e' : (⟨(128 + l.val) % 128, Nat.mod_lt _ (by decide)⟩ : Fin 128) = l := Fin.ext (by show (128 + l.val) % 128 = l.val; omega)
    rw [e]
    show _ = x (ix2 r ⟨128 + l.val, _⟩) * cs (ix2 r ⟨(128 + l.val) % 128, _⟩) + x (ix2 r (partner2 ⟨128 + l.val, _⟩)) * sn (ix2 r ⟨(128 + l.val) % 128, _⟩)
    rw [e']
  · intro i
    obtain ⟨r, l, rfl⟩ : ∃ (r : Fin 512) (l : Fin 128), i = ix2 r l := ⟨i 0, i 1, eq_ix2 i⟩
    refine (turn_apply cs sn _ r l).trans ?_
    have hl := l.isLt
    show x (r0_1.emb (ix2 r l)) * _ + x (r0_1.emb (ix2 r (partner l))) * _ = _
    rw [emb_lo, emb_lo]
    have e : (⟨(partner l).val, by have := (partner l).isLt; omega⟩ : Fin 256) = partner2 ⟨l.val, by omega⟩ := Fin.ext rfl
    have e' : (⟨l.val % 128, Nat.mod_lt _ (by decide)⟩ : Fin 128) = l := Fin.ext (Nat.mod_eq_of_lt hl)
    rw [e]
    show _ = x (ix2 r ⟨l.val, _⟩) * cs (ix2 r ⟨l.val % 128, _⟩) + x (ix2 r (partner2 ⟨l.val, _⟩)) * sn (ix2 r ⟨l.val % 128, _⟩)
    rw [e']

variable (x0 x1 x2 : Vec Ideal S512x256 .f32) (x3 x4 x5 x6 : Vec Ideal S512x128 .f32)

/-- The first result of a grid point: its block of the sparse attention's queries, turned. -/
theorem out7_eq : out0_7 x0 x1 x2 x3 x4 x5 x6 = turn2 x5 x6 x0 := by
  unfold_out out0_7
  rw [View.ld_unit_zero hz _ x5, View.ld_unit_zero hz _ x6]
  exact halves x5 x6 x0

/-- The second: its block of the keys, turned. -/
theorem out8_eq : out0_8 x0 x1 x2 x3 x4 x5 x6 = turn2 x5 x6 x1 := by
  unfold_out out0_8
  rw [View.ld_unit_zero hz _ x5, View.ld_unit_zero hz _ x6]
  exact halves x5 x6 x1

/-- The third: its block of the indexer's queries, turned. -/
theorem out9_eq : out0_9 x0 x1 x2 x3 x4 x5 x6 = turn2 x5 x6 x2 := by
  unfold_out out0_9
  rw [View.ld_unit_zero hz _ x5, View.ld_unit_zero hz _ x6]
  exact halves x5 x6 x2

/-- The fourth: its block of the indexer's keys and of the padding beside them, turned. -/
theorem out10_eq : out0_10 x0 x1 x2 x3 x4 x5 x6 = k0_pay4 x5 x6 x3 := by
  unfold_out out0_10
  rw [View.canon_unit_zero (by decide), View.ld_unit_zero hz _ x5, View.ld_unit_zero hz _ x6, View.ld_unit_zero hz _ x3]
  rfl

/-- The fifth: the logarithm of the logistic function of its block of forget gates. -/
theorem out11_apply (r : Fin 512) (l : Fin 128) : out0_11 x0 x1 x2 x3 x4 x5 x6 (ix2 r l) = Gla.lsig (x4 (ix2 r l)) := by
  unfold_out out0_11
  rw [View.canon_unit_zero (by decide), View.ld_unit_zero hz _ x4]
  pointwise [k0_pay1]
  rfl

variable (m : (ℓ : Loc nD τ sig) → Buf (Elt Ideal) ℓ) (c : Dev nD)

/-- The host's cosines are the reference's. -/
theorem cosT_eq : V m c main_v18 = (Cert.Reference5Ideal.Read.val_main_v20 (F := Ideal) : Vec Ideal S16384x32 .f32) := by
  entry_read
  rfl

/-- The host's sines are the reference's. -/
theorem sinT_eq : V m c main_v19 = (Cert.Reference5Ideal.Read.val_main_v22 (F := Ideal) : Vec Ideal S16384x32 .f32) := by
  entry_read
  rfl

/-- What the host line leaves, in two parts. -/
theorem V_split (b : Ref sig .tc) :
    V m c b = StableHlo.after (hostOps0.drop 22) (StableHlo.after (hostOps0.take 22) fun b => m (c, b)) b := by
  exact congrFun (HostLine.after_split 22 hostOps0 _) _

/-- Four tables of 32 columns, side by side. -/
def beside (b0 b1 b2 b3 : FVec Ideal S16384x32 .f32) : FVec Ideal S16384x128 .f32 :=
  concatenate S16384x128 1 [⟨S16384x32, b0⟩, ⟨S16384x32, b1⟩, ⟨S16384x32, b2⟩, ⟨S16384x32, b3⟩]
    concatenates_S16384x32_S16384x32_S16384x32_S16384x32_S16384x128_d1

/-- The cosines that the grid points read: the host's table four times, side by side. -/
theorem cos4_eq : V m c main_v20 = beside (V m c main_v18) (V m c main_v18) (V m c main_v18) (V m c main_v18) := by
  rw [V_split m c main_v18, V_split m c main_v20]
  generalize StableHlo.after (hostOps0.take 22) (fun b => m (c, b)) = W
  unfold hostOps0
  simp only [List.drop_succ_cons, List.drop_zero]
  after_results
  rfl

/-- The sines that the grid points read: the host's table four times, side by side, the first and third with the sign turned. -/
theorem sin4_eq : V m c main_v23 = beside (negf (V m c main_v19)) (V m c main_v19) (negf (V m c main_v19)) (V m c main_v19) := by
  rw [V_split m c main_v19, V_split m c main_v23]
  generalize StableHlo.after (hostOps0.take 22) (fun b => m (c, b)) = W
  unfold hostOps0
  simp only [List.drop_succ_cons, List.drop_zero]
  after_results
  rfl

/-- Two tables side by side, twice, read at a lane. -/
theorem beside_apply (b0 b1 : FVec Ideal S16384x32 .f32) (j : Fin 16384) (l : Fin 128) :
    beside b0 b1 b0 b1 (ix2 j l) = if l.val % 64 < 32 then b0 (ix2 j ⟨l.val % 32, Nat.mod_lt _ (by decide)⟩) else b1 (ix2 j ⟨l.val % 32, Nat.mod_lt _ (by decide)⟩) := by
  have hl := l.isLt
  have hq : l.val / 32 = 0 ∨ l.val / 32 = 1 ∨ l.val / 32 = 2 ∨ l.val / 32 = 3 := by omega
  obtain ⟨u, hu⟩ : ∃ u : Fin 32, u.val = l.val % 32 := ⟨⟨l.val % 32, Nat.mod_lt _ (by decide)⟩, rfl⟩
  have hu' : (⟨l.val % 32, Nat.mod_lt _ (by decide)⟩ : Fin 32) = u := Fin.ext hu.symm
  rw [hu']
  rcases hq with h | h | h | h
  · rw [if_pos (by omega), show l = ⟨u.val, by omega⟩ from Fin.ext (by show l.val = u.val; omega)]
    pointwise [beside]
  · rw [if_neg (by omega), show l = ⟨32 + u.val, by omega⟩ from Fin.ext (by show l.val = 32 + u.val; omega)]
    pointwise [beside]
  · rw [if_pos (by omega), show l = ⟨64 + u.val, by omega⟩ from Fin.ext (by show l.val = 64 + u.val; omega)]
    pointwise [beside]
    exact (dif_neg (by omega)).trans ((dif_neg (by omega)).trans ((dif_pos (by omega)).trans (congrArg (fun k => b0 (ix2 j k)) (Fin.ext (by show 64 + u.val - 32 - 32 = u.val; omega)))))
  · rw [if_neg (by omega), show l = ⟨96 + u.val, by omega⟩ from Fin.ext (by show l.val = 96 + u.val; omega)]
    pointwise [beside]
    exact (dif_neg (by omega)).trans ((dif_neg (by omega)).trans ((dif_neg (by omega)).trans (congrArg (fun k => b1 (ix2 j k)) (Fin.ext (by show 96 + u.val - 32 - 32 - 32 = u.val; omega)))))

/-- The block that each window takes at grid point `t`. -/
theorem idx : ∀ t : Fin grid0.N, win0_0.index t = ![t.val, 21] ∧ win0_1.index t = ![t.val, 22] ∧ win0_2.index t = ![t.val, 24]
    ∧ win0_3.index t = ![t.val, 59] ∧ win0_4.index t = ![t.val, 58] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] := by
  decide +kernel

/-- Row number `r` of grid point `t`. -/
def row (t : Fin cfg0.N) (r : Fin 512) : Fin 16384 := ⟨t.val * 512 + r.val, by have : t.val < 32 := t.isLt; omega⟩

/-- The cosines of the positions' angles, one row a position. -/
abbrev cosT : Vec Ideal S16384x32 .f32 := Cert.Reference5Ideal.Read.val_main_v20 (F := Ideal)

/-- The sines. -/
abbrev sinT : Vec Ideal S16384x32 .f32 := Cert.Reference5Ideal.Read.val_main_v22 (F := Ideal)

/-- A column's place in its half of a head. -/
def lane (k : ℕ) : Fin 32 := ⟨k % 32, Nat.mod_lt _ (by decide)⟩

/-- The column that a column of the projections is turned against. -/
def mate (k : Fin 7680) : Fin 7680 := ⟨if k.val % 64 < 32 then k.val + 32 else k.val - 32, by have := k.isLt; split <;> omega⟩

/-- A column of the projections after the rotation by the row's position. -/
def turned (p : Vec Ideal S16384x7680 .f32) (j : Fin 16384) (k : Fin 7680) : EReal :=
  if k.val % 64 < 32 then p (ix2 j k) * cosT (ix2 j (lane k)) - p (ix2 j (mate k)) * sinT (ix2 j (lane k))
  else p (ix2 j k) * cosT (ix2 j (lane k)) + p (ix2 j (mate k)) * sinT (ix2 j (lane k))

/-- Columns `o` to `o + 255` of the projections, turned. -/
def heads4 (o : ℕ) (ho : o + 256 ≤ 7680) (p : Vec Ideal S16384x7680 .f32) : Vec Ideal S16384x256 .f32 :=
  fun i => turned p (i 0) ⟨o + (i 1).val, by have : (i 1).val < 256 := (i 1).isLt; omega⟩

/-- Columns `o` to `o + 127` of the projections, turned. -/
def heads2 (o : ℕ) (ho : o + 128 ≤ 7680) (p : Vec Ideal S16384x7680 .f32) : Vec Ideal S16384x128 .f32 :=
  fun i => turned p (i 0) ⟨o + (i 1).val, by have : (i 1).val < 128 := (i 1).isLt; omega⟩

/-- The logarithm of the logistic function of columns `o` to `o + 127`. -/
def logs (o : ℕ) (ho : o + 128 ≤ 7680) (p : Vec Ideal S16384x7680 .f32) : Vec Ideal S16384x128 .f32 :=
  fun i => Gla.lsig (p (ix2 (i 0) ⟨o + (i 1).val, by have : (i 1).val < 128 := (i 1).isLt; omega⟩))

/-- The cosines as a grid point reads them. -/
theorem cos_read (t : Fin cfg0.N) (r : Fin 512) (l : Fin 128) :
    (iblk m c 5 t : Vec Ideal S512x128 .f32) (ix2 r l) = cosT (ix2 (row t r) (lane l)) := by
  refine Eq.trans (b := (V m c main_v20 : Vec Ideal S16384x128 .f32) (ix2 (row t r) l)) (by blk_ext [iblk, idx t, row]) ?_
  rw [cos4_eq, cosT_eq]
  refine (beside_apply _ _ (row t r) l).trans ?_
  split <;> rfl

/-- The sines as a grid point reads them: with the sign turned in the first half of a head. -/
theorem sin_read (t : Fin cfg0.N) (r : Fin 512) (l : Fin 128) :
    (iblk m c 6 t : Vec Ideal S512x128 .f32) (ix2 r l) = if l.val % 64 < 32 then - sinT (ix2 (row t r) (lane l)) else sinT (ix2 (row t r) (lane l)) := by
  refine Eq.trans (b := (V m c main_v23 : Vec Ideal S16384x128 .f32) (ix2 (row t r) l)) (by blk_ext [iblk, idx t, row]) ?_
  rw [sin4_eq, sinT_eq]
  exact beside_apply _ _ (row t r) l

/-- The first input's block at a grid point: columns 5376 to 5631 of its rows. -/
theorem x0_read (t : Fin cfg0.N) (r : Fin 512) (k : Fin 256) :
    (iblk m c 0 t : Vec Ideal S512x256 .f32) (ix2 r k) = m ((c : Thread nD τ).loc main_arg0) (ix2 (row t r) ⟨5376 + k.val, by omega⟩) := by
  blk_ext [iblk, V_main_arg0, idx t, row]

/-- The second's: columns 5632 to 5887. -/
theorem x1_read (t : Fin cfg0.N) (r : Fin 512) (k : Fin 256) :
    (iblk m c 1 t : Vec Ideal S512x256 .f32) (ix2 r k) = m ((c : Thread nD τ).loc main_arg0) (ix2 (row t r) ⟨5632 + k.val, by omega⟩) := by
  blk_ext [iblk, V_main_arg0, idx t, row]

/-- The third's: columns 6144 to 6399. -/
theorem x2_read (t : Fin cfg0.N) (r : Fin 512) (k : Fin 256) :
    (iblk m c 2 t : Vec Ideal S512x256 .f32) (ix2 r k) = m ((c : Thread nD τ).loc main_arg0) (ix2 (row t r) ⟨6144 + k.val, by omega⟩) := by
  blk_ext [iblk, V_main_arg0, idx t, row]

/-- The fourth's: columns 7552 to 7679. -/
theorem x3_read (t : Fin cfg0.N) (r : Fin 512) (k : Fin 128) :
    (iblk m c 3 t : Vec Ideal S512x128 .f32) (ix2 r k) = m ((c : Thread nD τ).loc main_arg0) (ix2 (row t r) ⟨7552 + k.val, by omega⟩) := by
  blk_ext [iblk, V_main_arg0, idx t, row]

/-- The fifth's: columns 7424 to 7551. -/
theorem x4_read (t : Fin cfg0.N) (r : Fin 512) (k : Fin 128) :
    (iblk m c 4 t : Vec Ideal S512x128 .f32) (ix2 r k) = m ((c : Thread nD τ).loc main_arg0) (ix2 (row t r) ⟨7424 + k.val, by omega⟩) := by
  blk_ext [iblk, V_main_arg0, idx t, row]

/-- A lane turned by the tables of a grid point is the column turned by the row's position. -/
theorem turned_of (p : Vec Ideal S16384x7680 .f32) (t : Fin cfg0.N) (r : Fin 512) (l : Fin 128) (k : Fin 7680) (hk : k.val % 64 = l.val % 64) :
    p (ix2 (row t r) k) * (iblk m c 5 t : Vec Ideal S512x128 .f32) (ix2 r l)
      + p (ix2 (row t r) (mate k)) * (iblk m c 6 t : Vec Ideal S512x128 .f32) (ix2 r l) = turned p (row t r) k := by
  rw [cos_read, sin_read]
  have e : lane l.val = lane k.val := Fin.ext (by show l.val % 32 = k.val % 32; omega)
  unfold turned
  rw [e]
  by_cases h : k.val % 64 < 32
  · rw [if_pos h, if_pos (by omega), mul_neg, sub_eq_add_neg]
  · rw [if_neg h, if_neg (by omega)]

/-- Four heads turned at a grid point. -/
theorem turn2_read (t : Fin cfg0.N) (x : Vec Ideal S512x256 .f32) (p : Vec Ideal S16384x7680 .f32) (o : ℕ) (ho : o + 256 ≤ 7680) (h64 : o % 64 = 0)
    (hx : ∀ (r : Fin 512) (k : Fin 256), x (ix2 r k) = p (ix2 (row t r) ⟨o + k.val, by omega⟩)) (r : Fin 512) (k : Fin 256) :
    turn2 (iblk m c 5 t) (iblk m c 6 t) x (ix2 r k) = heads4 o ho p (ix2 (row t r) k) := by
  have hk := k.isLt
  refine Eq.trans ?_ (turned_of m c p t r ⟨k.val % 128, Nat.mod_lt _ (by decide)⟩ ⟨o + k.val, by omega⟩ (by show (o + k.val) % 64 = k.val % 128 % 64; omega))
  show x (ix2 r k) * _ + x (ix2 r (partner2 k)) * _ = _
  rw [hx, hx]
  have e : (⟨o + (partner2 k).val, by have := (partner2 k).isLt; omega⟩ : Fin 7680) = mate ⟨o + k.val, by omega⟩ := by
    refine Fin.ext ?_
    simp only [partner2, mate]
    split <;> split <;> omega
  rw [e]
  rfl

/-- Two heads turned at a grid point. -/
theorem turn_read (t : Fin cfg0.N) (x : Vec Ideal S512x128 .f32) (p : Vec Ideal S16384x7680 .f32) (o : ℕ) (ho : o + 128 ≤ 7680) (h64 : o % 64 = 0)
    (hx : ∀ (r : Fin 512) (k : Fin 128), x (ix2 r k) = p (ix2 (row t r) ⟨o + k.val, by omega⟩)) (r : Fin 512) (k : Fin 128) :
    k0_pay4 (iblk m c 5 t) (iblk m c 6 t) x (ix2 r k) = heads2 o ho p (ix2 (row t r) k) := by
  have hk := k.isLt
  refine Eq.trans ?_ (turned_of m c p t r k ⟨o + k.val, by omega⟩ (by show (o + k.val) % 64 = k.val % 64; omega))
  refine (turn_apply _ _ x r k).trans ?_
  rw [hx, hx]
  have e : (⟨o + (partner k).val, by have := (partner k).isLt; omega⟩ : Fin 7680) = mate ⟨o + k.val, by omega⟩ := by
    refine Fin.ext ?_
    simp only [partner, mate]
    split <;> split <;> omega
  rw [e]

/-- The turned queries of the sparse attention after the run. -/
theorem arr7 : (dats m 0 c).arrAt 7 cfg0.N = heads4 5376 (by decide) (m ((c : Thread nD τ).loc main_arg0)) := by
  refine (dats m 0 c).arrAt_eq_of_covers 7 _ (by decide +kernel) fun t hf y => ?_
  blk_simp
  rw [after0_7, out7_eq]
  idx_vars y
  refine (turn2_read m c t _ _ 5376 (by decide) (by decide) (x0_read m c t) y0 y1).trans ?_
  blk_ext [idx t, row]

/-- Its turned keys. -/
theorem arr8 : (dats m 0 c).arrAt 8 cfg0.N = heads4 5632 (by decide) (m ((c : Thread nD τ).loc main_arg0)) := by
  refine (dats m 0 c).arrAt_eq_of_covers 8 _ (by decide +kernel) fun t hf y => ?_
  blk_simp
  rw [after0_8, out8_eq]
  idx_vars y
  refine (turn2_read m c t _ _ 5632 (by decide) (by decide) (x1_read m c t) y0 y1).trans ?_
  blk_ext [idx t, row]

/-- The turned queries of the indexer. -/
theorem arr9 : (dats m 0 c).arrAt 9 cfg0.N = heads4 6144 (by decide) (m ((c : Thread nD τ).loc main_arg0)) := by
  refine (dats m 0 c).arrAt_eq_of_covers 9 _ (by decide +kernel) fun t hf y => ?_
  blk_simp
  rw [after0_9, out9_eq]
  idx_vars y
  refine (turn2_read m c t _ _ 6144 (by decide) (by decide) (x2_read m c t) y0 y1).trans ?_
  blk_ext [idx t, row]

/-- Its turned keys, with the padding beside them. -/
theorem arr10 : (dats m 0 c).arrAt 10 cfg0.N = heads2 7552 (by decide) (m ((c : Thread nD τ).loc main_arg0)) := by
  refine (dats m 0 c).arrAt_eq_of_covers 10 _ (by decide +kernel) fun t hf y => ?_
  blk_simp
  rw [after0_10, out10_eq]
  idx_vars y
  refine (turn_read m c t _ _ 7552 (by decide) (by decide) (x3_read m c t) y0 y1).trans ?_
  blk_ext [idx t, row]

/-- The forgetting attention's log forget gates, with the columns beside them. -/
theorem arr11 : (dats m 0 c).arrAt 11 cfg0.N = logs 7424 (by decide) (m ((c : Thread nD τ).loc main_arg0)) := by
  refine (dats m 0 c).arrAt_eq_of_covers 11 _ (by decide +kernel) fun t hf y => ?_
  blk_simp
  rw [after0_11]
  idx_vars y
  refine (out11_apply _ _ _ _ _ _ _ y0 y1).trans ?_
  rw [x4_read]
  refine Eq.trans (b := logs 7424 (by decide) (m ((c : Thread nD τ).loc main_arg0)) (ix2 (row t y0) y1)) rfl ?_
  blk_ext [idx t, row]

end Cert.Rope

end
-- ==== Proof.Rope.Reference.lean ====
/-
  The reference of the rotary preparation, read at an index: its results are the columns turned by their rows' positions.
-/
module

public import proofs.«01_k».proof.Proof.Rope.Kernel

@[expose] public section

set_option maxRecDepth 16384

noncomputable section

namespace Cert.Rope

open Cert.Reference5Ideal Cert.Reference5Ideal.Gen Cert.Reference5Ideal.Read Idealize.ShloMosaic Idealize.ShloMosaic.TcCoe

/-- Equal factors give equal differences of products. -/
theorem turn_sub {a a' b b' c c' d d' : EReal} (ha : a = a') (hb : b = b') (hc : c = c') (hd : d = d') : a * b - c * d = a' * b' - c' * d' := by
  subst ha hb hc hd
  rfl

/-- Equal factors give equal sums of products. -/
theorem turn_add {a a' b b' c c' d d' : EReal} (ha : a = a') (hb : b = b') (hc : c = c') (hd : d = d') : a * b + c * d = a' * b' + c' * d' := by
  subst ha hb hc hd
  rfl

variable (x0 : (⟨Cert.Reference5Ideal.S16384x7680, .f32⟩ : BufTy).Contents (Elt Ideal))

/-- The reference's queries of the sparse attention are the columns turned. -/
theorem ref0_read : val_main_v37 (F := Ideal) x0 = heads4 5376 (by decide) x0 := by
  funext i
  idx_vars i
  pointwise [val_main_v37, val_main_v36]
  have hi := i1.isLt
  show _ = turned x0 i0 ⟨5376 + i1.val, _⟩
  unfold turned
  by_cases h : i1.val % 64 < 32
  · refine (dif_pos h).trans (Eq.trans ?_ (if_pos (show (5376 + i1.val) % 64 < 32 by omega)).symm)
    pointwise [val_main_v30, val_main_v27, val_main_v29, val_main_v24, val_main_v25, val_main_v26, val_main_v28, val_main_v21, val_main_v23, val_main_v7, val_main_v6]
    refine turn_sub rfl ?_ ?_ ?_
    · exact congrArg (fun k => cosT (ix2 i0 k)) (Fin.ext (by show i1.val % 64 = (5376 + i1.val) % 32; omega))
    · refine congrArg (fun k => x0 (ix2 i0 k)) (Fin.ext (Eq.trans ?_ (if_pos (show (5376 + i1.val) % 64 < 32 by omega)).symm))
      show 5376 + (i1.val / 64 * 64 + (32 + i1.val % 64)) = 5376 + i1.val + 32
      omega
    · exact congrArg (fun k => sinT (ix2 i0 k)) (Fin.ext (by show i1.val % 64 = (5376 + i1.val) % 32; omega))
  · refine (dif_neg h).trans (Eq.trans ?_ (if_neg (show ¬ (5376 + i1.val) % 64 < 32 by omega)).symm)
    pointwise [val_main_v35, val_main_v32, val_main_v34, val_main_v24, val_main_v25, val_main_v31, val_main_v33, val_main_v21, val_main_v23, val_main_v7, val_main_v6]
    refine turn_add ?_ ?_ ?_ ?_
    · exact congrArg (fun k => x0 (ix2 i0 k)) (Fin.ext (by show 5376 + (i1.val / 64 * 64 + (32 + (i1.val % 64 - 32))) = 5376 + i1.val; omega))
    · exact congrArg (fun k => cosT (ix2 i0 k)) (Fin.ext (by show i1.val % 64 - 32 = (5376 + i1.val) % 32; omega))
    · refine congrArg (fun k => x0 (ix2 i0 k)) (Fin.ext (Eq.trans ?_ (if_neg (show ¬ (5376 + i1.val) % 64 < 32 by omega)).symm))
      show 5376 + (i1.val / 64 * 64 + (i1.val % 64 - 32)) = 5376 + i1.val - 32
      omega
    · exact congrArg (fun k => sinT (ix2 i0 k)) (Fin.ext (by show i1.val % 64 - 32 = (5376 + i1.val) % 32; omega))

/-- Its keys are the columns turned. -/
theorem ref1_read : val_main_v69 (F := Ideal) x0 = heads4 5632 (by decide) x0 := by
  funext i
  idx_vars i
  pointwise [val_main_v69, val_main_v68]
  have hi := i1.isLt
  show _ = turned x0 i0 ⟨5632 + i1.val, _⟩
  unfold turned
  by_cases h : i1.val % 64 < 32
  · refine (dif_pos h).trans (Eq.trans ?_ (if_pos (show (5632 + i1.val) % 64 < 32 by omega)).symm)
    pointwise [val_main_v62, val_main_v59, val_main_v61, val_main_v56, val_main_v57, val_main_v58, val_main_v60, val_main_v53, val_main_v55, val_main_v39, val_main_v38]
    refine turn_sub rfl ?_ ?_ ?_
    · exact congrArg (fun k => cosT (ix2 i0 k)) (Fin.ext (by show i1.val % 64 = (5632 + i1.val) % 32; omega))
    · refine congrArg (fun k => x0 (ix2 i0 k)) (Fin.ext (Eq.trans ?_ (if_pos (show (5632 + i1.val) % 64 < 32 by omega)).symm))
      show 5632 + (i1.val / 64 * 64 + (32 + i1.val % 64)) = 5632 + i1.val + 32
      omega
    · exact congrArg (fun k => sinT (ix2 i0 k)) (Fin.ext (by show i1.val % 64 = (5632 + i1.val) % 32; omega))
  · refine (dif_neg h).trans (Eq.trans ?_ (if_neg (show ¬ (5632 + i1.val) % 64 < 32 by omega)).symm)
    pointwise [val_main_v67, val_main_v64, val_main_v66, val_main_v56, val_main_v57, val_main_v63, val_main_v65, val_main_v53, val_main_v55, val_main_v39, val_main_v38]
    refine turn_add ?_ ?_ ?_ ?_
    · exact congrArg (fun k => x0 (ix2 i0 k)) (Fin.ext (by show 5632 + (i1.val / 64 * 64 + (32 + (i1.val % 64 - 32))) = 5632 + i1.val; omega))
    · exact congrArg (fun k => cosT (ix2 i0 k)) (Fin.ext (by show i1.val % 64 - 32 = (5632 + i1.val) % 32; omega))
    · refine congrArg (fun k => x0 (ix2 i0 k)) (Fin.ext (Eq.trans ?_ (if_neg (show ¬ (5632 + i1.val) % 64 < 32 by omega)).symm))
      show 5632 + (i1.val / 64 * 64 + (i1.val % 64 - 32)) = 5632 + i1.val - 32
      omega
    · exact congrArg (fun k => sinT (ix2 i0 k)) (Fin.ext (by show i1.val % 64 - 32 = (5632 + i1.val) % 32; omega))

/-- The indexer's queries are the columns turned. -/
theorem ref2_read : val_main_v101 (F := Ideal) x0 = heads4 6144 (by decide) x0 := by
  funext i
  idx_vars i
  pointwise [val_main_v101, val_main_v100]
  have hi := i1.isLt
  show _ = turned x0 i0 ⟨6144 + i1.val, _⟩
  unfold turned
  by_cases h : i1.val % 64 < 32
  · refine (dif_pos h).trans (Eq.trans ?_ (if_pos (show (6144 + i1.val) % 64 < 32 by omega)).symm)
    pointwise [val_main_v94, val_main_v91, val_main_v93, val_main_v88, val_main_v89, val_main_v90, val_main_v92, val_main_v85, val_main_v87, val_main_v71, val_main_v70]
    refine turn_sub rfl ?_ ?_ ?_
    · exact congrArg (fun k => cosT (ix2 i0 k)) (Fin.ext (by show i1.val % 64 = (6144 + i1.val) % 32; omega))
    · refine congrArg (fun k => x0 (ix2 i0 k)) (Fin.ext (Eq.trans ?_ (if_pos (show (6144 + i1.val) % 64 < 32 by omega)).symm))
      show 6144 + (i1.val / 64 * 64 + (32 + i1.val % 64)) = 6144 + i1.val + 32
      omega
    · exact congrArg (fun k => sinT (ix2 i0 k)) (Fin.ext (by show i1.val % 64 = (6144 + i1.val) % 32; omega))
  · refine (dif_neg h).trans (Eq.trans ?_ (if_neg (show ¬ (6144 + i1.val) % 64 < 32 by omega)).symm)
    pointwise [val_main_v99, val_main_v96, val_main_v98, val_main_v88, val_main_v89, val_main_v95, val_main_v97, val_main_v85, val_main_v87, val_main_v71, val_main_v70]
    refine turn_add ?_ ?_ ?_ ?_
    · exact congrArg (fun k => x0 (ix2 i0 k)) (Fin.ext (by show 6144 + (i1.val / 64 * 64 + (32 + (i1.val % 64 - 32))) = 6144 + i1.val; omega))
    · exact congrArg (fun k => cosT (ix2 i0 k)) (Fin.ext (by show i1.val % 64 - 32 = (6144 + i1.val) % 32; omega))
    · refine congrArg (fun k => x0 (ix2 i0 k)) (Fin.ext (Eq.trans ?_ (if_neg (show ¬ (6144 + i1.val) % 64 < 32 by omega)).symm))
      show 6144 + (i1.val / 64 * 64 + (i1.val % 64 - 32)) = 6144 + i1.val - 32
      omega
    · exact congrArg (fun k => sinT (ix2 i0 k)) (Fin.ext (by show i1.val % 64 - 32 = (6144 + i1.val) % 32; omega))

/-- The indexer's keys, and the padding beside them, are the columns turned. -/
theorem ref3_read : val_main_v133 (F := Ideal) x0 = heads2 7552 (by decide) x0 := by
  funext i
  idx_vars i
  pointwise [val_main_v133, val_main_v132]
  have hi := i1.isLt
  show _ = turned x0 i0 ⟨7552 + i1.val, _⟩
  unfold turned
  by_cases h : i1.val % 64 < 32
  · refine (dif_pos h).trans (Eq.trans ?_ (if_pos (show (7552 + i1.val) % 64 < 32 by omega)).symm)
    pointwise [val_main_v126, val_main_v123, val_main_v125, val_main_v120, val_main_v121, val_main_v122, val_main_v124, val_main_v117, val_main_v119, val_main_v103, val_main_v102]
    refine turn_sub rfl ?_ ?_ ?_
    · exact congrArg (fun k => cosT (ix2 i0 k)) (Fin.ext (by show i1.val % 64 = (7552 + i1.val) % 32; omega))
    · refine congrArg (fun k => x0 (ix2 i0 k)) (Fin.ext (Eq.trans ?_ (if_pos (show (7552 + i1.val) % 64 < 32 by omega)).symm))
      show 7552 + (i1.val / 64 * 64 + (32 + i1.val % 64)) = 7552 + i1.val + 32
      omega
    · exact congrArg (fun k => sinT (ix2 i0 k)) (Fin.ext (by show i1.val % 64 = (7552 + i1.val) % 32; omega))
  · refine (dif_neg h).trans (Eq.trans ?_ (if_neg (show ¬ (7552 + i1.val) % 64 < 32 by omega)).symm)
    pointwise [val_main_v131, val_main_v128, val_main_v130, val_main_v120, val_main_v121, val_main_v127, val_main_v129, val_main_v117, val_main_v119, val_main_v103, val_main_v102]
    refine turn_add ?_ ?_ ?_ ?_
    · exact congrArg (fun k => x0 (ix2 i0 k)) (Fin.ext (by show 7552 + (i1.val / 64 * 64 + (32 + (i1.val % 64 - 32))) = 7552 + i1.val; omega))
    · exact congrArg (fun k => cosT (ix2 i0 k)) (Fin.ext (by show i1.val % 64 - 32 = (7552 + i1.val) % 32; omega))
    · refine congrArg (fun k => x0 (ix2 i0 k)) (Fin.ext (Eq.trans ?_ (if_neg (show ¬ (7552 + i1.val) % 64 < 32 by omega)).symm))
      show 7552 + (i1.val / 64 * 64 + (i1.val % 64 - 32)) = 7552 + i1.val - 32
      omega
    · exact congrArg (fun k => sinT (ix2 i0 k)) (Fin.ext (by show i1.val % 64 - 32 = (7552 + i1.val) % 32; omega))

/-- The reference's log forget gates. -/
theorem ref4_read : val_main_v135 (F := Ideal) x0 = logs 7424 (by decide) x0 := by
  funext i
  idx_vars i
  pointwise [val_main_v135, val_main_call0_v1, val_main_call0_v0, val_main_call0_call0_v11, val_main_call0_call0_v10, val_main_call0_call0_v9,
    val_main_call0_call0_v8, val_main_call0_call0_v7, val_main_call0_call0_v6, val_main_call0_call0_v5, val_main_call0_call0_v4, val_main_call0_call0_v3,
    val_main_call0_call0_v2, val_main_call0_call0_v1, val_main_call0_call0_v0, val_main_call0_call0_cst]
  rw [if_neg (not_not.2 rfl)]
  refine Eq.trans ?_ (Gla.neg_softplus_neg (x0 (ix2 i0 ⟨7424 + i1.val, by omega⟩)))
  have e : val_main_v134 (F := Ideal) x0 (ix2 i0 i1) = x0 (ix2 i0 ⟨7424 + i1.val, by omega⟩) := by
    pointwise [val_main_v134]
  rw [e]
  generalize x0 (ix2 i0 ⟨7424 + i1.val, by omega⟩) = z
  show -(max (-z) 0 + Ideal.log1p (Ideal.exp (-(max (-z) (-(-z)))))) = _
  rw [sub_zero]

end Cert.Rope

end
-- ==== Proof.Ssd.Scalar.lean ====
/-
  The arithmetic of the state-space branch on the extended reals: the softplus and its sign, sums over lanes grouped by group, and
  one chunk of eight rows — the causal convolution, the scan from the state before the chunk, the gated norm, the state after it.
-/
module

public import proofs.«01_k».proof.Proof.Gla.Scalar

@[expose] public section

noncomputable section

namespace Cert.Ssd

open Idealize.ShloMosaic Cert.Gla
open scoped BigOperators

/-- The softplus in the form that never overflows: `max x 0 + log (1 + exp (-|x|))`. -/
def softplus (x : EReal) : EReal := max x 0 + Ideal.log1p (Ideal.exp (0 - max x (-x)))

/-- A softplus is never negative. -/
theorem softplus_nonneg (x : EReal) : 0 ≤ softplus x := by
  unfold softplus
  induction x with
  | bot => simp [log1p_zero]
  | top => simp [log1p_zero]
  | coe r =>
    obtain ⟨l, hl, e⟩ := log1p_exp_coe (0 - max r (-r))
    rw [zero_sub_max, e]
    exact add_nonneg (le_max_right _ _) (by exact_mod_cast hl)

/-- An exponential is never negative. -/
theorem exp_nonneg (x : EReal) : 0 ≤ Ideal.exp x := by
  induction x with
  | bot => exact le_refl _
  | top => exact le_top
  | coe r =>
    show (0 : EReal) ≤ ((Real.exp r : ℝ) : EReal)
    exact_mod_cast (Real.exp_pos r).le

/-- A step times minus an exponential is never positive. -/
theorem step_nonpos (x al : EReal) : softplus x * -(Ideal.exp al) ≤ 0 :=
  EReal.mul_nonpos_iff.2 (Or.inl ⟨softplus_nonneg x, by rw [← neg_zero (G := EReal)]; exact EReal.neg_le_neg_iff.2 (exp_nonneg al)⟩)

/-! ## Lanes by group -/

/-- Lane `n` of group `g` among 128 lanes. -/
def l2 (g : Fin 2) (n : Fin 64) : Fin 128 := ⟨g.val * 64 + n.val, by omega⟩

/-- Every one of the 128 lanes is a lane of a group. -/
theorem exists_l2 (j : Fin 128) : ∃ g n, j = l2 g n :=
  ⟨⟨j.val / 64, by omega⟩, ⟨j.val % 64, by omega⟩, Fin.ext (by simp only [l2]; omega)⟩

/-- A sum over 128 lanes that vanishes off group `g` is a sum over the group's 64 lanes. -/
theorem sum_l2 (f : Fin 128 → EReal) (g : Fin 2) (hf : ∀ g' n, g' ≠ g → f (l2 g' n) = 0) :
    ∑ j, f j = ∑ n, f (l2 g n) := by
  have e : ∑ j, f j = ∑ p : Fin 2 × Fin 64, f (l2 p.1 p.2) := by
    refine (Fintype.sum_equiv (finProdFinEquiv (m := 2) (n := 64)) (fun p => f (l2 p.1 p.2)) f fun p => congrArg f (Fin.ext ?_)).symm
    simp only [l2, finProdFinEquiv_apply_val]; omega
  rw [e, Fintype.sum_prod_type, Finset.sum_eq_single g (fun g' _ hn => Finset.sum_eq_zero fun n _ => hf g' n hn)
    (fun hn => absurd (Finset.mem_univ g) hn)]

/-- The group of a head: two heads each. -/
def grp (h : Fin 4) : Fin 2 := ⟨h.val / 2, by omega⟩

/-! ## One chunk of the state-space branch -/

/-- The data of one chunk of eight rows. -/
structure Chunk where
  /-- the three rows before the chunk and its eight rows, before the convolution -/
  full : Fin 11 → Fin 512 → EReal
  /-- taps of the convolution -/
  cw : Fin 4 → Fin 512 → EReal
  /-- bias of the convolution -/
  cb : Fin 512 → EReal
  /-- output gates before their activation -/
  z : Fin 8 → Fin 256 → EReal
  /-- step sizes before the softplus -/
  u : Fin 8 → Fin 4 → EReal
  /-- logarithms of the decay rates -/
  al : Fin 4 → EReal
  /-- state before the chunk: head, value lane, key lane -/
  s : Fin 4 → Fin 64 → Fin 64 → EReal
  /-- weight of the skip -/
  d : Fin 4 → EReal
  /-- weight of the norm -/
  w : Fin 256 → EReal

namespace Chunk

variable (C : Chunk)

/-- The causal convolution of four taps. -/
def conv (t : Fin 8) (j : Fin 512) : EReal :=
  C.cb j + C.full ⟨t.val, by omega⟩ j * C.cw 0 j + C.full ⟨1 + t.val, by omega⟩ j * C.cw 1 j + C.full ⟨2 + t.val, by omega⟩ j * C.cw 2 j
    + C.full ⟨3 + t.val, by omega⟩ j * C.cw 3 j
/-- The convolution, activated. -/
def act (t : Fin 8) (j : Fin 512) : EReal := C.conv t j * Ideal.logistic (C.conv t j)
/-- The values. -/
def x (t : Fin 8) (h : Fin 4) (e : Fin 64) : EReal := C.act t ⟨h.val * 64 + e.val, by omega⟩
/-- The keys of a group. -/
def b (t : Fin 8) (g : Fin 2) (n : Fin 64) : EReal := C.act t ⟨256 + (g.val * 64 + n.val), by omega⟩
/-- The queries of a group. -/
def c (t : Fin 8) (g : Fin 2) (n : Fin 64) : EReal := C.act t ⟨384 + (g.val * 64 + n.val), by omega⟩
/-- The step sizes. -/
def dt (t : Fin 8) (h : Fin 4) : EReal := softplus (C.u t h)
/-- The logarithm of a row's decay. -/
def a (t : Fin 8) (h : Fin 4) : EReal := C.dt t h * -(Ideal.exp (C.al h))
/-- The running sum of the logarithms of the decays. -/
def cum (t : Fin 8) (h : Fin 4) : EReal := pre (fun u => C.a u h) t
/-- The decayed score of row `t` with row `s`. -/
def sc (h : Fin 4) (t s : Fin 8) : EReal := (∑ n, C.c t (grp h) n * C.b s (grp h) n) * Ideal.exp (C.cum t h - C.cum s h)
/-- The output of the scan: the state's part and the part of the rows not after `t`. -/
def y (t : Fin 8) (h : Fin 4) (e : Fin 64) : EReal :=
  (∑ n, C.c t (grp h) n * C.s h e n) * Ideal.exp (C.cum t h) + ∑ s, ((if s ≤ t then C.sc h t s else 0) * C.dt s h) * C.x s h e
/-- The output with the skip added, times the activated gate. -/
def gated (t : Fin 8) (j : Fin 256) : EReal :=
  (C.y t ⟨j.val / 64, by omega⟩ ⟨j.val % 64, by omega⟩ + C.d ⟨j.val / 64, by omega⟩ * C.x t ⟨j.val / 64, by omega⟩ ⟨j.val % 64, by omega⟩)
    * (C.z t j * Ideal.logistic (C.z t j))
/-- The output: the norm of all 256 lanes, weighted. -/
def out (t : Fin 8) (j : Fin 256) : EReal :=
  C.gated t j * Ideal.rsqrt (Ideal.div (∑ k, C.gated t k * C.gated t k) (Ideal.ofBits .f32 0x43800000#32) + Ideal.ofBits .f32 0x358637BD#32) * C.w j
/-- The state after the chunk. -/
def st (h : Fin 4) (e n : Fin 64) : EReal :=
  Ideal.exp (C.cum 7 h) * C.s h e n + ∑ s, Ideal.exp (C.cum 7 h - C.cum s h) * C.dt s h * C.b s (grp h) n * C.x s h e

/-- The logarithm of a decay is never positive. -/
theorem a_nonpos (t : Fin 8) (h : Fin 4) : C.a t h ≤ 0 := step_nonpos _ _

/-- The running sums fall, so the difference of two of them is at most zero already. -/
theorem min_cum {t s : Fin 8} (hst : s ≤ t) (h : Fin 4) : min (C.cum t h - C.cum s h) 0 = C.cum t h - C.cum s h :=
  min_sub_zero (pre_anti (fun _ => C.a_nonpos _ _) hst) (pre_nonpos (fun _ => C.a_nonpos _ _) s)

end Chunk

end Cert.Ssd

end
-- ==== Proof.Ssd.Block.lean ====
/-
  One grid point of the state-space kernel, read at an index: the block it writes of the output and of the state are those of the
  chunk (`Chunk.out`, `Chunk.st`) whose data its input blocks hold.
-/
module

public import proofs.«01_k».proof.Proof.Gen.Kernel10Ideal.Value
public import proofs.«01_k».proof.Proof.Ssd.Scalar
public import proofs.«01_k».proof.Proof.Gla.Block
public import Idealize.ShloMosaic.Lib.Pipeline.ValueKit

@[expose] public section

set_option maxRecDepth 16384

noncomputable section

namespace Cert.Ssd

open Cert.Kernel10Ideal Cert.Kernel10Ideal.Gen Idealize.ShloMosaic
open Cert.Gla (select_sge tri_word select_head hz hz3 l64 exists_l64 sum_l64 pre three_parts)
open scoped BigOperators

/-- Lane of head `h` among the small lanes: the step sizes start at lane 8. -/
def hl (h : Fin 4) : Fin 128 := ⟨8 + h.val, by omega⟩

/-- The buffer of the convolution: zeros, then the three rows before the chunk in rows 5 to 7, its eight rows in rows 8 to 15. -/
def buffer (x0 : Vec Ideal S8x512 .f32) (x3 : Vec Ideal S1x3x512 .f32) : Vec Ideal S16x512 .f32 :=
  (View.whole cc0_scratch0).readCov
    [⟨Rect.unit ![8, 0] ![8, 512] inb_S16x512_S8x512_8_0, k0_pay5 x0⟩, ⟨Rect.unit ![5, 0] ![3, 512] inb_S16x512_S3x512_5_0, k0_pay4 x3⟩,
      ⟨Rect.unit ![0, 0] ![8, 512] inb_S16x512_S8x512_0_0, k0_pay3 (F := Ideal)⟩] (Rect.unit ![0, 0] ![16, 512] inb_S16x512_S16x512_0_0).toLoadRect

/-- Rows 8 to 15 of the buffer are the chunk's rows. -/
theorem buffer_rows (x0 : Vec Ideal S8x512 .f32) (x3 : Vec Ideal S1x3x512 .f32) (r : Fin 16) (i : Fin 8) (j : Fin 512) (hi : r.val = 8 + i.val) :
    buffer x0 x3 (ix2 r j) = x0 (ix2 i j) := by
  unfold buffer
  rw [View.readCov_eq_canon']
  refine (congrArg (View.canon _) (?_ : _ = (Rect.unit ![8, 0] ![8, 512] inb_S16x512_S8x512_8_0 : Rect S16x512).emb (ix2 i j))).trans
    ((View.canon_cons_emb _ _ _ _).trans ?_)
  · funext a
    refine Fin.ext ?_
    fin_cases a
    · show 0 + 1 * r.val = 8 + 1 * i.val
      omega
    · rfl
  · pointwise [k0_pay5]

/-- Rows 5 to 7 of the buffer are the three rows before the chunk. -/
theorem buffer_before (x0 : Vec Ideal S8x512 .f32) (x3 : Vec Ideal S1x3x512 .f32) (r : Fin 16) (i : Fin 3) (j : Fin 512) (hi : r.val = 5 + i.val) :
    buffer x0 x3 (ix2 r j) = x3 (ix3 0 i j) := by
  unfold buffer
  rw [View.readCov_eq_canon']
  refine (congrArg (View.canon _) (?_ : _ = (Rect.unit ![5, 0] ![3, 512] inb_S16x512_S3x512_5_0 : Rect S16x512).emb (ix2 i j))).trans
    ((View.canon_cons_of_not_mem _ _ fun h => ?_).trans ((View.canon_cons_emb _ _ _ _).trans ?_))
  · funext a
    refine Fin.ext ?_
    fin_cases a
    · show 0 + 1 * r.val = 5 + 1 * i.val
      omega
    · rfl
  · have h' : (Rect.unit ![5, 0] ![3, 512] inb_S16x512_S3x512_5_0 : Rect S16x512).emb (ix2 i j)
        ∈ (Rect.unit ![8, 0] ![8, 512] inb_S16x512_S8x512_8_0 : Rect S16x512).set := h
    rw [Rect.mem_set_unit] at h'
    have h0 := (h' 0).1
    have h1 : 8 ≤ 5 + 1 * i.val := h0
    have := i.isLt
    omega
  · pointwise [k0_pay4]

/-- The rows of a chunk after the convolution and its activation. -/
def acts (x0 : Vec Ideal S8x512 .f32) (x3 : Vec Ideal S1x3x512 .f32) (x5 : Vec Ideal S4x512 .f32) (x6 : Vec Ideal S1x512 .f32) : Vec Ideal S8x512 .f32 :=
  k0_pay7 (k0_pay6 x5 x6 (buffer x0 x3))

/-- A choice among four heads by the head number picks the head's own lane. -/
theorem select_heads (h : Fin 4) (w : BitVec 32) (hw : w = BitVec.ofNat 32 h.val) (p : Fin 128 → EReal) :
    Scalar.select (IntOp.cmpi .eq w 3#32) (p 11) (Scalar.select (IntOp.cmpi .eq w 2#32) (p 10)
      (Scalar.select (IntOp.cmpi .eq w 1#32) (p 9) (Scalar.select (IntOp.cmpi .eq w 0#32) (p 8) 0))) = p (hl h) := by
  subst hw
  fin_cases h <;> rfl

/-- The head of a value lane, as the kernel computes it where it builds the output. -/
theorem head_apply (r : Fin 8) (h : Fin 4) (e : Fin 64) : k0_pay21 (ix2 r (l64 h e)) = BitVec.ofNat 32 h.val := by
  pointwise [k0_pay21]
  revert h e
  decide +kernel

/-- The same where it spreads the decays over the value lanes. -/
theorem head27_apply (r : Fin 8) (h : Fin 4) (e : Fin 64) : k0_pay27 (ix2 r (l64 h e)) = BitVec.ofNat 32 h.val := by
  pointwise [k0_pay27]
  revert h e
  decide +kernel

/-- The same where it spreads the weights of the rows over the value lanes. -/
theorem head39_apply (r : Fin 8) (h : Fin 4) (e : Fin 64) : k0_pay39 (ix2 r (l64 h e)) = BitVec.ofNat 32 h.val := by
  pointwise [k0_pay39]
  revert h e
  decide +kernel

/-- The head of a value lane where it spreads the whole chunk's decay. -/
theorem head50_apply (h : Fin 4) (e : Fin 64) : (Scalar.select
              (IntOp.andi
                (IntOp.cmpi CmpIPredicate.ne (k0_pay50 (ix2 0 (l64 h e)))
                  (Scalar.subi (1#32) (Scalar.extui (Scalar.cmpi CmpIPredicate.slt 64#32 0#32))))
                (IntOp.cmpi CmpIPredicate.ne (IntOp.remsi ArithUnit.vector (BitVec.ofNat 32 (l64 h e).val) 64#32) 0#32))
              (IntOp.subi (k0_pay49 (ix2 0 (l64 h e))) 1#32) (k0_pay49 (ix2 0 (l64 h e)))) = BitVec.ofNat 32 h.val := by
  pointwise [k0_pay49, k0_pay50]
  revert h e
  decide +kernel

/-- A row of the state belongs to a lane if its group is the group of the lane's head. -/
theorem mask_apply (g : Fin 2) (n : Fin 64) (h : Fin 4) (e : Fin 64) (a : EReal) :
    Scalar.select (k0_pay47 k0_pay44 (iota Kind.tc S128x256 32 [1] iota_S128x256_d1_w32) (64#32) k0_pay45 k0_pay46 (ix2 (l2 g n) (l64 h e))) a 0
      = if g = grp h then a else 0 := by
  have hr : k0_pay44 (ix2 (l2 g n) (l64 h e)) = BitVec.ofNat 32 g.val := by
    pointwise [k0_pay44]
    revert g n
    decide +kernel
  have hm : k0_pay47 k0_pay44 (iota Kind.tc S128x256 32 [1] iota_S128x256_d1_w32) (64#32) k0_pay45 k0_pay46 (ix2 (l2 g n) (l64 h e))
      = if g = grp h then 1#1 else 0#1 := by
    pointwise [k0_pay47, k0_pay45, k0_pay46]
    rw [hr]
    clear hr a
    revert g h e
    decide +kernel
  rw [hm]
  by_cases hh : g = grp h
  · rw [if_pos hh, if_pos hh]; rfl
  · rw [if_neg hh, if_neg hh]; rfl

/-- The decays spread over the value lanes: every lane gets its head's. -/
theorem spread28 (E : FVec Ideal S8x128 .f32) (t : Fin 8) (h : Fin 4) (e : Fin 64) :
    Scalar.select (α := EReal) (k0_pay29 (ix2 t (l64 h e))) (k0_pay30 E (ix2 t 0)) (k0_pay28 E (ix2 t (l64 h e))) = E (ix2 t (hl h)) := by
  pointwise [k0_pay28, k0_pay29, k0_pay30]
  exact select_heads h _ (head27_apply t h e) fun j => E (ix2 t j)

/-- The weights of the rows spread over the value lanes. -/
theorem spread40 (E : FVec Ideal S8x128 .f32) (t : Fin 8) (h : Fin 4) (e : Fin 64) :
    Scalar.select (α := EReal) (k0_pay41 (ix2 t (l64 h e))) (k0_pay42 E (ix2 t 0)) (k0_pay40 E (ix2 t (l64 h e))) = E (ix2 t (hl h)) := by
  pointwise [k0_pay40, k0_pay41, k0_pay42]
  exact select_heads h _ (head39_apply t h e) fun j => E (ix2 t j)

/-- The input blocks of a grid point hold the data of the chunk `C`: the state as two blocks of keys against four of values, zero
    where the groups differ. -/
structure Holds (x0 : Vec Ideal S8x512 .f32) (x1 : Vec Ideal S8x256 .f32) (x2 : Vec Ideal S8x128 .f32) (x3 : Vec Ideal S1x3x512 .f32)
    (x4 : Vec Ideal S1x128x256 .f32) (x5 : Vec Ideal S4x512 .f32) (x6 : Vec Ideal S1x512 .f32) (x7 x8 : Vec Ideal S1x128 .f32)
    (x9 x10 : Vec Ideal S1x256 .f32) (C : Chunk) : Prop where
  before : ∀ (i : Fin 3) j, x3 (ix3 0 i j) = C.full ⟨i.val, by omega⟩ j
  rows : ∀ (i : Fin 8) j, x0 (ix2 i j) = C.full ⟨3 + i.val, by omega⟩ j
  cw : ∀ k j, x5 (ix2 k j) = C.cw k j
  cb : ∀ j, x6 (ix2 0 j) = C.cb j
  z : ∀ t j, x1 (ix2 t j) = C.z t j
  u : ∀ t h, x2 (ix2 t (hl h)) + x7 (ix2 0 (hl h)) = C.u t h
  al : ∀ h, x8 (ix2 0 (hl h)) = -(Ideal.exp (C.al h))
  s : ∀ g n h e, x4 (ix3 0 (l2 g n) (l64 h e)) = if g = grp h then C.s h e n else 0
  d : ∀ h e, x9 (ix2 0 (l64 h e)) = C.d h
  w : ∀ j, x10 (ix2 0 j) = C.w j

variable {x0 : Vec Ideal S8x512 .f32} {x1 : Vec Ideal S8x256 .f32} {x2 : Vec Ideal S8x128 .f32} {x3 : Vec Ideal S1x3x512 .f32}
    {x4 : Vec Ideal S1x128x256 .f32} {x5 : Vec Ideal S4x512 .f32} {x6 : Vec Ideal S1x512 .f32} {x7 x8 : Vec Ideal S1x128 .f32}
    {x9 x10 : Vec Ideal S1x256 .f32} {C : Chunk}

/-- The buffer from row 5 on holds the eleven rows of the chunk. -/
theorem Holds.buffer (H : Holds x0 x1 x2 x3 x4 x5 x6 x7 x8 x9 x10 C) (r : Fin 16) (i : Fin 11) (j : Fin 512) (hi : r.val = 5 + i.val) :
    Ssd.buffer x0 x3 (ix2 r j) = C.full i j := by
  by_cases hs : i.val < 3
  · rw [buffer_before x0 x3 r ⟨i.val, hs⟩ j hi, H.before]
  · rw [buffer_rows x0 x3 r ⟨i.val - 3, by omega⟩ j (by show r.val = 8 + (i.val - 3); omega), H.rows]
    congr 1
    exact Fin.ext (by show 3 + (i.val - 3) = i.val; omega)

/-- The activated rows of a grid point are its chunk's. -/
theorem Holds.acts (H : Holds x0 x1 x2 x3 x4 x5 x6 x7 x8 x9 x10 C) (t : Fin 8) (j : Fin 512) : Ssd.acts x0 x3 x5 x6 (ix2 t j) = C.act t j := by
  unfold Ssd.acts
  pointwise [k0_pay6, k0_pay7]
  rw [H.buffer _ ⟨t.val, by omega⟩ j rfl, H.buffer _ ⟨1 + t.val, by omega⟩ j (by show 6 + t.val = 5 + (1 + t.val); omega),
    H.buffer _ ⟨2 + t.val, by omega⟩ j (by show 7 + t.val = 5 + (2 + t.val); omega),
    H.buffer _ ⟨3 + t.val, by omega⟩ j (by show 8 + t.val = 5 + (3 + t.val); omega), H.cb, H.cw, H.cw, H.cw, H.cw]
  rfl

/-- The step sizes of a grid point are its chunk's. -/
theorem Holds.dt (H : Holds x0 x1 x2 x3 x4 x5 x6 x7 x8 x9 x10 C) (t : Fin 8) (h : Fin 4) : k0_pay14 x7 x2 (ix2 t (hl h)) = C.dt t h := by
  pointwise [k0_pay14]
  rw [H.u]
  rfl

/-- The logarithms of the decays of a grid point are its chunk's. -/
theorem Holds.a (H : Holds x0 x1 x2 x3 x4 x5 x6 x7 x8 x9 x10 C) (t : Fin 8) (h : Fin 4) : k0_pay15 x7 x8 x2 (ix2 t (hl h)) = C.a t h := by
  pointwise [k0_pay15]
  rw [H.dt, H.al]
  rfl

/-- The three products with the lower triangle of ones add up to the running sum of the logarithms of the decays. -/
theorem Holds.cum (H : Holds x0 x1 x2 x3 x4 x5 x6 x7 x8 x9 x10 C) (t : Fin 8) (h : Fin 4) :
    k0_pay17 (k0_pay15 x7 x8 x2) k0_pay16 (ix2 t (hl h)) = C.cum t h := by
  pointwise [k0_pay17, k0_pay16]
  unfold Chunk.cum pre
  rw [← Finset.sum_add_distrib, ← Finset.sum_add_distrib]
  refine Finset.sum_congr rfl fun u _ => ?_
  rw [tri_word, H.a]
  by_cases h' : u ≤ t
  · rw [if_pos h', if_pos h', one_mul, one_mul, one_mul]; exact three_parts (C.a_nonpos _ _)
  · rw [if_neg h', if_neg h', zero_mul, zero_mul, zero_mul, add_zero, add_zero]

/-- The output of the scan, as the kernel builds it from the activated rows, the running sums and the step sizes. -/
def y (P : Vec Ideal S8x512 .f32) (A D : FVec Ideal S8x128 .f32) (x4 : Vec Ideal S1x128x256 .f32) : FVec Ideal S8x256 .f32 :=
  k0_pay36 (k0_pay17 A k0_pay16) (k0_pay18 A k0_pay16) (k0_pay19 D) k0_pay20 k0_pay21 (k0_pay22 (k0_pay11 P))
    (k0_pay32 (k0_pay23 (k0_pay13 P)) (k0_pay24 (k0_pay12 P)))
    (k0_pay33 (k0_pay17 A k0_pay16) (k0_pay18 A k0_pay16) (k0_pay19 D) k0_pay20 k0_pay21 (k0_pay22 (k0_pay11 P)) (k0_pay23 (k0_pay13 P))
      (k0_pay24 (k0_pay12 P)) (k0_pay25 (k0_pay10 x4) (k0_pay13 P)) (k0_pay28 (k0_pay26 A k0_pay16)) k0_pay29 (k0_pay30 (k0_pay26 A k0_pay16)))
    (k0_pay34 k0_pay21)
    (k0_pay35 (k0_pay17 A k0_pay16) (k0_pay18 A k0_pay16) (k0_pay19 D) k0_pay20 (k0_pay22 (k0_pay11 P)) (k0_pay23 (k0_pay13 P)) (k0_pay24 (k0_pay12 P)))
    (FloatOps.ofBits FTy.f32 0#32)

/-- The output of the scan of a grid point is its chunk's. -/
theorem Holds.y (H : Holds x0 x1 x2 x3 x4 x5 x6 x7 x8 x9 x10 C) (t : Fin 8) (h : Fin 4) (e : Fin 64) :
    Ssd.y (Ssd.acts x0 x3 x5 x6) (k0_pay15 x7 x8 x2) (k0_pay14 x7 x2) x4 (ix2 t (l64 h e)) = C.y t h e := by
  have hP := H.acts
  have hK := H.cum
  have hD := H.dt
  generalize Ssd.acts x0 x3 x5 x6 = P at hP ⊢
  generalize k0_pay15 x7 x8 x2 = A at hK ⊢
  generalize k0_pay14 x7 x2 = D at hD ⊢
  have hx : ∀ s, k0_pay22 (k0_pay11 P) (ix2 s (l64 h e)) = C.x s h e := by
    intro s
    pointwise [k0_pay22, k0_pay11]
    exact hP s _
  have hKT : ∀ s h, k0_pay18 A k0_pay16 (ix2 (hl h) s) = C.cum s h := by
    intro s h
    pointwise [k0_pay18]
    exact hK s h
  have hDT : ∀ s h, k0_pay19 D (ix2 (hl h) s) = C.dt s h := by
    intro s h
    pointwise [k0_pay19]
    exact hD s h
  have hG0 : ∀ s, k0_pay31 (k0_pay23 (k0_pay13 P)) (k0_pay24 (k0_pay12 P)) (ix2 t s) = ∑ n, C.c t 0 n * C.b s 0 n := by
    intro s
    pointwise [k0_pay31, k0_pay23, k0_pay24, k0_pay13, k0_pay12]
    refine Finset.sum_congr rfl fun n _ => congrArg₂ (· * ·) ((hP t _).trans (congrArg (C.act t) (Fin.ext ?_))) ((hP s _).trans (congrArg (C.act s) (Fin.ext ?_)))
    · show 384 + n.val = 384 + (0 * 64 + n.val); omega
    · show 256 + n.val = 256 + (0 * 64 + n.val); omega
  have hG1 : ∀ s, k0_pay32 (k0_pay23 (k0_pay13 P)) (k0_pay24 (k0_pay12 P)) (ix2 t s) = ∑ n, C.c t 1 n * C.b s 1 n := by
    intro s
    pointwise [k0_pay32, k0_pay23, k0_pay24, k0_pay13, k0_pay12]
    refine Finset.sum_congr rfl fun n _ => congrArg₂ (· * ·) ((hP t _).trans (congrArg (C.act t) (Fin.ext ?_))) ((hP s _).trans (congrArg (C.act s) (Fin.ext ?_)))
    · show 384 + (64 + n.val) = 384 + (1 * 64 + n.val); omega
    · show 256 + (64 + n.val) = 256 + (1 * 64 + n.val); omega
  have st : k0_pay25 (k0_pay10 x4) (k0_pay13 P) (ix2 t (l64 h e))
        * Scalar.select (α := EReal) (k0_pay29 (ix2 t (l64 h e))) (k0_pay30 (k0_pay26 A k0_pay16) (ix2 t 0)) (k0_pay28 (k0_pay26 A k0_pay16) (ix2 t (l64 h e)))
      = (∑ n, C.c t (grp h) n * C.s h e n) * Ideal.exp (C.cum t h) := by
    rw [spread28]
    refine congrArg₂ (· * ·) ?_ ?_
    · pointwise [k0_pay25, k0_pay10]
      rw [sum_l2 _ (grp h) fun g' n hn => by rw [H.s, if_neg hn, mul_zero]]
      refine Finset.sum_congr rfl fun n _ => ?_
      rw [H.s, if_pos rfl]
      refine congrArg (· * C.s h e n) ?_
      pointwise [k0_pay23, k0_pay13]
      exact hP t _
    · pointwise [k0_pay26]
      exact congrArg Ideal.exp (hK t h)
  have part : ∀ (h' : Fin 4) (w : BitVec 32) (hw : w = BitVec.ofNat 32 h'.val) (G : FVec Ideal S8x8 .f32)
      (hG : ∀ s, G (ix2 t s) = ∑ n, C.c t (grp h') n * C.b s (grp h') n),
      Scalar.select (IntOp.cmpi CmpIPredicate.eq (k0_pay21 (ix2 t (l64 h e))) w)
        (∑ x, Scalar.select (k0_pay20 (ix2 t x))
          (G (ix2 t x) * Ideal.exp (min (k0_pay17 A k0_pay16 (ix2 t (hl h')) - k0_pay18 A k0_pay16 (ix2 (hl h') x)) 0) * k0_pay19 D (ix2 (hl h') x)
            * k0_pay22 (k0_pay11 P) (ix2 x (l64 h e))) (0 : EReal)) 0
      = if h = h' then ∑ s, ((if s ≤ t then C.sc h t s else 0) * C.dt s h) * C.x s h e else 0 := by
    intro h' w hw G hG
    subst hw
    rw [head_apply, select_head]
    by_cases hh : h = h'
    · subst hh
      rw [if_pos rfl, if_pos rfl]
      refine Finset.sum_congr rfl fun s _ => ?_
      pointwise [k0_pay20]
      rw [select_sge, hG, hK, hKT, hDT, hx]
      by_cases hs : s ≤ t
      · rw [if_pos hs, if_pos hs, C.min_cum hs]
        rfl
      · rw [if_neg hs, if_neg hs, zero_mul, zero_mul]
    · rw [if_neg hh, if_neg hh]
  unfold Ssd.y
  pointwise [k0_pay36, k0_pay33, k0_pay34, k0_pay35]
  refine (congrArg₂ (· + ·) (congrArg₂ (· + ·) (congrArg₂ (· + ·) (congrArg₂ (· + ·) st (part 0 0#32 rfl _ hG0)) (part 1 1#32 rfl _ hG0))
    (part 2 2#32 rfl _ hG1)) (part 3 3#32 rfl _ hG1)).trans ?_
  unfold Chunk.y
  fin_cases h <;> simp

/-- The output block of a grid point is its chunk's output. -/
theorem Holds.out (H : Holds x0 x1 x2 x3 x4 x5 x6 x7 x8 x9 x10 C) (t : Fin 8) (j : Fin 256) :
    k0_pay1 (k0_pay9 x10)
      (k0_pay52 (k0_pay8 x9) x1 (k0_pay11 (Ssd.acts x0 x3 x5 x6)) (Ssd.y (Ssd.acts x0 x3 x5 x6) (k0_pay15 x7 x8 x2) (k0_pay14 x7 x2) x4))
      (k0_pay53 (k0_pay8 x9) x1 (k0_pay11 (Ssd.acts x0 x3 x5 x6)) (Ssd.y (Ssd.acts x0 x3 x5 x6) (k0_pay15 x7 x8 x2) (k0_pay14 x7 x2) x4))
      (ix2 t j) = C.out t j := by
  have hP := H.acts
  have hY := H.y
  generalize Ssd.y (Ssd.acts x0 x3 x5 x6) (k0_pay15 x7 x8 x2) (k0_pay14 x7 x2) x4 = Y at hY ⊢
  generalize Ssd.acts x0 x3 x5 x6 = P at hP ⊢
  have hg : ∀ j, k0_pay52 (k0_pay8 x9) x1 (k0_pay11 P) Y (ix2 t j) = C.gated t j := by
    intro j
    obtain ⟨h, e, rfl⟩ := exists_l64 j
    have key : ∀ (h' : Fin 4) (e' : Fin 64), h' = h → e' = e → C.y t h e + C.d h * C.x t h e = C.y t h' e' + C.d h' * C.x t h' e' := by
      rintro _ _ rfl rfl; rfl
    pointwise [k0_pay52, k0_pay8, k0_pay11]
    rw [H.z, H.d, hY, hP]
    unfold Chunk.gated
    refine congrArg (· * _) (Eq.trans rfl (key _ _ (Fin.ext ?_) (Fin.ext ?_)))
    · show (h.val * 64 + e.val) / 64 = h.val
      have := e.isLt
      omega
    · show (h.val * 64 + e.val) % 64 = e.val
      have := e.isLt
      omega
  pointwise [k0_pay1, k0_pay53, k0_pay9]
  simp only [hg, H.w]
  rfl

/-- The state block of a grid point holds its chunk's state where the groups agree and zero elsewhere. -/
theorem Holds.st (H : Holds x0 x1 x2 x3 x4 x5 x6 x7 x8 x9 x10 C) (g : Fin 2) (n : Fin 64) (h : Fin 4) (e : Fin 64) :
    k0_pay2
      (k0_pay51 (k0_pay10 x4)
        (k0_pay43 (k0_pay11 (Ssd.acts x0 x3 x5 x6)) (k0_pay24 (k0_pay12 (Ssd.acts x0 x3 x5 x6)))
          (k0_pay40 (k0_pay38 (k0_pay14 x7 x2) (k0_pay17 (k0_pay15 x7 x8 x2) k0_pay16))) k0_pay41
          (k0_pay42 (k0_pay38 (k0_pay14 x7 x2) (k0_pay17 (k0_pay15 x7 x8 x2) k0_pay16))))
        (k0_pay47 k0_pay44 (iota Kind.tc S128x256 32 [1] iota_S128x256_d1_w32) (64#32) k0_pay45 k0_pay46)
        (k0_pay48 (k0_pay37 (k0_pay17 (k0_pay15 x7 x8 x2) k0_pay16))) (iota Kind.tc S1x256 32 [1] iota_S1x256_d1_w32)
        (64#32) k0_pay49 k0_pay50 1#32 0#32) (ix3 0 (l2 g n) (l64 h e)) = if g = grp h then C.st h e n else 0 := by
  have hP := H.acts
  have hK := H.cum
  have hD := H.dt
  generalize Ssd.acts x0 x3 x5 x6 = P at hP ⊢
  generalize k0_pay17 (k0_pay15 x7 x8 x2) k0_pay16 = K at hK ⊢
  generalize k0_pay14 x7 x2 = D at hD ⊢
  pointwise [k0_pay2, k0_pay51, k0_pay10, k0_pay48]
  rw [select_heads h _ (head50_apply h e) (fun j => Ideal.exp (k0_pay37 K (ix2 0 j))), mask_apply, H.s]
  by_cases hh : g = grp h
  · subst hh
    rw [if_pos rfl, if_pos rfl, if_pos rfl]
    unfold Chunk.st
    refine congrArg₂ (· + ·) (congrArg (· * _) ?_) ?_
    · pointwise [k0_pay37]
      exact congrArg Ideal.exp (hK 7 h)
    · pointwise [k0_pay43, k0_pay11, k0_pay24, k0_pay12]
      refine Finset.sum_congr rfl fun s _ => ?_
      rw [spread40, hP, hP]
      have hw : k0_pay38 D K (ix2 s (hl h)) = Ideal.exp (C.cum 7 h - C.cum s h) * C.dt s h := by
        pointwise [k0_pay38, k0_pay37]
        rw [hD, hK, hK]
      rw [hw]
      show C.b s (grp h) n * (C.x s h e * _) = _ * C.b s (grp h) n * C.x s h e
      rw [mul_comm (C.x s h e), ← mul_assoc, mul_comm (C.b s (grp h) n)]
  · rw [if_neg hh, if_neg hh, if_neg hh, mul_zero, add_zero]

end Cert.Ssd

end
-- ==== Proof.Ssd.Windows.lean ====
/-
  What the blocks of a grid point of the state-space kernel hold of the program's arguments: point `t` reads the eight rows of
  sequence `t` below the first 128 rows, the three rows before them, the state of sequence `t` laid out as two blocks of keys
  against four of values, and the weights.
-/
module

public import proofs.«01_k».proof.Proof.Ssd.Block
public import Idealize.ShloMosaic.Lib.Claim
public import Idealize.ShloMosaic.Lib.Routing.OpsOne

@[expose] public section

set_option maxRecDepth 16384

noncomputable section

namespace Cert.Ssd

open Cert.Kernel10Ideal Cert.Kernel10Ideal.Gen Idealize.ShloMosaic Idealize.ShloMosaic.TcCoe
open Cert.Gla (l64 exists_l64)
open scoped BigOperators

/-- The row of the packed projections that row `r` of sequence `t` is. -/
def row (t : Fin 128) (r : Fin 8) : Fin 1152 := ⟨128 + (t.val * 8 + r.val), by omega⟩

/-- The chunk that sequence `t` is, from the packed projections, the rows before the chunks, the states and the weights. -/
def chunk (pr : Vec Ideal S1152x7680 .f32) (cv : Vec Ideal S128x3x512 .f32) (s : Vec Ideal S128x4x64x64 .f32) (cw : Vec Ideal S4x512 .f32)
    (cb : Vec Ideal S512 .f32) (bi al d : Vec Ideal S4 .f32) (w : Vec Ideal S256 .f32) (t : Fin 128) : Chunk where
  full i j := if h : i.val < 3 then cv (ix3 t ⟨i.val, h⟩ j) else pr (ix2 (row t ⟨i.val - 3, by omega⟩) ⟨4096 + j.val, by omega⟩)
  cw k j := cw (ix2 k j)
  cb j := cb (ix1 j)
  z r j := pr (ix2 (row t r) ⟨6400 + j.val, by omega⟩)
  u r h := pr (ix2 (row t r) ⟨7432 + h.val, by omega⟩) + bi (ix1 h)
  al h := al (ix1 h)
  s h e n := s (ix4 t h e n)
  d h := d (ix1 h)
  w j := w (ix1 j)

/-- The block that each window takes at grid point `t`. -/
theorem idx : ∀ t : Fin grid0.N, win0_0.index t = ![t.val + 16, 8] ∧ win0_1.index t = ![t.val + 16, 25] ∧ win0_2.index t = ![t.val + 16, 58]
    ∧ win0_3.index t = ![t.val, 0, 0] ∧ win0_4.index t = ![t.val, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0, 0] := by
  decide +kernel

/-- Where an update of four values written at lane eight lands. -/
theorem lands (i : IVec S2 32) (hi : i = fun k => if (k 0).val = 0 then 0#32 else 8#32) (a : Fin 4) (r : Fin 1) (c : Fin 128) :
    scatter_S1x128_S2_S4_0_0_01_0.resultIdx? (ix1 a) i = some (ix2 r c) ↔ c.val = 8 + a.val := by
  subst hi
  refine Iff.trans (Routing.resultIdx?_ix2 (R := 1) (C := 128) scatter_S1x128_S2_S4_0_0_01_0 (ix1 a) _ r c) ?_
  have h0 : scatter_S1x128_S2_S4_0_0_01_0.start (ix1 a) (fun k => if (k 0).val = 0 then 0#32 else 8#32) 0 = 0 := rfl
  have h1 : scatter_S1x128_S2_S4_0_0_01_0.start (ix1 a) (fun k => if (k 0).val = 0 then 0#32 else 8#32) 1 = 8 := rfl
  have w0 : scatter_S1x128_S2_S4_0_0_01_0.window (ix1 a) 0 = 0 := rfl
  have w1 : scatter_S1x128_S2_S4_0_0_01_0.window (ix1 a) 1 = a.val := rfl
  rw [h0, h1, w0, w1]
  have := r.isLt
  omega

/-- Four values written at lane eight, read at one of them. -/
theorem scatter_hit (x : Vec Ideal S1x128 .f32) (i : IVec S2 32) (hi : i = fun k => if (k 0).val = 0 then 0#32 else 8#32) (u : Vec Ideal S4 .f32)
    (h : Fin 4) : Host.scatter scatter_S1x128_S2_S4_0_0_01_0 (fun _ b => b) x i u (ix2 0 (hl h)) = u (ix1 h) := by
  refine Routing.scatter_set_hit _ x i u _ _ (fun k hk => ?_) (ix1 h) ((lands i hi h 0 (hl h)).2 rfl)
  idx_vars k
  have h1 := (lands i hi k0 0 (hl h)).1 hk
  rw [show k0 = h from Fin.ext (by have : (hl h).val = 8 + h.val := rfl; omega)]

variable (m : (ℓ : Loc nD τ sig) → Buf (Elt Ideal) ℓ) (c : Dev nD)

/-- The chunk of sequence `t` of the program's arguments. -/
abbrev chunkOf (t : Fin 128) : Chunk :=
  chunk (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) t

/-- What the host operations before the kernel leave, in their three parts. -/
theorem V_parts (b : DevRef τ sig) : StableHlo.after [hostOps0, hostOps0_1, hostOps0_2].flatten (fun b => m (c, b)) b
    = StableHlo.after hostOps0_2 (StableHlo.after hostOps0_1 (StableHlo.after hostOps0 (fun b => m (c, b)))) b := by
  rw [List.flatten_cons, List.flatten_cons, List.flatten_cons, List.flatten_nil, List.append_nil, StableHlo.after_append, StableHlo.after_append]

/-- The bias of the step sizes as the kernel finds it. -/
theorem bias_read (h : Fin 4) : (V m c main_v4 : Vec Ideal S1x128 .f32) (ix2 0 (hl h)) = m ((c : Thread nD τ).loc main_arg5) (ix1 h) := by
  show StableHlo.after [hostOps0, hostOps0_1, hostOps0_2].flatten (fun b => m (c, b)) _ _ = _
  rw [V_parts]
  entry_read
  pointwise
  refine scatter_hit _ _ ?_ _ h
  funext k
  idx_vars k
  fin_cases k0 <;> rfl

/-- The decay rates as the kernel finds them. -/
theorem rate_read (h : Fin 4) : (V m c main_v11 : Vec Ideal S1x128 .f32) (ix2 0 (hl h))
    = -(Ideal.exp (m ((c : Thread nD τ).loc main_arg6) (ix1 h))) := by
  show StableHlo.after [hostOps0, hostOps0_1, hostOps0_2].flatten (fun b => m (c, b)) _ _ = _
  rw [V_parts]
  entry_read
  pointwise
  refine (scatter_hit _ _ ?_ _ h).trans ?_
  · funext k
    idx_vars k
    fin_cases k0 <;> rfl
  · pointwise

/-- The weight of the skip as the kernel finds it: once for every lane of its head. -/
theorem d_read (h : Fin 4) (e : Fin 64) : (V m c main_v14 : Vec Ideal S1x256 .f32) (ix2 0 (l64 h e)) = m ((c : Thread nD τ).loc main_arg7) (ix1 h) := by
  show StableHlo.after [hostOps0, hostOps0_1, hostOps0_2].flatten (fun b => m (c, b)) _ _ = _
  rw [V_parts]
  entry_read
  pointwise
  congr 2
  exact Fin.ext (by simp only [l64]; omega)

/-- The weight of the norm as the kernel finds it. -/
theorem w_read (j : Fin 256) : (V m c main_v15 : Vec Ideal S1x256 .f32) (ix2 0 j) = m ((c : Thread nD τ).loc main_arg8) (ix1 j) := by
  show StableHlo.after [hostOps0, hostOps0_1, hostOps0_2].flatten (fun b => m (c, b)) _ _ = _
  rw [V_parts]
  entry_read
  pointwise

/-- The bias of the convolution as the kernel finds it. -/
theorem cb_read (j : Fin 512) : (V m c main_v32 : Vec Ideal S1x512 .f32) (ix2 0 j) = m ((c : Thread nD τ).loc main_arg4) (ix1 j) := by
  show StableHlo.after [hostOps0, hostOps0_1, hostOps0_2].flatten (fun b => m (c, b)) _ _ = _
  rw [V_parts]
  entry_read
  pointwise

/-- A value times the weight that the comparison of a group number with a head's group becomes. -/
theorem group_word (g : Fin 2) (h : Fin 4) (k w : BitVec 32) (a a' : EReal) (hk : k = BitVec.ofNat 32 g.val) (hw : w = BitVec.ofNat 32 (h.val / 2))
    (ha : a = a') : a * FloatOps.uitofp (F := Ideal) .f32 (IntOp.cmpi .eq k w) = if g = grp h then a' else 0 := by
  subst hk hw ha
  have e : IntOp.cmpi .eq (BitVec.ofNat 32 g.val) (BitVec.ofNat 32 (h.val / 2)) = if g = grp h then 1#1 else 0#1 := by
    fin_cases g <;> fin_cases h <;> rfl
  rw [e]
  by_cases hh : g = grp h
  · rw [if_pos hh, if_pos hh, show FloatOps.uitofp (F := Ideal) .f32 1#1 = (1 : EReal) by
      show (((1#1 : BitVec 1).toNat : ℝ) : EReal) = 1
      norm_num]
    exact mul_one (M := EReal) _
  · rw [if_neg hh, if_neg hh, show FloatOps.uitofp (F := Ideal) .f32 0#1 = (0 : EReal) by
      show (((0#1 : BitVec 1).toNat : ℝ) : EReal) = 0
      norm_num]
    exact mul_zero (M₀ := EReal) _

/-- The state as the kernel finds it: the state where the groups agree, zero elsewhere. -/
theorem s0_read (t : Fin 128) (g : Fin 2) (n : Fin 64) (h : Fin 4) (e : Fin 64) :
    (V m c main_v31 : Vec Ideal S128x128x256 .f32) (ix3 t (l2 g n) (l64 h e))
      = if g = grp h then (m ((c : Thread nD τ).loc main_arg2) : Vec Ideal S128x4x64x64 .f32) (ix4 t h e n) else (0 : EReal) := by
  show StableHlo.after [hostOps0, hostOps0_1, hostOps0_2].flatten (fun b => m (c, b)) _ _ = _
  rw [V_parts]
  entry_read
  pointwise
  refine group_word g h _ _ _ _ ?_ ?_ ?_
  · exact congrArg (BitVec.ofNat 32) (by simp only [l2]; omega)
  · generalize hq : (⟨(l64 h e).val / 64, _⟩ : Fin 4) = q
    have hq' : q = h := by rw [← hq]; exact Fin.ext (by simp only [l64]; omega)
    clear hq
    subst hq'
    fin_cases q <;> rfl
  · have key : ∀ (h' : Fin 4) (e' n' : Fin 64), h' = h → e' = e → n' = n →
        (m ((c : Thread nD τ).loc main_arg2) : Vec Ideal S128x4x64x64 .f32) (ix4 t h' e' n') = m ((c : Thread nD τ).loc main_arg2) (ix4 t h e n) := by
      rintro _ _ _ rfl rfl rfl; rfl
    exact key _ _ _ (Fin.ext (by simp only [l64]; omega)) (Fin.ext (by simp only [l64]; omega)) (Fin.ext (by simp only [l2]; omega))

set_option maxHeartbeats 2000000 in
/-- The blocks of grid point `t` hold the data of sequence `t`. -/
theorem holds (t : Fin cfg0.N) :
    Holds (iblk m c 0 t) (iblk m c 1 t) (iblk m c 2 t) (iblk m c 3 t) (iblk m c 4 t) (iblk m c 5 t) (iblk m c 6 t) (iblk m c 7 t) (iblk m c 8 t)
      (iblk m c 9 t) (iblk m c 10 t) (chunkOf m c t) where
  before i j := by
    refine Eq.trans ?_ (dif_pos i.isLt).symm
    blk_ext [iblk, V_main_arg1, idx t]
  rows i j := by
    refine Eq.trans ?_ (dif_neg (by show ¬(3 + i.val < 3); omega)).symm
    have e : ∀ p, (⟨3 + i.val - 3, p⟩ : Fin 8) = i := fun _ => Fin.ext (by show 3 + i.val - 3 = i.val; omega)
    have key : ∀ i' : Fin 8, i' = i → (iblk m c 0 t : Vec Ideal S8x512 .f32) (ix2 i j)
        = m ((c : Thread nD τ).loc main_arg0) (ix2 (row t i') ⟨4096 + j.val, by omega⟩) := by
      rintro _ rfl
      blk_ext [iblk, V_main_arg0, idx t, row]
    exact key _ (e _)
  cw k j := by
    show _ = m ((c : Thread nD τ).loc main_arg3) (ix2 k j)
    blk_ext [iblk, V_main_arg3, idx t]
  cb j := by
    have e : (iblk m c 6 t : Vec Ideal S1x512 .f32) (ix2 0 j) = V m c main_v32 (ix2 0 j) := by blk_ext [iblk, idx t]
    exact e.trans (cb_read m c j)
  z r j := by
    show _ = m ((c : Thread nD τ).loc main_arg0) (ix2 (row t r) ⟨6400 + j.val, _⟩)
    blk_ext [iblk, V_main_arg0, idx t, row]
  u r h := by
    have e2 : (iblk m c 2 t : Vec Ideal S8x128 .f32) (ix2 r (hl h))
        = m ((c : Thread nD τ).loc main_arg0) (ix2 (row t r) ⟨7432 + h.val, by omega⟩) := by
      blk_ext [iblk, V_main_arg0, idx t, row, hl]
    have e7 : (iblk m c 7 t : Vec Ideal S1x128 .f32) (ix2 0 (hl h)) = V m c main_v4 (ix2 0 (hl h)) := by blk_ext [iblk, idx t, hl]
    exact congrArg₂ (· + ·) e2 (e7.trans (bias_read m c h))
  al h := by
    have e8 : (iblk m c 8 t : Vec Ideal S1x128 .f32) (ix2 0 (hl h)) = V m c main_v11 (ix2 0 (hl h)) := by blk_ext [iblk, idx t, hl]
    exact e8.trans (rate_read m c h)
  s g n h e := by
    have e4 : (iblk m c 4 t : Vec Ideal S1x128x256 .f32) (ix3 0 (l2 g n) (l64 h e)) = V m c main_v31 (ix3 (t : Fin 128) (l2 g n) (l64 h e)) := by
      blk_ext [iblk, idx t, l2, l64]
    exact e4.trans (s0_read m c t g n h e)
  d h e := by
    have e9 : (iblk m c 9 t : Vec Ideal S1x256 .f32) (ix2 0 (l64 h e)) = V m c main_v14 (ix2 0 (l64 h e)) := by blk_ext [iblk, idx t, l64]
    exact e9.trans (d_read m c h e)
  w j := by
    have e10 : (iblk m c 10 t : Vec Ideal S1x256 .f32) (ix2 0 j) = V m c main_v15 (ix2 0 j) := by blk_ext [iblk, idx t]
    exact e10.trans (w_read m c j)

end Cert.Ssd

end
-- ==== Proof.Ssd.Final.lean ====
/-
  The arrays that the state-space kernel leaves: every block is written by one grid point, so the arrays hold the outputs and the
  states of all 128 sequences.
-/
module

public import proofs.«01_k».proof.Proof.Ssd.Windows

@[expose] public section

set_option maxRecDepth 16384

noncomputable section

namespace Cert.Ssd

open Cert.Kernel10Ideal Cert.Kernel10Ideal.Gen Idealize.ShloMosaic Idealize.ShloMosaic.TcCoe
open Cert.Gla (l64 exists_l64)
open Idealize.ShloMosaic.Pipeline (Dat)

/-- The outputs of all sequences: row `t * 8 + r`, lane `j` holds sequence `t`'s output at row `r`, lane `j`. -/
def outs (C : Fin 128 → Chunk) : Vec Ideal S1024x256 .f32 := fun i =>
  (C ⟨(i 0).val / 8, Nat.div_lt_of_lt_mul (i 0).isLt⟩).out ⟨(i 0).val % 8, Nat.mod_lt _ (by decide)⟩ ⟨(i 1).val, (i 1).isLt⟩

/-- The states of all sequences, each as two blocks of keys against four of values, zero where the groups differ. -/
def states (C : Fin 128 → Chunk) : Vec Ideal S128x128x256 .f32 := fun i =>
  if (i 1).val / 64 = (i 2).val / 64 / 2 then
    (C ⟨(i 0).val, (i 0).isLt⟩).st ⟨(i 2).val / 64, Nat.div_lt_of_lt_mul (i 2).isLt⟩ ⟨(i 2).val % 64, Nat.mod_lt _ (by decide)⟩
      ⟨(i 1).val % 64, Nat.mod_lt _ (by decide)⟩
  else 0

/-- The outputs at an index. -/
theorem outs_apply (C : Fin 128 → Chunk) (t : Fin 128) (r : Fin 8) (j : Fin 256) (i : Fin 1024) (hi : i.val = t.val * 8 + r.val) :
    outs C (ix2 i j) = (C t).out r j := by
  have hr := r.isLt
  have key : ∀ (t' : Fin 128) (r' : Fin 8), t' = t → r' = r → (C t').out r' j = (C t).out r j := by
    rintro _ _ rfl rfl; rfl
  exact key _ _ (Fin.ext (by show i.val / 8 = _; omega)) (Fin.ext (by show i.val % 8 = _; omega))

/-- The states at an index. -/
theorem states_apply (C : Fin 128 → Chunk) (t : Fin 128) (g : Fin 2) (n : Fin 64) (h : Fin 4) (e : Fin 64) :
    states C (ix3 t (l2 g n) (l64 h e)) = if g = grp h then (C t).st h e n else 0 := by
  have key : ∀ (p : Prop) [Decidable p] (t' : Fin 128) (h1 : Fin 4) (e' n' : Fin 64), (p ↔ g = grp h) → t' = t → h1 = h → e' = e → n' = n →
      (if p then (C t').st h1 e' n' else 0) = if g = grp h then (C t).st h e n else 0 := by
    rintro p _ _ _ _ _ hp rfl rfl rfl rfl
    by_cases hh : p
    · rw [if_pos hh, if_pos (hp.1 hh)]
    · rw [if_neg hh, if_neg (mt hp.2 hh)]
  refine key _ _ _ _ _ ?_ rfl (Fin.ext ?_) (Fin.ext ?_) (Fin.ext ?_)
  · show (g.val * 64 + n.val) / 64 = (h.val * 64 + e.val) / 64 / 2 ↔ _
    rw [Fin.ext_iff]
    show _ ↔ g.val = h.val / 2
    omega
  · show (h.val * 64 + e.val) / 64 = _
    omega
  · show (h.val * 64 + e.val) % 64 = _
    omega
  · show (g.val * 64 + n.val) % 64 = _
    omega

variable (m : (ℓ : Loc nD τ sig) → Buf (Elt Ideal) ℓ) (c : Dev nD)

/-- The output block of a grid point. -/
theorem outs1 (t : Fin cfg0.N) (r : Fin 8) (j : Fin 256) : (outsAt0 m c t).1 (ix2 r j) = (chunkOf m c t).out r j := by
  refine Eq.trans (congrFun ?_ _) ((holds m c t).out r j)
  unfold outsAt0
  dsimp only
  generalize (iblk m c 0 t : Vec Ideal S8x512 .f32) = x0
  generalize (iblk m c 1 t : Vec Ideal S8x256 .f32) = x1
  generalize (iblk m c 2 t : Vec Ideal S8x128 .f32) = x2
  generalize (iblk m c 3 t : Vec Ideal S1x3x512 .f32) = x3
  generalize (iblk m c 4 t : Vec Ideal S1x128x256 .f32) = x4
  generalize (iblk m c 5 t : Vec Ideal S4x512 .f32) = x5
  generalize (iblk m c 6 t : Vec Ideal S1x512 .f32) = x6
  generalize (iblk m c 7 t : Vec Ideal S1x128 .f32) = x7
  generalize (iblk m c 8 t : Vec Ideal S1x128 .f32) = x8
  generalize (iblk m c 9 t : Vec Ideal S1x256 .f32) = x9
  generalize (iblk m c 10 t : Vec Ideal S1x256 .f32) = x10
  frame_out
  rfl

/-- The state block of a grid point. -/
theorem outs2 (t : Fin cfg0.N) (g : Fin 2) (n : Fin 64) (h : Fin 4) (e : Fin 64) :
    (outsAt0 m c t).2 (ix3 0 (l2 g n) (l64 h e)) = if g = grp h then (chunkOf m c t).st h e n else 0 := by
  refine Eq.trans (congrFun ?_ _) ((holds m c t).st g n h e)
  unfold outsAt0
  dsimp only
  generalize (iblk m c 0 t : Vec Ideal S8x512 .f32) = x0
  generalize (iblk m c 1 t : Vec Ideal S8x256 .f32) = x1
  generalize (iblk m c 2 t : Vec Ideal S8x128 .f32) = x2
  generalize (iblk m c 3 t : Vec Ideal S1x3x512 .f32) = x3
  generalize (iblk m c 4 t : Vec Ideal S1x128x256 .f32) = x4
  generalize (iblk m c 5 t : Vec Ideal S4x512 .f32) = x5
  generalize (iblk m c 6 t : Vec Ideal S1x512 .f32) = x6
  generalize (iblk m c 7 t : Vec Ideal S1x128 .f32) = x7
  generalize (iblk m c 8 t : Vec Ideal S1x128 .f32) = x8
  generalize (iblk m c 9 t : Vec Ideal S1x256 .f32) = x9
  generalize (iblk m c 10 t : Vec Ideal S1x256 .f32) = x10
  frame_out
  rfl

/-- The output array after the run. -/
theorem arr11 : (dats m 0 c).arrAt 11 cfg0.N = outs (chunkOf m c) := by
  refine (dats m 0 c).arrAt_eq_of_covers 11 _ (by decide +kernel) fun t hf y => ?_
  blk_simp
  rw [after0_11]
  idx_vars y
  refine (outs1 m c t y0 y1).trans ?_
  refine ((outs_apply (chunkOf m c) t y0 y1 ⟨t.val * 8 + y0.val, by have : t.val < 128 := t.isLt; omega⟩ rfl).symm).trans ?_
  blk_ext [idx t]

/-- The state array after the run. -/
theorem arr12 : (dats m 0 c).arrAt 12 cfg0.N = states (chunkOf m c) := by
  refine (dats m 0 c).arrAt_eq_of_covers 12 _ (by decide +kernel) fun t hf y => ?_
  blk_simp
  rw [after0_12]
  idx_vars y
  obtain ⟨h, e, rfl⟩ := exists_l64 y2
  obtain ⟨g, n, rfl⟩ := exists_l2 y1
  obtain rfl : y0 = 0 := Subsingleton.elim _ _
  refine (outs2 m c t g n h e).trans ?_
  refine ((states_apply (chunkOf m c) t g n h e).symm).trans ?_
  blk_ext [idx t]

end Cert.Ssd

end
-- ==== Proof.Ssd.Reference.lean ====
/-
  The reference, read one sequence at a time: its two results hold the outputs and the states of the chunk that each sequence is.
-/
module

public import proofs.«01_k».proof.Proof.Ssd.Final
public import proofs.«01_k».proof.Proof.Gla.Reference
public import proofs.«01_k».proof.Proof.Gen.Reference10Ideal.Read

@[expose] public section

set_option maxRecDepth 16384

noncomputable section

namespace Cert.Ssd

open Cert.Reference10Ideal Cert.Reference10Ideal.Gen Cert.Reference10Ideal.Read Idealize.ShloMosaic Idealize.ShloMosaic.TcCoe
open Cert.Gla (select_sge l64 exists_l64 pre foldl_add back_sum)
open scoped BigOperators

variable (x0 : (⟨Cert.Reference10Ideal.S1152x7680, .f32⟩ : BufTy).Contents (Elt Ideal)) (x1 : (⟨Cert.Reference10Ideal.S128x3x512, .f32⟩ : BufTy).Contents (Elt Ideal))
  (x2 : (⟨Cert.Reference10Ideal.S128x4x64x64, .f32⟩ : BufTy).Contents (Elt Ideal)) (x3 : (⟨Cert.Reference10Ideal.S4x512, .f32⟩ : BufTy).Contents (Elt Ideal))
  (x4 : (⟨Cert.Reference10Ideal.S512, .f32⟩ : BufTy).Contents (Elt Ideal)) (x5 x6 x7 : (⟨Cert.Reference10Ideal.S4, .f32⟩ : BufTy).Contents (Elt Ideal))
  (x8 : (⟨Cert.Reference10Ideal.S256, .f32⟩ : BufTy).Contents (Elt Ideal))

/-- The output gates before their activation. -/
theorem z_read (b : Fin 128) (t : Fin 8) (j : Fin 256) :
    val_main_v2 (F := Ideal) x0 (ix3 b t j) = (chunk x0 x1 x2 x3 x4 x5 x6 x7 x8 b).z t j := by
  pointwise [val_main_v2, val_main_v1, val_main_v0]
  rfl

/-- The eleven rows of a chunk. -/
theorem full_read (b : Fin 128) (i : Fin 11) (j : Fin 512) :
    val_main_v5 (F := Ideal) x0 x1 (ix3 b i j) = (chunk x0 x1 x2 x3 x4 x5 x6 x7 x8 b).full i j := by
  by_cases hi : i.val < 3
  · refine Eq.trans ?_ (dif_pos hi).symm
    pointwise [val_main_v5]
    exact dif_pos hi
  · refine Eq.trans ?_ (dif_neg hi).symm
    pointwise [val_main_v5]
    refine (dif_neg hi).trans ?_
    pointwise [val_main_v4, val_main_v3, val_main_v0]
    rfl

/-- The convolution. -/
theorem conv_read (b : Fin 128) (t : Fin 8) (j : Fin 512) :
    val_main_v35 (F := Ideal) x0 x1 x3 x4 (ix3 b t j) = (chunk x0 x1 x2 x3 x4 x5 x6 x7 x8 b).conv t j := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6]
  simp only [full_read x0 x1 x2 x3 x4 x5 x6 x7 x8]
  rfl

/-- The activated rows. -/
theorem act_read (b : Fin 128) (t : Fin 8) (j : Fin 512) :
    val_main_v36 (F := Ideal) x0 x1 x3 x4 (ix3 b t j) = (chunk x0 x1 x2 x3 x4 x5 x6 x7 x8 b).act t j := by
  pointwise [val_main_v36, val_main_call0_v5, val_main_call0_v4, val_main_call0_v3, val_main_call0_v2, val_main_call0_v1, val_main_call0_v0,
    val_main_call0_cst, val_main_call0_cst_0]
  rw [conv_read x0 x1 x2 x3 x4 x5 x6 x7 x8]
  rfl

/-- The values. -/
theorem x_read (b : Fin 128) (t : Fin 8) (h : Fin 4) (e : Fin 64) :
    val_main_v38 (F := Ideal) x0 x1 x3 x4 (ix4 b t h e) = (chunk x0 x1 x2 x3 x4 x5 x6 x7 x8 b).x t h e := by
  pointwise [val_main_v38, val_main_v37]
  exact act_read x0 x1 x2 x3 x4 x5 x6 x7 x8 b t _

/-- The keys. -/
theorem b_read (b : Fin 128) (t : Fin 8) (h : Fin 4) (n : Fin 64) :
    val_main_v42 (F := Ideal) x0 x1 x3 x4 (ix4 b t h n) = (chunk x0 x1 x2 x3 x4 x5 x6 x7 x8 b).b t (grp h) n := by
  pointwise [val_main_v42, val_main_v41, val_main_v40, val_main_v39]
  exact act_read x0 x1 x2 x3 x4 x5 x6 x7 x8 b t _

/-- The queries. -/
theorem c_read (b : Fin 128) (t : Fin 8) (h : Fin 4) (n : Fin 64) :
    val_main_v46 (F := Ideal) x0 x1 x3 x4 (ix4 b t h n) = (chunk x0 x1 x2 x3 x4 x5 x6 x7 x8 b).c t (grp h) n := by
  pointwise [val_main_v46, val_main_v45, val_main_v44, val_main_v43]
  exact act_read x0 x1 x2 x3 x4 x5 x6 x7 x8 b t _

/-- The step sizes before the softplus. -/
theorem u_read (b : Fin 128) (t : Fin 8) (h : Fin 4) :
    val_main_v51 (F := Ideal) x0 x5 (ix3 b t h) = (chunk x0 x1 x2 x3 x4 x5 x6 x7 x8 b).u t h := by
  pointwise [val_main_v51, val_main_v50, val_main_v49, val_main_v48, val_main_v47, val_main_v0]
  rfl

/-- The step sizes. -/
theorem dt_read (b : Fin 128) (t : Fin 8) (h : Fin 4) :
    val_main_v52 (F := Ideal) x0 x5 (ix3 b t h) = (chunk x0 x1 x2 x3 x4 x5 x6 x7 x8 b).dt t h := by
  pointwise [val_main_v52, val_main_call1_v11, val_main_call1_v10, val_main_call1_v9, val_main_call1_v8, val_main_call1_v7, val_main_call1_v6,
    val_main_call1_v5, val_main_call1_v4, val_main_call1_v3, val_main_call1_v2, val_main_call1_v1, val_main_call1_v0, val_main_call1_cst]
  rw [if_neg (not_not.2 rfl)]
  rw [u_read x0 x1 x2 x3 x4 x5 x6 x7 x8]
  unfold Chunk.dt softplus
  rw [zero_sub]
  rfl

/-- The logarithms of the decays. -/
theorem a_read (b : Fin 128) (t : Fin 8) (h : Fin 4) :
    val_main_v57 (F := Ideal) x0 x5 x6 (ix3 b t h) = (chunk x0 x1 x2 x3 x4 x5 x6 x7 x8 b).a t h := by
  pointwise [val_main_v57, val_main_v56, val_main_v55, val_main_v54, val_main_v53]
  rw [dt_read x0 x1 x2 x3 x4 x5 x6 x7 x8]
  rfl

/-- The windows of eight rows, one per row. -/
def windowEquiv : Fin 8 ≃ (⟨3, ![1, 8, 1]⟩ : Shape).Idx where
  toFun u := ix3 (0 : Fin 1) u (0 : Fin 1)
  invFun k := k 1
  left_inv _ := rfl
  right_inv k := by
    idx_vars k
    obtain rfl : k0 = 0 := Subsingleton.elim _ _
    obtain rfl : k2 = 0 := Subsingleton.elim _ _
    rfl

/-- A sum over windows that reach seven rows back is the running sum of the eight rows. -/
theorem window_sum (x : FVec Ideal Cert.Reference10Ideal.S128x8x4 .f32) (i : FVec Ideal Cert.Reference10Ideal.S_ .f32) (hi : ∀ p, i p = (0 : EReal))
    (b : Fin 128) (t : Fin 8) (h : Fin 4) :
    Host.reduceWindowAdd (F := Ideal) ![1, 8, 1] ![1, 1, 1] ![0, 7, 0] ![0, 0, 0] x i
      reduceWindows_S128x8x4_S128x8x4_w1s1p0_0_w8s1p7_0_w1s1p0_0 h_S_ (ix3 b t h)
      = pre (fun u => x (ix3 b u h)) t := by
  unfold Host.reduceWindowAdd
  rw [Ideal.hostReduceWindowAdd_def]
  unfold Ideal.hostReduceWindowAdd Host.reduceWindow
  dsimp only
  rw [foldl_add, hi, zero_add]
  refine Eq.trans (Equiv.sum_comp (windowEquiv.trans (⟨3, ![1, 8, 1]⟩ : Shape).rowMajor) _).symm ?_
  refine (Finset.sum_congr rfl fun u _ => ?_).trans (back_sum (fun u => x (ix3 b u h)) t)
  rw [Equiv.trans_apply]
  simp only [Equiv.symm_apply_apply]
  have hu := u.isLt
  have ht := t.isLt
  by_cases h7 : 7 ≤ t.val + u.val
  · rw [dif_pos h7, dif_pos]
    · refine congrArg x (funext fun a => Fin.ext ?_)
      fin_cases a
      · show b.val * 1 + 0 - 0 = b.val
        omega
      · show t.val * 1 + u.val - 7 = t.val + u.val - 7
        omega
      · show h.val * 1 + 0 - 0 = h.val
        omega
    · intro a
      fin_cases a
      · show 0 ≤ b.val * 1 + 0 ∧ b.val * 1 + 0 - 0 < 128
        omega
      · show 7 ≤ t.val * 1 + u.val ∧ t.val * 1 + u.val - 7 < 8
        omega
      · show 0 ≤ h.val * 1 + 0 ∧ h.val * 1 + 0 - 0 < 4
        omega
  · rw [dif_neg h7, dif_neg]
    intro hin
    have : 7 ≤ t.val * 1 + u.val := (hin 1).1
    omega

/-- The running sums. -/
theorem cum_read (b : Fin 128) (t : Fin 8) (h : Fin 4) :
    val_main_v58 (F := Ideal) x0 x5 x6 (ix3 b t h) = (chunk x0 x1 x2 x3 x4 x5 x6 x7 x8 b).cum t h := by
  refine (window_sum _ _ (fun p => ?_) b t h).trans ?_
  · obtain rfl : p = ix0 := Subsingleton.elim _ _
    pointwise [val_main_call2_call0_v0, val_main_call2_call0_cst]
  · exact congrArg (fun f => pre f t) (funext fun u => a_read x0 x1 x2 x3 x4 x5 x6 x7 x8 b u h)

/-- The decays from row `s` to row `t`: zero where `s` is after `t`. -/
theorem seg_read (b : Fin 128) (t s : Fin 8) (h : Fin 4) :
    val_main_v72 (F := Ideal) x0 x5 x6 (ix4 b t s h) = if s ≤ t then
      Ideal.exp ((chunk x0 x1 x2 x3 x4 x5 x6 x7 x8 b).cum t h - (chunk x0 x1 x2 x3 x4 x5 x6 x7 x8 b).cum s h) else 0 := by
  pointwise [val_main_v72, val_main_v71, val_main_v70, val_main_v69, val_main_v68, val_main_v67, val_main_v66, val_main_v65, val_main_v64, val_main_v63, val_main_v62, val_main_v61, val_main_v60, val_main_v59, val_main_call3_v2, val_main_call3_v1, val_main_call3_v0, val_main_cst]
  rw [cum_read x0 x1 x2 x3 x4 x5 x6 x7 x8, cum_read x0 x1 x2 x3 x4 x5 x6 x7 x8, select_sge]
  have e : constant (F := Ideal) Cert.Reference10Ideal.S_ .f32 4286578688#32 ix0 = ⊥ := by
    show Ideal.ofBits .f32 0xFF800000#32 = ⊥
    simp [Ideal.ofBits, Ideal.ieee]
  by_cases hs : s ≤ t
  · rw [if_pos hs, if_pos hs]
  · rw [if_neg hs, if_neg hs]
    show Ideal.exp (constant (F := Ideal) Cert.Reference10Ideal.S_ .f32 4286578688#32 ix0) = 0
    rw [e]
    rfl

/-- The scores, masked. -/
theorem sc_read (b : Fin 128) (h : Fin 4) (t s : Fin 8) :
    val_main_v75 (F := Ideal) x0 x1 x3 x4 x5 x6 (ix4 b h t s) = if s ≤ t then (chunk x0 x1 x2 x3 x4 x5 x6 x7 x8 b).sc h t s else 0 := by
  pointwise [val_main_v75, val_main_v74, val_main_v73]
  simp only [c_read x0 x1 x2 x3 x4 x5 x6 x7 x8, b_read x0 x1 x2 x3 x4 x5 x6 x7 x8, seg_read x0 x1 x2 x3 x4 x5 x6 x7 x8]
  by_cases hs : s ≤ t
  · rw [if_pos hs, if_pos hs]
    rfl
  · rw [if_neg hs, if_neg hs]
    exact mul_zero (M₀ := EReal) _

/-- The outputs of the scan. -/
theorem y_read (b : Fin 128) (t : Fin 8) (h : Fin 4) (e : Fin 64) :
    val_main_v88 (F := Ideal) x0 x1 x2 x3 x4 x5 x6 (ix4 b t h e) = (chunk x0 x1 x2 x3 x4 x5 x6 x7 x8 b).y t h e := by
  pointwise [val_main_v88, val_main_v87, val_main_v86, val_main_v85, val_main_v84, val_main_v83, val_main_v82, val_main_v81, val_main_v80, val_main_v79, val_main_v78, val_main_v77, val_main_v76]
  simp only [c_read x0 x1 x2 x3 x4 x5 x6 x7 x8, cum_read x0 x1 x2 x3 x4 x5 x6 x7 x8, x_read x0 x1 x2 x3 x4 x5 x6 x7 x8, sc_read x0 x1 x2 x3 x4 x5 x6 x7 x8,
    dt_read x0 x1 x2 x3 x4 x5 x6 x7 x8]
  refine congrArg₂ (· + ·) (congrArg (· * _) (Finset.sum_congr rfl fun n _ => ?_)) (Finset.sum_congr rfl fun s _ => ?_)
  · exact mul_comm (G := EReal) _ _
  · exact mul_comm (G := EReal) _ _

/-- The states after the chunk. -/
theorem st_read (b : Fin 128) (h : Fin 4) (e n : Fin 64) :
    val_main_v104 (F := Ideal) x0 x1 x2 x3 x4 x5 x6 (ix4 b h e n) = (chunk x0 x1 x2 x3 x4 x5 x6 x7 x8 b).st h e n := by
  pointwise [val_main_v104, val_main_v103, val_main_v102, val_main_v101, val_main_v100, val_main_v99, val_main_v98, val_main_v97, val_main_v96, val_main_v95, val_main_v94, val_main_v93, val_main_v92, val_main_v91, val_main_v90, val_main_v89]
  simp only [b_read x0 x1 x2 x3 x4 x5 x6 x7 x8, cum_read x0 x1 x2 x3 x4 x5 x6 x7 x8, x_read x0 x1 x2 x3 x4 x5 x6 x7 x8,
    dt_read x0 x1 x2 x3 x4 x5 x6 x7 x8]
  refine congrArg₂ (· + ·) rfl (Finset.sum_congr rfl fun s _ => ?_)
  exact mul_comm (G := EReal) _ _

/-- The outputs with the skip, gated. -/
theorem gated_read (b : Fin 128) (t : Fin 8) (j : Fin 256) :
    val_main_v112 (F := Ideal) x0 x1 x2 x3 x4 x5 x6 x7 (ix3 b t j) = (chunk x0 x1 x2 x3 x4 x5 x6 x7 x8 b).gated t j := by
  pointwise [val_main_v112, val_main_v111, val_main_v110, val_main_v109, val_main_v108, val_main_v107, val_main_v106, val_main_v105, val_main_call4_v5, val_main_call4_v4, val_main_call4_v3, val_main_call4_v2, val_main_call4_v1, val_main_call4_v0,
    val_main_call4_cst, val_main_call4_cst_0]
  rw [y_read x0 x1 x2 x3 x4 x5 x6 x7 x8, x_read x0 x1 x2 x3 x4 x5 x6 x7 x8, z_read x0 x1 x2 x3 x4 x5 x6 x7 x8]
  rfl

/-- The normed outputs. -/
theorem norm_read (b : Fin 128) (t : Fin 8) (j : Fin 256) :
    val_main_v125 (F := Ideal) x0 x1 x2 x3 x4 x5 x6 x7 x8 (ix3 b t j) = (chunk x0 x1 x2 x3 x4 x5 x6 x7 x8 b).out t j := by
  pointwise [val_main_v125, val_main_v124, val_main_v123, val_main_v122, val_main_v121, val_main_v120, val_main_v119, val_main_v118, val_main_v117, val_main_v116, val_main_v115, val_main_v114, val_main_v113, val_main_cst_0, val_main_cst_1, val_main_cst_2]
  simp only [gated_read x0 x1 x2 x3 x4 x5 x6 x7 x8]
  rfl

/-- Which rows of the state belong to which heads. -/
theorem mask_read (g : Fin 2) (h : Fin 4) : val_main_v134 (F := Ideal) (ix5 0 g 0 h 0) = if g = grp h then 1#1 else 0#1 := by
  pointwise [val_main_v134, val_main_v133, val_main_v132, val_main_v131, val_main_v130, val_main_v129, val_main_v128, val_main_v127, val_main_v126, val_main_c, val_main_call5_v13, val_main_call5_v12, val_main_call5_v11, val_main_call5_v10, val_main_call5_v9, val_main_call5_v8,
    val_main_call5_v7, val_main_call5_v6, val_main_call5_v5, val_main_call5_v4, val_main_call5_v3, val_main_call5_v2, val_main_call5_v1, val_main_call5_v0,
    val_main_call5_c, val_main_call5_c_0]
  revert g h
  decide +kernel

/-- The first result. -/
theorem out0_read : val_main_v138 (F := Ideal) x0 x1 x2 x3 x4 x5 x6 x7 x8 = outs (chunk x0 x1 x2 x3 x4 x5 x6 x7 x8) := by
  funext i
  idx_vars i
  pointwise [val_main_v138]
  exact norm_read x0 x1 x2 x3 x4 x5 x6 x7 x8 _ _ i1

/-- The second result. -/
theorem out1_read : val_main_v139 (F := Ideal) x0 x1 x2 x3 x4 x5 x6 = states (chunk x0 x1 x2 x3 x4 x5 x6 x7 x8) := by
  funext i
  idx_vars i
  obtain ⟨h, e, rfl⟩ := exists_l64 i2
  obtain ⟨g, n, rfl⟩ := exists_l2 i1
  refine Eq.trans ?_ (states_apply _ i0 g n h e).symm
  have key : ∀ (g1 : Fin 2) (n1 : Fin 64) (h2 : Fin 4) (e1 : Fin 64), g1 = g → n1 = n → h2 = h → e1 = e →
      val_main_v137 (F := Ideal) x0 x1 x2 x3 x4 x5 x6 (ix5 i0 g1 n1 h2 e1) = val_main_v137 (F := Ideal) x0 x1 x2 x3 x4 x5 x6 (ix5 i0 g n h e) := by
    rintro _ _ _ _ rfl rfl rfl rfl; rfl
  pointwise [val_main_v139]
  refine (key _ _ _ _ (Fin.ext ?_) (Fin.ext ?_) (Fin.ext ?_) (Fin.ext ?_)).trans ?_
  · show (g.val * 64 + n.val) / 64 = _
    omega
  · show (g.val * 64 + n.val) % 64 = _
    omega
  · show (h.val * 64 + e.val) / 64 = _
    omega
  · show (h.val * 64 + e.val) % 64 = _
    omega
  pointwise [val_main_v137, val_main_call6_v0, val_main_call6_v1, val_main_call6_v2, val_main_call6_v3, val_main_cst_3, val_main_v136, val_main_v135]
  rw [st_read x0 x1 x2 x3 x4 x5 x6 x7 x8, mask_read]
  by_cases hh : g = grp h
  · rw [if_pos hh, if_pos hh]
    rfl
  · rw [if_neg hh, if_neg hh]
    show Ideal.ofBits .f32 0x00000000#32 = 0
    simp [Ideal.ofBits, Ideal.ieee]

end Cert.Ssd

end
-- ==== Proof.FoxC.Block.lean ====
/-
  One grid point of the kernel that adds up the log forget gates of a sequence, read at an index: the sixteen blocks of rows it
  works through one after another hold the running sums of the sequence's rows, the meta rows before the others.
-/
module

public import proofs.«01_k».proof.Proof.Gen.Kernel11Ideal.Value
public import Idealize.ShloMosaic.Lib.Pipeline.ValueKit
public import Idealize.ShloMosaic.Lib.Pipeline.ReadBack

@[expose] public section

set_option maxRecDepth 16384

noncomputable section

namespace Cert.FoxC

open Cert.Kernel11Ideal Cert.Kernel11Ideal.Gen Idealize.ShloMosaic Idealize.ShloMosaic.TcCoe
open scoped BigOperators

/-! ### The scalars -/

/-- A number other than plus infinity is the sum of the three parts the kernel splits it into. -/
theorem three_parts {g : EReal} (h : g ≠ ⊤) : g + (g - g) + (g - g - (g - g)) = g := by
  induction g with
  | bot => simp
  | coe x => norm_cast; simp
  | top => exact absurd rfl h

/-- The weight zero or one that a comparison of two row numbers of a block becomes. -/
theorem tri_word {n : Nat} (hn : n ≤ 128) (t s : Fin n) :
    FloatOps.sitofp (F := Ideal) .f32 (BitVec.setWidth 32 (IntOp.cmpi .sge (BitVec.ofNat 32 t.val) (BitVec.ofNat 32 s.val)))
      = if s ≤ t then (1 : EReal) else 0 := by
  have e : BitVec.setWidth 32 (IntOp.cmpi .sge (BitVec.ofNat 32 t.val) (BitVec.ofNat 32 s.val)) = if s ≤ t then 1#32 else 0#32 := by
    have ht := t.isLt
    have hs := s.isLt
    have key : ∀ a b : Fin 128, BitVec.setWidth 32 (IntOp.cmpi .sge (BitVec.ofNat 32 a.val) (BitVec.ofNat 32 b.val)) = if b ≤ a then 1#32 else 0#32 := by
      decide +kernel
    exact key ⟨t.val, by omega⟩ ⟨s.val, by omega⟩
  rw [e]
  split
  · show (((1#32 : BitVec 32).toInt : ℝ) : EReal) = 1
    norm_num
  · show (((0#32 : BitVec 32).toInt : ℝ) : EReal) = 0
    norm_num

/-- The terms up to row `r`, each weighted one or zero, add up to the sum of the first `r + 1`. -/
theorem sum_le {n : Nat} (f : Nat → EReal) (r : Fin n) : (∑ s : Fin n, if s ≤ r then f s.val else 0) = ∑ s ∈ Finset.range (r.val + 1), f s := by
  have e : (∑ s : Fin n, if s ≤ r then f s.val else 0) = ∑ s ∈ Finset.range n, if s ≤ r.val then f s else 0 :=
    Fin.sum_univ_eq_sum_range (fun s => if s ≤ r.val then f s else 0) n
  rw [e, ← Finset.sum_filter]
  refine Finset.sum_congr (Finset.ext fun s => ?_) fun _ _ => rfl
  have := r.isLt
  simp only [Finset.mem_filter, Finset.mem_range]
  omega

/-! ### The rows of a sequence -/

variable (x0 : Vec Ideal S2048x128 .f32) (x1 : Vec Ideal S16x128 .f32)

/-- Row `s` of a sequence at lane `l`: the sixteen meta rows, then the others. -/
def row (l : Fin 128) (s : Nat) : EReal :=
  if h : s < 16 then x1 (ix2 ⟨s, h⟩ l) else if h' : s - 16 < 2048 then x0 (ix2 ⟨s - 16, h'⟩ l) else 0

/-- The sum of the first `n` rows of a sequence. -/
def total (l : Fin 128) (n : Nat) : EReal := ∑ s ∈ Finset.range n, row x0 x1 l s

theorem row_meta (l : Fin 128) (s : Fin 16) : row x0 x1 l s.val = x1 (ix2 s l) := dif_pos s.isLt

theorem row_main (l : Fin 128) (s : Fin 2048) : row x0 x1 l (16 + s.val) = x0 (ix2 s l) := by
  unfold row
  rw [dif_neg (by omega), dif_pos (by have := s.isLt; omega)]
  exact congrArg (fun a => x0 (ix2 a l)) (Fin.ext (by simp))

/-- A block lies inside the rows. -/
theorem inb (k : Nat) : ∀ a : Fin 2, ![128 * min k 15, 0] a + (![128, 128] : Fin 2 → Nat) a ≤ S2048x128.size a := by
  intro a
  fin_cases a
  · show 128 * min k 15 + 128 ≤ 2048
    omega
  · exact le_rfl

/-- Block `k` of the rows. -/
def blk (k : Nat) : Vec Ideal S128x128 .f32 := View.ld x0 (Rect.unit (s := S2048x128) ![128 * min k 15, 0] ![128, 128] (inb k))

/-- The last row of a block. -/
def last (y : FVec Ideal S128x128 .f32) : FVec Ideal S1x128 .f32 := extractStridedSlice S1x128 ![127, 0] y slices_S128x128_o127_0_S1x128

/-- The running sums block by block, each block starting from the last row of the one before. -/
def chain : Nat → FVec Ideal S128x128 .f32
  | 0 => k0_pay56 k0_pay3 (extractStridedSlice S1x128 ![15, 0] (k0_pay6 x1) slices_S16x128_o15_0_S1x128) (blk x0 0)
  | k + 1 => k0_pay56 k0_pay3 (last (chain k)) (blk x0 (k + 1))

/-- A block's rows are the sequence's. -/
theorem blk_apply (k : Nat) (hk : k ≤ 15) (s l : Fin 128) : blk x0 k (ix2 s l) = row x0 x1 l (16 + 128 * k + s.val) := by
  have hs := s.isLt
  rw [show 16 + 128 * k + s.val = 16 + (⟨128 * k + s.val, by omega⟩ : Fin 2048).val from by simp; omega, row_main]
  unfold blk
  show x0 _ = x0 _
  refine congrArg x0 (funext fun a => Fin.ext ?_)
  fin_cases a
  · show 128 * min k 15 + 1 * s.val = 128 * k + s.val
    rw [min_eq_left hk, one_mul]
  · show 0 + 1 * l.val = l.val
    omega

variable {x0 x1} (hx : ∀ l s, row x0 x1 l s ≠ ⊤)
include hx

/-- The running sums of the meta rows. -/
theorem meta_apply (r : Fin 16) (l : Fin 128) : k0_pay6 x1 (ix2 r l) = total x0 x1 l (r.val + 1) := by
  unfold total
  rw [← sum_le]
  pointwise [k0_pay6]
  rw [← Finset.sum_add_distrib, ← Finset.sum_add_distrib]
  refine Finset.sum_congr rfl fun u _ => ?_
  rw [tri_word (by norm_num), ← row_meta x0 x1]
  by_cases h : u ≤ r
  · rw [if_pos h, if_pos h, one_mul, one_mul, one_mul]; exact three_parts (hx _ _)
  · rw [if_neg h, if_neg h, zero_mul, zero_mul, zero_mul, add_zero, add_zero]

/-- One block's running sums: the sum carried in, and the block's rows up to there. -/
theorem step_apply (cr : FVec Ideal S1x128 .f32) (k : Nat) (hk : k ≤ 15) (r l : Fin 128) (hc : cr (ix2 0 l) = total x0 x1 l (16 + 128 * k)) :
    k0_pay56 k0_pay3 cr (blk x0 k) (ix2 r l) = total x0 x1 l (16 + 128 * k + (r.val + 1)) := by
  have hb := blk_apply x0 x1 k hk
  have e : total x0 x1 l (16 + 128 * k + (r.val + 1)) = (∑ s : Fin 128, if s ≤ r then row x0 x1 l (16 + 128 * k + s.val) else 0)
      + total x0 x1 l (16 + 128 * k) := by
    rw [sum_le (fun s => row x0 x1 l (16 + 128 * k + s)) r]
    refine Eq.trans ?_ (add_comm _ _)
    exact Finset.sum_range_add (fun s => row x0 x1 l s) (16 + 128 * k) (r.val + 1)
  rw [e, ← hc]
  pointwise [k0_pay56, k0_pay3]
  congr 1
  rw [← Finset.sum_add_distrib, ← Finset.sum_add_distrib]
  refine Finset.sum_congr rfl fun u _ => ?_
  rw [tri_word le_rfl, hb]
  by_cases h : u ≤ r
  · rw [if_pos h, if_pos h, one_mul, one_mul, one_mul]; exact three_parts (hx _ _)
  · rw [if_neg h, if_neg h, zero_mul, zero_mul, zero_mul, add_zero, add_zero]

/-- Every block's running sums are the sequence's. -/
theorem chain_apply (k : Nat) (hk : k ≤ 15) (r l : Fin 128) : chain x0 x1 k (ix2 r l) = total x0 x1 l (16 + 128 * k + (r.val + 1)) := by
  induction k generalizing r with
  | zero =>
    unfold chain
    refine step_apply hx _ 0 hk r l ?_
    pointwise
    exact meta_apply hx 15 l
  | succ k ih =>
    unfold chain
    refine step_apply hx _ (k + 1) hk r l ?_
    pointwise [last]
    exact ih (by omega) 127

omit hx

/-- The transposed first eight lanes of a block, as the kernel stores them. -/
def lanes (y : FVec Ideal S128x128 .f32) : FVec Ideal S1x8x128 .f32 :=
  shapeCast S1x8x128 (extractStridedSlice S8x128 ![0, 0] (transpose S128x128 [1, 0] y transposes_S128x128_p1_0_S128x128) slices_S128x128_o0_0_S8x128)
    shapeCasts_S8x128_S1x8x128

/-- The stored lanes of a block, read at an index. -/
theorem lanes_apply (y : FVec Ideal S128x128 .f32) (b : Fin 8) (r : Fin 128) : lanes y (ix3 0 b r) = y (ix2 r ⟨b.val, by omega⟩) := by
  pointwise [lanes]

variable (m : (ℓ : Loc nD τ sig) → Buf (Elt Ideal) ℓ) (c : Dev nD)

/-- The first output block of a grid point: the running sums of the sequence's rows after the meta rows. -/
theorem outs2 (t : Fin cfg0.N) (hx : ∀ l s, row (iblk m c 0 t) (iblk m c 1 t) l s ≠ ⊤) (r : Fin 2048) (l : Fin 128) :
    (outsAt0 m c t).1 (ix2 r l) = total (iblk m c 0 t) (iblk m c 1 t) l (16 + (r.val + 1)) := by
  revert hx
  unfold outsAt0
  dsimp only
  generalize (iblk m c 0 t : Vec Ideal S2048x128 .f32) = x0
  generalize (iblk m c 1 t : Vec Ideal S16x128 .f32) = x1
  intro hx
  frame_out
  refine (View.canon_apply_of_pieces (fun i => total x0 x1 (i 1) (16 + ((i 0).val + 1))) _ ?_ _ ?_).trans rfl
  · simp only [List.forall_mem_cons, List.not_mem_nil, false_imp_iff, implies_true, and_true]
    have key : ∀ (k : Nat) (hk : k ≤ 15) (x : S128x128.Idx) (y : S2048x128.Idx), (y 1).val = (x 1).val → (y 0).val = 128 * k + (x 0).val →
        chain x0 x1 k x = total x0 x1 (y 1) (16 + ((y 0).val + 1)) := by
      intro k hk i y h1 h0
      rw [h0, show y 1 = i 1 from Fin.ext h1]
      idx_vars i
      refine (chain_apply hx k hk i0 i1).trans (congrArg (total _ _ _) ?_)
      show _ = 16 + (128 * k + i0.val + 1)
      omega
    refine ⟨?_, ?_, ?_, ?_, ?_, ?_, ?_, ?_, ?_, ?_, ?_, ?_, ?_, ?_, ?_, ?_⟩
    · exact fun x => key 15 (by norm_num) x _ (by show 0 + 1 * (x 1).val = _; omega) (by show 1920 + 1 * (x 0).val = _; omega)
    · exact fun x => key 14 (by norm_num) x _ (by show 0 + 1 * (x 1).val = _; omega) (by show 1792 + 1 * (x 0).val = _; omega)
    · exact fun x => key 13 (by norm_num) x _ (by show 0 + 1 * (x 1).val = _; omega) (by show 1664 + 1 * (x 0).val = _; omega)
    · exact fun x => key 12 (by norm_num) x _ (by show 0 + 1 * (x 1).val = _; omega) (by show 1536 + 1 * (x 0).val = _; omega)
    · exact fun x => key 11 (by norm_num) x _ (by show 0 + 1 * (x 1).val = _; omega) (by show 1408 + 1 * (x 0).val = _; omega)
    · exact fun x => key 10 (by norm_num) x _ (by show 0 + 1 * (x 1).val = _; omega) (by show 1280 + 1 * (x 0).val = _; omega)
    · exact fun x => key 9 (by norm_num) x _ (by show 0 + 1 * (x 1).val = _; omega) (by show 1152 + 1 * (x 0).val = _; omega)
    · exact fun x => key 8 (by norm_num) x _ (by show 0 + 1 * (x 1).val = _; omega) (by show 1024 + 1 * (x 0).val = _; omega)
    · exact fun x => key 7 (by norm_num) x _ (by show 0 + 1 * (x 1).val = _; omega) (by show 896 + 1 * (x 0).val = _; omega)
    · exact fun x => key 6 (by norm_num) x _ (by show 0 + 1 * (x 1).val = _; omega) (by show 768 + 1 * (x 0).val = _; omega)
    · exact fun x => key 5 (by norm_num) x _ (by show 0 + 1 * (x 1).val = _; omega) (by show 640 + 1 * (x 0).val = _; omega)
    · exact fun x => key 4 (by norm_num) x _ (by show 0 + 1 * (x 1).val = _; omega) (by show 512 + 1 * (x 0).val = _; omega)
    · exact fun x => key 3 (by norm_num) x _ (by show 0 + 1 * (x 1).val = _; omega) (by show 384 + 1 * (x 0).val = _; omega)
    · exact fun x => key 2 (by norm_num) x _ (by show 0 + 1 * (x 1).val = _; omega) (by show 256 + 1 * (x 0).val = _; omega)
    · exact fun x => key 1 (by norm_num) x _ (by show 0 + 1 * (x 1).val = _; omega) (by show 128 + 1 * (x 0).val = _; omega)
    · exact fun x => key 0 (by norm_num) x _ (by show 0 + 1 * (x 1).val = _; omega) (by show 0 + 1 * (x 0).val = _; omega)
  · have hm : ∀ (o : Nat) (h : ∀ a, ![o, 0] a + ![128, 128] a ≤ S2048x128.size a), o ≤ r.val → r.val < o + 128 →
        (ix2 r l : S2048x128.Idx) ∈ (Rect.unit ![o, 0] ![128, 128] h).set := by
      intro o h h1 h2
      rw [Rect.mem_set_unit]
      intro a
      fin_cases a
      · exact ⟨h1, h2⟩
      · exact ⟨Nat.zero_le _, by have := l.isLt; show l.val < 0 + 128; omega⟩
    have hr := r.isLt
    refine (Nat.lt_or_ge r.val 1920).elim (fun hlt => ?_) fun hge => ⟨_, .head _, hm 1920 inb_S2048x128_S128x128_1920_0 hge (by omega)⟩
    refine (Nat.lt_or_ge r.val 1792).elim (fun hlt => ?_) fun hge => ⟨_, .tail _ (.head _), hm 1792 inb_S2048x128_S128x128_1792_0 hge (by omega)⟩
    refine (Nat.lt_or_ge r.val 1664).elim (fun hlt => ?_) fun hge => ⟨_, .tail _ (.tail _ (.head _)), hm 1664 inb_S2048x128_S128x128_1664_0 hge (by omega)⟩
    refine (Nat.lt_or_ge r.val 1536).elim (fun hlt => ?_) fun hge => ⟨_, .tail _ (.tail _ (.tail _ (.head _))), hm 1536 inb_S2048x128_S128x128_1536_0 hge (by omega)⟩
    refine (Nat.lt_or_ge r.val 1408).elim (fun hlt => ?_) fun hge => ⟨_, .tail _ (.tail _ (.tail _ (.tail _ (.head _)))), hm 1408 inb_S2048x128_S128x128_1408_0 hge (by omega)⟩
    refine (Nat.lt_or_ge r.val 1280).elim (fun hlt => ?_) fun hge => ⟨_, .tail _ (.tail _ (.tail _ (.tail _ (.tail _ (.head _))))), hm 1280 inb_S2048x128_S128x128_1280_0 hge (by omega)⟩
    refine (Nat.lt_or_ge r.val 1152).elim (fun hlt => ?_) fun hge => ⟨_, .tail _ (.tail _ (.tail _ (.tail _ (.tail _ (.tail _ (.head _)))))), hm 1152 inb_S2048x128_S128x128_1152_0 hge (by omega)⟩
    refine (Nat.lt_or_ge r.val 1024).elim (fun hlt => ?_) fun hge => ⟨_, .tail _ (.tail _ (.tail _ (.tail _ (.tail _ (.tail _ (.tail _ (.head _))))))), hm 1024 inb_S2048x128_S128x128_1024_0 hge (by omega)⟩
    refine (Nat.lt_or_ge r.val 896).elim (fun hlt => ?_) fun hge => ⟨_, .tail _ (.tail _ (.tail _ (.tail _ (.tail _ (.tail _ (.tail _ (.tail _ (.head _)))))))), hm 896 inb_S2048x128_S128x128_896_0 hge (by omega)⟩
    refine (Nat.lt_or_ge r.val 768).elim (fun hlt => ?_) fun hge => ⟨_, .tail _ (.tail _ (.tail _ (.tail _ (.tail _ (.tail _ (.tail _ (.tail _ (.tail _ (.head _))))))))), hm 768 inb_S2048x128_S128x128_768_0 hge (by omega)⟩
    refine (Nat.lt_or_ge r.val 640).elim (fun hlt => ?_) fun hge => ⟨_, .tail _ (.tail _ (.tail _ (.tail _ (.tail _ (.tail _ (.tail _ (.tail _ (.tail _ (.tail _ (.head _)))))))))), hm 640 inb_S2048x128_S128x128_640_0 hge (by omega)⟩
    refine (Nat.lt_or_ge r.val 512).elim (fun hlt => ?_) fun hge => ⟨_, .tail _ (.tail _ (.tail _ (.tail _ (.tail _ (.tail _ (.tail _ (.tail _ (.tail _ (.tail _ (.tail _ (.head _))))))))))), hm 512 inb_S2048x128_S128x128_512_0 hge (by omega)⟩
    refine (Nat.lt_or_ge r.val 384).elim (fun hlt => ?_) fun hge => ⟨_, .tail _ (.tail _ (.tail _ (.tail _ (.tail _ (.tail _ (.tail _ (.tail _ (.tail _ (.tail _ (.tail _ (.tail _ (.head _)))))))))))), hm 384 inb_S2048x128_S128x128_384_0 hge (by omega)⟩
    refine (Nat.lt_or_ge r.val 256).elim (fun hlt => ?_) fun hge => ⟨_, .tail _ (.tail _ (.tail _ (.tail _ (.tail _ (.tail _ (.tail _ (.tail _ (.tail _ (.tail _ (.tail _ (.tail _ (.tail _ (.head _))))))))))))), hm 256 inb_S2048x128_S128x128_256_0 hge (by omega)⟩
    refine (Nat.lt_or_ge r.val 128).elim (fun hlt => ?_) fun hge => ⟨_, .tail _ (.tail _ (.tail _ (.tail _ (.tail _ (.tail _ (.tail _ (.tail _ (.tail _ (.tail _ (.tail _ (.tail _ (.tail _ (.tail _ (.head _)))))))))))))), hm 128 inb_S2048x128_S128x128_128_0 hge (by omega)⟩
    exact ⟨_, .tail _ (.tail _ (.tail _ (.tail _ (.tail _ (.tail _ (.tail _ (.tail _ (.tail _ (.tail _ (.tail _ (.tail _ (.tail _ (.tail _ (.tail _ (.head _))))))))))))))), hm 0 inb_S2048x128_S128x128_0_0 (Nat.zero_le _) (by omega)⟩

/-- The second output block of a grid point: the running sums of the meta rows. -/
theorem outs3 (t : Fin cfg0.N) (hx : ∀ l s, row (iblk m c 0 t) (iblk m c 1 t) l s ≠ ⊤) (r : Fin 16) (l : Fin 128) :
    (outsAt0 m c t).2.1 (ix2 r l) = total (iblk m c 0 t) (iblk m c 1 t) l (r.val + 1) := by
  revert hx
  unfold outsAt0
  dsimp only
  generalize (iblk m c 0 t : Vec Ideal S2048x128 .f32) = x0
  generalize (iblk m c 1 t : Vec Ideal S16x128 .f32) = x1
  intro hx
  frame_out
  exact meta_apply hx r l

/-- The third output block of a grid point: the first output block's first eight lanes, transposed. -/
theorem outs4 (t : Fin cfg0.N) (hx : ∀ l s, row (iblk m c 0 t) (iblk m c 1 t) l s ≠ ⊤) (b : Fin 8) (r : Fin 2048) :
    (outsAt0 m c t).2.2.1 (ix3 0 b r) = total (iblk m c 0 t) (iblk m c 1 t) ⟨b.val, by omega⟩ (16 + (r.val + 1)) := by
  revert hx
  unfold outsAt0
  dsimp only
  generalize (iblk m c 0 t : Vec Ideal S2048x128 .f32) = x0
  generalize (iblk m c 1 t : Vec Ideal S16x128 .f32) = x1
  intro hx
  frame_out
  refine (View.canon_apply_of_pieces (fun i => total x0 x1 ⟨(i 1).val, lt_of_lt_of_le (i 1).isLt (by decide)⟩ (16 + ((i 2).val + 1))) _ ?_ _ ?_).trans rfl
  · simp only [List.forall_mem_cons, List.not_mem_nil, false_imp_iff, implies_true, and_true]
    have key : ∀ (k : Nat) (hk : k ≤ 15) (x : S1x8x128.Idx) (y : S1x8x2048.Idx), (y 1).val = (x 1).val → (y 2).val = 128 * k + (x 2).val →
        lanes (chain x0 x1 k) x = total x0 x1 ⟨(y 1).val, lt_of_lt_of_le (y 1).isLt (by decide)⟩ (16 + ((y 2).val + 1)) := by
      intro k hk i y h1 h2
      simp only [h1, h2]
      idx_vars i
      obtain rfl : i0 = 0 := Subsingleton.elim _ _
      refine (lanes_apply _ i1 i2).trans ((chain_apply hx k hk _ _).trans (congrArg (total x0 x1 _) ?_))
      show _ = 16 + (128 * k + i2.val + 1)
      omega
    refine ⟨?_, ?_, ?_, ?_, ?_, ?_, ?_, ?_, ?_, ?_, ?_, ?_, ?_, ?_, ?_, ?_⟩
    · exact fun x => key 15 (by norm_num) x _ (by show 0 + 1 * (x 1).val = _; omega) (by show 1920 + 1 * (x 2).val = _; omega)
    · exact fun x => key 14 (by norm_num) x _ (by show 0 + 1 * (x 1).val = _; omega) (by show 1792 + 1 * (x 2).val = _; omega)
    · exact fun x => key 13 (by norm_num) x _ (by show 0 + 1 * (x 1).val = _; omega) (by show 1664 + 1 * (x 2).val = _; omega)
    · exact fun x => key 12 (by norm_num) x _ (by show 0 + 1 * (x 1).val = _; omega) (by show 1536 + 1 * (x 2).val = _; omega)
    · exact fun x => key 11 (by norm_num) x _ (by show 0 + 1 * (x 1).val = _; omega) (by show 1408 + 1 * (x 2).val = _; omega)
    · exact fun x => key 10 (by norm_num) x _ (by show 0 + 1 * (x 1).val = _; omega) (by show 1280 + 1 * (x 2).val = _; omega)
    · exact fun x => key 9 (by norm_num) x _ (by show 0 + 1 * (x 1).val = _; omega) (by show 1152 + 1 * (x 2).val = _; omega)
    · exact fun x => key 8 (by norm_num) x _ (by show 0 + 1 * (x 1).val = _; omega) (by show 1024 + 1 * (x 2).val = _; omega)
    · exact fun x => key 7 (by norm_num) x _ (by show 0 + 1 * (x 1).val = _; omega) (by show 896 + 1 * (x 2).val = _; omega)
    · exact fun x => key 6 (by norm_num) x _ (by show 0 + 1 * (x 1).val = _; omega) (by show 768 + 1 * (x 2).val = _; omega)
    · exact fun x => key 5 (by norm_num) x _ (by show 0 + 1 * (x 1).val = _; omega) (by show 640 + 1 * (x 2).val = _; omega)
    · exact fun x => key 4 (by norm_num) x _ (by show 0 + 1 * (x 1).val = _; omega) (by show 512 + 1 * (x 2).val = _; omega)
    · exact fun x => key 3 (by norm_num) x _ (by show 0 + 1 * (x 1).val = _; omega) (by show 384 + 1 * (x 2).val = _; omega)
    · exact fun x => key 2 (by norm_num) x _ (by show 0 + 1 * (x 1).val = _; omega) (by show 256 + 1 * (x 2).val = _; omega)
    · exact fun x => key 1 (by norm_num) x _ (by show 0 + 1 * (x 1).val = _; omega) (by show 128 + 1 * (x 2).val = _; omega)
    · exact fun x => key 0 (by norm_num) x _ (by show 0 + 1 * (x 1).val = _; omega) (by show 0 + 1 * (x 2).val = _; omega)
  · have hm : ∀ (o : Nat) (h : ∀ a, ![0, 0, o] a + ![1, 8, 128] a ≤ S1x8x2048.size a), o ≤ r.val → r.val < o + 128 →
        (ix3 0 b r : S1x8x2048.Idx) ∈ (Rect.unit ![0, 0, o] ![1, 8, 128] h).set := by
      intro o h h1 h2
      rw [Rect.mem_set_unit]
      intro a
      fin_cases a
      · exact ⟨Nat.zero_le _, by show 0 < 0 + 1; omega⟩
      · exact ⟨Nat.zero_le _, by have := b.isLt; show b.val < 0 + 8; omega⟩
      · exact ⟨h1, h2⟩
    have hr := r.isLt
    refine (Nat.lt_or_ge r.val 1920).elim (fun hlt => ?_) fun hge => ⟨_, .head _, hm 1920 inb_S1x8x2048_S1x8x128_0_0_1920 hge (by omega)⟩
    refine (Nat.lt_or_ge r.val 1792).elim (fun hlt => ?_) fun hge => ⟨_, .tail _ (.head _), hm 1792 inb_S1x8x2048_S1x8x128_0_0_1792 hge (by omega)⟩
    refine (Nat.lt_or_ge r.val 1664).elim (fun hlt => ?_) fun hge => ⟨_, .tail _ (.tail _ (.head _)), hm 1664 inb_S1x8x2048_S1x8x128_0_0_1664 hge (by omega)⟩
    refine (Nat.lt_or_ge r.val 1536).elim (fun hlt => ?_) fun hge => ⟨_, .tail _ (.tail _ (.tail _ (.head _))), hm 1536 inb_S1x8x2048_S1x8x128_0_0_1536 hge (by omega)⟩
    refine (Nat.lt_or_ge r.val 1408).elim (fun hlt => ?_) fun hge => ⟨_, .tail _ (.tail _ (.tail _ (.tail _ (.head _)))), hm 1408 inb_S1x8x2048_S1x8x128_0_0_1408 hge (by omega)⟩
    refine (Nat.lt_or_ge r.val 1280).elim (fun hlt => ?_) fun hge => ⟨_, .tail _ (.tail _ (.tail _ (.tail _ (.tail _ (.head _))))), hm 1280 inb_S1x8x2048_S1x8x128_0_0_1280 hge (by omega)⟩
    refine (Nat.lt_or_ge r.val 1152).elim (fun hlt => ?_) fun hge => ⟨_, .tail _ (.tail _ (.tail _ (.tail _ (.tail _ (.tail _ (.head _)))))), hm 1152 inb_S1x8x2048_S1x8x128_0_0_1152 hge (by omega)⟩
    refine (Nat.lt_or_ge r.val 1024).elim (fun hlt => ?_) fun hge => ⟨_, .tail _ (.tail _ (.tail _ (.tail _ (.tail _ (.tail _ (.tail _ (.head _))))))), hm 1024 inb_S1x8x2048_S1x8x128_0_0_1024 hge (by omega)⟩
    refine (Nat.lt_or_ge r.val 896).elim (fun hlt => ?_) fun hge => ⟨_, .tail _ (.tail _ (.tail _ (.tail _ (.tail _ (.tail _ (.tail _ (.tail _ (.head _)))))))), hm 896 inb_S1x8x2048_S1x8x128_0_0_896 hge (by omega)⟩
    refine (Nat.lt_or_ge r.val 768).elim (fun hlt => ?_) fun hge => ⟨_, .tail _ (.tail _ (.tail _ (.tail _ (.tail _ (.tail _ (.tail _ (.tail _ (.tail _ (.head _))))))))), hm 768 inb_S1x8x2048_S1x8x128_0_0_768 hge (by omega)⟩
    refine (Nat.lt_or_ge r.val 640).elim (fun hlt => ?_) fun hge => ⟨_, .tail _ (.tail _ (.tail _ (.tail _ (.tail _ (.tail _ (.tail _ (.tail _ (.tail _ (.tail _ (.head _)))))))))), hm 640 inb_S1x8x2048_S1x8x128_0_0_640 hge (by omega)⟩
    refine (Nat.lt_or_ge r.val 512).elim (fun hlt => ?_) fun hge => ⟨_, .tail _ (.tail _ (.tail _ (.tail _ (.tail _ (.tail _ (.tail _ (.tail _ (.tail _ (.tail _ (.tail _ (.head _))))))))))), hm 512 inb_S1x8x2048_S1x8x128_0_0_512 hge (by omega)⟩
    refine (Nat.lt_or_ge r.val 384).elim (fun hlt => ?_) fun hge => ⟨_, .tail _ (.tail _ (.tail _ (.tail _ (.tail _ (.tail _ (.tail _ (.tail _ (.tail _ (.tail _ (.tail _ (.tail _ (.head _)))))))))))), hm 384 inb_S1x8x2048_S1x8x128_0_0_384 hge (by omega)⟩
    refine (Nat.lt_or_ge r.val 256).elim (fun hlt => ?_) fun hge => ⟨_, .tail _ (.tail _ (.tail _ (.tail _ (.tail _ (.tail _ (.tail _ (.tail _ (.tail _ (.tail _ (.tail _ (.tail _ (.tail _ (.head _))))))))))))), hm 256 inb_S1x8x2048_S1x8x128_0_0_256 hge (by omega)⟩
    refine (Nat.lt_or_ge r.val 128).elim (fun hlt => ?_) fun hge => ⟨_, .tail _ (.tail _ (.tail _ (.tail _ (.tail _ (.tail _ (.tail _ (.tail _ (.tail _ (.tail _ (.tail _ (.tail _ (.tail _ (.tail _ (.head _)))))))))))))), hm 128 inb_S1x8x2048_S1x8x128_0_0_128 hge (by omega)⟩
    exact ⟨_, .tail _ (.tail _ (.tail _ (.tail _ (.tail _ (.tail _ (.tail _ (.tail _ (.tail _ (.tail _ (.tail _ (.tail _ (.tail _ (.tail _ (.tail _ (.head _))))))))))))))), hm 0 inb_S1x8x2048_S1x8x128_0_0_0 (Nat.zero_le _) (by omega)⟩

/-- The fourth output block of a grid point: the meta rows' running sums transposed, zeros after them. -/
theorem outs5 (t : Fin cfg0.N) (hx : ∀ l s, row (iblk m c 0 t) (iblk m c 1 t) l s ≠ ⊤) (b : Fin 8) (r : Fin 128) :
    (outsAt0 m c t).2.2.2 (ix3 0 b r) = if r.val < 16 then total (iblk m c 0 t) (iblk m c 1 t) ⟨b.val, by omega⟩ (r.val + 1) else 0 := by
  revert hx
  unfold outsAt0
  dsimp only
  generalize (iblk m c 0 t : Vec Ideal S2048x128 .f32) = x0
  generalize (iblk m c 1 t : Vec Ideal S16x128 .f32) = x1
  intro hx
  frame_out
  refine (lanes_apply _ b r).trans ?_
  by_cases h : r.val < 16
  · rw [if_pos h, View.readCov_eq_canon']
    refine (congrArg (View.canon _) (?_ : _ = (Rect.unit ![0, 0] ![16, 128] inb_S128x128_S16x128_0_0 : Rect S128x128).emb
      (ix2 (⟨r.val, h⟩ : Fin 16) (⟨b.val, by omega⟩ : Fin 128)))).trans ((View.canon_cons_emb _ _ _ _).trans ?_)
    · funext a
      refine Fin.ext ?_
      fin_cases a <;> rfl
    · pointwise [k0_pay7]
      exact meta_apply hx ⟨r.val, h⟩ _
  · rw [if_neg h, View.readCov_eq_canon']
    refine (View.canon_cons_of_not_mem _ _ fun h' => ?_).trans ((congrArg (View.canon _)
      (?_ : _ = (Rect.unit ![0, 0] ![128, 128] inb_S128x128_S128x128_0_0 : Rect S128x128).emb
        (ix2 r (⟨b.val, by omega⟩ : Fin 128)))).trans ((View.canon_cons_emb _ _ _ _).trans ?_))
    · rw [Rect.mem_set_unit] at h'
      have h1 : 0 + 1 * r.val < 0 + 16 := (h' 0).2
      omega
    · funext a
      refine Fin.ext ?_
      fin_cases a <;> rfl
    · pointwise [k0_pay5]

end Cert.FoxC

end
-- ==== Proof.FoxC.Final.lean ====
/-
  The arrays that the kernel adding up the log forget gates leaves: grid point `t` works through sequence `t`, so the arrays hold
  the running sums of all eight sequences.
-/
module

public import proofs.«01_k».proof.Proof.FoxC.Block
public import Idealize.ShloMosaic.Lib.Claim

@[expose] public section

set_option maxRecDepth 16384

noncomputable section

namespace Cert.FoxC

open Cert.Kernel11Ideal Cert.Kernel11Ideal.Gen Idealize.ShloMosaic Idealize.ShloMosaic.TcCoe
open Idealize.ShloMosaic.Pipeline (Dat)

variable (a0 : Vec Ideal S16384x128 .f32) (a1 : Vec Ideal S1152x128 .f32)

/-- The rows of sequence `b` after its meta rows. -/
def mainOf (b : Fin 8) : Vec Ideal S2048x128 .f32 := fun i =>
  a0 (ix2 ⟨b.val * 2048 + (i 0).val, by have : (i 0).val < 2048 := (i 0).isLt; omega⟩ ⟨(i 1).val, (i 1).isLt⟩)

/-- The meta rows of sequence `b`. -/
def metaOf (b : Fin 8) : Vec Ideal S16x128 .f32 := fun i =>
  a1 (ix2 ⟨b.val * 16 + (i 0).val, by have : (i 0).val < 16 := (i 0).isLt; omega⟩ ⟨(i 1).val, (i 1).isLt⟩)

/-- The sum of the first `n` rows of sequence `b` at lane `l`. -/
def sum (b : Fin 8) (l : Fin 128) (n : Nat) : EReal := total (mainOf a0 b) (metaOf a1 b) l n

/-- The running sums at the rows after the meta rows. -/
def res0 : Vec Ideal S16384x128 .f32 := fun i =>
  sum a0 a1 ⟨(i 0).val / 2048, Nat.div_lt_of_lt_mul (i 0).isLt⟩ ⟨(i 1).val, (i 1).isLt⟩ (16 + ((i 0).val % 2048 + 1))

/-- The running sums at the meta rows. -/
def res1 : Vec Ideal S128x128 .f32 := fun i =>
  sum a0 a1 ⟨(i 0).val / 16, Nat.div_lt_of_lt_mul (i 0).isLt⟩ ⟨(i 1).val, (i 1).isLt⟩ ((i 0).val % 16 + 1)

/-- The running sums of the first eight lanes, a row per lane, at the rows after the meta rows. -/
def res2 : Vec Ideal S8x8x2048 .f32 := fun i =>
  sum a0 a1 ⟨(i 0).val, (i 0).isLt⟩ ⟨(i 1).val, lt_of_lt_of_le (i 1).isLt (by decide)⟩ (16 + ((i 2).val + 1))

/-- The running sums of the first eight lanes, a row per lane, at the meta rows, and zeros after them. -/
def res3 : Vec Ideal S8x8x128 .f32 := fun i =>
  if (i 2).val < 16 then sum a0 a1 ⟨(i 0).val, (i 0).isLt⟩ ⟨(i 1).val, lt_of_lt_of_le (i 1).isLt (by decide)⟩ ((i 2).val + 1) else 0

/-- The running sums at a row after the meta rows. -/
theorem res0_apply (b : Fin 8) (r : Fin 2048) (l : Fin 128) (i : Fin 16384) (hi : i.val = b.val * 2048 + r.val) :
    res0 a0 a1 (ix2 i l) = sum a0 a1 b l (16 + (r.val + 1)) := by
  have hr := r.isLt
  have key : ∀ (b' : Fin 8) (n : Nat), b' = b → n = r.val → sum a0 a1 b' l (16 + (n + 1)) = sum a0 a1 b l (16 + (r.val + 1)) := by
    rintro _ _ rfl rfl; rfl
  exact key _ _ (Fin.ext (by show i.val / 2048 = _; omega)) (by show i.val % 2048 = _; omega)

/-- The running sums at a meta row. -/
theorem res1_apply (b : Fin 8) (r : Fin 16) (l : Fin 128) (i : Fin 128) (hi : i.val = b.val * 16 + r.val) :
    res1 a0 a1 (ix2 i l) = sum a0 a1 b l (r.val + 1) := by
  have hr := r.isLt
  have key : ∀ (b' : Fin 8) (n : Nat), b' = b → n = r.val → sum a0 a1 b' l (n + 1) = sum a0 a1 b l (r.val + 1) := by
    rintro _ _ rfl rfl; rfl
  exact key _ _ (Fin.ext (by show i.val / 16 = _; omega)) (by show i.val % 16 = _; omega)

/-- The block that each window takes at grid point `t`. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0, 0] ∧ win0_5.index t = ![t.val, 0, 0] := by
  decide +kernel

variable (m : (ℓ : Loc nD τ sig) → Buf (Elt Ideal) ℓ) (c : Dev nD)

/-- The log gates of the prompt's rows after the meta rows, of the program's arguments. -/
abbrev arg0 : Vec Ideal S16384x128 .f32 := m ((c : Thread nD τ).loc main_arg0)

/-- The log gates of the other rows, of the program's arguments; the first 128 are the meta rows. -/
abbrev arg1 : Vec Ideal S1152x128 .f32 := m ((c : Thread nD τ).loc main_arg1)

/-- The block a grid point reads of the first argument. -/
theorem iblk0 (t : Fin cfg0.N) : (iblk m c 0 t : Vec Ideal S2048x128 .f32) = mainOf (arg0 m c) t := by
  funext i
  idx_vars i
  show _ = arg0 m c (ix2 ⟨t.val * 2048 + i0.val, _⟩ ⟨i1.val, _⟩)
  blk_ext [iblk, V_main_arg0, idx t]

/-- The block a grid point reads of the second argument. -/
theorem iblk1 (t : Fin cfg0.N) : (iblk m c 1 t : Vec Ideal S16x128 .f32) = metaOf (arg1 m c) t := by
  funext i
  idx_vars i
  show _ = arg1 m c (ix2 ⟨t.val * 16 + i0.val, _⟩ ⟨i1.val, _⟩)
  blk_ext [iblk, V_main_arg1, idx t]

/-- No log gate of a sequence is plus infinity. -/
def Below : Prop := (∀ (r : Fin 16384) (l : Fin 128), a0 (ix2 r l) ≠ ⊤) ∧ ∀ (r : Fin 128) (l : Fin 128), a1 (ix2 ⟨r.val, by omega⟩ l) ≠ ⊤

variable {a0 a1}

theorem Below.row (h : Below a0 a1) (b : Fin 8) (l : Fin 128) (s : Nat) : FoxC.row (mainOf a0 b) (metaOf a1 b) l s ≠ ⊤ := by
  unfold FoxC.row
  split
  · exact h.2 ⟨b.val * 16 + s, by omega⟩ l
  · split
    · exact h.1 _ l
    · exact EReal.zero_ne_top

variable {m c}

theorem Below.blocks (h : Below (arg0 m c) (arg1 m c)) (t : Fin cfg0.N) (l : Fin 128) (s : Nat) : FoxC.row (iblk m c 0 t) (iblk m c 1 t) l s ≠ ⊤ := by
  have e := h.row t l s
  rw [← iblk0 m c t, ← iblk1 m c t] at e
  exact e

theorem sum_blocks (t : Fin cfg0.N) (l : Fin 128) (n : Nat) :
    total (iblk m c 0 t) (iblk m c 1 t) l n = sum (arg0 m c) (arg1 m c) t l n := by
  unfold sum
  rw [← iblk0 m c t, ← iblk1 m c t]

/-- The first output array after the run. -/
theorem arr2 (h : Below (arg0 m c) (arg1 m c)) : (dats m 0 c).arrAt 2 cfg0.N = res0 (arg0 m c) (arg1 m c) := by
  refine (dats m 0 c).arrAt_eq_of_covers 2 _ (by decide +kernel) fun t hf y => ?_
  blk_simp
  rw [after0_2]
  idx_vars y
  refine (outs2 m c t (h.blocks t) y0 y1).trans ?_
  rw [sum_blocks]
  refine ((res0_apply _ _ t y0 y1 ⟨t.val * 2048 + y0.val, by have : t.val < 8 := t.isLt; omega⟩ rfl).symm).trans ?_
  blk_ext [idx t]

/-- The second output array after the run. -/
theorem arr3 (h : Below (arg0 m c) (arg1 m c)) : (dats m 0 c).arrAt 3 cfg0.N = res1 (arg0 m c) (arg1 m c) := by
  refine (dats m 0 c).arrAt_eq_of_covers 3 _ (by decide +kernel) fun t hf y => ?_
  blk_simp
  rw [after0_3]
  idx_vars y
  refine (outs3 m c t (h.blocks t) y0 y1).trans ?_
  rw [sum_blocks]
  refine ((res1_apply _ _ t y0 y1 ⟨t.val * 16 + y0.val, by have : t.val < 8 := t.isLt; omega⟩ rfl).symm).trans ?_
  blk_ext [idx t]

/-- The third output array after the run. -/
theorem arr4 (h : Below (arg0 m c) (arg1 m c)) : (dats m 0 c).arrAt 4 cfg0.N = res2 (arg0 m c) (arg1 m c) := by
  refine (dats m 0 c).arrAt_eq_of_covers 4 _ (by decide +kernel) fun t hf y => ?_
  blk_simp
  rw [after0_4]
  idx_vars y
  obtain rfl : y0 = 0 := Subsingleton.elim _ _
  refine (outs4 m c t (h.blocks t) y1 y2).trans ?_
  rw [sum_blocks]
  show res2 (arg0 m c) (arg1 m c) (ix3 (t : Fin 8) y1 y2) = _
  blk_ext [idx t]

/-- The fourth output array after the run. -/
theorem arr5 (h : Below (arg0 m c) (arg1 m c)) : (dats m 0 c).arrAt 5 cfg0.N = res3 (arg0 m c) (arg1 m c) := by
  refine (dats m 0 c).arrAt_eq_of_covers 5 _ (by decide +kernel) fun t hf y => ?_
  blk_simp
  rw [after0_5]
  idx_vars y
  obtain rfl : y0 = 0 := Subsingleton.elim _ _
  refine (outs5 m c t (h.blocks t) y1 y2).trans ?_
  rw [sum_blocks]
  show res3 (arg0 m c) (arg1 m c) (ix3 (t : Fin 8) y1 y2) = _
  blk_ext [idx t]

end Cert.FoxC

end
-- ==== Proof.FoxC.Reference.lean ====
/-
  The reference of the cumulated log forget gates read at an index: the sum over windows that reach back to a sequence's first row
  is the running sum of its rows.
-/
module

public import proofs.«01_k».proof.Proof.Gen.Reference11Ideal.Run
public import proofs.«01_k».proof.Proof.Gen.Reference11Ideal.Read
public import proofs.«01_k».proof.Proof.FoxC.Final
public import proofs.«01_k».proof.Proof.Gla.Reference
public import proofs.«01_k».proof.Pre_gates_below_inf

@[expose] public section

set_option maxRecDepth 16384

noncomputable section

namespace Cert.FoxC

open Cert.Reference11Ideal Cert.Reference11Ideal.Gen Cert.Reference11Ideal.Read Idealize.ShloMosaic Idealize.ShloMosaic.TcCoe
open Cert.Gla (foldl_add)
open scoped BigOperators

variable (x0 : (⟨S16384x128, .f32⟩ : BufTy).Contents (Elt Ideal)) (x1 : (⟨S1152x128, .f32⟩ : BufTy).Contents (Elt Ideal))

/-- The 2064 rows of a sequence. -/
theorem rows_read (b : Fin 8) (s : Fin 2064) (l : Fin 128) :
    val_main_v3 (F := Ideal) x0 x1 (ix3 b s l) = row (mainOf x0 b) (metaOf x1 b) l s.val := by
  unfold row
  by_cases hs : s.val < 16
  · rw [dif_pos hs]
    pointwise [val_main_v3]
    refine (dif_pos hs).trans ?_
    pointwise [val_main_v1, val_main_v0]
    rfl
  · rw [dif_neg hs, dif_pos (by omega)]
    pointwise [val_main_v3]
    refine (dif_neg hs).trans ?_
    pointwise [val_main_v2]
    rfl

/-- The windows of 2064 rows, one per row. -/
def windowEquiv : Fin 2064 ≃ (⟨3, ![1, 2064, 1]⟩ : Shape).Idx where
  toFun u := ix3 (0 : Fin 1) u (0 : Fin 1)
  invFun k := k 1
  left_inv _ := rfl
  right_inv k := by
    idx_vars k
    obtain rfl : k0 = 0 := Subsingleton.elim _ _
    obtain rfl : k2 = 0 := Subsingleton.elim _ _
    rfl

/-- The terms of a window that reaches 2063 rows back, those before the first row zero, add up to the running sum. -/
theorem back_sum (f : Nat → EReal) (t : Fin 2064) :
    (∑ u : Fin 2064, if 2063 ≤ t.val + u.val then f (t.val + u.val - 2063) else 0) = ∑ s ∈ Finset.range (t.val + 1), f s := by
  have ht := t.isLt
  have e := Fin.sum_univ_eq_sum_range (fun u => if 2063 ≤ t.val + u then f (t.val + u - 2063) else 0) 2064
  have e2 : Finset.range 2064 = Finset.range ((2063 - t.val) + (t.val + 1)) := congrArg Finset.range (by omega)
  rw [e, e2, Finset.sum_range_add, Finset.sum_eq_zero, zero_add]
  · refine Finset.sum_congr rfl fun s _ => ?_
    rw [if_pos (by omega)]
    exact congrArg f (by omega)
  · intro s hs
    have := Finset.mem_range.1 hs
    exact if_neg (by omega)

/-- A sum over windows that reach 2063 rows back is the running sum of the rows. -/
theorem window_sum (x : FVec Ideal S8x2064x128 .f32) (i : FVec Ideal S_ .f32) (hi : ∀ p, i p = (0 : EReal)) (f : Nat → EReal)
    (b : Fin 8) (t : Fin 2064) (l : Fin 128) (hf : ∀ s : Fin 2064, x (ix3 b s l) = f s.val) :
    Host.reduceWindowAdd (F := Ideal) ![1, 2064, 1] ![1, 1, 1] ![0, 2063, 0] ![0, 0, 0] x i
      reduceWindows_S8x2064x128_S8x2064x128_w1s1p0_0_w2064s1p2063_0_w1s1p0_0 h_S_ (ix3 b t l)
      = ∑ s ∈ Finset.range (t.val + 1), f s := by
  unfold Host.reduceWindowAdd
  rw [Ideal.hostReduceWindowAdd_def]
  unfold Ideal.hostReduceWindowAdd Host.reduceWindow
  dsimp only
  rw [foldl_add, hi, zero_add]
  refine Eq.trans (Equiv.sum_comp (windowEquiv.trans (⟨3, ![1, 2064, 1]⟩ : Shape).rowMajor) _).symm ?_
  refine (Finset.sum_congr rfl fun u _ => ?_).trans (back_sum f t)
  rw [Equiv.trans_apply]
  simp only [Equiv.symm_apply_apply]
  have hu := u.isLt
  have ht := t.isLt
  by_cases h7 : 2063 ≤ t.val + u.val
  · rw [if_pos h7, dif_pos]
    · refine Eq.trans (congrArg x (funext fun a => Fin.ext ?_)) (hf ⟨t.val + u.val - 2063, by omega⟩)
      fin_cases a
      · show b.val * 1 + 0 - 0 = b.val
        omega
      · show t.val * 1 + u.val - 2063 = t.val + u.val - 2063
        omega
      · show l.val * 1 + 0 - 0 = l.val
        omega
    · intro a
      fin_cases a
      · show 0 ≤ b.val * 1 + 0 ∧ b.val * 1 + 0 - 0 < 8
        omega
      · show 2063 ≤ t.val * 1 + u.val ∧ t.val * 1 + u.val - 2063 < 2064
        omega
      · show 0 ≤ l.val * 1 + 0 ∧ l.val * 1 + 0 - 0 < 128
        omega
  · rw [if_neg h7, dif_neg]
    intro h
    have h1 := (h 1).1
    have h1' : 2063 ≤ t.val * 1 + u.val := h1
    omega

/-- The running sums of a sequence. -/
theorem cum_read (b : Fin 8) (t : Fin 2064) (l : Fin 128) : val_main_v4 (F := Ideal) x0 x1 (ix3 b t l) = sum x0 x1 b l (t.val + 1) := by
  refine window_sum _ _ (fun p => ?_) (row (mainOf x0 b) (metaOf x1 b) l) b t l fun s => rows_read x0 x1 b s l
  obtain rfl : p = ix0 := Subsingleton.elim _ _
  pointwise [val_main_call0_call0_v0, val_main_call0_call0_cst]

/-- The first result. -/
theorem out0_read : val_main_v10 (F := Ideal) x0 x1 = res0 x0 x1 := by
  funext i
  idx_vars i
  pointwise [val_main_v10, val_main_v9]
  rw [cum_read]
  exact congrArg (sum x0 x1 _ i1) (Nat.add_assoc _ _ _)

/-- The second result. -/
theorem out1_read : val_main_v12 (F := Ideal) x0 x1 = res1 x0 x1 := by
  funext i
  idx_vars i
  pointwise [val_main_v12, val_main_v11]
  exact cum_read x0 x1 _ _ i1

/-- The third result. -/
theorem out2_read : val_main_v13 (F := Ideal) x0 x1 = res2 x0 x1 := by
  funext i
  idx_vars i
  pointwise [val_main_v13, val_main_v6, val_main_v5]
  rw [cum_read]
  exact congrArg (sum x0 x1 i0 _) (Nat.add_assoc _ _ _)

/-- The fourth result. -/
theorem out3_read : val_main_v8 (F := Ideal) x0 x1 = res3 x0 x1 := by
  funext i
  idx_vars i
  by_cases h : i2.val < 16
  · refine Eq.trans ?_ (if_pos h).symm
    pointwise [val_main_v8]
    refine (dif_pos h).trans ?_
    pointwise [val_main_v7, val_main_v6, val_main_v5]
    exact cum_read x0 x1 i0 _ _
  · refine Eq.trans ?_ (if_neg h).symm
    pointwise [val_main_v8]
    refine (dif_neg h).trans ?_
    pointwise [val_main_call1_v0, val_main_c]
    show (((0#32 : BitVec 32).toInt : ℝ) : EReal) = 0
    norm_num

/-- What the precondition says of the log gates. -/
theorem below_of_pre [Cert.Pre_gates_below_inf.Facts] (h : Cert.Pre_gates_below_inf.fn (F := Ideal) x0 x1 = fun _ => 1#1) : Below x0 x1 := by
  refine ⟨fun r l e => ?_, fun r l e => ?_⟩
  · have := congrFun h (ix2 ⟨128 + r.val, by omega⟩ l)
    revert this
    pointwise [Cert.Pre_gates_below_inf.fn]
    rw [e]
    simp
  · have := congrFun h (ix2 ⟨r.val, by omega⟩ l)
    revert this
    pointwise [Cert.Pre_gates_below_inf.fn]
    rw [e]
    simp

end Cert.FoxC

end
-- ==== Proof.lean ====
/-
  The claims about the calls taken: the frames, and that each call's kernel and reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gla.Reference
public import proofs.«01_k».proof.Proof.Proj.Reference
public import proofs.«01_k».proof.Proof.Mlp.Reference
public import proofs.«01_k».proof.Proof.Merge.Reference
public import proofs.«01_k».proof.Proof.MergeTail.Reference
public import proofs.«01_k».proof.Proof.ProjTail.Reference
public import proofs.«01_k».proof.Proof.MlpTail.Reference
public import proofs.«01_k».proof.Proof.RopeTail.Reference
public import proofs.«01_k».proof.Proof.Rope.Reference
public import proofs.«01_k».proof.Proof.Ssd.Reference
public import Idealize.ShloMosaic.Adequacy
public import Idealize.ShloMosaic.Init
public import proofs.«01_k».proof.Proof.FoxC.Reference

@[expose] public section

noncomputable section

namespace Cert.Proof

open Idealize.ShloMosaic Idealize.SL.Sem Cert.Kernel

/-- The reference of the gated linear attention ends with its arguments unchanged and every counter at zero. -/
theorem frame_glaReference : quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel and the reference of the gated linear attention end with equal outputs and equal states. -/
theorem algebraic_gla : algebraic_KernelIdeal_ReferenceIdeal (hKernelIdeal := Cert.KernelIdeal.Gen.facts) (hReferenceIdeal := Cert.ReferenceIdeal.Gen.facts) := by
  intro m g m' g' _ hm
  refine ⟨fun c => Gla.outs (Gla.chunkOf m c), fun c => Gla.states (Gla.chunkOf m c), ?_, ?_⟩
  · refine (θ_run _ _ _).mono (fun r h c => ?_) (Cert.KernelIdeal.Value.run_blocks m g)
    obtain ⟨h0, h1, hr⟩ := h c
    exact ⟨h0.trans (Gla.arr9 m c), h1.trans (Gla.arr10 m c), hr⟩
  · refine (θ_run _ _ _).mono (fun r h c => ?_) (Cert.ReferenceIdeal.Value.run m' g')
    obtain ⟨h0, h1, hr⟩ := h c
    obtain ⟨a0, a1, a2, a3, a4⟩ := hm c
    refine ⟨h0.trans ?_, h1.trans ?_, hr⟩
    · rw [Cert.ReferenceIdeal.Read.val_main_v89_eq, a0, a1, a2, a3, a4]
      exact Gla.out0_read _ _ _ _ _
    · rw [Cert.ReferenceIdeal.Read.val_main_v90_eq, a0, a1, a2, a3]
      exact Gla.out1_read _ _ _ _ _

/-- The reference of the in-projection ends with its arguments unchanged and every counter at zero. -/
theorem frame_projReference : quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel and the reference of the in-projection end with equal packed projections. -/
theorem algebraic_proj : algebraic_Kernel2Ideal_Reference2Ideal (hKernel2Ideal := Cert.Kernel2Ideal.Gen.facts) (hReference2Ideal := Cert.Reference2Ideal.Gen.facts) := by
  intro m g m' g' _ hm
  refine ⟨fun c => Proj.outsOf m c, ?_, ?_⟩
  · refine (θ_run _ _ _).mono (fun r h c => ?_) (Cert.Kernel2Ideal.Value.run_blocks m g)
    obtain ⟨h0, hr⟩ := h c
    exact ⟨h0.trans (Proj.arr4 m c), hr⟩
  · refine (θ_run _ _ _).mono (fun r h c => ?_) (Cert.Reference2Ideal.Value.run m' g')
    obtain ⟨h0, hr⟩ := h c
    obtain ⟨a0, a1, a2, a3⟩ := hm c
    refine ⟨h0.trans ?_, hr⟩
    rw [Cert.Reference2Ideal.Read.val_main_v41_eq, a0, a1, a2, a3]
    exact Proj.out0_read _ _ _ _

/-- The reference of the feed-forward layer ends with its arguments unchanged and every counter at zero. -/
theorem frame_mlpReference : quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The kernel and the reference of the feed-forward layer end with equal rows and equal normed rows. -/
theorem algebraic_mlp : algebraic_Kernel3Ideal_Reference3Ideal (hKernel3Ideal := Cert.Kernel3Ideal.Gen.facts) (hReference3Ideal := Cert.Reference3Ideal.Gen.facts) := by
  intro m g m' g' _ hm
  refine ⟨fun c => Mlp.outsOf m c,
    fun c => Mlp.norms (Mlp.outsOf m c) (m ((c.tc : Thread Cert.Kernel3Ideal.nD Cert.Kernel3Ideal.τ).loc Cert.Kernel3Ideal.main_arg4)), ?_, ?_⟩
  · refine (θ_run _ _ _).mono (fun r h c => ?_) (Cert.Kernel3Ideal.Value.run_blocks m g)
    obtain ⟨h0, h1, hr⟩ := h c
    exact ⟨h0.trans (Mlp.arr5 m c), h1.trans (Mlp.arr6 m c), hr⟩
  · refine (θ_run _ _ _).mono (fun r h c => ?_) (Cert.Reference3Ideal.Value.run m' g')
    obtain ⟨h0, h1, hr⟩ := h c
    obtain ⟨a0, a1, a2, a3, a4⟩ := hm c
    refine ⟨h0.trans ?_, h1.trans ?_, hr⟩
    · rw [a0, a1, a2, a3]
      exact Mlp.out0_read _ _ _ _
    · rw [Cert.Reference3Ideal.Read.val_main_v30_eq, a0, a1, a2, a3, a4]
      exact Mlp.out1_read _ _ _ _ _

/-- The reference of the merge ends with its arguments unchanged and every counter at zero. -/
theorem frame_mergeReference : quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel and the reference of the merge end with equal rows. -/
theorem algebraic_merge : algebraic_Kernel4Ideal_Reference4Ideal (hKernel4Ideal := Cert.Kernel4Ideal.Gen.facts) (hReference4Ideal := Cert.Reference4Ideal.Gen.facts) := by
  intro m g m' g' _ hm
  refine ⟨fun c => Merge.outsOf m c, ?_, ?_⟩
  · refine (θ_run _ _ _).mono (fun r h c => ?_) (Cert.Kernel4Ideal.Value.run_blocks m g)
    obtain ⟨h0, hr⟩ := h c
    exact ⟨h0.trans (Merge.arr8 m c), hr⟩
  · refine (θ_run _ _ _).mono (fun r h c => ?_) (Cert.Reference4Ideal.Value.run m' g')
    obtain ⟨h0, hr⟩ := h c
    obtain ⟨a0, a1, a2, a3, a4, a5, a6, a7, a8, a9, a10⟩ := hm c
    refine ⟨h0.trans ?_, hr⟩
    rw [a0, a1, a2, a3, a4, a5, a6, a7, a8, a9, a10]
    exact Merge.out0_read _ _ _ _ _ _ _ _ _ _ _

/-- The reference of the rotary preparation ends with its arguments unchanged and every counter at zero. -/
theorem frame_ropeReference : quiescent_Reference5Ideal (hReference5Ideal := Cert.Reference5Ideal.Gen.facts) := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- The kernel and the reference of the rotary preparation end with equal turned queries and keys and equal log forget gates. -/
theorem algebraic_rope : algebraic_Kernel5Ideal_Reference5Ideal (hKernel5Ideal := Cert.Kernel5Ideal.Gen.facts) (hReference5Ideal := Cert.Reference5Ideal.Gen.facts) := by
  intro m g m' g' _ hm
  refine ⟨fun c => Rope.heads4 5376 (by decide) (m ((c.tc : Thread Cert.Kernel5Ideal.nD Cert.Kernel5Ideal.τ).loc Cert.Kernel5Ideal.main_arg0)),
    fun c => Rope.heads4 5632 (by decide) (m ((c.tc : Thread Cert.Kernel5Ideal.nD Cert.Kernel5Ideal.τ).loc Cert.Kernel5Ideal.main_arg0)),
    fun c => Rope.heads4 6144 (by decide) (m ((c.tc : Thread Cert.Kernel5Ideal.nD Cert.Kernel5Ideal.τ).loc Cert.Kernel5Ideal.main_arg0)),
    fun c => Rope.heads2 7552 (by decide) (m ((c.tc : Thread Cert.Kernel5Ideal.nD Cert.Kernel5Ideal.τ).loc Cert.Kernel5Ideal.main_arg0)),
    fun c => Rope.logs 7424 (by decide) (m ((c.tc : Thread Cert.Kernel5Ideal.nD Cert.Kernel5Ideal.τ).loc Cert.Kernel5Ideal.main_arg0)), ?_, ?_⟩
  · refine (θ_run _ _ _).mono (fun r h c => ?_) (Cert.Kernel5Ideal.Value.run_blocks m g)
    obtain ⟨h0, h1, h2, h3, h4, hr⟩ := h c
    exact ⟨h0.trans (Rope.arr7 m c), h1.trans (Rope.arr8 m c), h2.trans (Rope.arr9 m c), h3.trans (Rope.arr10 m c), h4.trans (Rope.arr11 m c), hr⟩
  · refine (θ_run _ _ _).mono (fun r h c => ?_) (Cert.Reference5Ideal.Value.run m' g')
    obtain ⟨h0, h1, h2, h3, h4, hr⟩ := h c
    have a0 := hm c
    refine ⟨h0.trans ?_, h1.trans ?_, h2.trans ?_, h3.trans ?_, h4.trans ?_, hr⟩
    · rw [Cert.Reference5Ideal.Read.val_main_v37_eq, a0]
      exact Rope.ref0_read _
    · rw [Cert.Reference5Ideal.Read.val_main_v69_eq, a0]
      exact Rope.ref1_read _
    · rw [Cert.Reference5Ideal.Read.val_main_v101_eq, a0]
      exact Rope.ref2_read _
    · rw [Cert.Reference5Ideal.Read.val_main_v133_eq, a0]
      exact Rope.ref3_read _
    · rw [Cert.Reference5Ideal.Read.val_main_v135_eq, a0]
      exact Rope.ref4_read _

/-- The reference of the rotary preparation of the 1152 other rows ends with its arguments unchanged and every counter at zero. -/
theorem frame_ropeTailReference : quiescent_Reference6Ideal (hReference6Ideal := Cert.Reference6Ideal.Gen.facts) := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- The kernel and the reference of the rotary preparation of the 1152 other rows end with equal turned queries and keys and equal log forget gates. -/
theorem algebraic_ropeTail : algebraic_Kernel6Ideal_Reference6Ideal (hKernel6Ideal := Cert.Kernel6Ideal.Gen.facts) (hReference6Ideal := Cert.Reference6Ideal.Gen.facts) := by
  intro m g m' g' _ hm
  refine ⟨fun c => RopeTail.heads4 5376 (by decide) (m ((c.tc : Thread Cert.Kernel6Ideal.nD Cert.Kernel6Ideal.τ).loc Cert.Kernel6Ideal.main_arg0)),
    fun c => RopeTail.heads4 5632 (by decide) (m ((c.tc : Thread Cert.Kernel6Ideal.nD Cert.Kernel6Ideal.τ).loc Cert.Kernel6Ideal.main_arg0)),
    fun c => RopeTail.heads4 6144 (by decide) (m ((c.tc : Thread Cert.Kernel6Ideal.nD Cert.Kernel6Ideal.τ).loc Cert.Kernel6Ideal.main_arg0)),
    fun c => RopeTail.heads2 7552 (by decide) (m ((c.tc : Thread Cert.Kernel6Ideal.nD Cert.Kernel6Ideal.τ).loc Cert.Kernel6Ideal.main_arg0)),
    fun c => RopeTail.logs 7424 (by decide) (m ((c.tc : Thread Cert.Kernel6Ideal.nD Cert.Kernel6Ideal.τ).loc Cert.Kernel6Ideal.main_arg0)), ?_, ?_⟩
  · refine (θ_run _ _ _).mono (fun r h c => ?_) (Cert.Kernel6Ideal.Value.run_blocks m g)
    obtain ⟨h0, h1, h2, h3, h4, hr⟩ := h c
    exact ⟨h0.trans (RopeTail.arr7 m c), h1.trans (RopeTail.arr8 m c), h2.trans (RopeTail.arr9 m c), h3.trans (RopeTail.arr10 m c), h4.trans (RopeTail.arr11 m c), hr⟩
  · refine (θ_run _ _ _).mono (fun r h c => ?_) (Cert.Reference6Ideal.Value.run m' g')
    obtain ⟨h0, h1, h2, h3, h4, hr⟩ := h c
    have a0 := hm c
    refine ⟨h0.trans ?_, h1.trans ?_, h2.trans ?_, h3.trans ?_, h4.trans ?_, hr⟩
    · rw [Cert.Reference6Ideal.Read.val_main_v42_eq, a0]
      exact RopeTail.ref0_read _
    · rw [Cert.Reference6Ideal.Read.val_main_v74_eq, a0]
      exact RopeTail.ref1_read _
    · rw [Cert.Reference6Ideal.Read.val_main_v106_eq, a0]
      exact RopeTail.ref2_read _
    · rw [Cert.Reference6Ideal.Read.val_main_v138_eq, a0]
      exact RopeTail.ref3_read _
    · rw [Cert.Reference6Ideal.Read.val_main_v140_eq, a0]
      exact RopeTail.ref4_read _

/-- The reference of the feed-forward layer on the 1152 other rows ends with its arguments unchanged and every counter at zero. -/
theorem frame_mlpTailReference : quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The kernel and the reference of the feed-forward layer on the 1152 other rows end with equal rows and equal normed rows. -/
theorem algebraic_mlpTail : algebraic_Kernel7Ideal_Reference7Ideal (hKernel7Ideal := Cert.Kernel7Ideal.Gen.facts) (hReference7Ideal := Cert.Reference7Ideal.Gen.facts) := by
  intro m g m' g' _ hm
  refine ⟨fun c => MlpTail.outsOf m c,
    fun c => MlpTail.norms (MlpTail.outsOf m c) (m ((c.tc : Thread Cert.Kernel7Ideal.nD Cert.Kernel7Ideal.τ).loc Cert.Kernel7Ideal.main_arg4)), ?_, ?_⟩
  · refine (θ_run _ _ _).mono (fun r h c => ?_) (Cert.Kernel7Ideal.Value.run_blocks m g)
    obtain ⟨h0, h1, hr⟩ := h c
    exact ⟨h0.trans (MlpTail.arr5 m c), h1.trans (MlpTail.arr6 m c), hr⟩
  · refine (θ_run _ _ _).mono (fun r h c => ?_) (Cert.Reference7Ideal.Value.run m' g')
    obtain ⟨h0, h1, hr⟩ := h c
    obtain ⟨a0, a1, a2, a3, a4⟩ := hm c
    refine ⟨h0.trans ?_, h1.trans ?_, hr⟩
    · rw [a0, a1, a2, a3]
      exact MlpTail.out0_read _ _ _ _
    · rw [Cert.Reference7Ideal.Read.val_main_v30_eq, a0, a1, a2, a3, a4]
      exact MlpTail.out1_read _ _ _ _ _

/-- The reference of the in-projection of the 1152 other rows ends with its arguments unchanged and every counter at zero. -/
theorem frame_projTailReference : quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel and the reference of the in-projection of the 1152 other rows end with equal packed projections. -/
theorem algebraic_projTail : algebraic_Kernel8Ideal_Reference8Ideal (hKernel8Ideal := Cert.Kernel8Ideal.Gen.facts) (hReference8Ideal := Cert.Reference8Ideal.Gen.facts) := by
  intro m g m' g' _ hm
  refine ⟨fun c => ProjTail.outsOf m c, ?_, ?_⟩
  · refine (θ_run _ _ _).mono (fun r h c => ?_) (Cert.Kernel8Ideal.Value.run_blocks m g)
    obtain ⟨h0, hr⟩ := h c
    exact ⟨h0.trans (ProjTail.arr4 m c), hr⟩
  · refine (θ_run _ _ _).mono (fun r h c => ?_) (Cert.Reference8Ideal.Value.run m' g')
    obtain ⟨h0, hr⟩ := h c
    obtain ⟨a0, a1, a2, a3⟩ := hm c
    refine ⟨h0.trans ?_, hr⟩
    rw [Cert.Reference8Ideal.Read.val_main_v41_eq, a0, a1, a2, a3]
    exact ProjTail.out0_read _ _ _ _

/-- The reference of the merge on the 1152 other rows ends with its arguments unchanged and every counter at zero. -/
theorem frame_mergeTailReference : quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel and the reference of the merge on the 1152 other rows end with equal rows. -/
theorem algebraic_mergeTail : algebraic_Kernel9Ideal_Reference9Ideal (hKernel9Ideal := Cert.Kernel9Ideal.Gen.facts) (hReference9Ideal := Cert.Reference9Ideal.Gen.facts) := by
  intro m g m' g' _ hm
  refine ⟨fun c => MergeTail.outsOf m c, ?_, ?_⟩
  · refine (θ_run _ _ _).mono (fun r h c => ?_) (Cert.Kernel9Ideal.Value.run_blocks m g)
    obtain ⟨h0, hr⟩ := h c
    exact ⟨h0.trans (MergeTail.arr8 m c), hr⟩
  · refine (θ_run _ _ _).mono (fun r h c => ?_) (Cert.Reference9Ideal.Value.run m' g')
    obtain ⟨h0, hr⟩ := h c
    obtain ⟨a0, a1, a2, a3, a4, a5, a6, a7, a8, a9, a10⟩ := hm c
    refine ⟨h0.trans ?_, hr⟩
    rw [a0, a1, a2, a3, a4, a5, a6, a7, a8, a9, a10]
    exact MergeTail.out0_read _ _ _ _ _ _ _ _ _ _ _

/-- The reference of the state-space branch ends with its arguments unchanged and every counter at zero. -/
theorem frame_ssdReference : quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The kernel and the reference of the state-space branch end with equal outputs and equal states. -/
theorem algebraic_ssd : algebraic_Kernel10Ideal_Reference10Ideal (hKernel10Ideal := Cert.Kernel10Ideal.Gen.facts) (hReference10Ideal := Cert.Reference10Ideal.Gen.facts) := by
  intro m g m' g' _ hm
  refine ⟨fun c => Ssd.outs (Ssd.chunkOf m c), fun c => Ssd.states (Ssd.chunkOf m c), ?_, ?_⟩
  · refine (θ_run _ _ _).mono (fun r h c => ?_) (Cert.Kernel10Ideal.Value.run_blocks m g)
    obtain ⟨h0, h1, hr⟩ := h c
    exact ⟨h0.trans (Ssd.arr11 m c), h1.trans (Ssd.arr12 m c), hr⟩
  · refine (θ_run _ _ _).mono (fun r h c => ?_) (Cert.Reference10Ideal.Value.run m' g')
    obtain ⟨h0, h1, hr⟩ := h c
    obtain ⟨a0, a1, a2, a3, a4, a5, a6, a7, a8⟩ := hm c
    refine ⟨h0.trans ?_, h1.trans ?_, hr⟩
    · refine (Cert.Reference10Ideal.Read.val_main_v138_eq _).trans ?_
      refine (Ssd.out0_read (m' (c.tc.loc Cert.Reference10Ideal.main_arg0)) (m' (c.tc.loc Cert.Reference10Ideal.main_arg1))
        (m' (c.tc.loc Cert.Reference10Ideal.main_arg2)) (m' (c.tc.loc Cert.Reference10Ideal.main_arg3)) (m' (c.tc.loc Cert.Reference10Ideal.main_arg4))
        (m' (c.tc.loc Cert.Reference10Ideal.main_arg5)) (m' (c.tc.loc Cert.Reference10Ideal.main_arg6)) (m' (c.tc.loc Cert.Reference10Ideal.main_arg7))
        (m' (c.tc.loc Cert.Reference10Ideal.main_arg8))).trans ?_
      rw [a0, a1, a2, a3, a4, a5, a6, a7, a8]
    · refine (Cert.Reference10Ideal.Read.val_main_v139_eq _).trans ?_
      refine (Ssd.out1_read (m' (c.tc.loc Cert.Reference10Ideal.main_arg0)) (m' (c.tc.loc Cert.Reference10Ideal.main_arg1))
        (m' (c.tc.loc Cert.Reference10Ideal.main_arg2)) (m' (c.tc.loc Cert.Reference10Ideal.main_arg3)) (m' (c.tc.loc Cert.Reference10Ideal.main_arg4))
        (m' (c.tc.loc Cert.Reference10Ideal.main_arg5)) (m' (c.tc.loc Cert.Reference10Ideal.main_arg6)) (m' (c.tc.loc Cert.Reference10Ideal.main_arg7))
        (m' (c.tc.loc Cert.Reference10Ideal.main_arg8))).trans ?_
      rw [a0, a1, a2, a3, a4, a5, a6, a7, a8]

/-- The reference of the cumulated log forget gates runs, and leaves its arguments and its semaphores as they were. -/
theorem frame_foxcReference : quiescent_Reference11Ideal (hReference11Ideal := Cert.Reference11Ideal.Gen.facts) := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- The shape relations that the statement of the precondition takes. -/
theorem facts_gates_below_inf : Cert.Pre_gates_below_inf.Facts := ⟨by decide, by decide, by decide⟩

/-- Where no log gate is plus infinity, the kernel and the reference of the cumulated log forget gates end with equal running sums,
    all four arrays of them. -/
theorem algebraic_foxc : algebraic_Kernel11Ideal_Reference11Ideal_pre_gates_below_inf (hKernel11Ideal := Cert.Kernel11Ideal.Gen.facts)
    (hReference11Ideal := Cert.Reference11Ideal.Gen.facts) (hPre_gates_below_inf := facts_gates_below_inf) := by
  intro m g m' g' hp hm
  have hb : ∀ c, FoxC.Below (FoxC.arg0 m c) (FoxC.arg1 m c) := fun c =>
    haveI := facts_gates_below_inf
    FoxC.below_of_pre (FoxC.arg0 m c) (FoxC.arg1 m c) (hp c)
  refine ⟨fun c => FoxC.res0 (FoxC.arg0 m c) (FoxC.arg1 m c), fun c => FoxC.res1 (FoxC.arg0 m c) (FoxC.arg1 m c),
    fun c => FoxC.res2 (FoxC.arg0 m c) (FoxC.arg1 m c), fun c => FoxC.res3 (FoxC.arg0 m c) (FoxC.arg1 m c), ?_, ?_⟩
  · refine (θ_run _ _ _).mono (fun r h c => ?_) (Cert.Kernel11Ideal.Value.run_blocks m g)
    obtain ⟨h0, h1, h2, h3, hr⟩ := h c
    exact ⟨h0.trans (FoxC.arr2 (hb c)), h1.trans (FoxC.arr3 (hb c)), h2.trans (FoxC.arr4 (hb c)), h3.trans (FoxC.arr5 (hb c)), hr⟩
  · refine (θ_run _ _ _).mono (fun r h c => ?_) (Cert.Reference11Ideal.Value.run m' g')
    obtain ⟨h0, h1, h2, h3, hr⟩ := h c
    obtain ⟨a0, a1⟩ := hm c
    refine ⟨h0.trans ?_, h1.trans ?_, h2.trans ?_, h3.trans ?_, hr⟩
    · refine (Cert.Reference11Ideal.Read.val_main_v10_eq _ _).trans ?_
      refine (FoxC.out0_read (m' (c.tc.loc Cert.Reference11Ideal.main_arg0)) (m' (c.tc.loc Cert.Reference11Ideal.main_arg1))).trans ?_
      rw [a0, a1]
    · refine (Cert.Reference11Ideal.Read.val_main_v12_eq _ _).trans ?_
      refine (FoxC.out1_read (m' (c.tc.loc Cert.Reference11Ideal.main_arg0)) (m' (c.tc.loc Cert.Reference11Ideal.main_arg1))).trans ?_
      rw [a0, a1]
    · refine (Cert.Reference11Ideal.Read.val_main_v13_eq _ _).trans ?_
      refine (FoxC.out2_read (m' (c.tc.loc Cert.Reference11Ideal.main_arg0)) (m' (c.tc.loc Cert.Reference11Ideal.main_arg1))).trans ?_
      rw [a0, a1]
    · refine (Cert.Reference11Ideal.Read.val_main_v8_eq _ _).trans ?_
      refine (FoxC.out3_read (m' (c.tc.loc Cert.Reference11Ideal.main_arg0)) (m' (c.tc.loc Cert.Reference11Ideal.main_arg1))).trans ?_
      rw [a0, a1]

/-- Everything claimed of the eleven calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, facts_gates_below_inf,
  fun m ρ _ => Cert.Kernel.Gen.frame m ρ, fun m ρ _ => Cert.KernelIdeal.Gen.frame m ρ, frame_glaReference,
  fun m ρ _ => Cert.Kernel2.Gen.frame m ρ, fun m ρ _ => Cert.Kernel2Ideal.Gen.frame m ρ, frame_projReference,
  fun m ρ _ => Cert.Kernel3.Gen.frame m ρ, fun m ρ _ => Cert.Kernel3Ideal.Gen.frame m ρ, frame_mlpReference,
  fun m ρ _ => Cert.Kernel4.Gen.frame m ρ, fun m ρ _ => Cert.Kernel4Ideal.Gen.frame m ρ, frame_mergeReference,
  fun m ρ _ => Cert.Kernel5.Gen.frame m ρ, fun m ρ _ => Cert.Kernel5Ideal.Gen.frame m ρ, frame_ropeReference,
  fun m ρ _ => Cert.Kernel6.Gen.frame m ρ, fun m ρ _ => Cert.Kernel6Ideal.Gen.frame m ρ, frame_ropeTailReference,
  fun m ρ _ => Cert.Kernel7.Gen.frame m ρ, fun m ρ _ => Cert.Kernel7Ideal.Gen.frame m ρ, frame_mlpTailReference,
  fun m ρ _ => Cert.Kernel8.Gen.frame m ρ, fun m ρ _ => Cert.Kernel8Ideal.Gen.frame m ρ, frame_projTailReference,
  fun m ρ _ => Cert.Kernel9.Gen.frame m ρ, fun m ρ _ => Cert.Kernel9Ideal.Gen.frame m ρ, frame_mergeTailReference,
  fun m ρ _ => Cert.Kernel10.Gen.frame m ρ, fun m ρ _ => Cert.Kernel10Ideal.Gen.frame m ρ, frame_ssdReference,
  fun m ρ _ => Cert.Kernel11.Gen.frame m ρ, fun m ρ _ => Cert.Kernel11Ideal.Gen.frame m ρ, fun m ρ _ => Cert.Kernel11Ideal.Gen.frame m ρ,
  frame_foxcReference, fun m ρ _ => frame_foxcReference m ρ trivial,
  trivial, algebraic_gla, trivial, algebraic_proj, trivial, algebraic_mlp, trivial, algebraic_merge, trivial, algebraic_rope, trivial, algebraic_ropeTail, trivial, algebraic_mlpTail, trivial, algebraic_projTail, trivial, algebraic_mergeTail, trivial, algebraic_ssd, trivial, algebraic_foxc⟩

end Cert.Proof

end
